-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10))).1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10))).2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10))).2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10))).2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10))).2.2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10))).2.2.2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10))).2.2.2.2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10))).2.2.2.2.2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10))).2.2.2.2.2.2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10))).2.2.2.2.2.2.2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10))).2.2.2.2.2.2.2.2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10))).1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10))).2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10))).2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10))).2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10))).2.2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10))).2.2.2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10))).2.2.2.2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10))).2.2.2.2.2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10))).2.2.2.2.2.2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10))).2.2.2.2.2.2.2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10))).2.2.2.2.2.2.2.2.2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v46_0)) (v1 : (c : Dev Cert.KernelIdeal.nD) → Buf (Elt Ideal) ((c.tc : Thread Cert.KernelIdeal.nD Cert.KernelIdeal.τ).loc Cert.KernelIdeal.main_v46_1)) (v2 : (c : Dev Cert.KernelIdeal.nD) → Buf (Elt Ideal) ((c.tc : Thread Cert.KernelIdeal.nD Cert.KernelIdeal.τ).loc Cert.KernelIdeal.main_v46_2)) (v3 : (c : Dev Cert.KernelIdeal.nD) → Buf (Elt Ideal) ((c.tc : Thread Cert.KernelIdeal.nD Cert.KernelIdeal.τ).loc Cert.KernelIdeal.main_v46_3)) (v4 : (c : Dev Cert.KernelIdeal.nD) → Buf (Elt Ideal) ((c.tc : Thread Cert.KernelIdeal.nD Cert.KernelIdeal.τ).loc Cert.KernelIdeal.main_v46_4)) (v5 : (c : Dev Cert.KernelIdeal.nD) → Buf (Elt Ideal) ((c.tc : Thread Cert.KernelIdeal.nD Cert.KernelIdeal.τ).loc Cert.KernelIdeal.main_v46_5)) (v6 : (c : Dev Cert.KernelIdeal.nD) → Buf (Elt Ideal) ((c.tc : Thread Cert.KernelIdeal.nD Cert.KernelIdeal.τ).loc Cert.KernelIdeal.main_v46_6)) (v7 : (c : Dev Cert.KernelIdeal.nD) → Buf (Elt Ideal) ((c.tc : Thread Cert.KernelIdeal.nD Cert.KernelIdeal.τ).loc Cert.KernelIdeal.main_v46_7)) (v8 : (c : Dev Cert.KernelIdeal.nD) → Buf (Elt Ideal) ((c.tc : Thread Cert.KernelIdeal.nD Cert.KernelIdeal.τ).loc Cert.KernelIdeal.main_v46_8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46_0) = v0 c
          ∧ r.2.mem ((c.tc : Thread Cert.KernelIdeal.nD Cert.KernelIdeal.τ).loc Cert.KernelIdeal.main_v46_1) = v1 c
          ∧ r.2.mem ((c.tc : Thread Cert.KernelIdeal.nD Cert.KernelIdeal.τ).loc Cert.KernelIdeal.main_v46_2) = v2 c
          ∧ r.2.mem ((c.tc : Thread Cert.KernelIdeal.nD Cert.KernelIdeal.τ).loc Cert.KernelIdeal.main_v46_3) = v3 c
          ∧ r.2.mem ((c.tc : Thread Cert.KernelIdeal.nD Cert.KernelIdeal.τ).loc Cert.KernelIdeal.main_v46_4) = v4 c
          ∧ r.2.mem ((c.tc : Thread Cert.KernelIdeal.nD Cert.KernelIdeal.τ).loc Cert.KernelIdeal.main_v46_5) = v5 c
          ∧ r.2.mem ((c.tc : Thread Cert.KernelIdeal.nD Cert.KernelIdeal.τ).loc Cert.KernelIdeal.main_v46_6) = v6 c
          ∧ r.2.mem ((c.tc : Thread Cert.KernelIdeal.nD Cert.KernelIdeal.τ).loc Cert.KernelIdeal.main_v46_7) = v7 c
          ∧ r.2.mem ((c.tc : Thread Cert.KernelIdeal.nD Cert.KernelIdeal.τ).loc Cert.KernelIdeal.main_v46_8) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v181) = v0 c
          ∧ r.2.mem ((c.tc : Thread Cert.ReferenceIdeal.nD Cert.ReferenceIdeal.τ).loc Cert.ReferenceIdeal.main_v139) = v1 c
          ∧ r.2.mem ((c.tc : Thread Cert.ReferenceIdeal.nD Cert.ReferenceIdeal.τ).loc Cert.ReferenceIdeal.main_v180) = v2 c
          ∧ r.2.mem ((c.tc : Thread Cert.ReferenceIdeal.nD Cert.ReferenceIdeal.τ).loc Cert.ReferenceIdeal.main_v161) = v3 c
          ∧ r.2.mem ((c.tc : Thread Cert.ReferenceIdeal.nD Cert.ReferenceIdeal.τ).loc Cert.ReferenceIdeal.main_v117) = v4 c
          ∧ r.2.mem ((c.tc : Thread Cert.ReferenceIdeal.nD Cert.ReferenceIdeal.τ).loc Cert.ReferenceIdeal.main_v116) = v5 c
          ∧ r.2.mem ((c.tc : Thread Cert.ReferenceIdeal.nD Cert.ReferenceIdeal.τ).loc Cert.ReferenceIdeal.main_v122) = v6 c
          ∧ r.2.mem ((c.tc : Thread Cert.ReferenceIdeal.nD Cert.ReferenceIdeal.τ).loc Cert.ReferenceIdeal.main_v164) = v7 c
          ∧ r.2.mem ((c.tc : Thread Cert.ReferenceIdeal.nD Cert.ReferenceIdeal.τ).loc Cert.ReferenceIdeal.main_v145) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v21_0)) (v1 : (c : Dev Cert.Kernel2Ideal.nD) → Buf (Elt Ideal) ((c.tc : Thread Cert.Kernel2Ideal.nD Cert.Kernel2Ideal.τ).loc Cert.Kernel2Ideal.main_v21_1)) (v2 : (c : Dev Cert.Kernel2Ideal.nD) → Buf (Elt Ideal) ((c.tc : Thread Cert.Kernel2Ideal.nD Cert.Kernel2Ideal.τ).loc Cert.Kernel2Ideal.main_v21_2)) (v3 : (c : Dev Cert.Kernel2Ideal.nD) → Buf (Elt Ideal) ((c.tc : Thread Cert.Kernel2Ideal.nD Cert.Kernel2Ideal.τ).loc Cert.Kernel2Ideal.main_v21_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v21_0) = v0 c
          ∧ r.2.mem ((c.tc : Thread Cert.Kernel2Ideal.nD Cert.Kernel2Ideal.τ).loc Cert.Kernel2Ideal.main_v21_1) = v1 c
          ∧ r.2.mem ((c.tc : Thread Cert.Kernel2Ideal.nD Cert.Kernel2Ideal.τ).loc Cert.Kernel2Ideal.main_v21_2) = v2 c
          ∧ r.2.mem ((c.tc : Thread Cert.Kernel2Ideal.nD Cert.Kernel2Ideal.τ).loc Cert.Kernel2Ideal.main_v21_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v52) = v0 c
          ∧ r.2.mem ((c.tc : Thread Cert.Reference2Ideal.nD Cert.Reference2Ideal.τ).loc Cert.Reference2Ideal.main_v53) = v1 c
          ∧ r.2.mem ((c.tc : Thread Cert.Reference2Ideal.nD Cert.Reference2Ideal.τ).loc Cert.Reference2Ideal.main_v51) = v2 c
          ∧ r.2.mem ((c.tc : Thread Cert.Reference2Ideal.nD Cert.Reference2Ideal.τ).loc Cert.Reference2Ideal.main_v34) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v15_0)) (v1 : (c : Dev Cert.Kernel3Ideal.nD) → Buf (Elt Ideal) ((c.tc : Thread Cert.Kernel3Ideal.nD Cert.Kernel3Ideal.τ).loc Cert.Kernel3Ideal.main_v15_1)) (v2 : (c : Dev Cert.Kernel3Ideal.nD) → Buf (Elt Ideal) ((c.tc : Thread Cert.Kernel3Ideal.nD Cert.Kernel3Ideal.τ).loc Cert.Kernel3Ideal.main_v15_2)) (v3 : (c : Dev Cert.Kernel3Ideal.nD) → Buf (Elt Ideal) ((c.tc : Thread Cert.Kernel3Ideal.nD Cert.Kernel3Ideal.τ).loc Cert.Kernel3Ideal.main_v15_3)) (v4 : (c : Dev Cert.Kernel3Ideal.nD) → Buf (Elt Ideal) ((c.tc : Thread Cert.Kernel3Ideal.nD Cert.Kernel3Ideal.τ).loc Cert.Kernel3Ideal.main_v15_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v15_0) = v0 c
          ∧ r.2.mem ((c.tc : Thread Cert.Kernel3Ideal.nD Cert.Kernel3Ideal.τ).loc Cert.Kernel3Ideal.main_v15_1) = v1 c
          ∧ r.2.mem ((c.tc : Thread Cert.Kernel3Ideal.nD Cert.Kernel3Ideal.τ).loc Cert.Kernel3Ideal.main_v15_2) = v2 c
          ∧ r.2.mem ((c.tc : Thread Cert.Kernel3Ideal.nD Cert.Kernel3Ideal.τ).loc Cert.Kernel3Ideal.main_v15_3) = v3 c
          ∧ r.2.mem ((c.tc : Thread Cert.Kernel3Ideal.nD Cert.Kernel3Ideal.τ).loc Cert.Kernel3Ideal.main_v15_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v18) = v0 c
          ∧ r.2.mem ((c.tc : Thread Cert.Reference3Ideal.nD Cert.Reference3Ideal.τ).loc Cert.Reference3Ideal.main_v15) = v1 c
          ∧ r.2.mem ((c.tc : Thread Cert.Reference3Ideal.nD Cert.Reference3Ideal.τ).loc Cert.Reference3Ideal.main_v23) = v2 c
          ∧ r.2.mem ((c.tc : Thread Cert.Reference3Ideal.nD Cert.Reference3Ideal.τ).loc Cert.Reference3Ideal.main_v24) = v3 c
          ∧ r.2.mem ((c.tc : Thread Cert.Reference3Ideal.nD Cert.Reference3Ideal.τ).loc Cert.Reference3Ideal.main_v25) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v5_0)) (v1 : (c : Dev Cert.Kernel4Ideal.nD) → Buf (Elt Ideal) ((c.tc : Thread Cert.Kernel4Ideal.nD Cert.Kernel4Ideal.τ).loc Cert.Kernel4Ideal.main_v5_1)) (v2 : (c : Dev Cert.Kernel4Ideal.nD) → Buf (Elt Ideal) ((c.tc : Thread Cert.Kernel4Ideal.nD Cert.Kernel4Ideal.τ).loc Cert.Kernel4Ideal.main_v5_2)) (v3 : (c : Dev Cert.Kernel4Ideal.nD) → Buf (Elt Ideal) ((c.tc : Thread Cert.Kernel4Ideal.nD Cert.Kernel4Ideal.τ).loc Cert.Kernel4Ideal.main_v5_3)) (v4 : (c : Dev Cert.Kernel4Ideal.nD) → Buf (Elt Ideal) ((c.tc : Thread Cert.Kernel4Ideal.nD Cert.Kernel4Ideal.τ).loc Cert.Kernel4Ideal.main_v5_4)) (v5 : (c : Dev Cert.Kernel4Ideal.nD) → Buf (Elt Ideal) ((c.tc : Thread Cert.Kernel4Ideal.nD Cert.Kernel4Ideal.τ).loc Cert.Kernel4Ideal.main_v5_5)) (v6 : (c : Dev Cert.Kernel4Ideal.nD) → Buf (Elt Ideal) ((c.tc : Thread Cert.Kernel4Ideal.nD Cert.Kernel4Ideal.τ).loc Cert.Kernel4Ideal.main_v5_6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5_0) = v0 c
          ∧ r.2.mem ((c.tc : Thread Cert.Kernel4Ideal.nD Cert.Kernel4Ideal.τ).loc Cert.Kernel4Ideal.main_v5_1) = v1 c
          ∧ r.2.mem ((c.tc : Thread Cert.Kernel4Ideal.nD Cert.Kernel4Ideal.τ).loc Cert.Kernel4Ideal.main_v5_2) = v2 c
          ∧ r.2.mem ((c.tc : Thread Cert.Kernel4Ideal.nD Cert.Kernel4Ideal.τ).loc Cert.Kernel4Ideal.main_v5_3) = v3 c
          ∧ r.2.mem ((c.tc : Thread Cert.Kernel4Ideal.nD Cert.Kernel4Ideal.τ).loc Cert.Kernel4Ideal.main_v5_4) = v4 c
          ∧ r.2.mem ((c.tc : Thread Cert.Kernel4Ideal.nD Cert.Kernel4Ideal.τ).loc Cert.Kernel4Ideal.main_v5_5) = v5 c
          ∧ r.2.mem ((c.tc : Thread Cert.Kernel4Ideal.nD Cert.Kernel4Ideal.τ).loc Cert.Kernel4Ideal.main_v5_6) = v6 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v67) = v0 c
          ∧ r.2.mem ((c.tc : Thread Cert.Reference4Ideal.nD Cert.Reference4Ideal.τ).loc Cert.Reference4Ideal.main_v68) = v1 c
          ∧ r.2.mem ((c.tc : Thread Cert.Reference4Ideal.nD Cert.Reference4Ideal.τ).loc Cert.Reference4Ideal.main_v69) = v2 c
          ∧ r.2.mem ((c.tc : Thread Cert.Reference4Ideal.nD Cert.Reference4Ideal.τ).loc Cert.Reference4Ideal.main_v70) = v3 c
          ∧ r.2.mem ((c.tc : Thread Cert.Reference4Ideal.nD Cert.Reference4Ideal.τ).loc Cert.Reference4Ideal.main_v66) = v4 c
          ∧ r.2.mem ((c.tc : Thread Cert.Reference4Ideal.nD Cert.Reference4Ideal.τ).loc Cert.Reference4Ideal.main_v71) = v5 c
          ∧ r.2.mem ((c.tc : Thread Cert.Reference4Ideal.nD Cert.Reference4Ideal.τ).loc Cert.Reference4Ideal.main_v50) = v6 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)) →
    ∃ (v0 : (c : Dev Cert.Kernel5Ideal.nD) → Buf (Elt Ideal) ((c.tc : Thread Cert.Kernel5Ideal.nD Cert.Kernel5Ideal.τ).loc Cert.Kernel5Ideal.main_v5_0)) (v1 : (c : Dev Cert.Kernel5Ideal.nD) → Buf (Elt Ideal) ((c.tc : Thread Cert.Kernel5Ideal.nD Cert.Kernel5Ideal.τ).loc Cert.Kernel5Ideal.main_v5_1)) (v2 : (c : Dev Cert.Kernel5Ideal.nD) → Buf (Elt Ideal) ((c.tc : Thread Cert.Kernel5Ideal.nD Cert.Kernel5Ideal.τ).loc Cert.Kernel5Ideal.main_v5_2)) (v3 : (c : Dev Cert.Kernel5Ideal.nD) → Buf (Elt Ideal) ((c.tc : Thread Cert.Kernel5Ideal.nD Cert.Kernel5Ideal.τ).loc Cert.Kernel5Ideal.main_v5_3)) (v4 : (c : Dev Cert.Kernel5Ideal.nD) → Buf (Elt Ideal) ((c.tc : Thread Cert.Kernel5Ideal.nD Cert.Kernel5Ideal.τ).loc Cert.Kernel5Ideal.main_v5_4)) (v5 : (c : Dev Cert.Kernel5Ideal.nD) → Buf (Elt Ideal) ((c.tc : Thread Cert.Kernel5Ideal.nD Cert.Kernel5Ideal.τ).loc Cert.Kernel5Ideal.main_v5_5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5_0) = v0 c
          ∧ r.2.mem ((c.tc : Thread Cert.Kernel5Ideal.nD Cert.Kernel5Ideal.τ).loc Cert.Kernel5Ideal.main_v5_1) = v1 c
          ∧ r.2.mem ((c.tc : Thread Cert.Kernel5Ideal.nD Cert.Kernel5Ideal.τ).loc Cert.Kernel5Ideal.main_v5_2) = v2 c
          ∧ r.2.mem ((c.tc : Thread Cert.Kernel5Ideal.nD Cert.Kernel5Ideal.τ).loc Cert.Kernel5Ideal.main_v5_3) = v3 c
          ∧ r.2.mem ((c.tc : Thread Cert.Kernel5Ideal.nD Cert.Kernel5Ideal.τ).loc Cert.Kernel5Ideal.main_v5_4) = v4 c
          ∧ r.2.mem ((c.tc : Thread Cert.Kernel5Ideal.nD Cert.Kernel5Ideal.τ).loc Cert.Kernel5Ideal.main_v5_5) = v5 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v60) = v0 c
          ∧ r.2.mem ((c.tc : Thread Cert.Reference5Ideal.nD Cert.Reference5Ideal.τ).loc Cert.Reference5Ideal.main_v26) = v1 c
          ∧ r.2.mem ((c.tc : Thread Cert.Reference5Ideal.nD Cert.Reference5Ideal.τ).loc Cert.Reference5Ideal.main_v61) = v2 c
          ∧ r.2.mem ((c.tc : Thread Cert.Reference5Ideal.nD Cert.Reference5Ideal.τ).loc Cert.Reference5Ideal.main_v62) = v3 c
          ∧ r.2.mem ((c.tc : Thread Cert.Reference5Ideal.nD Cert.Reference5Ideal.τ).loc Cert.Reference5Ideal.main_v63) = v4 c
          ∧ r.2.mem ((c.tc : Thread Cert.Reference5Ideal.nD Cert.Reference5Ideal.τ).loc Cert.Reference5Ideal.main_v65) = v5 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v2_0)) (v1 : (c : Dev Cert.Kernel6Ideal.nD) → Buf (Elt Ideal) ((c.tc : Thread Cert.Kernel6Ideal.nD Cert.Kernel6Ideal.τ).loc Cert.Kernel6Ideal.main_v2_1)) (v2 : (c : Dev Cert.Kernel6Ideal.nD) → Buf (Elt Ideal) ((c.tc : Thread Cert.Kernel6Ideal.nD Cert.Kernel6Ideal.τ).loc Cert.Kernel6Ideal.main_v2_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2_0) = v0 c
          ∧ r.2.mem ((c.tc : Thread Cert.Kernel6Ideal.nD Cert.Kernel6Ideal.τ).loc Cert.Kernel6Ideal.main_v2_1) = v1 c
          ∧ r.2.mem ((c.tc : Thread Cert.Kernel6Ideal.nD Cert.Kernel6Ideal.τ).loc Cert.Kernel6Ideal.main_v2_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v12) = v0 c
          ∧ r.2.mem ((c.tc : Thread Cert.Reference6Ideal.nD Cert.Reference6Ideal.τ).loc Cert.Reference6Ideal.main_v14) = v1 c
          ∧ r.2.mem ((c.tc : Thread Cert.Reference6Ideal.nD Cert.Reference6Ideal.τ).loc Cert.Reference6Ideal.main_v16) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_finite2 : Cert.Pre_finite2.Facts) (hPre_finite5 : Cert.Pre_finite5.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal (hKernel6Ideal := hKernel6Ideal) (hReference6Ideal := hReference6Ideal)
-- ==== Pre_finite.lean ====
abbrev S8192x1024 : Shape := ⟨2, ![8192, 1024]⟩
abbrev S8192x512 : Shape := ⟨2, ![8192, 512]⟩
abbrev S256x1024 : Shape := ⟨2, ![256, 1024]⟩
abbrev S1x512 : Shape := ⟨2, ![1, 512]⟩
abbrev S1024x1024 : Shape := ⟨2, ![1024, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  bcast_S_S8192x512 : S_.BroadcastsInDim S8192x512 (![] : Fin 0 → Fin S8192x512.rank)
  bcast_S_S256x1024 : S_.BroadcastsInDim S256x1024 (![] : Fin 0 → Fin S256x1024.rank)
  bcast_S_S1x512 : S_.BroadcastsInDim S1x512 (![] : Fin 0 → Fin S1x512.rank)
  bcast_S_S1024x1024 : S_.BroadcastsInDim S1024x1024 (![] : Fin 0 → Fin S1024x1024.rank)
  bcast_S_S1x1024 : S_.BroadcastsInDim S1x1024 (![] : Fin 0 → Fin S1x1024.rank)

variable [Facts]

def fn_part1 {F : FTy → Type} [FloatOps F] (main_arg6 : FVec F S1x512 .f32) (main_arg7 : FVec F S1x512 .f32) (main_arg8 : FVec F S1024x1024 .f32) (main_arg9 : FVec F S1x1024 .f32) (main_arg10 : FVec F S1024x1024 .f32) (main_arg11 : FVec F S1024x1024 .f32) (main_v2 : IVec S8192x1024 1) (main_v5 : IVec S8192x1024 1) (main_v8 : IVec S8192x512 1) (main_v11 : IVec S8192x512 1) (main_v14 : IVec S256x1024 1) (main_v17 : IVec S256x1024 1) : IVec S8192x1024 1 × IVec S8192x1024 1 × IVec S8192x512 1 × IVec S8192x512 1 × IVec S256x1024 1 × IVec S256x1024 1 × IVec S1x512 1 × IVec S1x512 1 × IVec S1024x1024 1 × IVec S1x1024 1 × IVec S1024x1024 1 × IVec S1024x1024 1 :=
  let main_v18 : FVec F S1x512 .f32 := Host.absf main_arg6
  let main_cst_5 : FVec F S_ .f32 := constant S_ .f32 0x7F800000#32
  let main_v19 : FVec F S1x512 .f32 := broadcastInDim S1x512 ![] bcast_S_S1x512 main_cst_5
  let main_v20 : IVec S1x512 1 := cmpf .olt main_v18 main_v19
  let main_v21 : FVec F S1x512 .f32 := Host.absf main_arg7
  let main_cst_6 : FVec F S_ .f32 := constant S_ .f32 0x7F800000#32
  let main_v22 : FVec F S1x512 .f32 := broadcastInDim S1x512 ![] bcast_S_S1x512 main_cst_6
  let main_v23 : IVec S1x512 1 := cmpf .olt main_v21 main_v22
  let main_v24 : FVec F S1024x1024 .f32 := Host.absf main_arg8
  let main_cst_7 : FVec F S_ .f32 := constant S_ .f32 0x7F800000#32
  let main_v25 : FVec F S1024x1024 .f32 := broadcastInDim S1024x1024 ![] bcast_S_S1024x1024 main_cst_7
  let main_v26 : IVec S1024x1024 1 := cmpf .olt main_v24 main_v25
  let main_v27 : FVec F S1x1024 .f32 := Host.absf main_arg9
  let main_cst_8 : FVec F S_ .f32 := constant S_ .f32 0x7F800000#32
  let main_v28 : FVec F S1x1024 .f32 := broadcastInDim S1x1024 ![] bcast_S_S1x1024 main_cst_8
  let main_v29 : IVec S1x1024 1 := cmpf .olt main_v27 main_v28
  let main_v30 : FVec F S1024x1024 .f32 := Host.absf main_arg10
  let main_cst_9 : FVec F S_ .f32 := constant S_ .f32 0x7F800000#32
  let main_v31 : FVec F S1024x1024 .f32 := broadcastInDim S1024x1024 ![] bcast_S_S1024x1024 main_cst_9
  let main_v32 : IVec S1024x1024 1 := cmpf .olt main_v30 main_v31
  let main_v33 : FVec F S1024x1024 .f32 := Host.absf main_arg11
  let main_cst_10 : FVec F S_ .f32 := constant S_ .f32 0x7F800000#32
  let main_v34 : FVec F S1024x1024 .f32 := broadcastInDim S1024x1024 ![] bcast_S_S1024x1024 main_cst_10
  let main_v35 : IVec S1024x1024 1 := cmpf .olt main_v33 main_v34
  (main_v2, main_v5, main_v8, main_v11, main_v14, main_v17, main_v20, main_v23, main_v26, main_v29, main_v32, main_v35)

def fn {F : FTy → Type} [FloatOps F] (main_arg0 : FVec F S8192x1024 .f32) (main_arg1 : FVec F S8192x1024 .f32) (main_arg2 : FVec F S8192x512 .f32) (main_arg3 : FVec F S8192x512 .f32) (main_arg4 : FVec F S256x1024 .f32) (main_arg5 : FVec F S256x1024 .f32) (main_arg6 : FVec F S1x512 .f32) (main_arg7 : FVec F S1x512 .f32) (main_arg8 : FVec F S1024x1024 .f32) (main_arg9 : FVec F S1x1024 .f32) (main_arg10 : FVec F S1024x1024 .f32) (main_arg11 : FVec F S1024x1024 .f32) : IVec S8192x1024 1 × IVec S8192x1024 1 × IVec S8192x512 1 × IVec S8192x512 1 × IVec S256x1024 1 × IVec S256x1024 1 × IVec S1x512 1 × IVec S1x512 1 × IVec S1024x1024 1 × IVec S1x1024 1 × IVec S1024x1024 1 × IVec S1024x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S8192x512 .f32 := Host.absf main_arg2
  let main_cst_1 : FVec F S_ .f32 := constant S_ .f32 0x7F800000#32
  let main_v7 : FVec F S8192x512 .f32 := broadcastInDim S8192x512 ![] bcast_S_S8192x512 main_cst_1
  let main_v8 : IVec S8192x512 1 := cmpf .olt main_v6 main_v7
  let main_v9 : FVec F S8192x512 .f32 := Host.absf main_arg3
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_v12 : FVec F S256x1024 .f32 := Host.absf main_arg4
  let main_cst_3 : FVec F S_ .f32 := constant S_ .f32 0x7F800000#32
  let main_v13 : FVec F S256x1024 .f32 := broadcastInDim S256x1024 ![] bcast_S_S256x1024 main_cst_3
  let main_v14 : IVec S256x1024 1 := cmpf .olt main_v12 main_v13
  let main_v15 : FVec F S256x1024 .f32 := Host.absf main_arg5
  let main_cst_4 : FVec F S_ .f32 := constant S_ .f32 0x7F800000#32
  let main_v16 : FVec F S256x1024 .f32 := broadcastInDim S256x1024 ![] bcast_S_S256x1024 main_cst_4
  let main_v17 : IVec S256x1024 1 := cmpf .olt main_v15 main_v16
  fn_part1 (F := F) main_arg6 main_arg7 main_arg8 main_arg9 main_arg10 main_arg11 main_v2 main_v5 main_v8 main_v11 main_v14 main_v17
-- ==== Pre_finite2.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn {F : FTy → Type} [FloatOps F] (main_arg0 : FVec F S8192x1024 .f32) (main_arg1 : FVec F S8192x1024 .f32) (main_arg2 : FVec F S1x1024 .f32) (main_arg3 : FVec F S1024x2816 .f32) (main_arg4 : FVec F S1024x2816 .f32) (main_arg5 : FVec F S2816x1024 .f32) : IVec S8192x1024 1 × IVec S8192x1024 1 × IVec S1x1024 1 × IVec S1024x2816 1 × IVec S1024x2816 1 × IVec S2816x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1024x2816 .f32 := Host.absf main_arg3
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_v12 : FVec F S1024x2816 .f32 := Host.absf main_arg4
  let main_cst_3 : FVec F S_ .f32 := constant S_ .f32 0x7F800000#32
  let main_v13 : FVec F S1024x2816 .f32 := broadcastInDim S1024x2816 ![] bcast_S_S1024x2816 main_cst_3
  let main_v14 : IVec S1024x2816 1 := cmpf .olt main_v12 main_v13
  let main_v15 : FVec F S2816x1024 .f32 := Host.absf main_arg5
  let main_cst_4 : FVec F S_ .f32 := constant S_ .f32 0x7F800000#32
  let main_v16 : FVec F S2816x1024 .f32 := broadcastInDim S2816x1024 ![] bcast_S_S2816x1024 main_cst_4
  let main_v17 : IVec S2816x1024 1 := cmpf .olt main_v15 main_v16
  (main_v2, main_v5, main_v8, main_v11, main_v14, main_v17)
-- ==== Pre_finite5.lean ====
abbrev S8192x1024 : Shape := ⟨2, ![8192, 1024]⟩
abbrev S8192x512 : Shape := ⟨2, ![8192, 512]⟩
abbrev S256x1024 : Shape := ⟨2, ![256, 1024]⟩
abbrev S1x512 : Shape := ⟨2, ![1, 512]⟩
abbrev S1024x1024 : Shape := ⟨2, ![1024, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  bcast_S_S8192x512 : S_.BroadcastsInDim S8192x512 (![] : Fin 0 → Fin S8192x512.rank)
  bcast_S_S256x1024 : S_.BroadcastsInDim S256x1024 (![] : Fin 0 → Fin S256x1024.rank)
  bcast_S_S1x512 : S_.BroadcastsInDim S1x512 (![] : Fin 0 → Fin S1x512.rank)
  bcast_S_S1024x1024 : S_.BroadcastsInDim S1024x1024 (![] : Fin 0 → Fin S1024x1024.rank)
  bcast_S_S1x1024 : S_.BroadcastsInDim S1x1024 (![] : Fin 0 → Fin S1x1024.rank)

variable [Facts]

def fn_part1 {F : FTy → Type} [FloatOps F] (main_arg6 : FVec F S1x512 .f32) (main_arg7 : FVec F S1024x1024 .f32) (main_arg8 : FVec F S1x1024 .f32) (main_arg9 : FVec F S1024x1024 .f32) (main_arg10 : FVec F S1024x1024 .f32) (main_v2 : IVec S8192x1024 1) (main_v5 : IVec S8192x512 1) (main_v8 : IVec S8192x512 1) (main_v11 : IVec S256x1024 1) (main_v14 : IVec S256x1024 1) (main_v17 : IVec S1x512 1) : IVec S8192x1024 1 × IVec S8192x512 1 × IVec S8192x512 1 × IVec S256x1024 1 × IVec S256x1024 1 × IVec S1x512 1 × IVec S1x512 1 × IVec S1024x1024 1 × IVec S1x1024 1 × IVec S1024x1024 1 × IVec S1024x1024 1 :=
  let main_v18 : FVec F S1x512 .f32 := Host.absf main_arg6
  let main_cst_5 : FVec F S_ .f32 := constant S_ .f32 0x7F800000#32
  let main_v19 : FVec F S1x512 .f32 := broadcastInDim S1x512 ![] bcast_S_S1x512 main_cst_5
  let main_v20 : IVec S1x512 1 := cmpf .olt main_v18 main_v19
  let main_v21 : FVec F S1024x1024 .f32 := Host.absf main_arg7
  let main_cst_6 : FVec F S_ .f32 := constant S_ .f32 0x7F800000#32
  let main_v22 : FVec F S1024x1024 .f32 := broadcastInDim S1024x1024 ![] bcast_S_S1024x1024 main_cst_6
  let main_v23 : IVec S1024x1024 1 := cmpf .olt main_v21 main_v22
  let main_v24 : FVec F S1x1024 .f32 := Host.absf main_arg8
  let main_cst_7 : FVec F S_ .f32 := constant S_ .f32 0x7F800000#32
  let main_v25 : FVec F S1x1024 .f32 := broadcastInDim S1x1024 ![] bcast_S_S1x1024 main_cst_7
  let main_v26 : IVec S1x1024 1 := cmpf .olt main_v24 main_v25
  let main_v27 : FVec F S1024x1024 .f32 := Host.absf main_arg9
  let main_cst_8 : FVec F S_ .f32 := constant S_ .f32 0x7F800000#32
  let main_v28 : FVec F S1024x1024 .f32 := broadcastInDim S1024x1024 ![] bcast_S_S1024x1024 main_cst_8
  let main_v29 : IVec S1024x1024 1 := cmpf .olt main_v27 main_v28
  let main_v30 : FVec F S1024x1024 .f32 := Host.absf main_arg10
  let main_cst_9 : FVec F S_ .f32 := constant S_ .f32 0x7F800000#32
  let main_v31 : FVec F S1024x1024 .f32 := broadcastInDim S1024x1024 ![] bcast_S_S1024x1024 main_cst_9
  let main_v32 : IVec S1024x1024 1 := cmpf .olt main_v30 main_v31
  (main_v2, main_v5, main_v8, main_v11, main_v14, main_v17, main_v20, main_v23, main_v26, main_v29, main_v32)

def fn {F : FTy → Type} [FloatOps F] (main_arg0 : FVec F S8192x1024 .f32) (main_arg1 : FVec F S8192x512 .f32) (main_arg2 : FVec F S8192x512 .f32) (main_arg3 : FVec F S256x1024 .f32) (main_arg4 : FVec F S256x1024 .f32) (main_arg5 : FVec F S1x512 .f32) (main_arg6 : FVec F S1x512 .f32) (main_arg7 : FVec F S1024x1024 .f32) (main_arg8 : FVec F S1x1024 .f32) (main_arg9 : FVec F S1024x1024 .f32) (main_arg10 : FVec F S1024x1024 .f32) : IVec S8192x1024 1 × IVec S8192x512 1 × IVec S8192x512 1 × IVec S256x1024 1 × IVec S256x1024 1 × IVec S1x512 1 × IVec S1x512 1 × IVec S1024x1024 1 × IVec S1x1024 1 × IVec S1024x1024 1 × IVec S1024x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x512 .f32 := Host.absf main_arg1
  let main_cst_0 : FVec F S_ .f32 := constant S_ .f32 0x7F800000#32
  let main_v4 : FVec F S8192x512 .f32 := broadcastInDim S8192x512 ![] bcast_S_S8192x512 main_cst_0
  let main_v5 : IVec S8192x512 1 := cmpf .olt main_v3 main_v4
  let main_v6 : FVec F S8192x512 .f32 := Host.absf main_arg2
  let main_cst_1 : FVec F S_ .f32 := constant S_ .f32 0x7F800000#32
  let main_v7 : FVec F S8192x512 .f32 := broadcastInDim S8192x512 ![] bcast_S_S8192x512 main_cst_1
  let main_v8 : IVec S8192x512 1 := cmpf .olt main_v6 main_v7
  let main_v9 : FVec F S256x1024 .f32 := Host.absf main_arg3
  let main_cst_2 : FVec F S_ .f32 := constant S_ .f32 0x7F800000#32
  let main_v10 : FVec F S256x1024 .f32 := broadcastInDim S256x1024 ![] bcast_S_S256x1024 main_cst_2
  let main_v11 : IVec S256x1024 1 := cmpf .olt main_v9 main_v10
  let main_v12 : FVec F S256x1024 .f32 := Host.absf main_arg4
  let main_cst_3 : FVec F S_ .f32 := constant S_ .f32 0x7F800000#32
  let main_v13 : FVec F S256x1024 .f32 := broadcastInDim S256x1024 ![] bcast_S_S256x1024 main_cst_3
  let main_v14 : IVec S256x1024 1 := cmpf .olt main_v12 main_v13
  let main_v15 : FVec F S1x512 .f32 := Host.absf main_arg5
  let main_cst_4 : FVec F S_ .f32 := constant S_ .f32 0x7F800000#32
  let main_v16 : FVec F S1x512 .f32 := broadcastInDim S1x512 ![] bcast_S_S1x512 main_cst_4
  let main_v17 : IVec S1x512 1 := cmpf .olt main_v15 main_v16
  fn_part1 (F := F) main_arg6 main_arg7 main_arg8 main_arg9 main_arg10 main_v2 main_v5 main_v8 main_v11 main_v14 main_v17
-- ==== Kernel.lean ====
abbrev S8192x1024 : Shape := ⟨2, ![8192, 1024]⟩
abbrev S8192x512 : Shape := ⟨2, ![8192, 512]⟩
abbrev S256x1024 : Shape := ⟨2, ![256, 1024]⟩
abbrev S1x512 : Shape := ⟨2, ![1, 512]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S512x1024 : Shape := ⟨2, ![512, 1024]⟩
abbrev S512x512 : Shape := ⟨2, ![512, 512]⟩
abbrev S512x256 : Shape := ⟨2, ![512, 256]⟩
abbrev S256x256 : Shape := ⟨2, ![256, 256]⟩
abbrev S512 : Shape := ⟨1, ![512]⟩
abbrev S512x1 : Shape := ⟨2, ![512, 1]⟩
abbrev S1024 : Shape := ⟨1, ![1024]⟩

abbrev nBuf : Space → Nat
  | .hbm => 76
  | .vmem => 31
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x512, .f32⟩
  | .hbm, ⟨3, _⟩ => ⟨S8192x512, .f32⟩
  | .hbm, ⟨4, _⟩ => ⟨S256x1024, .f32⟩
  | .hbm, ⟨5, _⟩ => ⟨S256x1024, .f32⟩
  | .hbm, ⟨6, _⟩ => ⟨S1x512, .f32⟩
  | .hbm, ⟨7, _⟩ => ⟨S1x512, .f32⟩
  | .hbm, ⟨8, _⟩ => ⟨S1024x1024, .f32⟩
  | .hbm, ⟨9, _⟩ => ⟨S1x1024, .f32⟩
  | .hbm, ⟨10, _⟩ => ⟨S1024x1024, .f32⟩
  | .hbm, ⟨11, _⟩ => ⟨S1024x1024, .f32⟩
  | .hbm, ⟨12, _⟩ => ⟨S8192x512, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x512, .f32⟩
  | .hbm, ⟨24, _⟩ => ⟨S8192x512, .f32⟩
  | .hbm, ⟨25, _⟩ => ⟨S8192x512, .f32⟩
  | .hbm, ⟨26, _⟩ => ⟨S8192x512, .f32⟩
  | .hbm, ⟨27, _⟩ => ⟨S8192x512, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1, .f32⟩
  | .hbm, ⟨38, _⟩ => ⟨S8192x512, .f32⟩
  | .hbm, ⟨39, _⟩ => ⟨S8192x512, .f32⟩
  | .hbm, ⟨40, _⟩ => ⟨S8192x512, .f32⟩
  | .hbm, ⟨41, _⟩ => ⟨S8192x512, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S_, .f32⟩
  | .hbm, ⟨53, _⟩ => ⟨S8192x1, .f32⟩
  | .hbm, ⟨54, _⟩ => ⟨S8192x1, .f32⟩
  | .hbm, ⟨55, _⟩ => ⟨S8192x1, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .bf16⟩
  | .hbm, ⟨62, _⟩ => ⟨S256x1024, .bf16⟩
  | .hbm, ⟨63, _⟩ => ⟨S256x1024, .bf16⟩
  | .hbm, ⟨64, _⟩ => ⟨S1024x1024, .bf16⟩
  | .hbm, ⟨65, _⟩ => ⟨S1024x1024, .bf16⟩
  | .hbm, ⟨66, _⟩ => ⟨S1024x1024, .bf16⟩
  | .hbm, ⟨67, _⟩ => ⟨S8192x1024, .bf16⟩
  | .hbm, ⟨68, _⟩ => ⟨S8192x1024, .f32⟩
  | .hbm, ⟨69, _⟩ => ⟨S8192x512, .f32⟩
  | .hbm, ⟨70, _⟩ => ⟨S8192x512, .f32⟩
  | .hbm, ⟨71, _⟩ => ⟨S256x1024, .f32⟩
  | .hbm, ⟨72, _⟩ => ⟨S256x1024, .f32⟩
  | .hbm, ⟨73, _⟩ => ⟨S1x1024, .f32⟩
  | .hbm, ⟨74, _⟩ => ⟨S1x512, .f32⟩
  | .hbm, ⟨75, _⟩ => ⟨S1x512, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S256x1024, .bf16⟩
  | .local _ .vmem, ⟨11, _⟩ => ⟨S256x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1x1024, .f32⟩
  | .local _ .vmem, ⟨16, _⟩ => ⟨S1x512, .f32⟩
  | .local _ .vmem, ⟨17, _⟩ => ⟨S1x512, .f32⟩
  | .local _ .vmem, ⟨18, _⟩ => ⟨S512x1024, .bf16⟩
  | .local _ .vmem, ⟨19, _⟩ => ⟨S512x1024, .bf16⟩
  | .local _ .vmem, ⟨20, _⟩ => ⟨S512x1024, .f32⟩
  | .local _ .vmem, ⟨21, _⟩ => ⟨S512x1024, .f32⟩
  | .local _ .vmem, ⟨22, _⟩ => ⟨S512x512, .f32⟩
  | .local _ .vmem, ⟨23, _⟩ => ⟨S512x512, .f32⟩
  | .local _ .vmem, ⟨24, _⟩ => ⟨S512x512, .f32⟩
  | .local _ .vmem, ⟨25, _⟩ => ⟨S512x512, .f32⟩
  | .local _ .vmem, ⟨26, _⟩ => ⟨S256x1024, .f32⟩
  | .local _ .vmem, ⟨27, _⟩ => ⟨S256x1024, .f32⟩
  | .local _ .vmem, ⟨28, _⟩ => ⟨S1x1024, .f32⟩
  | .local _ .vmem, ⟨29, _⟩ => ⟨S1x512, .f32⟩
  | .local _ .vmem, ⟨30, _⟩ => ⟨S1x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_cst_3 : Ref sig .tc := ⟨.hbm, 31, rfl⟩
abbrev main_v15 : Ref sig .tc := ⟨.hbm, 32, rfl⟩
abbrev main_v16 : Ref sig .tc := ⟨.hbm, 33, rfl⟩
abbrev main_cst_4 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_5 : Ref sig .tc := ⟨.hbm, 46, rfl⟩
abbrev main_v28 : Ref sig .tc := ⟨.hbm, 47, rfl⟩
abbrev main_v29 : Ref sig .tc := ⟨.hbm, 48, rfl⟩
abbrev main_cst_6 : Ref sig .tc := ⟨.hbm, 49, rfl⟩
abbrev main_v30 : Ref sig .tc := ⟨.hbm, 50, rfl⟩
abbrev main_v31 : Ref sig .tc := ⟨.hbm, 51, rfl⟩
abbrev main_cst_7 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46_0 : Ref sig .tc := ⟨.hbm, 67, rfl⟩
abbrev main_v46_1 : Ref sig .tc := ⟨.hbm, 68, rfl⟩
abbrev main_v46_2 : Ref sig .tc := ⟨.hbm, 69, rfl⟩
abbrev main_v46_3 : Ref sig .tc := ⟨.hbm, 70, rfl⟩
abbrev main_v46_4 : Ref sig .tc := ⟨.hbm, 71, rfl⟩
abbrev main_v46_5 : Ref sig .tc := ⟨.hbm, 72, rfl⟩
abbrev main_v46_6 : Ref sig .tc := ⟨.hbm, 73, rfl⟩
abbrev main_v46_7 : Ref sig .tc := ⟨.hbm, 74, rfl⟩
abbrev main_v46_8 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg19_0 : Ref sig .tc := ⟨.vmem, 28, rfl⟩
abbrev cc0_stg20_0 : Ref sig .tc := ⟨.vmem, 29, rfl⟩
abbrev cc0_stg21_0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem18_0 : DmaSem sig := 27
abbrev cc0_sem19_0 : DmaSem sig := 28
abbrev cc0_sem20_0 : DmaSem sig := 29
abbrev cc0_sem21_0 : DmaSem sig := 30

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S256x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S256x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]
-- ==== ReferenceIdeal.lean ====
abbrev S8192x1024 : Shape := ⟨2, ![8192, 1024]⟩
abbrev S8192x512 : Shape := ⟨2, ![8192, 512]⟩
abbrev S256x1024 : Shape := ⟨2, ![256, 1024]⟩
abbrev S1x512 : Shape := ⟨2, ![1, 512]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S8192x4x256 : Shape := ⟨3, ![8192, 4, 256]⟩
abbrev S256x4x256 : Shape := ⟨3, ![256, 4, 256]⟩
abbrev S4x8192x256 : Shape := ⟨3, ![4, 8192, 256]⟩
abbrev S4x8192 : Shape := ⟨2, ![4, 8192]⟩
abbrev S4x8192x1 : Shape := ⟨3, ![4, 8192, 1]⟩
abbrev S4x256x8192 : Shape := ⟨3, ![4, 256, 8192]⟩
abbrev S4x256x256 : Shape := ⟨3, ![4, 256, 256]⟩
abbrev S1024 : Shape := ⟨1, ![1024]⟩
abbrev S512 : Shape := ⟨1, ![512]⟩

abbrev nBuf : Space → Nat
  | .hbm => 233
  | .vmem => 0
  | .smem => 0
  | _ => 0

abbrev hbmTy0_0 (i : Nat) : BufTy := match i % 128 with
  | 0 => ⟨S8192x1024, .f32⟩
  | 1 => ⟨S8192x1024, .f32⟩
  | 2 => ⟨S8192x512, .f32⟩
  | 3 => ⟨S8192x512, .f32⟩
  | 4 => ⟨S256x1024, .f32⟩
  | 5 => ⟨S256x1024, .f32⟩
  | 6 => ⟨S1x512, .f32⟩
  | 7 => ⟨S1x512, .f32⟩
  | 8 => ⟨S1024x1024, .f32⟩
  | 9 => ⟨S1x1024, .f32⟩
  | 10 => ⟨S1024x1024, .f32⟩
  | 11 => ⟨S1024x1024, .f32⟩
  | 12 => ⟨S_, .f32⟩
  | 13 => ⟨S8192x1024, .f32⟩
  | 14 => ⟨S8192x512, .f32⟩
  | 15 => ⟨S_, .f32⟩
  | 16 => ⟨S8192, .f32⟩
  | 17 => ⟨S8192x1, .f32⟩
  | 18 => ⟨S_, .f32⟩
  | 19 => ⟨S8192x1, .f32⟩
  | 20 => ⟨S8192x1, .f32⟩
  | 21 => ⟨S_, .f32⟩
  | 22 => ⟨S8192x1, .f32⟩
  | 23 => ⟨S8192x1, .f32⟩
  | 24 => ⟨S8192x1, .f32⟩
  | 25 => ⟨S8192x1, .f32⟩
  | 26 => ⟨S_, .f32⟩
  | 27 => ⟨S8192x1, .f32⟩
  | 28 => ⟨S8192x1, .f32⟩
  | 29 => ⟨S8192x512, .f32⟩
  | 30 => ⟨S8192x512, .f32⟩
  | 31 => ⟨S8192x512, .f32⟩
  | 32 => ⟨S8192x512, .f32⟩
  | 33 => ⟨S8192x512, .f32⟩
  | 34 => ⟨S_, .f32⟩
  | 35 => ⟨S8192, .f32⟩
  | 36 => ⟨S8192x1, .f32⟩
  | 37 => ⟨S_, .f32⟩
  | 38 => ⟨S8192x1, .f32⟩
  | 39 => ⟨S8192x1, .f32⟩
  | 40 => ⟨S_, .f32⟩
  | 41 => ⟨S8192x1, .f32⟩
  | 42 => ⟨S8192x1, .f32⟩
  | 43 => ⟨S8192x1, .f32⟩
  | 44 => ⟨S8192x1, .f32⟩
  | 45 => ⟨S_, .f32⟩
  | 46 => ⟨S8192x1, .f32⟩
  | 47 => ⟨S8192x1, .f32⟩
  | 48 => ⟨S8192x512, .f32⟩
  | 49 => ⟨S8192x512, .f32⟩
  | 50 => ⟨S8192x512, .f32⟩
  | 51 => ⟨S8192x512, .f32⟩
  | 52 => ⟨S8192x1024, .f32⟩
  | 53 => ⟨S8192x1024, .f32⟩
  | 54 => ⟨S8192x1024, .f32⟩
  | 55 => ⟨S8192x1024, .f32⟩
  | 56 => ⟨S_, .f32⟩
  | 57 => ⟨S8192, .f32⟩
  | 58 => ⟨S8192x1, .f32⟩
  | 59 => ⟨S_, .f32⟩
  | 60 => ⟨S8192x1, .f32⟩
  | 61 => ⟨S8192x1, .f32⟩
  | 62 => ⟨S_, .f32⟩
  | 63 => ⟨S8192x1, .f32⟩
  | 64 => ⟨S8192x1, .f32⟩
  | 65 => ⟨S8192x1, .f32⟩
  | 66 => ⟨S8192x1, .f32⟩
  | 67 => ⟨S_, .f32⟩
  | 68 => ⟨S8192x1, .f32⟩
  | 69 => ⟨S8192x1, .f32⟩
  | 70 => ⟨S8192x1024, .f32⟩
  | 71 => ⟨S8192x1024, .f32⟩
  | 72 => ⟨S8192x1024, .f32⟩
  | 73 => ⟨S8192x1024, .f32⟩
  | 74 => ⟨S8192x1024, .f32⟩
  | 75 => ⟨S8192x1024, .f32⟩
  | 76 => ⟨S8192x4x256, .f32⟩
  | 77 => ⟨S256x4x256, .f32⟩
  | 78 => ⟨S256x4x256, .f32⟩
  | 79 => ⟨S4x8192x256, .f32⟩
  | 80 => ⟨S_, .f32⟩
  | 81 => ⟨S4x8192x256, .f32⟩
  | 82 => ⟨S4x8192x256, .f32⟩
  | 83 => ⟨S_, .f32⟩
  | 84 => ⟨S4x8192, .f32⟩
  | 85 => ⟨S4x8192x1, .f32⟩
  | 86 => ⟨S4x8192x256, .f32⟩
  | 87 => ⟨S4x8192x256, .i1⟩
  | 88 => ⟨S4x8192x256, .f32⟩
  | 89 => ⟨S_, .f32⟩
  | 90 => ⟨S4x8192, .f32⟩
  | 91 => ⟨S_, .f32⟩
  | 92 => ⟨S4x8192, .f32⟩
  | 93 => ⟨S4x8192, .f32⟩
  | 94 => ⟨S_, .f32⟩
  | 95 => ⟨S4x8192, .f32⟩
  | 96 => ⟨S4x8192, .i1⟩
  | 97 => ⟨S_, .f32⟩
  | 98 => ⟨S4x8192, .f32⟩
  | 99 => ⟨S4x8192, .i1⟩
  | 100 => ⟨S_, .f32⟩
  | 101 => ⟨S4x8192, .f32⟩
  | 102 => ⟨S_, .f32⟩
  | 103 => ⟨S4x8192, .f32⟩
  | 104 => ⟨S_, .f32⟩
  | 105 => ⟨S4x8192, .f32⟩
  | 106 => ⟨S4x8192, .f32⟩
  | 107 => ⟨S4x8192, .f32⟩
  | 108 => ⟨S4x8192x1, .f32⟩
  | 109 => ⟨S4x8192x256, .f32⟩
  | 110 => ⟨S4x8192x256, .f32⟩
  | 111 => ⟨S4x8192x256, .f32⟩
  | 112 => ⟨S_, .f32⟩
  | 113 => ⟨S4x8192, .f32⟩
  | 114 => ⟨S4x8192x1, .f32⟩
  | 115 => ⟨S4x8192x256, .f32⟩
  | 116 => ⟨S4x8192x256, .f32⟩
  | 117 => ⟨S4x8192x1, .f32⟩
  | 118 => ⟨S_, .f32⟩
  | 119 => ⟨S4x8192x1, .f32⟩
  | 120 => ⟨S4x8192x1, .f32⟩
  | 121 => ⟨S4x256x8192, .f32⟩
  | 122 => ⟨S8192x4x256, .f32⟩
  | 123 => ⟨S8192x1024, .f32⟩
  | 124 => ⟨S8192x1024, .f32⟩
  | 125 => ⟨S8192x1024, .f32⟩
  | 126 => ⟨S8192x1024, .f32⟩
  | 127 => ⟨S8192x1024, .f32⟩
  | _ => ⟨S8192x1024, .f32⟩

abbrev hbmTy0_1 (i : Nat) : BufTy := match i % 128 with
  | 0 => ⟨S8192x1024, .f32⟩
  | 1 => ⟨S8192x4x256, .f32⟩
  | 2 => ⟨S4x256x8192, .f32⟩
  | 3 => ⟨S4x8192x256, .f32⟩
  | 4 => ⟨S4x256x256, .f32⟩
  | 5 => ⟨S256x4x256, .f32⟩
  | 6 => ⟨S4x8192x256, .f32⟩
  | 7 => ⟨S4x8192x256, .f32⟩
  | 8 => ⟨S4x8192x256, .f32⟩
  | 9 => ⟨S_, .f32⟩
  | 10 => ⟨S4x8192, .f32⟩
  | 11 => ⟨S4x8192x1, .f32⟩
  | 12 => ⟨S4x8192x1, .f32⟩
  | 13 => ⟨S4x8192x256, .f32⟩
  | 14 => ⟨S4x8192x256, .f32⟩
  | 15 => ⟨S_, .f32⟩
  | 16 => ⟨S4x8192, .f32⟩
  | 17 => ⟨S4x8192x256, .f32⟩
  | 18 => ⟨S4x8192x256, .f32⟩
  | 19 => ⟨S4x8192x256, .f32⟩
  | 20 => ⟨S_, .f32⟩
  | 21 => ⟨S4x8192x256, .f32⟩
  | 22 => ⟨S4x8192x256, .f32⟩
  | 23 => ⟨S4x256x256, .f32⟩
  | 24 => ⟨S256x4x256, .f32⟩
  | 25 => ⟨S4x8192x256, .f32⟩
  | 26 => ⟨S8192x4x256, .f32⟩
  | 27 => ⟨S256x1024, .f32⟩
  | 28 => ⟨S256x1024, .f32⟩
  | 29 => ⟨S8192x1024, .f32⟩
  | 30 => ⟨S8192x1024, .f32⟩
  | 31 => ⟨S8192x1024, .f32⟩
  | 32 => ⟨S_, .f32⟩
  | 33 => ⟨S1024, .f32⟩
  | 34 => ⟨S1x1024, .f32⟩
  | 35 => ⟨S8192x1024, .f32⟩
  | 36 => ⟨S8192x1024, .f32⟩
  | 37 => ⟨S8192x1024, .f32⟩
  | 38 => ⟨S_, .f32⟩
  | 39 => ⟨S8192, .f32⟩
  | 40 => ⟨S8192x1, .f32⟩
  | 41 => ⟨S8192x1024, .f32⟩
  | 42 => ⟨S8192x1024, .f32⟩
  | 43 => ⟨S8192x1024, .f32⟩
  | 44 => ⟨S8192x1, .f32⟩
  | 45 => ⟨S_, .f32⟩
  | 46 => ⟨S8192x1, .f32⟩
  | 47 => ⟨S8192x1, .f32⟩
  | 48 => ⟨S_, .f32⟩
  | 49 => ⟨S8192, .f32⟩
  | 50 => ⟨S8192x1024, .f32⟩
  | 51 => ⟨S8192x1024, .f32⟩
  | 52 => ⟨S8192x1024, .f32⟩
  | 53 => ⟨S8192x1024, .f32⟩
  | 54 => ⟨S8192x1024, .f32⟩
  | 55 => ⟨S8192x1024, .f32⟩
  | 56 => ⟨S8192x512, .f32⟩
  | 57 => ⟨S8192x512, .f32⟩
  | 58 => ⟨S8192x512, .f32⟩
  | 59 => ⟨S_, .f32⟩
  | 60 => ⟨S512, .f32⟩
  | 61 => ⟨S1x512, .f32⟩
  | 62 => ⟨S8192x512, .f32⟩
  | 63 => ⟨S8192x512, .f32⟩
  | 64 => ⟨S8192x512, .f32⟩
  | 65 => ⟨S_, .f32⟩
  | 66 => ⟨S8192, .f32⟩
  | 67 => ⟨S8192x1, .f32⟩
  | 68 => ⟨S8192x512, .f32⟩
  | 69 => ⟨S8192x512, .f32⟩
  | 70 => ⟨S8192x1, .f32⟩
  | 71 => ⟨S_, .f32⟩
  | 72 => ⟨S8192x1, .f32⟩
  | 73 => ⟨S8192x1, .f32⟩
  | 74 => ⟨S_, .f32⟩
  | 75 => ⟨S8192, .f32⟩
  | 76 => ⟨S8192x512, .f32⟩
  | 77 => ⟨S8192x512, .f32⟩
  | 78 => ⟨S8192x512, .f32⟩
  | 79 => ⟨S8192x512, .f32⟩
  | 80 => ⟨S8192x512, .f32⟩
  | 81 => ⟨S8192x512, .f32⟩
  | 82 => ⟨S_, .f32⟩
  | 83 => ⟨S512, .f32⟩
  | 84 => ⟨S1x512, .f32⟩
  | 85 => ⟨S8192x512, .f32⟩
  | 86 => ⟨S8192x512, .f32⟩
  | 87 => ⟨S8192x512, .f32⟩
  | 88 => ⟨S_, .f32⟩
  | 89 => ⟨S8192, .f32⟩
  | 90 => ⟨S8192x1, .f32⟩
  | 91 => ⟨S8192x512, .f32⟩
  | 92 => ⟨S8192x512, .f32⟩
  | 93 => ⟨S8192x1, .f32⟩
  | 94 => ⟨S_, .f32⟩
  | 95 => ⟨S8192x1, .f32⟩
  | 96 => ⟨S8192x1, .f32⟩
  | 97 => ⟨S_, .f32⟩
  | 98 => ⟨S8192, .f32⟩
  | 99 => ⟨S8192x512, .f32⟩
  | 100 => ⟨S8192x512, .f32⟩
  | 101 => ⟨S8192x512, .f32⟩
  | 102 => ⟨S8192x512, .f32⟩
  | 103 => ⟨S8192x512, .f32⟩
  | 104 => ⟨S8192x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_3 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_4 : Ref sig .tc := ⟨.hbm, 34, rfl⟩
abbrev main_v17 : Ref sig .tc := ⟨.hbm, 35, rfl⟩
abbrev main_v18 : Ref sig .tc := ⟨.hbm, 36, rfl⟩
abbrev main_cst_5 : Ref sig .tc := ⟨.hbm, 37, rfl⟩
abbrev main_v19 : Ref sig .tc := ⟨.hbm, 38, rfl⟩
abbrev main_v20 : Ref sig .tc := ⟨.hbm, 39, rfl⟩
abbrev main_cst_6 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_7 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_8 : Ref sig .tc := ⟨.hbm, 56, rfl⟩
abbrev main_v35 : Ref sig .tc := ⟨.hbm, 57, rfl⟩
abbrev main_v36 : Ref sig .tc := ⟨.hbm, 58, rfl⟩
abbrev main_cst_9 : Ref sig .tc := ⟨.hbm, 59, rfl⟩
abbrev main_v37 : Ref sig .tc := ⟨.hbm, 60, rfl⟩
abbrev main_v38 : Ref sig .tc := ⟨.hbm, 61, rfl⟩
abbrev main_cst_10 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_11 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_12 : Ref sig .tc := ⟨.hbm, 80, rfl⟩
abbrev main_v55 : Ref sig .tc := ⟨.hbm, 81, rfl⟩
abbrev main_v56 : Ref sig .tc := ⟨.hbm, 82, rfl⟩
abbrev main_cst_13 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_14 : Ref sig .tc := ⟨.hbm, 89, rfl⟩
abbrev main_v62 : Ref sig .tc := ⟨.hbm, 90, rfl⟩
abbrev main_cst_15 : Ref sig .tc := ⟨.hbm, 91, rfl⟩
abbrev main_v63 : Ref sig .tc := ⟨.hbm, 92, rfl⟩
abbrev main_v64 : Ref sig .tc := ⟨.hbm, 93, rfl⟩
abbrev main_cst_16 : Ref sig .tc := ⟨.hbm, 94, rfl⟩
abbrev main_v65 : Ref sig .tc := ⟨.hbm, 95, rfl⟩
abbrev main_v66 : Ref sig .tc := ⟨.hbm, 96, rfl⟩
abbrev main_cst_17 : Ref sig .tc := ⟨.hbm, 97, rfl⟩
abbrev main_v67 : Ref sig .tc := ⟨.hbm, 98, rfl⟩
abbrev main_v68 : Ref sig .tc := ⟨.hbm, 99, rfl⟩
abbrev main_cst_18 : Ref sig .tc := ⟨.hbm, 100, rfl⟩
abbrev main_v69 : Ref sig .tc := ⟨.hbm, 101, rfl⟩
abbrev main_cst_19 : Ref sig .tc := ⟨.hbm, 102, rfl⟩
abbrev main_v70 : Ref sig .tc := ⟨.hbm, 103, rfl⟩
abbrev main_cst_20 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_cst_21 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_cst_22 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_cst_23 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_cst_24 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_cst_25 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_cst_26 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_cst_27 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_cst_28 : Ref sig .tc := ⟨.hbm, 173, rfl⟩
abbrev main_v132 : Ref sig .tc := ⟨.hbm, 174, rfl⟩
abbrev main_v133 : Ref sig .tc := ⟨.hbm, 175, rfl⟩
abbrev main_cst_29 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_cst_30 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_cst_31 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_cst_32 : Ref sig .tc := ⟨.hbm, 199, rfl⟩
abbrev main_v154 : Ref sig .tc := ⟨.hbm, 200, rfl⟩
abbrev main_v155 : Ref sig .tc := ⟨.hbm, 201, rfl⟩
abbrev main_cst_33 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_cst_34 : Ref sig .tc := ⟨.hbm, 210, rfl⟩
abbrev main_v163 : Ref sig .tc := ⟨.hbm, 211, rfl⟩
abbrev main_v164 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩
abbrev main_cst_35 : Ref sig .tc := ⟨.hbm, 216, rfl⟩
abbrev main_v168 : Ref sig .tc := ⟨.hbm, 217, rfl⟩
abbrev main_v169 : Ref sig .tc := ⟨.hbm, 218, rfl⟩
abbrev main_v170 : Ref sig .tc := ⟨.hbm, 219, rfl⟩
abbrev main_v171 : Ref sig .tc := ⟨.hbm, 220, rfl⟩
abbrev main_v172 : Ref sig .tc := ⟨.hbm, 221, rfl⟩
abbrev main_cst_36 : Ref sig .tc := ⟨.hbm, 222, rfl⟩
abbrev main_v173 : Ref sig .tc := ⟨.hbm, 223, rfl⟩
abbrev main_v174 : Ref sig .tc := ⟨.hbm, 224, rfl⟩
abbrev main_cst_37 : Ref sig .tc := ⟨.hbm, 225, rfl⟩
abbrev main_v175 : Ref sig .tc := ⟨.hbm, 226, rfl⟩
abbrev main_v176 : Ref sig .tc := ⟨.hbm, 227, rfl⟩
abbrev main_v177 : Ref sig .tc := ⟨.hbm, 228, rfl⟩
abbrev main_v178 : Ref sig .tc := ⟨.hbm, 229, rfl⟩
abbrev main_v179 : Ref sig .tc := ⟨.hbm, 230, rfl⟩
abbrev main_v180 : Ref sig .tc := ⟨.hbm, 231, rfl⟩
abbrev main_v181 : Ref sig .tc := ⟨.hbm, 232, rfl⟩

abbrev nD : Nat := 1
abbrev τ : Topo := Topo.v7x

variable {F : FTy → Type} [FloatOps F]
-- ==== Kernel2.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩
abbrev S256x1024 : Shape := ⟨2, ![256, 1024]⟩
abbrev S256x2816 : Shape := ⟨2, ![256, 2816]⟩
abbrev S6 : Shape := ⟨1, ![6]⟩
abbrev S1 : Shape := ⟨1, ![1]⟩
abbrev S1280x1024 : Shape := ⟨2, ![1280, 1024]⟩
abbrev S1536x1024 : Shape := ⟨2, ![1536, 1024]⟩
abbrev S256x1280 : Shape := ⟨2, ![256, 1280]⟩
abbrev S256x1536 : Shape := ⟨2, ![256, 1536]⟩
abbrev S256 : Shape := ⟨1, ![256]⟩
abbrev S256x1 : Shape := ⟨2, ![256, 1]⟩
abbrev S1024 : Shape := ⟨1, ![1024]⟩

abbrev nBuf : Space → Nat
  | .hbm => 34
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x2816, .f32⟩
  | .hbm, ⟨22, _⟩ => ⟨S8192x2816, .bf16⟩
  | .hbm, ⟨23, _⟩ => ⟨S8192x2816, .f32⟩
  | .hbm, ⟨24, _⟩ => ⟨S8192x2816, .bf16⟩
  | .hbm, ⟨25, _⟩ => ⟨S2816x1024, .f32⟩
  | .hbm, ⟨26, _⟩ => ⟨S2816x1024, .bf16⟩
  | .hbm, ⟨27, _⟩ => ⟨S2816x1024, .f32⟩
  | .hbm, ⟨28, _⟩ => ⟨S2816x1024, .bf16⟩
  | .hbm, ⟨29, _⟩ => ⟨S2816x1024, .bf16⟩
  | .hbm, ⟨30, _⟩ => ⟨S8192x2816, .bf16⟩
  | .hbm, ⟨31, _⟩ => ⟨S8192x2816, .bf16⟩
  | .hbm, ⟨32, _⟩ => ⟨S8192x1024, .f32⟩
  | .hbm, ⟨33, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2816, .bf16⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S1x1024, .f32⟩
  | .local _ .vmem, ⟨9, _⟩ => ⟨S256x2816, .bf16⟩
  | .local _ .vmem, ⟨10, _⟩ => ⟨S256x2816, .bf16⟩
  | .local _ .vmem, ⟨11, _⟩ => ⟨S256x2816, .bf16⟩
  | .local _ .vmem, ⟨12, _⟩ => ⟨S256x2816, .bf16⟩
  | .local _ .vmem, ⟨13, _⟩ => ⟨S256x1024, .f32⟩
  | .local _ .vmem, ⟨14, _⟩ => ⟨S256x1024, .f32⟩
  | .local _ .vmem, ⟨15, _⟩ => ⟨S1x1024, .f32⟩
  | .local _ .vmem, ⟨16, _⟩ => ⟨S2816x1024, .bf16⟩
  | .local _ .vmem, ⟨17, _⟩ => ⟨S2816x1024, .bf16⟩
  | .local _ .vmem, ⟨18, _⟩ => ⟨S2816x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21_0 : Ref sig .tc := ⟨.hbm, 30, rfl⟩
abbrev main_v21_1 : Ref sig .tc := ⟨.hbm, 31, rfl⟩
abbrev main_v21_2 : Ref sig .tc := ⟨.hbm, 32, rfl⟩
abbrev main_v21_3 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference2Ideal.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S8192x2816 : Shape := ⟨2, ![8192, 2816]⟩
abbrev S8192 : Shape := ⟨1, ![8192]⟩
abbrev S8192x1 : Shape := ⟨2, ![8192, 1]⟩
abbrev S1024 : Shape := ⟨1, ![1024]⟩

abbrev nBuf : Space → Nat
  | .hbm => 84
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S_, .f32⟩
  | .hbm, ⟨7, _⟩ => ⟨S8192x2816, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S_, .f32⟩
  | .hbm, ⟨32, _⟩ => ⟨S8192x2816, .f32⟩
  | .hbm, ⟨33, _⟩ => ⟨S8192x2816, .f32⟩
  | .hbm, ⟨34, _⟩ => ⟨S_, .f32⟩
  | .hbm, ⟨35, _⟩ => ⟨S8192x2816, .f32⟩
  | .hbm, ⟨36, _⟩ => ⟨S8192x2816, .f32⟩
  | .hbm, ⟨37, _⟩ => ⟨S_, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S8192x2816, .f32⟩
  | .hbm, ⟨42, _⟩ => ⟨S8192x2816, .f32⟩
  | .hbm, ⟨43, _⟩ => ⟨S8192x2816, .f32⟩
  | .hbm, ⟨44, _⟩ => ⟨S8192x2816, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x2816, .f32⟩
  | .hbm, ⟨49, _⟩ => ⟨S8192x2816, .f32⟩
  | .hbm, ⟨50, _⟩ => ⟨S8192x2816, .f32⟩
  | .hbm, ⟨51, _⟩ => ⟨S8192x1024, .f32⟩
  | .hbm, ⟨52, _⟩ => ⟨S8192x2816, .f32⟩
  | .hbm, ⟨53, _⟩ => ⟨S8192x2816, .f32⟩
  | .hbm, ⟨54, _⟩ => ⟨S8192x2816, .f32⟩
  | .hbm, ⟨55, _⟩ => ⟨S8192x2816, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S_, .f32⟩
  | .hbm, ⟨66, _⟩ => ⟨S8192, .f32⟩
  | .hbm, ⟨67, _⟩ => ⟨S8192x1, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1, .f32⟩
  | .hbm, ⟨72, _⟩ => ⟨S_, .f32⟩
  | .hbm, ⟨73, _⟩ => ⟨S8192x1, .f32⟩
  | .hbm, ⟨74, _⟩ => ⟨S8192x1, .f32⟩
  | .hbm, ⟨75, _⟩ => ⟨S_, .f32⟩
  | .hbm, ⟨76, _⟩ => ⟨S8192, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S8192x2816, .bf16⟩
  | .hbm, ⟨83, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_v18_2 : Ref sig .tc := ⟨.hbm, 36, rfl⟩
abbrev main_call0_cst_1 : Ref sig .tc := ⟨.hbm, 37, rfl⟩
abbrev main_call0_v6 : Ref sig .tc := ⟨.hbm, 38, rfl⟩
abbrev main_call0_v7 : Ref sig .tc := ⟨.hbm, 39, rfl⟩
abbrev main_v18_1 : Ref sig .tc := ⟨.hbm, 40, rfl⟩
abbrev main_v18_0 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_4 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_5 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_6 : Ref sig .tc := ⟨.hbm, 72, rfl⟩
abbrev main_v44 : Ref sig .tc := ⟨.hbm, 73, rfl⟩
abbrev main_v45 : Ref sig .tc := ⟨.hbm, 74, rfl⟩
abbrev main_cst_7 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩

abbrev nD : Nat := 1
abbrev τ : Topo := Topo.v7x

variable {F : FTy → Type} [FloatOps F]
-- ==== Kernel3.lean ====
abbrev S256x1024 : Shape := ⟨2, ![256, 1024]⟩
abbrev S1x1024 : Shape := ⟨2, ![1, 1024]⟩
abbrev S1024x1024 : Shape := ⟨2, ![1024, 1024]⟩
abbrev S_ : Shape := ⟨0, ![]⟩
abbrev S256 : Shape := ⟨1, ![256]⟩
abbrev S256x1 : Shape := ⟨2, ![256, 1]⟩
abbrev S1024 : Shape := ⟨1, ![1024]⟩

abbrev nBuf : Space → Nat
  | .hbm => 29
  | .vmem => 12
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S1x1024, .f32⟩
  | .hbm, ⟨4, _⟩ => ⟨S1024x1024, .f32⟩
  | .hbm, ⟨5, _⟩ => ⟨S1024x1024, .f32⟩
  | .hbm, ⟨6, _⟩ => ⟨S256x1024, .f32⟩
  | .hbm, ⟨7, _⟩ => ⟨S_, .f32⟩
  | .hbm, ⟨8, _⟩ => ⟨S256, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S_, .f32⟩
  | .hbm, ⟨14, _⟩ => ⟨S256x1, .f32⟩
  | .hbm, ⟨15, _⟩ => ⟨S256x1, .f32⟩
  | .hbm, ⟨16, _⟩ => ⟨S256x1, .f32⟩
  | .hbm, ⟨17, _⟩ => ⟨S256x1024, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S256x1024, .bf16⟩
  | .hbm, ⟨22, _⟩ => ⟨S1024x1024, .bf16⟩
  | .hbm, ⟨23, _⟩ => ⟨S1024x1024, .bf16⟩
  | .hbm, ⟨24, _⟩ => ⟨S1024x1024, .f32⟩
  | .hbm, ⟨25, _⟩ => ⟨S1024x1024, .f32⟩
  | .hbm, ⟨26, _⟩ => ⟨S1x1024, .f32⟩
  | .hbm, ⟨27, _⟩ => ⟨S1024x1024, .bf16⟩
  | .hbm, ⟨28, _⟩ => ⟨S1024x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .bf16⟩
  | .local _ .vmem, ⟨4, _⟩ => ⟨S1x1024, .f32⟩
  | .local _ .vmem, ⟨5, _⟩ => ⟨S1024x1024, .bf16⟩
  | .local _ .vmem, ⟨6, _⟩ => ⟨S1024x1024, .bf16⟩
  | .local _ .vmem, ⟨7, _⟩ => ⟨S1024x1024, .f32⟩
  | .local _ .vmem, ⟨8, _⟩ => ⟨S1024x1024, .f32⟩
  | .local _ .vmem, ⟨9, _⟩ => ⟨S1x1024, .f32⟩
  | .local _ .vmem, ⟨10, _⟩ => ⟨S1024x1024, .bf16⟩
  | .local _ .vmem, ⟨11, _⟩ => ⟨S1024x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15_0 : Ref sig .tc := ⟨.hbm, 24, rfl⟩
abbrev main_v15_1 : Ref sig .tc := ⟨.hbm, 25, rfl⟩
abbrev main_v15_2 : Ref sig .tc := ⟨.hbm, 26, rfl⟩
abbrev main_v15_3 : Ref sig .tc := ⟨.hbm, 27, rfl⟩
abbrev main_v15_4 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1024x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Reference3Ideal.lean ====
abbrev S256x1024 : Shape := ⟨2, ![256, 1024]⟩
abbrev S1x1024 : Shape := ⟨2, ![1, 1024]⟩
abbrev S1024x1024 : Shape := ⟨2, ![1024, 1024]⟩
abbrev S_ : Shape := ⟨0, ![]⟩
abbrev S256 : Shape := ⟨1, ![256]⟩
abbrev S256x1 : Shape := ⟨2, ![256, 1]⟩
abbrev S1024 : Shape := ⟨1, ![1024]⟩

abbrev nBuf : Space → Nat
  | .hbm => 36
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S1x1024, .f32⟩
  | .hbm, ⟨4, _⟩ => ⟨S1024x1024, .f32⟩
  | .hbm, ⟨5, _⟩ => ⟨S1024x1024, .f32⟩
  | .hbm, ⟨6, _⟩ => ⟨S256x1024, .f32⟩
  | .hbm, ⟨7, _⟩ => ⟨S_, .f32⟩
  | .hbm, ⟨8, _⟩ => ⟨S256, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S_, .f32⟩
  | .hbm, ⟨14, _⟩ => ⟨S256x1, .f32⟩
  | .hbm, ⟨15, _⟩ => ⟨S256x1, .f32⟩
  | .hbm, ⟨16, _⟩ => ⟨S256x1, .f32⟩
  | .hbm, ⟨17, _⟩ => ⟨S256x1024, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S256x1024, .f32⟩
  | .hbm, ⟨23, _⟩ => ⟨S1024x1024, .f32⟩
  | .hbm, ⟨24, _⟩ => ⟨S1024x1024, .f32⟩
  | .hbm, ⟨25, _⟩ => ⟨S256x1024, .f32⟩
  | .hbm, ⟨26, _⟩ => ⟨S1024x1024, .f32⟩
  | .hbm, ⟨27, _⟩ => ⟨S1024x1024, .f32⟩
  | .hbm, ⟨28, _⟩ => ⟨S256x1024, .f32⟩
  | .hbm, ⟨29, _⟩ => ⟨S256x1024, .f32⟩
  | .hbm, ⟨30, _⟩ => ⟨S256x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S1024x1024, .bf16⟩
  | .hbm, ⟨35, _⟩ => ⟨S1024x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Kernel4.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S8192x2816 : Shape := ⟨2, ![8192, 2816]⟩
abbrev S1x128 : Shape := ⟨2, ![1, 128]⟩
abbrev S512x1024 : Shape := ⟨2, ![512, 1024]⟩
abbrev S512x2816 : Shape := ⟨2, ![512, 2816]⟩
abbrev S3 : Shape := ⟨1, ![3]⟩
abbrev S1 : Shape := ⟨1, ![1]⟩
abbrev S_ : Shape := ⟨0, ![]⟩
abbrev S512 : Shape := ⟨1, ![512]⟩
abbrev S512x1 : Shape := ⟨2, ![512, 1]⟩
abbrev S1280x1024 : Shape := ⟨2, ![1280, 1024]⟩
abbrev S512x1280 : Shape := ⟨2, ![512, 1280]⟩
abbrev S1536x1024 : Shape := ⟨2, ![1536, 1024]⟩
abbrev S512x1536 : Shape := ⟨2, ![512, 1536]⟩
abbrev S1x512x1024 : Shape := ⟨3, ![1, 512, 1024]⟩
abbrev S1x1x1 : Shape := ⟨3, ![1, 1, 1]⟩
abbrev S1024 : Shape := ⟨1, ![1024]⟩

abbrev nBuf : Space → Nat
  | .hbm => 19
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S2816x1024, .f32⟩
  | .hbm, ⟨8, _⟩ => ⟨S2816x1024, .bf16⟩
  | .hbm, ⟨9, _⟩ => ⟨S2816x1024, .f32⟩
  | .hbm, ⟨10, _⟩ => ⟨S2816x1024, .bf16⟩
  | .hbm, ⟨11, _⟩ => ⟨S2816x1024, .bf16⟩
  | .hbm, ⟨12, _⟩ => ⟨S8192x1024, .bf16⟩
  | .hbm, ⟨13, _⟩ => ⟨S8192x2816, .bf16⟩
  | .hbm, ⟨14, _⟩ => ⟨S8192x2816, .bf16⟩
  | .hbm, ⟨15, _⟩ => ⟨S8192x2816, .bf16⟩
  | .hbm, ⟨16, _⟩ => ⟨S8192x1024, .f32⟩
  | .hbm, ⟨17, _⟩ => ⟨S1x128, .f32⟩
  | .hbm, ⟨18, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | .local _ .vmem, ⟨8, _⟩ => ⟨S512x2816, .bf16⟩
  | .local _ .vmem, ⟨9, _⟩ => ⟨S512x2816, .bf16⟩
  | .local _ .vmem, ⟨10, _⟩ => ⟨S512x2816, .bf16⟩
  | .local _ .vmem, ⟨11, _⟩ => ⟨S512x2816, .bf16⟩
  | .local _ .vmem, ⟨12, _⟩ => ⟨S512x2816, .bf16⟩
  | .local _ .vmem, ⟨13, _⟩ => ⟨S512x2816, .bf16⟩
  | .local _ .vmem, ⟨14, _⟩ => ⟨S512x1024, .f32⟩
  | .local _ .vmem, ⟨15, _⟩ => ⟨S512x1024, .f32⟩
  | .local _ .vmem, ⟨16, _⟩ => ⟨S1x128, .f32⟩
  | .local _ .vmem, ⟨17, _⟩ => ⟨S1x1024, .f32⟩
  | .local _ .vmem, ⟨18, _⟩ => ⟨S2816x1024, .bf16⟩
  | .local _ .vmem, ⟨19, _⟩ => ⟨S2816x1024, .bf16⟩
  | .local _ .vmem, ⟨20, _⟩ => ⟨S2816x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev main_v5_4 : Ref sig .tc := ⟨.hbm, 16, rfl⟩
abbrev main_v5_5 : Ref sig .tc := ⟨.hbm, 17, rfl⟩
abbrev main_v5_6 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference4Ideal.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩
abbrev S1024 : Shape := ⟨1, ![1024]⟩
abbrev S1x128 : Shape := ⟨2, ![1, 128]⟩

abbrev nBuf : Space → Nat
  | .hbm => 106
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S_, .f32⟩
  | .hbm, ⟨27, _⟩ => ⟨S8192x2816, .f32⟩
  | .hbm, ⟨28, _⟩ => ⟨S8192x2816, .f32⟩
  | .hbm, ⟨29, _⟩ => ⟨S_, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S_, .f32⟩
  | .hbm, ⟨58, _⟩ => ⟨S8192x1024, .f32⟩
  | .hbm, ⟨59, _⟩ => ⟨S8192x1024, .f32⟩
  | .hbm, ⟨60, _⟩ => ⟨S_, .f32⟩
  | .hbm, ⟨61, _⟩ => ⟨S8192, .f32⟩
  | .hbm, ⟨62, _⟩ => ⟨S_, .f32⟩
  | .hbm, ⟨63, _⟩ => ⟨S8192, .f32⟩
  | .hbm, ⟨64, _⟩ => ⟨S8192, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S8192, .f32⟩
  | .hbm, ⟨73, _⟩ => ⟨S_, .f32⟩
  | .hbm, ⟨74, _⟩ => ⟨S8192, .f32⟩
  | .hbm, ⟨75, _⟩ => ⟨S8192, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S_, .f32⟩
  | .hbm, ⟨80, _⟩ => ⟨S1024, .f32⟩
  | .hbm, ⟨81, _⟩ => ⟨S1x1024, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S_, .f32⟩
  | .hbm, ⟨86, _⟩ => ⟨S8192, .f32⟩
  | .hbm, ⟨87, _⟩ => ⟨S8192x1, .f32⟩
  | .hbm, ⟨88, _⟩ => ⟨S8192x1024, .f32⟩
  | .hbm, ⟨89, _⟩ => ⟨S8192x1024, .f32⟩
  | .hbm, ⟨90, _⟩ => ⟨S8192x1, .f32⟩
  | .hbm, ⟨91, _⟩ => ⟨S_, .f32⟩
  | .hbm, ⟨92, _⟩ => ⟨S8192x1, .f32⟩
  | .hbm, ⟨93, _⟩ => ⟨S8192x1, .f32⟩
  | .hbm, ⟨94, _⟩ => ⟨S_, .f32⟩
  | .hbm, ⟨95, _⟩ => ⟨S8192, .f32⟩
  | .hbm, ⟨96, _⟩ => ⟨S8192x1024, .f32⟩
  | .hbm, ⟨97, _⟩ => ⟨S8192x1024, .f32⟩
  | .hbm, ⟨98, _⟩ => ⟨S8192x1024, .f32⟩
  | .hbm, ⟨99, _⟩ => ⟨S8192x1024, .f32⟩
  | .hbm, ⟨100, _⟩ => ⟨S8192x1024, .f32⟩
  | .hbm, ⟨101, _⟩ => ⟨S8192x1024, .bf16⟩
  | .hbm, ⟨102, _⟩ => ⟨S8192x2816, .bf16⟩
  | .hbm, ⟨103, _⟩ => ⟨S8192x2816, .bf16⟩
  | .hbm, ⟨104, _⟩ => ⟨S8192x2816, .bf16⟩
  | .hbm, ⟨105, _⟩ => ⟨S1x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_2 : Ref sig .tc := ⟨.hbm, 37, rfl⟩
abbrev main_v19 : Ref sig .tc := ⟨.hbm, 38, rfl⟩
abbrev main_v20 : Ref sig .tc := ⟨.hbm, 39, rfl⟩
abbrev main_cst_3 : Ref sig .tc := ⟨.hbm, 40, rfl⟩
abbrev main_v21 : Ref sig .tc := ⟨.hbm, 41, rfl⟩
abbrev main_v22 : Ref sig .tc := ⟨.hbm, 42, rfl⟩
abbrev main_cst_4 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_5 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_6 : Ref sig .tc := ⟨.hbm, 57, rfl⟩
abbrev main_v35 : Ref sig .tc := ⟨.hbm, 58, rfl⟩
abbrev main_v36 : Ref sig .tc := ⟨.hbm, 59, rfl⟩
abbrev main_cst_7 : Ref sig .tc := ⟨.hbm, 60, rfl⟩
abbrev main_v37 : Ref sig .tc := ⟨.hbm, 61, rfl⟩
abbrev main_cst_8 : Ref sig .tc := ⟨.hbm, 62, rfl⟩
abbrev main_v38 : Ref sig .tc := ⟨.hbm, 63, rfl⟩
abbrev main_v39 : Ref sig .tc := ⟨.hbm, 64, rfl⟩
abbrev main_cst_9 : Ref sig .tc := ⟨.hbm, 65, rfl⟩
abbrev main_v40 : Ref sig .tc := ⟨.hbm, 66, rfl⟩
abbrev main_cst_10 : Ref sig .tc := ⟨.hbm, 67, rfl⟩
abbrev main_v41 : Ref sig .tc := ⟨.hbm, 68, rfl⟩
abbrev main_cst_11 : Ref sig .tc := ⟨.hbm, 69, rfl⟩
abbrev main_cst_12 : Ref sig .tc := ⟨.hbm, 70, rfl⟩
abbrev main_v42 : Ref sig .tc := ⟨.hbm, 71, rfl⟩
abbrev main_v43 : Ref sig .tc := ⟨.hbm, 72, rfl⟩
abbrev main_cst_13 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_14 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_cst_15 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_16 : Ref sig .tc := ⟨.hbm, 91, rfl⟩
abbrev main_v59 : Ref sig .tc := ⟨.hbm, 92, rfl⟩
abbrev main_v60 : Ref sig .tc := ⟨.hbm, 93, rfl⟩
abbrev main_cst_17 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩

abbrev nD : Nat := 1
abbrev τ : Topo := Topo.v7x

variable {F : FTy → Type} [FloatOps F]
-- ==== Kernel5.lean ====
abbrev S8192x1024 : Shape := ⟨2, ![8192, 1024]⟩
abbrev S8192x512 : Shape := ⟨2, ![8192, 512]⟩
abbrev S256x1024 : Shape := ⟨2, ![256, 1024]⟩
abbrev S1x512 : Shape := ⟨2, ![1, 512]⟩
abbrev S1024x1024 : Shape := ⟨2, ![1024, 1024]⟩
abbrev S1x1024 : Shape := ⟨2, ![1, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S512x256 : Shape := ⟨2, ![512, 256]⟩
abbrev S256x256 : Shape := ⟨2, ![256, 256]⟩

abbrev nBuf : Space → Nat
  | .hbm => 22
  | .vmem => 26
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S256x1024, .f32⟩
  | .hbm, ⟨4, _⟩ => ⟨S256x1024, .f32⟩
  | .hbm, ⟨5, _⟩ => ⟨S1x512, .f32⟩
  | .hbm, ⟨6, _⟩ => ⟨S1x512, .f32⟩
  | .hbm, ⟨7, _⟩ => ⟨S1024x1024, .f32⟩
  | .hbm, ⟨8, _⟩ => ⟨S1x1024, .f32⟩
  | .hbm, ⟨9, _⟩ => ⟨S1024x1024, .f32⟩
  | .hbm, ⟨10, _⟩ => ⟨S1024x1024, .f32⟩
  | .hbm, ⟨11, _⟩ => ⟨S1024x1024, .bf16⟩
  | .hbm, ⟨12, _⟩ => ⟨S1024x1024, .bf16⟩
  | .hbm, ⟨13, _⟩ => ⟨S256x1024, .bf16⟩
  | .hbm, ⟨14, _⟩ => ⟨S256x1024, .bf16⟩
  | .hbm, ⟨15, _⟩ => ⟨S1024x1024, .bf16⟩
  | .hbm, ⟨16, _⟩ => ⟨S8192x1024, .bf16⟩
  | .hbm, ⟨17, _⟩ => ⟨S8192x1024, .f32⟩
  | .hbm, ⟨18, _⟩ => ⟨S8192x1024, .bf16⟩
  | .hbm, ⟨19, _⟩ => ⟨S8192x1024, .bf16⟩
  | .hbm, ⟨20, _⟩ => ⟨S8192x1024, .bf16⟩
  | .hbm, ⟨21, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S1x512, .f32⟩
  | .local _ .vmem, ⟨8, _⟩ => ⟨S1024x1024, .bf16⟩
  | .local _ .vmem, ⟨9, _⟩ => ⟨S1x1024, .f32⟩
  | .local _ .vmem, ⟨10, _⟩ => ⟨S1024x1024, .bf16⟩
  | .local _ .vmem, ⟨11, _⟩ => ⟨S256x1024, .bf16⟩
  | .local _ .vmem, ⟨12, _⟩ => ⟨S256x1024, .bf16⟩
  | .local _ .vmem, ⟨13, _⟩ => ⟨S1024x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .f32⟩
  | .local _ .vmem, ⟨25, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5_0 : Ref sig .tc := ⟨.hbm, 16, rfl⟩
abbrev main_v5_1 : Ref sig .tc := ⟨.hbm, 17, rfl⟩
abbrev main_v5_2 : Ref sig .tc := ⟨.hbm, 18, rfl⟩
abbrev main_v5_3 : Ref sig .tc := ⟨.hbm, 19, rfl⟩
abbrev main_v5_4 : Ref sig .tc := ⟨.hbm, 20, rfl⟩
abbrev main_v5_5 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference5Ideal.lean ====
abbrev S8192x1024 : Shape := ⟨2, ![8192, 1024]⟩
abbrev S8192x512 : Shape := ⟨2, ![8192, 512]⟩
abbrev S256x1024 : Shape := ⟨2, ![256, 1024]⟩
abbrev S1x512 : Shape := ⟨2, ![1, 512]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S8192x4x256 : Shape := ⟨3, ![8192, 4, 256]⟩
abbrev S256x4x256 : Shape := ⟨3, ![256, 4, 256]⟩
abbrev S4x8192x256 : Shape := ⟨3, ![4, 8192, 256]⟩
abbrev S4x8192 : Shape := ⟨2, ![4, 8192]⟩
abbrev S4x8192x1 : Shape := ⟨3, ![4, 8192, 1]⟩
abbrev S4x256x8192 : Shape := ⟨3, ![4, 256, 8192]⟩

abbrev nBuf : Space → Nat
  | .hbm => 90
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S256x1024, .f32⟩
  | .hbm, ⟨4, _⟩ => ⟨S256x1024, .f32⟩
  | .hbm, ⟨5, _⟩ => ⟨S1x512, .f32⟩
  | .hbm, ⟨6, _⟩ => ⟨S1x512, .f32⟩
  | .hbm, ⟨7, _⟩ => ⟨S1024x1024, .f32⟩
  | .hbm, ⟨8, _⟩ => ⟨S1x1024, .f32⟩
  | .hbm, ⟨9, _⟩ => ⟨S1024x1024, .f32⟩
  | .hbm, ⟨10, _⟩ => ⟨S1024x1024, .f32⟩
  | .hbm, ⟨11, _⟩ => ⟨S8192x512, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x512, .f32⟩
  | .hbm, ⟨23, _⟩ => ⟨S8192x512, .f32⟩
  | .hbm, ⟨24, _⟩ => ⟨S8192x512, .f32⟩
  | .hbm, ⟨25, _⟩ => ⟨S8192x512, .f32⟩
  | .hbm, ⟨26, _⟩ => ⟨S8192x512, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S8192x512, .f32⟩
  | .hbm, ⟨38, _⟩ => ⟨S8192x512, .f32⟩
  | .hbm, ⟨39, _⟩ => ⟨S8192x512, .f32⟩
  | .hbm, ⟨40, _⟩ => ⟨S8192x512, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S8192x1, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x4x256, .f32⟩
  | .hbm, ⟨61, _⟩ => ⟨S256x4x256, .f32⟩
  | .hbm, ⟨62, _⟩ => ⟨S4x8192x256, .f32⟩
  | .hbm, ⟨63, _⟩ => ⟨S_, .f32⟩
  | .hbm, ⟨64, _⟩ => ⟨S4x8192x256, .f32⟩
  | .hbm, ⟨65, _⟩ => ⟨S4x8192x256, .f32⟩
  | .hbm, ⟨66, _⟩ => ⟨S_, .f32⟩
  | .hbm, ⟨67, _⟩ => ⟨S4x8192, .f32⟩
  | .hbm, ⟨68, _⟩ => ⟨S_, .f32⟩
  | .hbm, ⟨69, _⟩ => ⟨S4x8192, .f32⟩
  | .hbm, ⟨70, _⟩ => ⟨S4x8192, .f32⟩
  | .hbm, ⟨71, _⟩ => ⟨S4x8192x1, .f32⟩
  | .hbm, ⟨72, _⟩ => ⟨S4x8192x256, .f32⟩
  | .hbm, ⟨73, _⟩ => ⟨S4x8192x256, .f32⟩
  | .hbm, ⟨74, _⟩ => ⟨S4x8192x256, .f32⟩
  | .hbm, ⟨75, _⟩ => ⟨S_, .f32⟩
  | .hbm, ⟨76, _⟩ => ⟨S4x8192, .f32⟩
  | .hbm, ⟨77, _⟩ => ⟨S4x8192x1, .f32⟩
  | .hbm, ⟨78, _⟩ => ⟨S4x8192x256, .f32⟩
  | .hbm, ⟨79, _⟩ => ⟨S4x8192x256, .f32⟩
  | .hbm, ⟨80, _⟩ => ⟨S256x4x256, .f32⟩
  | .hbm, ⟨81, _⟩ => ⟨S4x256x8192, .f32⟩
  | .hbm, ⟨82, _⟩ => ⟨S8192x4x256, .f32⟩
  | .hbm, ⟨83, _⟩ => ⟨S8192x1024, .f32⟩
  | .hbm, ⟨84, _⟩ => ⟨S8192x1024, .bf16⟩
  | .hbm, ⟨85, _⟩ => ⟨S8192x1024, .bf16⟩
  | .hbm, ⟨86, _⟩ => ⟨S8192x1024, .bf16⟩
  | .hbm, ⟨87, _⟩ => ⟨S8192x1024, .bf16⟩
  | .hbm, ⟨88, _⟩ => ⟨S8192x1024, .f32⟩
  | .hbm, ⟨89, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_cst_3 : Ref sig .tc := ⟨.hbm, 30, rfl⟩
abbrev main_v15 : Ref sig .tc := ⟨.hbm, 31, rfl⟩
abbrev main_v16 : Ref sig .tc := ⟨.hbm, 32, rfl⟩
abbrev main_cst_4 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_v29 : Ref sig .tc := ⟨.hbm, 47, rfl⟩
abbrev main_cst_6 : Ref sig .tc := ⟨.hbm, 48, rfl⟩
abbrev main_v30 : Ref sig .tc := ⟨.hbm, 49, rfl⟩
abbrev main_v31 : Ref sig .tc := ⟨.hbm, 50, rfl⟩
abbrev main_cst_7 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_cst_9 : Ref sig .tc := ⟨.hbm, 66, rfl⟩
abbrev main_v45 : Ref sig .tc := ⟨.hbm, 67, rfl⟩
abbrev main_cst_10 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩

abbrev nD : Nat := 1
abbrev τ : Topo := Topo.v7x

variable {F : FTy → Type} [FloatOps F]
-- ==== Kernel6.lean ====
abbrev S256x1024 : Shape := ⟨2, ![256, 1024]⟩
abbrev S1x1024 : Shape := ⟨2, ![1, 1024]⟩
abbrev S1024x1024 : Shape := ⟨2, ![1024, 1024]⟩
abbrev S256 : Shape := ⟨1, ![256]⟩
abbrev S256x1 : Shape := ⟨2, ![256, 1]⟩

abbrev nBuf : Space → Nat
  | .hbm => 9
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x1024, .f32⟩
  | .hbm, ⟨3, _⟩ => ⟨S1024x1024, .f32⟩
  | .hbm, ⟨4, _⟩ => ⟨S1024x1024, .bf16⟩
  | .hbm, ⟨5, _⟩ => ⟨S1024x1024, .bf16⟩
  | .hbm, ⟨6, _⟩ => ⟨S256x1024, .bf16⟩
  | .hbm, ⟨7, _⟩ => ⟨S256x1024, .bf16⟩
  | .hbm, ⟨8, _⟩ => ⟨S256x1024, .bf16⟩
  | .local _ .vmem, ⟨0, _⟩ => ⟨S256x1024, .f32⟩
  | .local _ .vmem, ⟨1, _⟩ => ⟨S1x1024, .f32⟩
  | .local _ .vmem, ⟨2, _⟩ => ⟨S1024x1024, .bf16⟩
  | .local _ .vmem, ⟨3, _⟩ => ⟨S1024x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference6Ideal.lean ====
abbrev S256x1024 : Shape := ⟨2, ![256, 1024]⟩
abbrev S1x1024 : Shape := ⟨2, ![1, 1024]⟩
abbrev S1024x1024 : Shape := ⟨2, ![1024, 1024]⟩
abbrev S_ : Shape := ⟨0, ![]⟩
abbrev S256 : Shape := ⟨1, ![256]⟩
abbrev S256x1 : Shape := ⟨2, ![256, 1]⟩

abbrev nBuf : Space → Nat
  | .hbm => 24
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x1024, .f32⟩
  | .hbm, ⟨3, _⟩ => ⟨S1024x1024, .f32⟩
  | .hbm, ⟨4, _⟩ => ⟨S256x1024, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S256x1024, .bf16⟩
  | .hbm, ⟨20, _⟩ => ⟨S256x1024, .f32⟩
  | .hbm, ⟨21, _⟩ => ⟨S256x1024, .bf16⟩
  | .hbm, ⟨22, _⟩ => ⟨S256x1024, .f32⟩
  | .hbm, ⟨23, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Proof.RunB.lean ====
/- The run of the kernel's body at the grid points after the first (case B): the generated
   `Gen/KernelIdeal/Frame/RunB.lean`, taken over with a larger budget (3,000,000 heartbeats in place of 1,000,000)
   and nothing else changed; `FrameOuts.lean` and `FrameRun.lean` take over the generated frame that follows it. -/
module

public import proofs.«01_k».proof.Proof.Gen.KernelIdeal.Frame.RunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 3000000 in
/-- What the body's stores leave in each output's staging memref, as pieces (last first) IN CASE B (`scf.if` 0 not taken: points 1, 2, … 15: 15 of 16), WITH the
    proof that on whole staging memrefs — the inputs' at their contents, the outputs it reads before covering (17, 18, 19, 20, 21) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S512x1024 .bf16) (harg14 : arg14.IsWhole) (arg15 : Memref sig .tc .vmem S512x1024 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S256x1024 .f32) (harg18 : arg18.IsWhole) (arg19 : Memref sig .tc .vmem S256x1024 .f32) (harg19 : arg19.IsWhole) (arg20 : Memref sig .tc .vmem S1x1024 .f32) (harg20 : arg20.IsWhole) (arg21 : Memref sig .tc .vmem S1x512 .f32) (harg21 : arg21.IsWhole) (arg22 : Memref sig .tc .vmem S1x512 .f32) (harg22 : arg22.IsWhole) (hc0 : ¬cond0_0 i)
    (x0 : Vec F S512x1024 .f32) (x1 : Vec F S512x1024 .bf16) (x2 : Vec F S512x1024 .f32) (x3 : Vec F S512x512 .f32) (x4 : Vec F S512x512 .f32) (x5 : Vec F S256x1024 .bf16) (x6 : Vec F S256x1024 .bf16) (x7 : Vec F S1024x1024 .bf16) (x8 : Vec F S1024x1024 .bf16) (x9 : Vec F S1024x1024 .bf16) (x10 : Vec F S1x1024 .f32) (x11 : Vec F S1x512 .f32) (x12 : Vec F S1x512 .f32) (xo17 : Vec F S256x1024 .f32) (xo18 : Vec F S256x1024 .f32) (xo19 : Vec F S1x1024 .f32) (xo20 : Vec F S1x512 .f32) (xo21 : Vec F S1x512 .f32) :
    Σ' (L13 : List (View.Piece (Elt F) S512x1024 .bf16)), Σ' (L14 : List (View.Piece (Elt F) S512x1024 .f32)), Σ' (L15 : List (View.Piece (Elt F) S512x512 .f32)), Σ' (L16 : List (View.Piece (Elt F) S512x512 .f32)), Σ' (L17 : List (View.Piece (Elt F) S256x1024 .f32)), Σ' (L18 : List (View.Piece (Elt F) S256x1024 .f32)), Σ' (L19 : List (View.Piece (Elt F) S1x1024 .f32)), Σ' (L20 : List (View.Piece (Elt F) S1x512 .f32)), { L21 : List (View.Piece (Elt F) S1x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ owns (c : Thread nD τ) arg18 fullShare xo17 ∗ owns (c : Thread nD τ) arg19 fullShare xo18 ∗ owns (c : Thread nD τ) arg20 fullShare xo19 ∗ owns (c : Thread nD τ) arg21 fullShare xo20 ∗ owns (c : Thread nD τ) arg22 fullShare xo21
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21)) -∗ K ⟨⟩))
          ⊢ wp frame (wpE (defs₀ (F := F)) Variants.none c none) E (cc0_b_mid i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, ?_, ?_, ?_, ?_, ?_, fun E K => ?run⟩
  case run =>
    simp only [cc0_b_mid_eq_skeleton]; unfold cc0_b_mid_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%f17, %hf17, H17⟩, ⟨%f18, %hf18, H18⟩, ⟨%f19, %hf19, H19⟩, ⟨%f20, %hf20, H20⟩, ⟨%f21, %hf21, H21⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg18.eq_unread hf17; obtain rfl := harg19.eq_unread hf18; obtain rfl := harg20.eq_unread hf19; obtain rfl := harg21.eq_unread hf20; obtain rfl := harg22.eq_unread hf21
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    iexists _; iexact H21

end Cert.KernelIdeal.Gen

end
-- ==== Proof.FrameOuts.lean ====
/- What each grid point's stores leave in every output's staging buffer, case by case: the first half of the generated
   `Gen/KernelIdeal/Frame.lean`, taken over unchanged on top of `RunB.lean`. -/
module

public import proofs.«01_k».proof.Proof.RunB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 13 tile its block (4 stores of `S512x256`, checked by the kernel's evaluation: Lib/Ring.lean `Piece.tiledL`, linear in the pieces, through a loop's `@[irreducible]` trip theorem too), so they cover it. -/
theorem cover0_A_13 (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S512x1024 .bf16) (harg14 : arg14.IsWhole) (arg15 : Memref sig .tc .vmem S512x1024 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S256x1024 .f32) (harg18 : arg18.IsWhole) (arg19 : Memref sig .tc .vmem S256x1024 .f32) (harg19 : arg19.IsWhole) (arg20 : Memref sig .tc .vmem S1x1024 .f32) (harg20 : arg20.IsWhole) (arg21 : Memref sig .tc .vmem S1x512 .f32) (harg21 : arg21.IsWhole) (arg22 : Memref sig .tc .vmem S1x512 .f32) (harg22 : arg22.IsWhole) (hc0 : cond0_0 i)
    (x0 : Vec F S512x1024 .f32) (x1 : Vec F S512x1024 .bf16) (x2 : Vec F S512x1024 .f32) (x3 : Vec F S512x512 .f32) (x4 : Vec F S512x512 .f32) (x5 : Vec F S256x1024 .bf16) (x6 : Vec F S256x1024 .bf16) (x7 : Vec F S1024x1024 .bf16) (x8 : Vec F S1024x1024 .bf16) (x9 : Vec F S1024x1024 .bf16) (x10 : Vec F S1x1024 .f32) (x11 : Vec F S1x512 .f32) (x12 : Vec F S1x512 .f32) (y : S512x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12).1 S512x256.size (by sl_kernel_rfl) y

/-- What case A leaves in output 13's staging buffer: its pieces read back over junk. -/
def out0_A_13 (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S512x1024 .bf16) (harg14 : arg14.IsWhole) (arg15 : Memref sig .tc .vmem S512x1024 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S256x1024 .f32) (harg18 : arg18.IsWhole) (arg19 : Memref sig .tc .vmem S256x1024 .f32) (harg19 : arg19.IsWhole) (arg20 : Memref sig .tc .vmem S1x1024 .f32) (harg20 : arg20.IsWhole) (arg21 : Memref sig .tc .vmem S1x512 .f32) (harg21 : arg21.IsWhole) (arg22 : Memref sig .tc .vmem S1x512 .f32) (harg22 : arg22.IsWhole) (hc0 : cond0_0 i)
    (x0 : Vec F S512x1024 .f32) (x1 : Vec F S512x1024 .bf16) (x2 : Vec F S512x1024 .f32) (x3 : Vec F S512x512 .f32) (x4 : Vec F S512x512 .f32) (x5 : Vec F S256x1024 .bf16) (x6 : Vec F S256x1024 .bf16) (x7 : Vec F S1024x1024 .bf16) (x8 : Vec F S1024x1024 .bf16) (x9 : Vec F S1024x1024 .bf16) (x10 : Vec F S1x1024 .f32) (x11 : Vec F S1x512 .f32) (x12 : Vec F S1x512 .f32) : Vec F S512x1024 .bf16 :=
  VO0_13.read (Elt F) (VO0_13.writes (Elt F) VO0_13.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12).1)

/-- Case A's pieces for output 14 tile its block (1 store of `S512x1024`, checked by the kernel's evaluation: Lib/Ring.lean `Piece.tiledL`, linear in the pieces, through a loop's `@[irreducible]` trip theorem too), so they cover it. -/
theorem cover0_A_14 (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S512x1024 .bf16) (harg14 : arg14.IsWhole) (arg15 : Memref sig .tc .vmem S512x1024 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S256x1024 .f32) (harg18 : arg18.IsWhole) (arg19 : Memref sig .tc .vmem S256x1024 .f32) (harg19 : arg19.IsWhole) (arg20 : Memref sig .tc .vmem S1x1024 .f32) (harg20 : arg20.IsWhole) (arg21 : Memref sig .tc .vmem S1x512 .f32) (harg21 : arg21.IsWhole) (arg22 : Memref sig .tc .vmem S1x512 .f32) (harg22 : arg22.IsWhole) (hc0 : cond0_0 i)
    (x0 : Vec F S512x1024 .f32) (x1 : Vec F S512x1024 .bf16) (x2 : Vec F S512x1024 .f32) (x3 : Vec F S512x512 .f32) (x4 : Vec F S512x512 .f32) (x5 : Vec F S256x1024 .bf16) (x6 : Vec F S256x1024 .bf16) (x7 : Vec F S1024x1024 .bf16) (x8 : Vec F S1024x1024 .bf16) (x9 : Vec F S1024x1024 .bf16) (x10 : Vec F S1x1024 .f32) (x11 : Vec F S1x512 .f32) (x12 : Vec F S1x512 .f32) (y : S512x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12).2.1 S512x1024.size (by sl_kernel_rfl) y

/-- What case A leaves in output 14's staging buffer: its pieces read back over junk. -/
def out0_A_14 (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S512x1024 .bf16) (harg14 : arg14.IsWhole) (arg15 : Memref sig .tc .vmem S512x1024 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S256x1024 .f32) (harg18 : arg18.IsWhole) (arg19 : Memref sig .tc .vmem S256x1024 .f32) (harg19 : arg19.IsWhole) (arg20 : Memref sig .tc .vmem S1x1024 .f32) (harg20 : arg20.IsWhole) (arg21 : Memref sig .tc .vmem S1x512 .f32) (harg21 : arg21.IsWhole) (arg22 : Memref sig .tc .vmem S1x512 .f32) (harg22 : arg22.IsWhole) (hc0 : cond0_0 i)
    (x0 : Vec F S512x1024 .f32) (x1 : Vec F S512x1024 .bf16) (x2 : Vec F S512x1024 .f32) (x3 : Vec F S512x512 .f32) (x4 : Vec F S512x512 .f32) (x5 : Vec F S256x1024 .bf16) (x6 : Vec F S256x1024 .bf16) (x7 : Vec F S1024x1024 .bf16) (x8 : Vec F S1024x1024 .bf16) (x9 : Vec F S1024x1024 .bf16) (x10 : Vec F S1x1024 .f32) (x11 : Vec F S1x512 .f32) (x12 : Vec F S1x512 .f32) : Vec F S512x1024 .f32 :=
  VO0_14.read (Elt F) (VO0_14.writes (Elt F) VO0_14.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12).2.1)

/-- Case A's pieces for output 15 tile its block (1 store of `S512x512`, checked by the kernel's evaluation: Lib/Ring.lean `Piece.tiledL`, linear in the pieces, through a loop's `@[irreducible]` trip theorem too), so they cover it. -/
theorem cover0_A_15 (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S512x1024 .bf16) (harg14 : arg14.IsWhole) (arg15 : Memref sig .tc .vmem S512x1024 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S256x1024 .f32) (harg18 : arg18.IsWhole) (arg19 : Memref sig .tc .vmem S256x1024 .f32) (harg19 : arg19.IsWhole) (arg20 : Memref sig .tc .vmem S1x1024 .f32) (harg20 : arg20.IsWhole) (arg21 : Memref sig .tc .vmem S1x512 .f32) (harg21 : arg21.IsWhole) (arg22 : Memref sig .tc .vmem S1x512 .f32) (harg22 : arg22.IsWhole) (hc0 : cond0_0 i)
    (x0 : Vec F S512x1024 .f32) (x1 : Vec F S512x1024 .bf16) (x2 : Vec F S512x1024 .f32) (x3 : Vec F S512x512 .f32) (x4 : Vec F S512x512 .f32) (x5 : Vec F S256x1024 .bf16) (x6 : Vec F S256x1024 .bf16) (x7 : Vec F S1024x1024 .bf16) (x8 : Vec F S1024x1024 .bf16) (x9 : Vec F S1024x1024 .bf16) (x10 : Vec F S1x1024 .f32) (x11 : Vec F S1x512 .f32) (x12 : Vec F S1x512 .f32) (y : S512x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12).2.2.1 S512x512.size (by sl_kernel_rfl) y

/-- What case A leaves in output 15's staging buffer: its pieces read back over junk. -/
def out0_A_15 (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S512x1024 .bf16) (harg14 : arg14.IsWhole) (arg15 : Memref sig .tc .vmem S512x1024 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S256x1024 .f32) (harg18 : arg18.IsWhole) (arg19 : Memref sig .tc .vmem S256x1024 .f32) (harg19 : arg19.IsWhole) (arg20 : Memref sig .tc .vmem S1x1024 .f32) (harg20 : arg20.IsWhole) (arg21 : Memref sig .tc .vmem S1x512 .f32) (harg21 : arg21.IsWhole) (arg22 : Memref sig .tc .vmem S1x512 .f32) (harg22 : arg22.IsWhole) (hc0 : cond0_0 i)
    (x0 : Vec F S512x1024 .f32) (x1 : Vec F S512x1024 .bf16) (x2 : Vec F S512x1024 .f32) (x3 : Vec F S512x512 .f32) (x4 : Vec F S512x512 .f32) (x5 : Vec F S256x1024 .bf16) (x6 : Vec F S256x1024 .bf16) (x7 : Vec F S1024x1024 .bf16) (x8 : Vec F S1024x1024 .bf16) (x9 : Vec F S1024x1024 .bf16) (x10 : Vec F S1x1024 .f32) (x11 : Vec F S1x512 .f32) (x12 : Vec F S1x512 .f32) : Vec F S512x512 .f32 :=
  VO0_15.read (Elt F) (VO0_15.writes (Elt F) VO0_15.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12).2.2.1)

/-- Case A's pieces for output 16 tile its block (1 store of `S512x512`, checked by the kernel's evaluation: Lib/Ring.lean `Piece.tiledL`, linear in the pieces, through a loop's `@[irreducible]` trip theorem too), so they cover it. -/
theorem cover0_A_16 (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S512x1024 .bf16) (harg14 : arg14.IsWhole) (arg15 : Memref sig .tc .vmem S512x1024 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S256x1024 .f32) (harg18 : arg18.IsWhole) (arg19 : Memref sig .tc .vmem S256x1024 .f32) (harg19 : arg19.IsWhole) (arg20 : Memref sig .tc .vmem S1x1024 .f32) (harg20 : arg20.IsWhole) (arg21 : Memref sig .tc .vmem S1x512 .f32) (harg21 : arg21.IsWhole) (arg22 : Memref sig .tc .vmem S1x512 .f32) (harg22 : arg22.IsWhole) (hc0 : cond0_0 i)
    (x0 : Vec F S512x1024 .f32) (x1 : Vec F S512x1024 .bf16) (x2 : Vec F S512x1024 .f32) (x3 : Vec F S512x512 .f32) (x4 : Vec F S512x512 .f32) (x5 : Vec F S256x1024 .bf16) (x6 : Vec F S256x1024 .bf16) (x7 : Vec F S1024x1024 .bf16) (x8 : Vec F S1024x1024 .bf16) (x9 : Vec F S1024x1024 .bf16) (x10 : Vec F S1x1024 .f32) (x11 : Vec F S1x512 .f32) (x12 : Vec F S1x512 .f32) (y : S512x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12).2.2.2.1 S512x512.size (by sl_kernel_rfl) y

/-- What case A leaves in output 16's staging buffer: its pieces read back over junk. -/
def out0_A_16 (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S512x1024 .bf16) (harg14 : arg14.IsWhole) (arg15 : Memref sig .tc .vmem S512x1024 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S256x1024 .f32) (harg18 : arg18.IsWhole) (arg19 : Memref sig .tc .vmem S256x1024 .f32) (harg19 : arg19.IsWhole) (arg20 : Memref sig .tc .vmem S1x1024 .f32) (harg20 : arg20.IsWhole) (arg21 : Memref sig .tc .vmem S1x512 .f32) (harg21 : arg21.IsWhole) (arg22 : Memref sig .tc .vmem S1x512 .f32) (harg22 : arg22.IsWhole) (hc0 : cond0_0 i)
    (x0 : Vec F S512x1024 .f32) (x1 : Vec F S512x1024 .bf16) (x2 : Vec F S512x1024 .f32) (x3 : Vec F S512x512 .f32) (x4 : Vec F S512x512 .f32) (x5 : Vec F S256x1024 .bf16) (x6 : Vec F S256x1024 .bf16) (x7 : Vec F S1024x1024 .bf16) (x8 : Vec F S1024x1024 .bf16) (x9 : Vec F S1024x1024 .bf16) (x10 : Vec F S1x1024 .f32) (x11 : Vec F S1x512 .f32) (x12 : Vec F S1x512 .f32) : Vec F S512x512 .f32 :=
  VO0_16.read (Elt F) (VO0_16.writes (Elt F) VO0_16.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12).2.2.2.1)

/-- Case A's pieces for output 17 are of SEVERAL sizes (5 stores of `S256x1024`, `S256x256`): cut into blocks of `![256, 256]` they tile its block (checked by the kernel's evaluation: Lib/Ring.lean `Piece.tiledBy`), so they cover it. -/
theorem cover0_A_17 (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S512x1024 .bf16) (harg14 : arg14.IsWhole) (arg15 : Memref sig .tc .vmem S512x1024 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S256x1024 .f32) (harg18 : arg18.IsWhole) (arg19 : Memref sig .tc .vmem S256x1024 .f32) (harg19 : arg19.IsWhole) (arg20 : Memref sig .tc .vmem S1x1024 .f32) (harg20 : arg20.IsWhole) (arg21 : Memref sig .tc .vmem S1x512 .f32) (harg21 : arg21.IsWhole) (arg22 : Memref sig .tc .vmem S1x512 .f32) (harg22 : arg22.IsWhole) (hc0 : cond0_0 i)
    (x0 : Vec F S512x1024 .f32) (x1 : Vec F S512x1024 .bf16) (x2 : Vec F S512x1024 .f32) (x3 : Vec F S512x512 .f32) (x4 : Vec F S512x512 .f32) (x5 : Vec F S256x1024 .bf16) (x6 : Vec F S256x1024 .bf16) (x7 : Vec F S1024x1024 .bf16) (x8 : Vec F S1024x1024 .bf16) (x9 : Vec F S1024x1024 .bf16) (x10 : Vec F S1x1024 .f32) (x11 : Vec F S1x512 .f32) (x12 : Vec F S1x512 .f32) (y : S256x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12).2.2.2.2.1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12).2.2.2.2.1 ![256, 256] (by sl_kernel_rfl) y

/-- What case A leaves in output 17's staging buffer: its pieces read back over junk. -/
def out0_A_17 (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S512x1024 .bf16) (harg14 : arg14.IsWhole) (arg15 : Memref sig .tc .vmem S512x1024 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S256x1024 .f32) (harg18 : arg18.IsWhole) (arg19 : Memref sig .tc .vmem S256x1024 .f32) (harg19 : arg19.IsWhole) (arg20 : Memref sig .tc .vmem S1x1024 .f32) (harg20 : arg20.IsWhole) (arg21 : Memref sig .tc .vmem S1x512 .f32) (harg21 : arg21.IsWhole) (arg22 : Memref sig .tc .vmem S1x512 .f32) (harg22 : arg22.IsWhole) (hc0 : cond0_0 i)
    (x0 : Vec F S512x1024 .f32) (x1 : Vec F S512x1024 .bf16) (x2 : Vec F S512x1024 .f32) (x3 : Vec F S512x512 .f32) (x4 : Vec F S512x512 .f32) (x5 : Vec F S256x1024 .bf16) (x6 : Vec F S256x1024 .bf16) (x7 : Vec F S1024x1024 .bf16) (x8 : Vec F S1024x1024 .bf16) (x9 : Vec F S1024x1024 .bf16) (x10 : Vec F S1x1024 .f32) (x11 : Vec F S1x512 .f32) (x12 : Vec F S1x512 .f32) : Vec F S256x1024 .f32 :=
  VO0_17.read (Elt F) (VO0_17.writes (Elt F) VO0_17.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12).2.2.2.2.1)

/-- Case A's pieces for output 18 are of SEVERAL sizes (5 stores of `S256x1024`, `S256x256`): cut into blocks of `![256, 256]` they tile its block (checked by the kernel's evaluation: Lib/Ring.lean `Piece.tiledBy`), so they cover it. -/
theorem cover0_A_18 (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S512x1024 .bf16) (harg14 : arg14.IsWhole) (arg15 : Memref sig .tc .vmem S512x1024 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S256x1024 .f32) (harg18 : arg18.IsWhole) (arg19 : Memref sig .tc .vmem S256x1024 .f32) (harg19 : arg19.IsWhole) (arg20 : Memref sig .tc .vmem S1x1024 .f32) (harg20 : arg20.IsWhole) (arg21 : Memref sig .tc .vmem S1x512 .f32) (harg21 : arg21.IsWhole) (arg22 : Memref sig .tc .vmem S1x512 .f32) (harg22 : arg22.IsWhole) (hc0 : cond0_0 i)
    (x0 : Vec F S512x1024 .f32) (x1 : Vec F S512x1024 .bf16) (x2 : Vec F S512x1024 .f32) (x3 : Vec F S512x512 .f32) (x4 : Vec F S512x512 .f32) (x5 : Vec F S256x1024 .bf16) (x6 : Vec F S256x1024 .bf16) (x7 : Vec F S1024x1024 .bf16) (x8 : Vec F S1024x1024 .bf16) (x9 : Vec F S1024x1024 .bf16) (x10 : Vec F S1x1024 .f32) (x11 : Vec F S1x512 .f32) (x12 : Vec F S1x512 .f32) (y : S256x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12).2.2.2.2.2.1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12).2.2.2.2.2.1 ![256, 256] (by sl_kernel_rfl) y

/-- What case A leaves in output 18's staging buffer: its pieces read back over junk. -/
def out0_A_18 (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S512x1024 .bf16) (harg14 : arg14.IsWhole) (arg15 : Memref sig .tc .vmem S512x1024 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S256x1024 .f32) (harg18 : arg18.IsWhole) (arg19 : Memref sig .tc .vmem S256x1024 .f32) (harg19 : arg19.IsWhole) (arg20 : Memref sig .tc .vmem S1x1024 .f32) (harg20 : arg20.IsWhole) (arg21 : Memref sig .tc .vmem S1x512 .f32) (harg21 : arg21.IsWhole) (arg22 : Memref sig .tc .vmem S1x512 .f32) (harg22 : arg22.IsWhole) (hc0 : cond0_0 i)
    (x0 : Vec F S512x1024 .f32) (x1 : Vec F S512x1024 .bf16) (x2 : Vec F S512x1024 .f32) (x3 : Vec F S512x512 .f32) (x4 : Vec F S512x512 .f32) (x5 : Vec F S256x1024 .bf16) (x6 : Vec F S256x1024 .bf16) (x7 : Vec F S1024x1024 .bf16) (x8 : Vec F S1024x1024 .bf16) (x9 : Vec F S1024x1024 .bf16) (x10 : Vec F S1x1024 .f32) (x11 : Vec F S1x512 .f32) (x12 : Vec F S1x512 .f32) : Vec F S256x1024 .f32 :=
  VO0_18.read (Elt F) (VO0_18.writes (Elt F) VO0_18.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12).2.2.2.2.2.1)

/-- Case A's pieces for output 19 tile its block (2 stores of `S1x1024`, checked by the kernel's evaluation: Lib/Ring.lean `Piece.tiledL`, linear in the pieces, through a loop's `@[irreducible]` trip theorem too), so they cover it. -/
theorem cover0_A_19 (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S512x1024 .bf16) (harg14 : arg14.IsWhole) (arg15 : Memref sig .tc .vmem S512x1024 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S256x1024 .f32) (harg18 : arg18.IsWhole) (arg19 : Memref sig .tc .vmem S256x1024 .f32) (harg19 : arg19.IsWhole) (arg20 : Memref sig .tc .vmem S1x1024 .f32) (harg20 : arg20.IsWhole) (arg21 : Memref sig .tc .vmem S1x512 .f32) (harg21 : arg21.IsWhole) (arg22 : Memref sig .tc .vmem S1x512 .f32) (harg22 : arg22.IsWhole) (hc0 : cond0_0 i)
    (x0 : Vec F S512x1024 .f32) (x1 : Vec F S512x1024 .bf16) (x2 : Vec F S512x1024 .f32) (x3 : Vec F S512x512 .f32) (x4 : Vec F S512x512 .f32) (x5 : Vec F S256x1024 .bf16) (x6 : Vec F S256x1024 .bf16) (x7 : Vec F S1024x1024 .bf16) (x8 : Vec F S1024x1024 .bf16) (x9 : Vec F S1024x1024 .bf16) (x10 : Vec F S1x1024 .f32) (x11 : Vec F S1x512 .f32) (x12 : Vec F S1x512 .f32) (y : S1x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12).2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12).2.2.2.2.2.2.1 S1x1024.size (by sl_kernel_rfl) y

/-- What case A leaves in output 19's staging buffer: its pieces read back over junk. -/
def out0_A_19 (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S512x1024 .bf16) (harg14 : arg14.IsWhole) (arg15 : Memref sig .tc .vmem S512x1024 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S256x1024 .f32) (harg18 : arg18.IsWhole) (arg19 : Memref sig .tc .vmem S256x1024 .f32) (harg19 : arg19.IsWhole) (arg20 : Memref sig .tc .vmem S1x1024 .f32) (harg20 : arg20.IsWhole) (arg21 : Memref sig .tc .vmem S1x512 .f32) (harg21 : arg21.IsWhole) (arg22 : Memref sig .tc .vmem S1x512 .f32) (harg22 : arg22.IsWhole) (hc0 : cond0_0 i)
    (x0 : Vec F S512x1024 .f32) (x1 : Vec F S512x1024 .bf16) (x2 : Vec F S512x1024 .f32) (x3 : Vec F S512x512 .f32) (x4 : Vec F S512x512 .f32) (x5 : Vec F S256x1024 .bf16) (x6 : Vec F S256x1024 .bf16) (x7 : Vec F S1024x1024 .bf16) (x8 : Vec F S1024x1024 .bf16) (x9 : Vec F S1024x1024 .bf16) (x10 : Vec F S1x1024 .f32) (x11 : Vec F S1x512 .f32) (x12 : Vec F S1x512 .f32) : Vec F S1x1024 .f32 :=
  VO0_19.read (Elt F) (VO0_19.writes (Elt F) VO0_19.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12).2.2.2.2.2.2.1)

/-- Case A's pieces for output 20 tile its block (2 stores of `S1x512`, checked by the kernel's evaluation: Lib/Ring.lean `Piece.tiledL`, linear in the pieces, through a loop's `@[irreducible]` trip theorem too), so they cover it. -/
theorem cover0_A_20 (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S512x1024 .bf16) (harg14 : arg14.IsWhole) (arg15 : Memref sig .tc .vmem S512x1024 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S256x1024 .f32) (harg18 : arg18.IsWhole) (arg19 : Memref sig .tc .vmem S256x1024 .f32) (harg19 : arg19.IsWhole) (arg20 : Memref sig .tc .vmem S1x1024 .f32) (harg20 : arg20.IsWhole) (arg21 : Memref sig .tc .vmem S1x512 .f32) (harg21 : arg21.IsWhole) (arg22 : Memref sig .tc .vmem S1x512 .f32) (harg22 : arg22.IsWhole) (hc0 : cond0_0 i)
    (x0 : Vec F S512x1024 .f32) (x1 : Vec F S512x1024 .bf16) (x2 : Vec F S512x1024 .f32) (x3 : Vec F S512x512 .f32) (x4 : Vec F S512x512 .f32) (x5 : Vec F S256x1024 .bf16) (x6 : Vec F S256x1024 .bf16) (x7 : Vec F S1024x1024 .bf16) (x8 : Vec F S1024x1024 .bf16) (x9 : Vec F S1024x1024 .bf16) (x10 : Vec F S1x1024 .f32) (x11 : Vec F S1x512 .f32) (x12 : Vec F S1x512 .f32) (y : S1x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12).2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12).2.2.2.2.2.2.2.1 S1x512.size (by sl_kernel_rfl) y

/-- What case A leaves in output 20's staging buffer: its pieces read back over junk. -/
def out0_A_20 (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S512x1024 .bf16) (harg14 : arg14.IsWhole) (arg15 : Memref sig .tc .vmem S512x1024 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S256x1024 .f32) (harg18 : arg18.IsWhole) (arg19 : Memref sig .tc .vmem S256x1024 .f32) (harg19 : arg19.IsWhole) (arg20 : Memref sig .tc .vmem S1x1024 .f32) (harg20 : arg20.IsWhole) (arg21 : Memref sig .tc .vmem S1x512 .f32) (harg21 : arg21.IsWhole) (arg22 : Memref sig .tc .vmem S1x512 .f32) (harg22 : arg22.IsWhole) (hc0 : cond0_0 i)
    (x0 : Vec F S512x1024 .f32) (x1 : Vec F S512x1024 .bf16) (x2 : Vec F S512x1024 .f32) (x3 : Vec F S512x512 .f32) (x4 : Vec F S512x512 .f32) (x5 : Vec F S256x1024 .bf16) (x6 : Vec F S256x1024 .bf16) (x7 : Vec F S1024x1024 .bf16) (x8 : Vec F S1024x1024 .bf16) (x9 : Vec F S1024x1024 .bf16) (x10 : Vec F S1x1024 .f32) (x11 : Vec F S1x512 .f32) (x12 : Vec F S1x512 .f32) : Vec F S1x512 .f32 :=
  VO0_20.read (Elt F) (VO0_20.writes (Elt F) VO0_20.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12).2.2.2.2.2.2.2.1)

/-- Case A's pieces for output 21 tile its block (2 stores of `S1x512`, checked by the kernel's evaluation: Lib/Ring.lean `Piece.tiledL`, linear in the pieces, through a loop's `@[irreducible]` trip theorem too), so they cover it. -/
theorem cover0_A_21 (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S512x1024 .bf16) (harg14 : arg14.IsWhole) (arg15 : Memref sig .tc .vmem S512x1024 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S256x1024 .f32) (harg18 : arg18.IsWhole) (arg19 : Memref sig .tc .vmem S256x1024 .f32) (harg19 : arg19.IsWhole) (arg20 : Memref sig .tc .vmem S1x1024 .f32) (harg20 : arg20.IsWhole) (arg21 : Memref sig .tc .vmem S1x512 .f32) (harg21 : arg21.IsWhole) (arg22 : Memref sig .tc .vmem S1x512 .f32) (harg22 : arg22.IsWhole) (hc0 : cond0_0 i)
    (x0 : Vec F S512x1024 .f32) (x1 : Vec F S512x1024 .bf16) (x2 : Vec F S512x1024 .f32) (x3 : Vec F S512x512 .f32) (x4 : Vec F S512x512 .f32) (x5 : Vec F S256x1024 .bf16) (x6 : Vec F S256x1024 .bf16) (x7 : Vec F S1024x1024 .bf16) (x8 : Vec F S1024x1024 .bf16) (x9 : Vec F S1024x1024 .bf16) (x10 : Vec F S1x1024 .f32) (x11 : Vec F S1x512 .f32) (x12 : Vec F S1x512 .f32) (y : S1x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12).2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12).2.2.2.2.2.2.2.2.1 S1x512.size (by sl_kernel_rfl) y

/-- What case A leaves in output 21's staging buffer: its pieces read back over junk. -/
def out0_A_21 (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S512x1024 .bf16) (harg14 : arg14.IsWhole) (arg15 : Memref sig .tc .vmem S512x1024 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S256x1024 .f32) (harg18 : arg18.IsWhole) (arg19 : Memref sig .tc .vmem S256x1024 .f32) (harg19 : arg19.IsWhole) (arg20 : Memref sig .tc .vmem S1x1024 .f32) (harg20 : arg20.IsWhole) (arg21 : Memref sig .tc .vmem S1x512 .f32) (harg21 : arg21.IsWhole) (arg22 : Memref sig .tc .vmem S1x512 .f32) (harg22 : arg22.IsWhole) (hc0 : cond0_0 i)
    (x0 : Vec F S512x1024 .f32) (x1 : Vec F S512x1024 .bf16) (x2 : Vec F S512x1024 .f32) (x3 : Vec F S512x512 .f32) (x4 : Vec F S512x512 .f32) (x5 : Vec F S256x1024 .bf16) (x6 : Vec F S256x1024 .bf16) (x7 : Vec F S1024x1024 .bf16) (x8 : Vec F S1024x1024 .bf16) (x9 : Vec F S1024x1024 .bf16) (x10 : Vec F S1x1024 .f32) (x11 : Vec F S1x512 .f32) (x12 : Vec F S1x512 .f32) : Vec F S1x512 .f32 :=
  VO0_21.read (Elt F) (VO0_21.writes (Elt F) VO0_21.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12).2.2.2.2.2.2.2.2.1)

/-- Case B's pieces for output 13 tile its block (4 stores of `S512x256`, checked by the kernel's evaluation: Lib/Ring.lean `Piece.tiledL`, linear in the pieces, through a loop's `@[irreducible]` trip theorem too), so they cover it. -/
theorem cover0_B_13 (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S512x1024 .bf16) (harg14 : arg14.IsWhole) (arg15 : Memref sig .tc .vmem S512x1024 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S256x1024 .f32) (harg18 : arg18.IsWhole) (arg19 : Memref sig .tc .vmem S256x1024 .f32) (harg19 : arg19.IsWhole) (arg20 : Memref sig .tc .vmem S1x1024 .f32) (harg20 : arg20.IsWhole) (arg21 : Memref sig .tc .vmem S1x512 .f32) (harg21 : arg21.IsWhole) (arg22 : Memref sig .tc .vmem S1x512 .f32) (harg22 : arg22.IsWhole) (hc0 : ¬cond0_0 i)
    (x0 : Vec F S512x1024 .f32) (x1 : Vec F S512x1024 .bf16) (x2 : Vec F S512x1024 .f32) (x3 : Vec F S512x512 .f32) (x4 : Vec F S512x512 .f32) (x5 : Vec F S256x1024 .bf16) (x6 : Vec F S256x1024 .bf16) (x7 : Vec F S1024x1024 .bf16) (x8 : Vec F S1024x1024 .bf16) (x9 : Vec F S1024x1024 .bf16) (x10 : Vec F S1x1024 .f32) (x11 : Vec F S1x512 .f32) (x12 : Vec F S1x512 .f32) (xo17 : Vec F S256x1024 .f32) (xo18 : Vec F S256x1024 .f32) (xo19 : Vec F S1x1024 .f32) (xo20 : Vec F S1x512 .f32) (xo21 : Vec F S1x512 .f32) (y : S512x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 xo17 xo18 xo19 xo20 xo21).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 xo17 xo18 xo19 xo20 xo21).1 S512x256.size (by sl_kernel_rfl) y

/-- What case B leaves in output 13's staging buffer: its pieces read back over junk. -/
def out0_B_13 (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S512x1024 .bf16) (harg14 : arg14.IsWhole) (arg15 : Memref sig .tc .vmem S512x1024 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S256x1024 .f32) (harg18 : arg18.IsWhole) (arg19 : Memref sig .tc .vmem S256x1024 .f32) (harg19 : arg19.IsWhole) (arg20 : Memref sig .tc .vmem S1x1024 .f32) (harg20 : arg20.IsWhole) (arg21 : Memref sig .tc .vmem S1x512 .f32) (harg21 : arg21.IsWhole) (arg22 : Memref sig .tc .vmem S1x512 .f32) (harg22 : arg22.IsWhole) (hc0 : ¬cond0_0 i)
    (x0 : Vec F S512x1024 .f32) (x1 : Vec F S512x1024 .bf16) (x2 : Vec F S512x1024 .f32) (x3 : Vec F S512x512 .f32) (x4 : Vec F S512x512 .f32) (x5 : Vec F S256x1024 .bf16) (x6 : Vec F S256x1024 .bf16) (x7 : Vec F S1024x1024 .bf16) (x8 : Vec F S1024x1024 .bf16) (x9 : Vec F S1024x1024 .bf16) (x10 : Vec F S1x1024 .f32) (x11 : Vec F S1x512 .f32) (x12 : Vec F S1x512 .f32) (xo17 : Vec F S256x1024 .f32) (xo18 : Vec F S256x1024 .f32) (xo19 : Vec F S1x1024 .f32) (xo20 : Vec F S1x512 .f32) (xo21 : Vec F S1x512 .f32) : Vec F S512x1024 .bf16 :=
  VO0_13.read (Elt F) (VO0_13.writes (Elt F) VO0_13.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 xo17 xo18 xo19 xo20 xo21).1)

/-- Case B's pieces for output 14 tile its block (1 store of `S512x1024`, checked by the kernel's evaluation: Lib/Ring.lean `Piece.tiledL`, linear in the pieces, through a loop's `@[irreducible]` trip theorem too), so they cover it. -/
theorem cover0_B_14 (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S512x1024 .bf16) (harg14 : arg14.IsWhole) (arg15 : Memref sig .tc .vmem S512x1024 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S256x1024 .f32) (harg18 : arg18.IsWhole) (arg19 : Memref sig .tc .vmem S256x1024 .f32) (harg19 : arg19.IsWhole) (arg20 : Memref sig .tc .vmem S1x1024 .f32) (harg20 : arg20.IsWhole) (arg21 : Memref sig .tc .vmem S1x512 .f32) (harg21 : arg21.IsWhole) (arg22 : Memref sig .tc .vmem S1x512 .f32) (harg22 : arg22.IsWhole) (hc0 : ¬cond0_0 i)
    (x0 : Vec F S512x1024 .f32) (x1 : Vec F S512x1024 .bf16) (x2 : Vec F S512x1024 .f32) (x3 : Vec F S512x512 .f32) (x4 : Vec F S512x512 .f32) (x5 : Vec F S256x1024 .bf16) (x6 : Vec F S256x1024 .bf16) (x7 : Vec F S1024x1024 .bf16) (x8 : Vec F S1024x1024 .bf16) (x9 : Vec F S1024x1024 .bf16) (x10 : Vec F S1x1024 .f32) (x11 : Vec F S1x512 .f32) (x12 : Vec F S1x512 .f32) (xo17 : Vec F S256x1024 .f32) (xo18 : Vec F S256x1024 .f32) (xo19 : Vec F S1x1024 .f32) (xo20 : Vec F S1x512 .f32) (xo21 : Vec F S1x512 .f32) (y : S512x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 xo17 xo18 xo19 xo20 xo21).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 xo17 xo18 xo19 xo20 xo21).2.1 S512x1024.size (by sl_kernel_rfl) y

/-- What case B leaves in output 14's staging buffer: its pieces read back over junk. -/
def out0_B_14 (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S512x1024 .bf16) (harg14 : arg14.IsWhole) (arg15 : Memref sig .tc .vmem S512x1024 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S256x1024 .f32) (harg18 : arg18.IsWhole) (arg19 : Memref sig .tc .vmem S256x1024 .f32) (harg19 : arg19.IsWhole) (arg20 : Memref sig .tc .vmem S1x1024 .f32) (harg20 : arg20.IsWhole) (arg21 : Memref sig .tc .vmem S1x512 .f32) (harg21 : arg21.IsWhole) (arg22 : Memref sig .tc .vmem S1x512 .f32) (harg22 : arg22.IsWhole) (hc0 : ¬cond0_0 i)
    (x0 : Vec F S512x1024 .f32) (x1 : Vec F S512x1024 .bf16) (x2 : Vec F S512x1024 .f32) (x3 : Vec F S512x512 .f32) (x4 : Vec F S512x512 .f32) (x5 : Vec F S256x1024 .bf16) (x6 : Vec F S256x1024 .bf16) (x7 : Vec F S1024x1024 .bf16) (x8 : Vec F S1024x1024 .bf16) (x9 : Vec F S1024x1024 .bf16) (x10 : Vec F S1x1024 .f32) (x11 : Vec F S1x512 .f32) (x12 : Vec F S1x512 .f32) (xo17 : Vec F S256x1024 .f32) (xo18 : Vec F S256x1024 .f32) (xo19 : Vec F S1x1024 .f32) (xo20 : Vec F S1x512 .f32) (xo21 : Vec F S1x512 .f32) : Vec F S512x1024 .f32 :=
  VO0_14.read (Elt F) (VO0_14.writes (Elt F) VO0_14.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 xo17 xo18 xo19 xo20 xo21).2.1)

/-- Case B's pieces for output 15 tile its block (1 store of `S512x512`, checked by the kernel's evaluation: Lib/Ring.lean `Piece.tiledL`, linear in the pieces, through a loop's `@[irreducible]` trip theorem too), so they cover it. -/
theorem cover0_B_15 (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S512x1024 .bf16) (harg14 : arg14.IsWhole) (arg15 : Memref sig .tc .vmem S512x1024 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S256x1024 .f32) (harg18 : arg18.IsWhole) (arg19 : Memref sig .tc .vmem S256x1024 .f32) (harg19 : arg19.IsWhole) (arg20 : Memref sig .tc .vmem S1x1024 .f32) (harg20 : arg20.IsWhole) (arg21 : Memref sig .tc .vmem S1x512 .f32) (harg21 : arg21.IsWhole) (arg22 : Memref sig .tc .vmem S1x512 .f32) (harg22 : arg22.IsWhole) (hc0 : ¬cond0_0 i)
    (x0 : Vec F S512x1024 .f32) (x1 : Vec F S512x1024 .bf16) (x2 : Vec F S512x1024 .f32) (x3 : Vec F S512x512 .f32) (x4 : Vec F S512x512 .f32) (x5 : Vec F S256x1024 .bf16) (x6 : Vec F S256x1024 .bf16) (x7 : Vec F S1024x1024 .bf16) (x8 : Vec F S1024x1024 .bf16) (x9 : Vec F S1024x1024 .bf16) (x10 : Vec F S1x1024 .f32) (x11 : Vec F S1x512 .f32) (x12 : Vec F S1x512 .f32) (xo17 : Vec F S256x1024 .f32) (xo18 : Vec F S256x1024 .f32) (xo19 : Vec F S1x1024 .f32) (xo20 : Vec F S1x512 .f32) (xo21 : Vec F S1x512 .f32) (y : S512x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 xo17 xo18 xo19 xo20 xo21).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 xo17 xo18 xo19 xo20 xo21).2.2.1 S512x512.size (by sl_kernel_rfl) y

/-- What case B leaves in output 15's staging buffer: its pieces read back over junk. -/
def out0_B_15 (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S512x1024 .bf16) (harg14 : arg14.IsWhole) (arg15 : Memref sig .tc .vmem S512x1024 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S256x1024 .f32) (harg18 : arg18.IsWhole) (arg19 : Memref sig .tc .vmem S256x1024 .f32) (harg19 : arg19.IsWhole) (arg20 : Memref sig .tc .vmem S1x1024 .f32) (harg20 : arg20.IsWhole) (arg21 : Memref sig .tc .vmem S1x512 .f32) (harg21 : arg21.IsWhole) (arg22 : Memref sig .tc .vmem S1x512 .f32) (harg22 : arg22.IsWhole) (hc0 : ¬cond0_0 i)
    (x0 : Vec F S512x1024 .f32) (x1 : Vec F S512x1024 .bf16) (x2 : Vec F S512x1024 .f32) (x3 : Vec F S512x512 .f32) (x4 : Vec F S512x512 .f32) (x5 : Vec F S256x1024 .bf16) (x6 : Vec F S256x1024 .bf16) (x7 : Vec F S1024x1024 .bf16) (x8 : Vec F S1024x1024 .bf16) (x9 : Vec F S1024x1024 .bf16) (x10 : Vec F S1x1024 .f32) (x11 : Vec F S1x512 .f32) (x12 : Vec F S1x512 .f32) (xo17 : Vec F S256x1024 .f32) (xo18 : Vec F S256x1024 .f32) (xo19 : Vec F S1x1024 .f32) (xo20 : Vec F S1x512 .f32) (xo21 : Vec F S1x512 .f32) : Vec F S512x512 .f32 :=
  VO0_15.read (Elt F) (VO0_15.writes (Elt F) VO0_15.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 xo17 xo18 xo19 xo20 xo21).2.2.1)

/-- Case B's pieces for output 16 tile its block (1 store of `S512x512`, checked by the kernel's evaluation: Lib/Ring.lean `Piece.tiledL`, linear in the pieces, through a loop's `@[irreducible]` trip theorem too), so they cover it. -/
theorem cover0_B_16 (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S512x1024 .bf16) (harg14 : arg14.IsWhole) (arg15 : Memref sig .tc .vmem S512x1024 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S256x1024 .f32) (harg18 : arg18.IsWhole) (arg19 : Memref sig .tc .vmem S256x1024 .f32) (harg19 : arg19.IsWhole) (arg20 : Memref sig .tc .vmem S1x1024 .f32) (harg20 : arg20.IsWhole) (arg21 : Memref sig .tc .vmem S1x512 .f32) (harg21 : arg21.IsWhole) (arg22 : Memref sig .tc .vmem S1x512 .f32) (harg22 : arg22.IsWhole) (hc0 : ¬cond0_0 i)
    (x0 : Vec F S512x1024 .f32) (x1 : Vec F S512x1024 .bf16) (x2 : Vec F S512x1024 .f32) (x3 : Vec F S512x512 .f32) (x4 : Vec F S512x512 .f32) (x5 : Vec F S256x1024 .bf16) (x6 : Vec F S256x1024 .bf16) (x7 : Vec F S1024x1024 .bf16) (x8 : Vec F S1024x1024 .bf16) (x9 : Vec F S1024x1024 .bf16) (x10 : Vec F S1x1024 .f32) (x11 : Vec F S1x512 .f32) (x12 : Vec F S1x512 .f32) (xo17 : Vec F S256x1024 .f32) (xo18 : Vec F S256x1024 .f32) (xo19 : Vec F S1x1024 .f32) (xo20 : Vec F S1x512 .f32) (xo21 : Vec F S1x512 .f32) (y : S512x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 xo17 xo18 xo19 xo20 xo21).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 xo17 xo18 xo19 xo20 xo21).2.2.2.1 S512x512.size (by sl_kernel_rfl) y

/-- What case B leaves in output 16's staging buffer: its pieces read back over junk. -/
def out0_B_16 (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S512x1024 .bf16) (harg14 : arg14.IsWhole) (arg15 : Memref sig .tc .vmem S512x1024 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S256x1024 .f32) (harg18 : arg18.IsWhole) (arg19 : Memref sig .tc .vmem S256x1024 .f32) (harg19 : arg19.IsWhole) (arg20 : Memref sig .tc .vmem S1x1024 .f32) (harg20 : arg20.IsWhole) (arg21 : Memref sig .tc .vmem S1x512 .f32) (harg21 : arg21.IsWhole) (arg22 : Memref sig .tc .vmem S1x512 .f32) (harg22 : arg22.IsWhole) (hc0 : ¬cond0_0 i)
    (x0 : Vec F S512x1024 .f32) (x1 : Vec F S512x1024 .bf16) (x2 : Vec F S512x1024 .f32) (x3 : Vec F S512x512 .f32) (x4 : Vec F S512x512 .f32) (x5 : Vec F S256x1024 .bf16) (x6 : Vec F S256x1024 .bf16) (x7 : Vec F S1024x1024 .bf16) (x8 : Vec F S1024x1024 .bf16) (x9 : Vec F S1024x1024 .bf16) (x10 : Vec F S1x1024 .f32) (x11 : Vec F S1x512 .f32) (x12 : Vec F S1x512 .f32) (xo17 : Vec F S256x1024 .f32) (xo18 : Vec F S256x1024 .f32) (xo19 : Vec F S1x1024 .f32) (xo20 : Vec F S1x512 .f32) (xo21 : Vec F S1x512 .f32) : Vec F S512x512 .f32 :=
  VO0_16.read (Elt F) (VO0_16.writes (Elt F) VO0_16.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 xo17 xo18 xo19 xo20 xo21).2.2.2.1)

/-- Case B's pieces for output 17 tile its block (4 stores of `S256x256`, checked by the kernel's evaluation: Lib/Ring.lean `Piece.tiledL`, linear in the pieces, through a loop's `@[irreducible]` trip theorem too), so they cover it. -/
theorem cover0_B_17 (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S512x1024 .bf16) (harg14 : arg14.IsWhole) (arg15 : Memref sig .tc .vmem S512x1024 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S256x1024 .f32) (harg18 : arg18.IsWhole) (arg19 : Memref sig .tc .vmem S256x1024 .f32) (harg19 : arg19.IsWhole) (arg20 : Memref sig .tc .vmem S1x1024 .f32) (harg20 : arg20.IsWhole) (arg21 : Memref sig .tc .vmem S1x512 .f32) (harg21 : arg21.IsWhole) (arg22 : Memref sig .tc .vmem S1x512 .f32) (harg22 : arg22.IsWhole) (hc0 : ¬cond0_0 i)
    (x0 : Vec F S512x1024 .f32) (x1 : Vec F S512x1024 .bf16) (x2 : Vec F S512x1024 .f32) (x3 : Vec F S512x512 .f32) (x4 : Vec F S512x512 .f32) (x5 : Vec F S256x1024 .bf16) (x6 : Vec F S256x1024 .bf16) (x7 : Vec F S1024x1024 .bf16) (x8 : Vec F S1024x1024 .bf16) (x9 : Vec F S1024x1024 .bf16) (x10 : Vec F S1x1024 .f32) (x11 : Vec F S1x512 .f32) (x12 : Vec F S1x512 .f32) (xo17 : Vec F S256x1024 .f32) (xo18 : Vec F S256x1024 .f32) (xo19 : Vec F S1x1024 .f32) (xo20 : Vec F S1x512 .f32) (xo21 : Vec F S1x512 .f32) (y : S256x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 xo17 xo18 xo19 xo20 xo21).2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 xo17 xo18 xo19 xo20 xo21).2.2.2.2.1 S256x256.size (by sl_kernel_rfl) y

/-- What case B leaves in output 17's staging buffer: its pieces read back over junk. -/
def out0_B_17 (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S512x1024 .bf16) (harg14 : arg14.IsWhole) (arg15 : Memref sig .tc .vmem S512x1024 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S256x1024 .f32) (harg18 : arg18.IsWhole) (arg19 : Memref sig .tc .vmem S256x1024 .f32) (harg19 : arg19.IsWhole) (arg20 : Memref sig .tc .vmem S1x1024 .f32) (harg20 : arg20.IsWhole) (arg21 : Memref sig .tc .vmem S1x512 .f32) (harg21 : arg21.IsWhole) (arg22 : Memref sig .tc .vmem S1x512 .f32) (harg22 : arg22.IsWhole) (hc0 : ¬cond0_0 i)
    (x0 : Vec F S512x1024 .f32) (x1 : Vec F S512x1024 .bf16) (x2 : Vec F S512x1024 .f32) (x3 : Vec F S512x512 .f32) (x4 : Vec F S512x512 .f32) (x5 : Vec F S256x1024 .bf16) (x6 : Vec F S256x1024 .bf16) (x7 : Vec F S1024x1024 .bf16) (x8 : Vec F S1024x1024 .bf16) (x9 : Vec F S1024x1024 .bf16) (x10 : Vec F S1x1024 .f32) (x11 : Vec F S1x512 .f32) (x12 : Vec F S1x512 .f32) (xo17 : Vec F S256x1024 .f32) (xo18 : Vec F S256x1024 .f32) (xo19 : Vec F S1x1024 .f32) (xo20 : Vec F S1x512 .f32) (xo21 : Vec F S1x512 .f32) : Vec F S256x1024 .f32 :=
  VO0_17.read (Elt F) (VO0_17.writes (Elt F) VO0_17.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 xo17 xo18 xo19 xo20 xo21).2.2.2.2.1)

/-- Case B's pieces for output 18 tile its block (4 stores of `S256x256`, checked by the kernel's evaluation: Lib/Ring.lean `Piece.tiledL`, linear in the pieces, through a loop's `@[irreducible]` trip theorem too), so they cover it. -/
theorem cover0_B_18 (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S512x1024 .bf16) (harg14 : arg14.IsWhole) (arg15 : Memref sig .tc .vmem S512x1024 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S256x1024 .f32) (harg18 : arg18.IsWhole) (arg19 : Memref sig .tc .vmem S256x1024 .f32) (harg19 : arg19.IsWhole) (arg20 : Memref sig .tc .vmem S1x1024 .f32) (harg20 : arg20.IsWhole) (arg21 : Memref sig .tc .vmem S1x512 .f32) (harg21 : arg21.IsWhole) (arg22 : Memref sig .tc .vmem S1x512 .f32) (harg22 : arg22.IsWhole) (hc0 : ¬cond0_0 i)
    (x0 : Vec F S512x1024 .f32) (x1 : Vec F S512x1024 .bf16) (x2 : Vec F S512x1024 .f32) (x3 : Vec F S512x512 .f32) (x4 : Vec F S512x512 .f32) (x5 : Vec F S256x1024 .bf16) (x6 : Vec F S256x1024 .bf16) (x7 : Vec F S1024x1024 .bf16) (x8 : Vec F S1024x1024 .bf16) (x9 : Vec F S1024x1024 .bf16) (x10 : Vec F S1x1024 .f32) (x11 : Vec F S1x512 .f32) (x12 : Vec F S1x512 .f32) (xo17 : Vec F S256x1024 .f32) (xo18 : Vec F S256x1024 .f32) (xo19 : Vec F S1x1024 .f32) (xo20 : Vec F S1x512 .f32) (xo21 : Vec F S1x512 .f32) (y : S256x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 xo17 xo18 xo19 xo20 xo21).2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 xo17 xo18 xo19 xo20 xo21).2.2.2.2.2.1 S256x256.size (by sl_kernel_rfl) y

/-- What case B leaves in output 18's staging buffer: its pieces read back over junk. -/
def out0_B_18 (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S512x1024 .bf16) (harg14 : arg14.IsWhole) (arg15 : Memref sig .tc .vmem S512x1024 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S256x1024 .f32) (harg18 : arg18.IsWhole) (arg19 : Memref sig .tc .vmem S256x1024 .f32) (harg19 : arg19.IsWhole) (arg20 : Memref sig .tc .vmem S1x1024 .f32) (harg20 : arg20.IsWhole) (arg21 : Memref sig .tc .vmem S1x512 .f32) (harg21 : arg21.IsWhole) (arg22 : Memref sig .tc .vmem S1x512 .f32) (harg22 : arg22.IsWhole) (hc0 : ¬cond0_0 i)
    (x0 : Vec F S512x1024 .f32) (x1 : Vec F S512x1024 .bf16) (x2 : Vec F S512x1024 .f32) (x3 : Vec F S512x512 .f32) (x4 : Vec F S512x512 .f32) (x5 : Vec F S256x1024 .bf16) (x6 : Vec F S256x1024 .bf16) (x7 : Vec F S1024x1024 .bf16) (x8 : Vec F S1024x1024 .bf16) (x9 : Vec F S1024x1024 .bf16) (x10 : Vec F S1x1024 .f32) (x11 : Vec F S1x512 .f32) (x12 : Vec F S1x512 .f32) (xo17 : Vec F S256x1024 .f32) (xo18 : Vec F S256x1024 .f32) (xo19 : Vec F S1x1024 .f32) (xo20 : Vec F S1x512 .f32) (xo21 : Vec F S1x512 .f32) : Vec F S256x1024 .f32 :=
  VO0_18.read (Elt F) (VO0_18.writes (Elt F) VO0_18.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 xo17 xo18 xo19 xo20 xo21).2.2.2.2.2.1)

/-- Case B's pieces for output 19 tile its block (1 store of `S1x1024`, checked by the kernel's evaluation: Lib/Ring.lean `Piece.tiledL`, linear in the pieces, through a loop's `@[irreducible]` trip theorem too), so they cover it. -/
theorem cover0_B_19 (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S512x1024 .bf16) (harg14 : arg14.IsWhole) (arg15 : Memref sig .tc .vmem S512x1024 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S256x1024 .f32) (harg18 : arg18.IsWhole) (arg19 : Memref sig .tc .vmem S256x1024 .f32) (harg19 : arg19.IsWhole) (arg20 : Memref sig .tc .vmem S1x1024 .f32) (harg20 : arg20.IsWhole) (arg21 : Memref sig .tc .vmem S1x512 .f32) (harg21 : arg21.IsWhole) (arg22 : Memref sig .tc .vmem S1x512 .f32) (harg22 : arg22.IsWhole) (hc0 : ¬cond0_0 i)
    (x0 : Vec F S512x1024 .f32) (x1 : Vec F S512x1024 .bf16) (x2 : Vec F S512x1024 .f32) (x3 : Vec F S512x512 .f32) (x4 : Vec F S512x512 .f32) (x5 : Vec F S256x1024 .bf16) (x6 : Vec F S256x1024 .bf16) (x7 : Vec F S1024x1024 .bf16) (x8 : Vec F S1024x1024 .bf16) (x9 : Vec F S1024x1024 .bf16) (x10 : Vec F S1x1024 .f32) (x11 : Vec F S1x512 .f32) (x12 : Vec F S1x512 .f32) (xo17 : Vec F S256x1024 .f32) (xo18 : Vec F S256x1024 .f32) (xo19 : Vec F S1x1024 .f32) (xo20 : Vec F S1x512 .f32) (xo21 : Vec F S1x512 .f32) (y : S1x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 xo17 xo18 xo19 xo20 xo21).2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 xo17 xo18 xo19 xo20 xo21).2.2.2.2.2.2.1 S1x1024.size (by sl_kernel_rfl) y

/-- What case B leaves in output 19's staging buffer: its pieces read back over junk. -/
def out0_B_19 (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S512x1024 .bf16) (harg14 : arg14.IsWhole) (arg15 : Memref sig .tc .vmem S512x1024 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S256x1024 .f32) (harg18 : arg18.IsWhole) (arg19 : Memref sig .tc .vmem S256x1024 .f32) (harg19 : arg19.IsWhole) (arg20 : Memref sig .tc .vmem S1x1024 .f32) (harg20 : arg20.IsWhole) (arg21 : Memref sig .tc .vmem S1x512 .f32) (harg21 : arg21.IsWhole) (arg22 : Memref sig .tc .vmem S1x512 .f32) (harg22 : arg22.IsWhole) (hc0 : ¬cond0_0 i)
    (x0 : Vec F S512x1024 .f32) (x1 : Vec F S512x1024 .bf16) (x2 : Vec F S512x1024 .f32) (x3 : Vec F S512x512 .f32) (x4 : Vec F S512x512 .f32) (x5 : Vec F S256x1024 .bf16) (x6 : Vec F S256x1024 .bf16) (x7 : Vec F S1024x1024 .bf16) (x8 : Vec F S1024x1024 .bf16) (x9 : Vec F S1024x1024 .bf16) (x10 : Vec F S1x1024 .f32) (x11 : Vec F S1x512 .f32) (x12 : Vec F S1x512 .f32) (xo17 : Vec F S256x1024 .f32) (xo18 : Vec F S256x1024 .f32) (xo19 : Vec F S1x1024 .f32) (xo20 : Vec F S1x512 .f32) (xo21 : Vec F S1x512 .f32) : Vec F S1x1024 .f32 :=
  VO0_19.read (Elt F) (VO0_19.writes (Elt F) VO0_19.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 xo17 xo18 xo19 xo20 xo21).2.2.2.2.2.2.1)

/-- Case B's pieces for output 20 tile its block (1 store of `S1x512`, checked by the kernel's evaluation: Lib/Ring.lean `Piece.tiledL`, linear in the pieces, through a loop's `@[irreducible]` trip theorem too), so they cover it. -/
theorem cover0_B_20 (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S512x1024 .bf16) (harg14 : arg14.IsWhole) (arg15 : Memref sig .tc .vmem S512x1024 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S256x1024 .f32) (harg18 : arg18.IsWhole) (arg19 : Memref sig .tc .vmem S256x1024 .f32) (harg19 : arg19.IsWhole) (arg20 : Memref sig .tc .vmem S1x1024 .f32) (harg20 : arg20.IsWhole) (arg21 : Memref sig .tc .vmem S1x512 .f32) (harg21 : arg21.IsWhole) (arg22 : Memref sig .tc .vmem S1x512 .f32) (harg22 : arg22.IsWhole) (hc0 : ¬cond0_0 i)
    (x0 : Vec F S512x1024 .f32) (x1 : Vec F S512x1024 .bf16) (x2 : Vec F S512x1024 .f32) (x3 : Vec F S512x512 .f32) (x4 : Vec F S512x512 .f32) (x5 : Vec F S256x1024 .bf16) (x6 : Vec F S256x1024 .bf16) (x7 : Vec F S1024x1024 .bf16) (x8 : Vec F S1024x1024 .bf16) (x9 : Vec F S1024x1024 .bf16) (x10 : Vec F S1x1024 .f32) (x11 : Vec F S1x512 .f32) (x12 : Vec F S1x512 .f32) (xo17 : Vec F S256x1024 .f32) (xo18 : Vec F S256x1024 .f32) (xo19 : Vec F S1x1024 .f32) (xo20 : Vec F S1x512 .f32) (xo21 : Vec F S1x512 .f32) (y : S1x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 xo17 xo18 xo19 xo20 xo21).2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 xo17 xo18 xo19 xo20 xo21).2.2.2.2.2.2.2.1 S1x512.size (by sl_kernel_rfl) y

/-- What case B leaves in output 20's staging buffer: its pieces read back over junk. -/
def out0_B_20 (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S512x1024 .bf16) (harg14 : arg14.IsWhole) (arg15 : Memref sig .tc .vmem S512x1024 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S256x1024 .f32) (harg18 : arg18.IsWhole) (arg19 : Memref sig .tc .vmem S256x1024 .f32) (harg19 : arg19.IsWhole) (arg20 : Memref sig .tc .vmem S1x1024 .f32) (harg20 : arg20.IsWhole) (arg21 : Memref sig .tc .vmem S1x512 .f32) (harg21 : arg21.IsWhole) (arg22 : Memref sig .tc .vmem S1x512 .f32) (harg22 : arg22.IsWhole) (hc0 : ¬cond0_0 i)
    (x0 : Vec F S512x1024 .f32) (x1 : Vec F S512x1024 .bf16) (x2 : Vec F S512x1024 .f32) (x3 : Vec F S512x512 .f32) (x4 : Vec F S512x512 .f32) (x5 : Vec F S256x1024 .bf16) (x6 : Vec F S256x1024 .bf16) (x7 : Vec F S1024x1024 .bf16) (x8 : Vec F S1024x1024 .bf16) (x9 : Vec F S1024x1024 .bf16) (x10 : Vec F S1x1024 .f32) (x11 : Vec F S1x512 .f32) (x12 : Vec F S1x512 .f32) (xo17 : Vec F S256x1024 .f32) (xo18 : Vec F S256x1024 .f32) (xo19 : Vec F S1x1024 .f32) (xo20 : Vec F S1x512 .f32) (xo21 : Vec F S1x512 .f32) : Vec F S1x512 .f32 :=
  VO0_20.read (Elt F) (VO0_20.writes (Elt F) VO0_20.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 xo17 xo18 xo19 xo20 xo21).2.2.2.2.2.2.2.1)

/-- Case B's pieces for output 21 tile its block (1 store of `S1x512`, checked by the kernel's evaluation: Lib/Ring.lean `Piece.tiledL`, linear in the pieces, through a loop's `@[irreducible]` trip theorem too), so they cover it. -/
theorem cover0_B_21 (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S512x1024 .bf16) (harg14 : arg14.IsWhole) (arg15 : Memref sig .tc .vmem S512x1024 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S256x1024 .f32) (harg18 : arg18.IsWhole) (arg19 : Memref sig .tc .vmem S256x1024 .f32) (harg19 : arg19.IsWhole) (arg20 : Memref sig .tc .vmem S1x1024 .f32) (harg20 : arg20.IsWhole) (arg21 : Memref sig .tc .vmem S1x512 .f32) (harg21 : arg21.IsWhole) (arg22 : Memref sig .tc .vmem S1x512 .f32) (harg22 : arg22.IsWhole) (hc0 : ¬cond0_0 i)
    (x0 : Vec F S512x1024 .f32) (x1 : Vec F S512x1024 .bf16) (x2 : Vec F S512x1024 .f32) (x3 : Vec F S512x512 .f32) (x4 : Vec F S512x512 .f32) (x5 : Vec F S256x1024 .bf16) (x6 : Vec F S256x1024 .bf16) (x7 : Vec F S1024x1024 .bf16) (x8 : Vec F S1024x1024 .bf16) (x9 : Vec F S1024x1024 .bf16) (x10 : Vec F S1x1024 .f32) (x11 : Vec F S1x512 .f32) (x12 : Vec F S1x512 .f32) (xo17 : Vec F S256x1024 .f32) (xo18 : Vec F S256x1024 .f32) (xo19 : Vec F S1x1024 .f32) (xo20 : Vec F S1x512 .f32) (xo21 : Vec F S1x512 .f32) (y : S1x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 xo17 xo18 xo19 xo20 xo21).2.2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 xo17 xo18 xo19 xo20 xo21).2.2.2.2.2.2.2.2.1 S1x512.size (by sl_kernel_rfl) y

/-- What case B leaves in output 21's staging buffer: its pieces read back over junk. -/
def out0_B_21 (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S512x1024 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S512x1024 .bf16) (harg14 : arg14.IsWhole) (arg15 : Memref sig .tc .vmem S512x1024 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S256x1024 .f32) (harg18 : arg18.IsWhole) (arg19 : Memref sig .tc .vmem S256x1024 .f32) (harg19 : arg19.IsWhole) (arg20 : Memref sig .tc .vmem S1x1024 .f32) (harg20 : arg20.IsWhole) (arg21 : Memref sig .tc .vmem S1x512 .f32) (harg21 : arg21.IsWhole) (arg22 : Memref sig .tc .vmem S1x512 .f32) (harg22 : arg22.IsWhole) (hc0 : ¬cond0_0 i)
    (x0 : Vec F S512x1024 .f32) (x1 : Vec F S512x1024 .bf16) (x2 : Vec F S512x1024 .f32) (x3 : Vec F S512x512 .f32) (x4 : Vec F S512x512 .f32) (x5 : Vec F S256x1024 .bf16) (x6 : Vec F S256x1024 .bf16) (x7 : Vec F S1024x1024 .bf16) (x8 : Vec F S1024x1024 .bf16) (x9 : Vec F S1024x1024 .bf16) (x10 : Vec F S1x1024 .f32) (x11 : Vec F S1x512 .f32) (x12 : Vec F S1x512 .f32) (xo17 : Vec F S256x1024 .f32) (xo18 : Vec F S256x1024 .f32) (xo19 : Vec F S1x1024 .f32) (xo20 : Vec F S1x512 .f32) (xo21 : Vec F S1x512 .f32) : Vec F S1x512 .f32 :=
  VO0_21.read (Elt F) (VO0_21.writes (Elt F) VO0_21.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 xo17 xo18 xo19 xo20 xo21).2.2.2.2.2.2.2.2.1)

end Cert.KernelIdeal.Gen

end
-- ==== Proof.FrameRun.lean ====
/- What the outputs hold after each grid point, the body's triple at every point, and the run of the whole program:
   the second half of the generated `Gen/KernelIdeal/Frame.lean`, taken over unchanged on top of `FrameOuts.lean`. -/
module

public import proofs.«01_k».proof.Proof.FrameOuts
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S512x1024 .bf16 × Vec F S512x1024 .f32 × Vec F S512x512 .f32 × Vec F S512x512 .f32 × Vec F S256x1024 .f32 × Vec F S256x1024 .f32 × Vec F S1x1024 .f32 × Vec F S1x512 .f32 × Vec F S1x512 .f32
  | 0, hn => (out0_A_13 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩), out0_A_14 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩), out0_A_15 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩), out0_A_16 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩), out0_A_17 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩), out0_A_18 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩), out0_A_19 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩), out0_A_20 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩), out0_A_21 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩))
  | n + 1, hn =>
    if h0 : (n + 1) % 16 = 0 then
      (out0_A_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩), out0_A_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩), out0_A_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩), out0_A_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩), out0_A_17 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩), out0_A_18 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩), out0_A_19 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩), out0_A_20 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩), out0_A_21 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩))
    else
      (out0_B_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2, out0_B_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2, out0_B_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2, out0_B_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2, out0_B_17 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2, out0_B_18 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2, out0_B_19 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2, out0_B_20 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2, out0_B_21 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2)

/-- `outsAt0` at a point of case A: that case's contents. -/
theorem outsAt0_A (c : Dev nD) (t : Fin cfg0.N) (h0 : t.val % 16 = 0) :
    outsAt0 m c t.val t.isLt = (out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t), out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t), out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t), out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t), out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t), out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t), out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t), out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t), out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 16 = 0) :
    outsAt0 m c t.val t.isLt = (out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, out0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, out0_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, out0_B_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, out0_B_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, out0_B_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, out0_B_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, out0_B_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => (outsAt0 m c t.val t.isLt).1
    | ⟨14, _⟩ => (outsAt0 m c t.val t.isLt).2.1
    | ⟨15, _⟩ => (outsAt0 m c t.val t.isLt).2.2.1
    | ⟨16, _⟩ => (outsAt0 m c t.val t.isLt).2.2.2.1
    | ⟨17, _⟩ => (outsAt0 m c t.val t.isLt).2.2.2.2.1
    | ⟨18, _⟩ => (outsAt0 m c t.val t.isLt).2.2.2.2.2.1
    | ⟨19, _⟩ => (outsAt0 m c t.val t.isLt).2.2.2.2.2.2.1
    | ⟨20, _⟩ => (outsAt0 m c t.val t.isLt).2.2.2.2.2.2.2.1
    | ⟨21, _⟩ => (outsAt0 m c t.val t.isLt).2.2.2.2.2.2.2.2
    | ⟨_ + 22, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = (outsAt0 m c t.val t.isLt).1 := by dsimp only [dats]
theorem after0_14 (c : Dev nD) (t : Fin cfg0.N) : (dats m 0 c).after 14 t = (outsAt0 m c t.val t.isLt).2.1 := by dsimp only [dats]
theorem after0_15 (c : Dev nD) (t : Fin cfg0.N) : (dats m 0 c).after 15 t = (outsAt0 m c t.val t.isLt).2.2.1 := by dsimp only [dats]
theorem after0_16 (c : Dev nD) (t : Fin cfg0.N) : (dats m 0 c).after 16 t = (outsAt0 m c t.val t.isLt).2.2.2.1 := by dsimp only [dats]
theorem after0_17 (c : Dev nD) (t : Fin cfg0.N) : (dats m 0 c).after 17 t = (outsAt0 m c t.val t.isLt).2.2.2.2.1 := by dsimp only [dats]
theorem after0_18 (c : Dev nD) (t : Fin cfg0.N) : (dats m 0 c).after 18 t = (outsAt0 m c t.val t.isLt).2.2.2.2.2.1 := by dsimp only [dats]
theorem after0_19 (c : Dev nD) (t : Fin cfg0.N) : (dats m 0 c).after 19 t = (outsAt0 m c t.val t.isLt).2.2.2.2.2.2.1 := by dsimp only [dats]
theorem after0_20 (c : Dev nD) (t : Fin cfg0.N) : (dats m 0 c).after 20 t = (outsAt0 m c t.val t.isLt).2.2.2.2.2.2.2.1 := by dsimp only [dats]
theorem after0_21 (c : Dev nD) (t : Fin cfg0.N) : (dats m 0 c).after 21 t = (outsAt0 m c t.val t.isLt).2.2.2.2.2.2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
/-- At a point of case B output 17's current staging buffer holds what the body left at the point before: the point is
    not the first, the buffer was not written back between (`flush0_17`), the window is live and uncut (Lib/Pipeline/Frame.lean
    `Dat.before_out_kept`). -/
theorem before0_17_B (c : Dev nD) (t : Fin cfg0.N) (h0 : ¬t.val % 16 = 0) (d) :
    (dats m 0 c).before 17 t d = (outsAt0 m c (t.val - 1) (Nat.lt_of_le_of_lt (Nat.sub_le _ _) t.isLt)).2.2.2.2.1 := by
  have hN : t.val < 16 := lt_of_lt_of_eq t.isLt (show cfg0.N = 16 from N_0)
  rw [Dat.before_out_kept _ 17 rfl t (by omega) (Bool.eq_false_iff.mpr fun h => by have := (flush0_17 _).mp h; dsimp only at this; omega)
    (fun _ => rfl) (fun _ _ => rfl)]
  dsimp only [dats]
/-- At a point of case B output 18's current staging buffer holds what the body left at the point before: the point is
    not the first, the buffer was not written back between (`flush0_18`), the window is live and uncut (Lib/Pipeline/Frame.lean
    `Dat.before_out_kept`). -/
theorem before0_18_B (c : Dev nD) (t : Fin cfg0.N) (h0 : ¬t.val % 16 = 0) (d) :
    (dats m 0 c).before 18 t d = (outsAt0 m c (t.val - 1) (Nat.lt_of_le_of_lt (Nat.sub_le _ _) t.isLt)).2.2.2.2.2.1 := by
  have hN : t.val < 16 := lt_of_lt_of_eq t.isLt (show cfg0.N = 16 from N_0)
  rw [Dat.before_out_kept _ 18 rfl t (by omega) (Bool.eq_false_iff.mpr fun h => by have := (flush0_18 _).mp h; dsimp only at this; omega)
    (fun _ => rfl) (fun _ _ => rfl)]
  dsimp only [dats]
/-- At a point of case B output 19's current staging buffer holds what the body left at the point before: the point is
    not the first, the buffer was not written back between (`flush0_19`), the window is live and uncut (Lib/Pipeline/Frame.lean
    `Dat.before_out_kept`). -/
theorem before0_19_B (c : Dev nD) (t : Fin cfg0.N) (h0 : ¬t.val % 16 = 0) (d) :
    (dats m 0 c).before 19 t d = (outsAt0 m c (t.val - 1) (Nat.lt_of_le_of_lt (Nat.sub_le _ _) t.isLt)).2.2.2.2.2.2.1 := by
  have hN : t.val < 16 := lt_of_lt_of_eq t.isLt (show cfg0.N = 16 from N_0)
  rw [Dat.before_out_kept _ 19 rfl t (by omega) (Bool.eq_false_iff.mpr fun h => by have := (flush0_19 _).mp h; dsimp only at this; omega)
    (fun _ => rfl) (fun _ _ => rfl)]
  dsimp only [dats]
/-- At a point of case B output 20's current staging buffer holds what the body left at the point before: the point is
    not the first, the buffer was not written back between (`flush0_20`), the window is live and uncut (Lib/Pipeline/Frame.lean
    `Dat.before_out_kept`). -/
theorem before0_20_B (c : Dev nD) (t : Fin cfg0.N) (h0 : ¬t.val % 16 = 0) (d) :
    (dats m 0 c).before 20 t d = (outsAt0 m c (t.val - 1) (Nat.lt_of_le_of_lt (Nat.sub_le _ _) t.isLt)).2.2.2.2.2.2.2.1 := by
  have hN : t.val < 16 := lt_of_lt_of_eq t.isLt (show cfg0.N = 16 from N_0)
  rw [Dat.before_out_kept _ 20 rfl t (by omega) (Bool.eq_false_iff.mpr fun h => by have := (flush0_20 _).mp h; dsimp only at this; omega)
    (fun _ => rfl) (fun _ _ => rfl)]
  dsimp only [dats]
/-- At a point of case B output 21's current staging buffer holds what the body left at the point before: the point is
    not the first, the buffer was not written back between (`flush0_21`), the window is live and uncut (Lib/Pipeline/Frame.lean
    `Dat.before_out_kept`). -/
theorem before0_21_B (c : Dev nD) (t : Fin cfg0.N) (h0 : ¬t.val % 16 = 0) (d) :
    (dats m 0 c).before 21 t d = (outsAt0 m c (t.val - 1) (Nat.lt_of_le_of_lt (Nat.sub_le _ _) t.isLt)).2.2.2.2.2.2.2.2 := by
  have hN : t.val < 16 := lt_of_lt_of_eq t.isLt (show cfg0.N = 16 from N_0)
  rw [Dat.before_out_kept _ 21 rfl t (by omega) (Bool.eq_false_iff.mpr fun h => by have := (flush0_21 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t))

set_option maxHeartbeats 4000000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21]
  have hN : t.val < 16 := lt_of_lt_of_eq t.isLt (show cfg0.N = 16 from N_0)
  by_cases h0 : t.val % 16 = 0
  · rw [outsAt0_A m c t h0]
    unfold out0_A_13 out0_A_14 out0_A_15 out0_A_16 out0_A_17 out0_A_18 out0_A_19 out0_A_20 out0_A_21; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
    iapply ((kernelRun0_A c (grid0.coords t) _ _ _ _ _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)).2.2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    iintro ⟨H0, H1, H2, H3, H4, H5, H6, H7, H8, H9, H10, H11, H12, ⟨%e13, H13⟩, ⟨%e14, H14⟩, ⟨%e15, H15⟩, ⟨%e16, H16⟩, ⟨%e17, H17⟩, ⟨%e18, H18⟩, ⟨%e19, H19⟩, ⟨%e20, H20⟩, ⟨%e21, H21⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]
    · unfold owns; iexists _; isplitr
      swap; · iexact H13
      ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H14]
    · unfold owns; iexists _; isplitr
      swap; · iexact H14
      ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H15]
    · unfold owns; iexists _; isplitr
      swap; · iexact H15
      ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H16]
    · unfold owns; iexists _; isplitr
      swap; · iexact H16
      ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H17]
    · unfold owns; iexists _; isplitr
      swap; · iexact H17
      ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H18]
    · unfold owns; iexists _; isplitr
      swap; · iexact H18
      ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H19]
    · unfold owns; iexists _; isplitr
      swap; · iexact H19
      ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H20]
    · unfold owns; iexists _; isplitr
      swap; · iexact H20
      ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _)
    unfold owns; iexists _; isplitr
    swap; · iexact H21
    ipureintro; exact View.read_writes_of_cover _ _ _ _ _ (cover0_A_21 c _ _ _ _ _ _ _ _ _ _ _ _ _ _ _ _ _ _ _ _ _ _ _ _ _ _ _ _ _ _ _ _ _ _ _ _ _ _ _ _ _ _ _ _ _ _ _ _ _ _ _ _ _ _ _ _ _ _ _)
  · rw [outsAt0_B m c t h0]
    simp only [before0_17_B m c t h0, before0_18_B m c t h0, before0_19_B m c t h0, before0_20_B m c t h0, before0_21_B m c t h0]
    unfold out0_B_13 out0_B_14 out0_B_15 out0_B_16 out0_B_17 out0_B_18 out0_B_19 out0_B_20 out0_B_21; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
    iapply ((kernelRun0_B c (grid0.coords t) _ _ _ _ _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _ _ _ _ _).2.2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    isplitl [H15]; · iexists _; iexact H15
    isplitl [H16]; · iexists _; iexact H16
    isplitl [H17]; · iexact H17
    isplitl [H18]; · iexact H18
    isplitl [H19]; · iexact H19
    isplitl [H20]; · iexact H20
    isplitl [H21]; · iexact H21
    iintro ⟨H0, H1, H2, H3, H4, H5, H6, H7, H8, H9, H10, H11, H12, ⟨%e13, H13⟩, ⟨%e14, H14⟩, ⟨%e15, H15⟩, ⟨%e16, H16⟩, ⟨%e17, H17⟩, ⟨%e18, H18⟩, ⟨%e19, H19⟩, ⟨%e20, H20⟩, ⟨%e21, H21⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]
    · unfold owns; iexists _; isplitr
      swap; · iexact H13
      ipureintro; exact View.read_writes_of_cover _ _ _ _ _ (cover0_B_13 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H14]
    · unfold owns; iexists _; isplitr
      swap; · iexact H14
      ipureintro; exact View.read_writes_of_cover _ _ _ _ _ (cover0_B_14 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H15]
    · unfold owns; iexists _; isplitr
      swap; · iexact H15
      ipureintro; exact View.read_writes_of_cover _ _ _ _ _ (cover0_B_15 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H16]
    · unfold owns; iexists _; isplitr
      swap; · iexact H16
      ipureintro; exact View.read_writes_of_cover _ _ _ _ _ (cover0_B_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H17]
    · unfold owns; iexists _; isplitr
      swap; · iexact H17
      ipureintro; exact View.read_writes_of_cover _ _ _ _ _ (cover0_B_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H18]
    · unfold owns; iexists _; isplitr
      swap; · iexact H18
      ipureintro; exact View.read_writes_of_cover _ _ _ _ _ (cover0_B_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H19]
    · unfold owns; iexists _; isplitr
      swap; · iexact H19
      ipureintro; exact View.read_writes_of_cover _ _ _ _ _ (cover0_B_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H20]
    · unfold owns; iexists _; isplitr
      swap; · iexact H20
      ipureintro; exact View.read_writes_of_cover _ _ _ _ _ (cover0_B_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    unfold owns; iexists _; isplitr
    swap; · iexact H21
    ipureintro; exact View.read_writes_of_cover _ _ _ _ _ (cover0_B_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (unchanged m ρ) ((θ_run defs _ _).mono (fun _ h => h.2) (run_main_quiescent m ρ))

end Cert.KernelIdeal.Gen

end
-- ==== Proof.Reals.lean ====
/- Real numbers among the extended reals: the operations of the two programs carry reals to reals. Every argument of
   the step is finite (the precondition), so both programs compute with reals all the way, and their equality is an
   equality of real numbers. -/
module

public import Idealize.ShloMosaic.Lib.Pointwise

@[expose] public section

noncomputable section

namespace Cert.Mid

open Idealize.ShloMosaic

/-! ## Operations on reals -/

/-- A finite sum of reals is a real. -/
theorem sum_coe {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The quotient of two reals, the divisor not zero. -/
theorem div_coe_coe (x : ℝ) {y : ℝ} (h : y ≠ 0) : Ideal.div (x : EReal) (y : EReal) = ((x / y : ℝ) : EReal) := by
  rw [Ideal.div_coe h, ← EReal.coe_mul, mul_one_div]

/-- One over a real that is not zero. -/
theorem div_one_coe {y : ℝ} (h : y ≠ 0) : Ideal.div 1 (y : EReal) = ((1 / y : ℝ) : EReal) := by
  rw [← EReal.coe_one, div_coe_coe 1 h]

/-- The reciprocal square root of a positive real. -/
theorem rsqrt_coe_pos {x : ℝ} (h : 0 < x) : Ideal.rsqrt (x : EReal) = (((√x)⁻¹ : ℝ) : EReal) := by
  rw [Ideal.rsqrt_coe, if_neg (not_lt.mpr h.le), if_neg h.ne']

/-- The greatest of finitely many reals, folded from −∞, is a real. -/
theorem fold_max_coe {ι : Type*} [Fintype ι] [Nonempty ι] (f : ι → ℝ) :
    ∃ M : ℝ, Finset.univ.fold max (⊥ : EReal) (fun i => ((f i : ℝ) : EReal)) = (M : EReal) := by
  classical
  have key : ∀ s : Finset ι, s.Nonempty → ∃ M : ℝ, s.fold max (⊥ : EReal) (fun i => ((f i : ℝ) : EReal)) = (M : EReal) := by
    intro s hs
    induction hs using Finset.Nonempty.cons_induction with
    | singleton a => exact ⟨f a, by simp⟩
    | cons a s ha hs ih =>
      obtain ⟨M, hM⟩ := ih
      exact ⟨max (f a) M, by rw [Finset.fold_cons, hM]; exact (EReal.coe_strictMono.monotone.map_max).symm⟩
  exact key _ Finset.univ_nonempty

/-! ## The literals of the programs -/

/-- The small number added to a mean of squares. -/
def eps : ℝ := 8796093 / 2 ^ 43

theorem eps_pos : 0 < eps := by unfold eps; positivity

theorem lit_eps : Ideal.ofBits .f32 0x358637BD#32 = (eps : EReal) := by
  simp [Ideal.ofBits, Ideal.ieee, -EReal.coe_mul, eps]; norm_num

theorem lit_sixteenth : Ideal.ofBits .f32 0x3D800000#32 = ((1 / 16 : ℝ) : EReal) := by
  simp [Ideal.ofBits, Ideal.ieee, -EReal.coe_mul]; norm_num

theorem lit_512 : Ideal.ofBits .f32 0x44000000#32 = (((512 : ℕ) : ℝ) : EReal) := by
  simp [Ideal.ofBits, Ideal.ieee, -EReal.coe_mul]; norm_num

theorem lit_1024 : Ideal.ofBits .f32 0x44800000#32 = (((1024 : ℕ) : ℝ) : EReal) := by
  simp [Ideal.ofBits, Ideal.ieee, -EReal.coe_mul]; norm_num

theorem lit_neg_half : Ideal.ofBits .f32 0xBF000000#32 = ((-1 / 2 : ℝ) : EReal) := by
  simp [Ideal.ofBits, Ideal.ieee, -EReal.coe_mul]; norm_num

theorem lit_two : Ideal.ofBits .f32 0x40000000#32 = ((2 : ℝ) : EReal) := by
  simp [Ideal.ofBits, Ideal.ieee, -EReal.coe_mul]; norm_num

theorem lit_neg_inf : Ideal.ofBits .f32 0xFF800000#32 = (⊥ : EReal) := by
  simp [Ideal.ofBits, Ideal.ieee]

/-! ## Arrays of reals -/

/-- The vector `v` of extended reals is the matrix `V` of reals. -/
abbrev IsReal {a b : ℕ} (v : (⟨2, ![a, b]⟩ : Shape).Idx → EReal) (V : Fin a → Fin b → ℝ) : Prop :=
  ∀ i j, v (ix2 i j) = ((V i j : ℝ) : EReal)

end Cert.Mid
-- ==== Proof.Spec.lean ====
/- The mathematics of the step's part, in real numbers: row by row the root-mean-square norm and its derivative, the
   cross-attention's probabilities and the derivative of its scores. Both programs are shown to compute these. -/
module

public import proofs.«01_k».proof.Proof.Reals

@[expose] public section

noncomputable section

namespace Cert.Mid

/-! ## The root-mean-square norm of one row -/

/-- The mean of the squares of a row, plus a small number. -/
def meanSq {n : ℕ} (x : Fin n → ℝ) : ℝ := (∑ k, x k * x k) / n + eps

theorem meanSq_pos {n : ℕ} (x : Fin n → ℝ) : 0 < meanSq x :=
  add_pos_of_nonneg_of_pos (div_nonneg (Finset.sum_nonneg fun k _ => mul_self_nonneg (x k)) n.cast_nonneg) eps_pos

/-- The reciprocal root of the mean square. -/
def rinv {n : ℕ} (x : Fin n → ℝ) : ℝ := (√(meanSq x))⁻¹

theorem rinv_sq {n : ℕ} (x : Fin n → ℝ) : rinv x * rinv x = 1 / meanSq x := by
  unfold rinv
  rw [← mul_inv, Real.mul_self_sqrt (meanSq_pos x).le, one_div]

/-- The row's normalised entries. -/
def unit {n : ℕ} (x : Fin n → ℝ) (c : Fin n) : ℝ := x c * rinv x

/-- The derivative of the norm: `d` is the cotangent of the normalised row. -/
def rmsBwd {n : ℕ} (x d : Fin n → ℝ) (c : Fin n) : ℝ :=
  rinv x * (d c - unit x c * ((∑ k, d k * unit x k) / n))

/-! ## The cross-attention of one row, one head -/

/-- The probabilities of a row's scores. -/
def softmax {n : ℕ} (s : Fin n → ℝ) (m : Fin n) : ℝ := Real.exp (s m) / ∑ k, Real.exp (s k)

/-- The scores of a query row against the keys: products over the head's lanes, times 1/16. -/
def score {n d : ℕ} (q : Fin d → ℝ) (k : Fin n → Fin d → ℝ) (m : Fin n) : ℝ := (∑ j, q j * k m j) * (1 / 16)

/-- The derivative of the scaled scores from the cotangent `dp` of the probabilities `p`. -/
def dscore {n : ℕ} (p dp : Fin n → ℝ) (m : Fin n) : ℝ := p m * (dp m - ∑ k, dp k * p k) * (1 / 16)

theorem sum_exp_pos {n : ℕ} [NeZero n] (s : Fin n → ℝ) : 0 < ∑ k, Real.exp (s k) :=
  Finset.sum_pos (fun k _ => Real.exp_pos _) Finset.univ_nonempty

/-- Scores shifted by a constant have the same probabilities. -/
theorem softmax_shift {n : ℕ} (s : Fin n → ℝ) (M : ℝ) (m : Fin n) :
    softmax (fun k => s k - M) m = softmax s m := by
  unfold softmax
  simp only [Real.exp_sub, ← Finset.sum_div]
  rw [div_div_div_cancel_right₀ (Real.exp_ne_zero M)]

/-! ## The step's part over all rows -/

/-- Lane `k` of head `h`. -/
def lane (h : Fin 4) (k : Fin 256) : Fin 1024 := ⟨256 * h.val + k.val, by omega⟩

/-- The head of a lane. -/
def headOf (c : Fin 1024) : Fin 4 := ⟨c.val / 256, by omega⟩

/-- The lane within its head. -/
def inHead (c : Fin 1024) : Fin 256 := ⟨c.val % 256, by omega⟩

theorem lane_headOf (c : Fin 1024) : lane (headOf c) (inHead c) = c := by
  apply Fin.ext; simp only [lane, headOf, inHead]; omega

theorem headOf_lane (h : Fin 4) (k : Fin 256) : headOf (lane h k) = h := by
  apply Fin.ext; simp only [lane, headOf]; omega

theorem inHead_lane (h : Fin 4) (k : Fin 256) : inHead (lane h k) = k := by
  apply Fin.ext; simp only [lane, inHead]; omega

/-- The first half of the lanes. -/
def lo (c : Fin 512) : Fin 1024 := ⟨c.val, by omega⟩

/-- The second half of the lanes. -/
def hi (c : Fin 512) : Fin 1024 := ⟨512 + c.val, by omega⟩

variable {n : ℕ}

/-- What the backward pass is given: the cotangent of the residual stream after the cross-attention, the queries, the
    residual stream before the cross-attention, the two mixers' outputs, the keys and values, and the weights. -/
structure Given (n : ℕ) where
  dx2 : Fin n → Fin 1024 → ℝ
  q : Fin n → Fin 1024 → ℝ
  x1 : Fin n → Fin 1024 → ℝ
  att : Fin n → Fin 512 → ℝ
  lru : Fin n → Fin 512 → ℝ
  k : Fin 256 → Fin 1024 → ℝ
  v : Fin 256 → Fin 1024 → ℝ
  wo : Fin 1024 → Fin 1024 → ℝ
  wq : Fin 1024 → Fin 1024 → ℝ
  wout : Fin 1024 → Fin 1024 → ℝ
  gc : Fin 1024 → ℝ
  ga : Fin 512 → ℝ
  gl : Fin 512 → ℝ

namespace Given

variable (G : Given n) (t : Fin n)

/-- The cotangent of the attention's output. -/
def dox (c : Fin 1024) : ℝ := ∑ j, G.dx2 t j * G.wo c j

/-- The probabilities of head `h`. -/
def p (h : Fin 4) : Fin 256 → ℝ := softmax (score (fun k => G.q t (lane h k)) fun m k => G.k m (lane h k))

/-- Their cotangent. -/
def dp (h : Fin 4) (m : Fin 256) : ℝ := ∑ k, G.dox t (lane h k) * G.v m (lane h k)

/-- The cotangent of the scaled scores. -/
def ds (h : Fin 4) : Fin 256 → ℝ := dscore (G.p t h) (G.dp t h)

/-- The cotangent of the queries. -/
def dq (c : Fin 1024) : ℝ := ∑ m, G.ds t (headOf c) m * G.k m c

/-- The cotangent of the keys. -/
def dk (m : Fin 256) (c : Fin 1024) : ℝ := ∑ t, G.ds t (headOf c) m * G.q t c

/-- The cotangent of the values. -/
def dv (m : Fin 256) (c : Fin 1024) : ℝ := ∑ t, G.p t (headOf c) m * G.dox t c

/-- The cotangent of the normalised stream that the queries are computed from. -/
def dhc (c : Fin 1024) : ℝ := ∑ j, G.dq t j * G.wq c j

/-- The cotangent of the cross-attention's gain. -/
def dgc (c : Fin 1024) : ℝ := ∑ t, G.dhc t c * unit (G.x1 t) c

/-- The cotangent of the residual stream before the cross-attention. -/
def dx1 (c : Fin 1024) : ℝ := G.dx2 t c + rmsBwd (G.x1 t) (fun c => G.dhc t c * G.gc c) c

/-- The cotangent of the merged mixers' outputs. -/
def dmerged (c : Fin 1024) : ℝ := ∑ j, G.dx1 t j * G.wout c j

/-- The cotangent of the attention's output before its norm. -/
def datt (c : Fin 512) : ℝ := rmsBwd (G.att t) (fun c => G.dmerged t (lo c) * G.ga c) c

/-- The cotangent of the recurrence's output before its norm. -/
def drec (c : Fin 512) : ℝ := rmsBwd (G.lru t) (fun c => G.dmerged t (hi c) * G.gl c) c

/-- The cotangent of the attention's output gain. -/
def dga (c : Fin 512) : ℝ := ∑ t, G.dmerged t (lo c) * unit (G.att t) c

/-- The cotangent of the recurrence's output gain. -/
def dgl (c : Fin 512) : ℝ := ∑ t, G.dmerged t (hi c) * unit (G.lru t) c

end Given

end Cert.Mid
-- ==== Proof.Elements.lean ====
/- The elementary expressions of the two programs, at real operands. -/
module

public import proofs.«01_k».proof.Proof.Spec

@[expose] public section

noncomputable section

namespace Cert.Mid

open Idealize.ShloMosaic

/-- A row's probabilities as the programs compute them: the greatest score subtracted, the exponential times one over
    the sum of the exponentials. -/
theorem softmax_elem {n : ℕ} [NeZero n] (s : Fin n → ℝ) (c : Fin n) :
    Ideal.exp (((s c : ℝ) : EReal) - Finset.univ.fold max ⊥ fun x => ((s x : ℝ) : EReal)) *
      Ideal.div 1 (∑ x, Ideal.exp (((s x : ℝ) : EReal) - Finset.univ.fold max ⊥ fun x => ((s x : ℝ) : EReal))) =
    ((softmax s c : ℝ) : EReal) := by
  obtain ⟨M, hM⟩ := fold_max_coe s
  simp only [hM, ← EReal.coe_sub, Ideal.exp_coe, sum_coe]
  rw [div_one_coe (sum_exp_pos _).ne', ← EReal.coe_mul, mul_one_div, ← softmax_shift s M c]
  rfl

/-- The cotangent of the scaled scores. -/
theorem dscore_elem {n : ℕ} (p dp : Fin n → ℝ) (c : Fin n) :
    ((p c : ℝ) : EReal) * (((dp c : ℝ) : EReal) - ∑ x, ((dp x : ℝ) : EReal) * ((p x : ℝ) : EReal)) *
      Ideal.ofBits .f32 0x3D800000#32 = ((dscore p dp c : ℝ) : EReal) := by
  simp only [lit_sixteenth, ← EReal.coe_mul, sum_coe, ← EReal.coe_sub]
  rfl

/-- The same with the probabilities' cotangent written out as the product with the values. -/
theorem ds_elem {n : ℕ} (G : Given n) (t : Fin n) (h : Fin 4) (c : Fin 256) :
    ((G.p t h c : ℝ) : EReal) * ((∑ j, ((G.dox t (lane h j) : ℝ) : EReal) * ((G.v c (lane h j) : ℝ) : EReal)) -
      ∑ x, (∑ j, ((G.dox t (lane h j) : ℝ) : EReal) * ((G.v x (lane h j) : ℝ) : EReal)) * ((G.p t h x : ℝ) : EReal)) *
      Ideal.ofBits .f32 0x3D800000#32 = ((G.ds t h c : ℝ) : EReal) := by
  simp only [lit_sixteenth, ← EReal.coe_mul, sum_coe, ← EReal.coe_sub]
  rfl

/-- The reciprocal root of a row's mean square. -/
theorem rinv_elem {n : ℕ} (x : Fin n → ℝ) (h : (n : ℝ) ≠ 0) :
    Ideal.rsqrt (Ideal.div (∑ k, ((x k : ℝ) : EReal) * ((x k : ℝ) : EReal)) ((n : ℝ) : EReal) + ((eps : ℝ) : EReal)) =
      ((rinv x : ℝ) : EReal) := by
  simp only [← EReal.coe_mul, sum_coe, div_coe_coe _ h, ← EReal.coe_add]
  exact rsqrt_coe_pos (meanSq_pos x)

/-! ## The heads' lanes and the halves, as offsets -/

theorem slice_0 (c : Fin 256) (h : c.val < 1024) : (⟨c.val, h⟩ : Fin 1024) = lane 0 c := by
  apply Fin.ext; simp [lane]

theorem slice_1 (c : Fin 256) (h : 256 + c.val < 1024) : (⟨256 + c.val, h⟩ : Fin 1024) = lane 1 c := by
  apply Fin.ext; simp [lane]

theorem slice_2 (c : Fin 256) (h : 512 + c.val < 1024) : (⟨512 + c.val, h⟩ : Fin 1024) = lane 2 c := by
  apply Fin.ext; simp [lane]

theorem slice_3 (c : Fin 256) (h : 768 + c.val < 1024) : (⟨768 + c.val, h⟩ : Fin 1024) = lane 3 c := by
  apply Fin.ext; simp [lane]

theorem slice_lo (c : Fin 512) (h : c.val < 1024) : (⟨c.val, h⟩ : Fin 1024) = lo c := rfl

theorem slice_hi (c : Fin 512) (h : 512 + c.val < 1024) : (⟨512 + c.val, h⟩ : Fin 1024) = hi c := rfl

end Cert.Mid

end
-- ==== Proof.Args.lean ====
/- The arguments of the two programs as real numbers, the forward lines that prepare what the backward pass is given, and
   the elementary expressions of the reference's gradient at real operands. -/
module

public import proofs.«01_k».proof.Proof.Elements

@[expose] public section

noncomputable section

namespace Cert.Mid

open Idealize.ShloMosaic

/-! ## The arguments -/

/-- The programs' arguments: the cotangent of the residual stream after the cross-attention, the residual stream, the
    two mixers' outputs, the keys and values, the three gains, and the three weights. -/
structure Args where
  dx2 : Fin 8192 → Fin 1024 → ℝ
  x : Fin 8192 → Fin 1024 → ℝ
  att : Fin 8192 → Fin 512 → ℝ
  lru : Fin 8192 → Fin 512 → ℝ
  k : Fin 256 → Fin 1024 → ℝ
  v : Fin 256 → Fin 1024 → ℝ
  ga : Fin 512 → ℝ
  gl : Fin 512 → ℝ
  wout : Fin 1024 → Fin 1024 → ℝ
  gc : Fin 1024 → ℝ
  wq : Fin 1024 → Fin 1024 → ℝ
  wo : Fin 1024 → Fin 1024 → ℝ

namespace Args

variable (A : Args) (t : Fin 8192)

/-- The mixers' normalised outputs with their gains, side by side. -/
def merged (c : Fin 1024) : ℝ :=
  if h : c.val < 512 then unit (A.att t) ⟨c.val, h⟩ * A.ga ⟨c.val, h⟩
  else unit (A.lru t) ⟨c.val - 512, by omega⟩ * A.gl ⟨c.val - 512, by omega⟩

/-- The residual stream before the cross-attention. -/
def x1 (c : Fin 1024) : ℝ := A.x t c + ∑ j, A.merged t j * A.wout j c

/-- Its norm with the gain. -/
def hc (c : Fin 1024) : ℝ := unit (A.x1 t) c * A.gc c

/-- The queries. -/
def q (c : Fin 1024) : ℝ := ∑ j, A.hc t j * A.wq j c

/-- What the backward pass is given. -/
def given : Given 8192 :=
  ⟨A.dx2, A.q, A.x1, A.att, A.lru, A.k, A.v, A.wo, A.wq, A.wout, A.gc, A.ga, A.gl⟩

end Args

/-- The arrays' elements are the real arguments. -/
structure ArgsReal (x0 x1 : Shape.Idx ⟨2, ![8192, 1024]⟩ → EReal) (x2 x3 : Shape.Idx ⟨2, ![8192, 512]⟩ → EReal)
    (x4 x5 : Shape.Idx ⟨2, ![256, 1024]⟩ → EReal) (x6 x7 : Shape.Idx ⟨2, ![1, 512]⟩ → EReal)
    (x8 : Shape.Idx ⟨2, ![1024, 1024]⟩ → EReal) (x9 : Shape.Idx ⟨2, ![1, 1024]⟩ → EReal)
    (x10 x11 : Shape.Idx ⟨2, ![1024, 1024]⟩ → EReal) (A : Args) : Prop where
  h0 : IsReal x0 A.dx2
  h1 : IsReal x1 A.x
  h2 : IsReal x2 A.att
  h3 : IsReal x3 A.lru
  h4 : IsReal x4 A.k
  h5 : IsReal x5 A.v
  h6 : IsReal x6 fun _ => A.ga
  h7 : IsReal x7 fun _ => A.gl
  h8 : IsReal x8 A.wout
  h9 : IsReal x9 fun _ => A.gc
  h10 : IsReal x10 A.wq
  h11 : IsReal x11 A.wo

/-! ## The reference's expressions -/

/-- The elements of a rank-3 array are real. -/
abbrev IsReal3 {a b c : ℕ} (v : Shape.Idx ⟨3, ![a, b, c]⟩ → EReal) (V : Fin a → Fin b → Fin c → ℝ) : Prop :=
  ∀ i j k, v (ix3 i j k) = ((V i j k : ℝ) : EReal)

/-- A mean of squares, plus the small number. -/
theorem meanSq_elem {n : ℕ} (x : Fin n → ℝ) (hn : ((n : ℕ) : ℝ) ≠ 0) :
    Ideal.div ((∑ k, x k * x k : ℝ) : EReal) (((n : ℕ) : ℝ) : EReal) + (eps : EReal) = ((meanSq x : ℝ) : EReal) := by
  rw [div_coe_coe _ hn, ← EReal.coe_add]
  rfl

/-- The greatest of finitely many reals. -/
def top {n : ℕ} [NeZero n] (s : Fin n → ℝ) : ℝ := (fold_max_coe s).choose

theorem top_spec {n : ℕ} [NeZero n] (s : Fin n → ℝ) :
    Finset.univ.fold max (⊥ : EReal) (fun i => ((s i : ℝ) : EReal)) = ((top s : ℝ) : EReal) := (fold_max_coe s).choose_spec

/-- The exponential of a score, the greatest of the row subtracted. -/
theorem exp_elem {n : ℕ} [NeZero n] (s : Fin n → ℝ) (c : Fin n) :
    Ideal.exp (((s c : ℝ) : EReal) - max ⊥ ((top s : ℝ) : EReal)) = ((Real.exp (s c - top s) : ℝ) : EReal) := by
  rw [max_eq_right bot_le, ← EReal.coe_sub, Ideal.exp_coe]

/-- The derivative of the norm as differentiation by parts gives it: through the normalised entries, and twice through
    the mean of squares. -/
theorem rms_parts {n : ℕ} (x d : Fin n → ℝ) (c : Fin n) :
    d c * rinv x + x c * ((∑ k, x k * d k) * (-1 / 2 * (rinv x / meanSq x)) / n) +
      (∑ k, x k * d k) * (-1 / 2 * (rinv x / meanSq x)) / n * x c = rmsBwd x d c := by
  have h3 : rinv x / meanSq x = rinv x * (rinv x * rinv x) := by rw [rinv_sq, mul_one_div]
  have hs : ∑ k, d k * unit x k = (∑ k, x k * d k) * rinv x := by
    rw [Finset.sum_mul]; exact Finset.sum_congr rfl fun k _ => by unfold unit; ring
  unfold rmsBwd
  rw [h3, hs, unit]
  ring

/-- The derivative of the norm, at real operands. -/
theorem rms_elem {n : ℕ} (x d : Fin n → ℝ) (c : Fin n) (hn : ((n : ℕ) : ℝ) ≠ 0) :
    ((d c : ℝ) : EReal) * ((rinv x : ℝ) : EReal) +
        ((x c : ℝ) : EReal) * Ideal.div ((∑ k, ((x k : ℝ) : EReal) * ((d k : ℝ) : EReal)) * (((-1 / 2 : ℝ) : EReal) *
          Ideal.div ((rinv x : ℝ) : EReal) ((meanSq x : ℝ) : EReal))) (((n : ℕ) : ℝ) : EReal) +
        Ideal.div ((∑ k, ((x k : ℝ) : EReal) * ((d k : ℝ) : EReal)) * (((-1 / 2 : ℝ) : EReal) *
          Ideal.div ((rinv x : ℝ) : EReal) ((meanSq x : ℝ) : EReal))) (((n : ℕ) : ℝ) : EReal) * ((x c : ℝ) : EReal) =
      ((rmsBwd x d c : ℝ) : EReal) := by
  simp only [sum_coe, div_coe_coe _ (meanSq_pos x).ne', ← EReal.coe_mul, div_coe_coe _ hn, ← EReal.coe_add]
  rw [rms_parts]

/-- Lane `k` of head `h`, the factors in the other order. -/
theorem lane_eq (h : Fin 4) (k : Fin 256) : (⟨h.val * 256 + k.val, by omega⟩ : Fin 1024) = lane h k :=
  Fin.ext (by simp only [lane]; omega)

namespace Given

variable {n : ℕ} (G : Given n)

/-- The scores of a row, one head. -/
def sc (h : Fin 4) (t : Fin n) : Fin 256 → ℝ := score (fun k => G.q t (lane h k)) fun m k => G.k m (lane h k)

/-- Their exponentials, the greatest subtracted. -/
def ex (h : Fin 4) (t : Fin n) (m : Fin 256) : ℝ := Real.exp (G.sc h t m - top (G.sc h t))

theorem sum_ex_pos (h : Fin 4) (t : Fin n) : 0 < ∑ m, G.ex h t m := sum_exp_pos fun m => G.sc h t m - top (G.sc h t)

theorem p_eq (t : Fin n) (h : Fin 4) (m : Fin 256) : G.p t h m = G.ex h t m / ∑ k, G.ex h t k :=
  (softmax_shift (G.sc h t) (top (G.sc h t)) m).symm

/-- A probability as the reference computes it. -/
theorem p_elem (h : Fin 4) (t : Fin n) (m : Fin 256) :
    Ideal.div ((G.ex h t m : ℝ) : EReal) ((∑ k, G.ex h t k : ℝ) : EReal) = ((G.p t h m : ℝ) : EReal) := by
  rw [div_coe_coe _ (G.sum_ex_pos h t).ne', p_eq]

/-- The cotangent of a scaled score as differentiation by parts of the quotient gives it. -/
theorem ds_elem (h : Fin 4) (t : Fin n) (m : Fin 256) :
    (Ideal.div ((G.dp t h m : ℝ) : EReal) ((∑ k, G.ex h t k : ℝ) : EReal) +
        ∑ _x : Fin 1, -∑ x, ((G.dp t h x : ℝ) : EReal) *
          Ideal.div 1 (((∑ k, G.ex h t k : ℝ) : EReal) * ((∑ k, G.ex h t k : ℝ) : EReal)) * ((G.ex h t x : ℝ) : EReal)) *
      ((G.ex h t m : ℝ) : EReal) * ((1 / 16 : ℝ) : EReal) = ((G.ds t h m : ℝ) : EReal) := by
  have hl := (G.sum_ex_pos h t).ne'
  rw [Fin.sum_univ_one, div_coe_coe _ hl, ← EReal.coe_mul, div_one_coe (mul_ne_zero hl hl)]
  simp only [← EReal.coe_mul, sum_coe, ← EReal.coe_neg, ← EReal.coe_add]
  congr 1
  unfold ds dscore
  simp only [p_eq]
  set l := ∑ k, G.ex h t k with hL
  have hs : ∑ x, G.dp t h x * (1 / (l * l)) * G.ex h t x = (∑ k, G.dp t h k * (G.ex h t k / l)) / l := by
    rw [Finset.sum_div]; exact Finset.sum_congr rfl fun k _ => by field_simp
  rw [hs]
  field_simp
  ring

end Given

/-- The cotangent of the residual stream, at real operands. -/
theorem dx1_elem {n : ℕ} (y x d : Fin n → ℝ) (c : Fin n) (hn : ((n : ℕ) : ℝ) ≠ 0) :
    ((y c : ℝ) : EReal) + ((d c : ℝ) : EReal) * ((rinv x : ℝ) : EReal) +
        ((x c : ℝ) : EReal) * Ideal.div ((∑ k, ((x k : ℝ) : EReal) * ((d k : ℝ) : EReal)) * (((-1 / 2 : ℝ) : EReal) *
          Ideal.div ((rinv x : ℝ) : EReal) ((meanSq x : ℝ) : EReal))) (((n : ℕ) : ℝ) : EReal) +
        Ideal.div ((∑ k, ((x k : ℝ) : EReal) * ((d k : ℝ) : EReal)) * (((-1 / 2 : ℝ) : EReal) *
          Ideal.div ((rinv x : ℝ) : EReal) ((meanSq x : ℝ) : EReal))) (((n : ℕ) : ℝ) : EReal) * ((x c : ℝ) : EReal) =
      ((y c + rmsBwd x d c : ℝ) : EReal) := by
  simp only [← EReal.coe_mul, sum_coe, div_coe_coe _ (meanSq_pos x).ne', div_coe_coe _ hn, ← EReal.coe_add]
  rw [← rms_parts]
  congr 1
  ring

end Cert.Mid

end
-- ==== Proof.RefForward.lean ====
/- What the reference computes up to the queries, stage by stage: every array is real, and its entries are the row
   mathematics of `Args`. -/
module

public import proofs.«01_k».proof.Proof.Gen.ReferenceIdeal.Read
public import proofs.«01_k».proof.Proof.Args

@[expose] public section

set_option maxRecDepth 16384

noncomputable section

namespace Cert.Mid

open Cert.ReferenceIdeal Cert.ReferenceIdeal.Read Idealize.ShloMosaic

variable {x0 x1 : FVec Ideal S8192x1024 .f32} {x2 x3 : FVec Ideal S8192x512 .f32} {x4 x5 : FVec Ideal S256x1024 .f32}
variable {x6 x7 : FVec Ideal S1x512 .f32} {x8 x10 x11 : FVec Ideal S1024x1024 .f32} {x9 : FVec Ideal S1x1024 .f32}
variable {A : Args} (H : ArgsReal x0 x1 x2 x3 x4 x5 x6 x7 x8 x9 x10 x11 A)

include H

/-! ## Up to the queries -/

/-- The mean square of the attention's output. -/
theorem v7_real : IsReal (val_main_v7 (F := Ideal) x2) fun t _ => meanSq (A.att t) := by
  intro r c
  pointwise [val_main_v7, val_main_v6, val_main_cst_2, val_main_v5, val_main_v4, val_main_cst_1, val_main_v3, val_main_v2, val_main_cst_0, val_main_v1]
  simp only [H.h2, lit_512, lit_eps, ← EReal.coe_mul, sum_coe]
  exact meanSq_elem _ (by norm_num)

/-- Its reciprocal root. -/
theorem v8_real : IsReal (val_main_v8 (F := Ideal) x2) fun t _ => rinv (A.att t) := by
  intro r c
  pointwise [val_main_v8]
  simp only [v7_real H]
  exact rsqrt_coe_pos (meanSq_pos _)

/-- The normalised entries of the attention's output. -/
theorem v13_real : IsReal (val_main_v13 (F := Ideal) x2) fun t => unit (A.att t) := by
  intro r c
  pointwise [val_main_v13, val_main_v12]
  simp only [v8_real H, H.h2, ← EReal.coe_mul]
  rfl

/-- The mean square of the recurrence's output. -/
theorem v22_real : IsReal (val_main_v22 (F := Ideal) x3) fun t _ => meanSq (A.lru t) := by
  intro r c
  pointwise [val_main_v22, val_main_v21, val_main_cst_6, val_main_v20, val_main_v19, val_main_cst_5, val_main_v18, val_main_v17, val_main_cst_4, val_main_v16]
  simp only [H.h3, lit_512, lit_eps, ← EReal.coe_mul, sum_coe]
  exact meanSq_elem _ (by norm_num)

/-- Its reciprocal root. -/
theorem v23_real : IsReal (val_main_v23 (F := Ideal) x3) fun t _ => rinv (A.lru t) := by
  intro r c
  pointwise [val_main_v23]
  simp only [v22_real H]
  exact rsqrt_coe_pos (meanSq_pos _)

/-- The normalised entries of the recurrence's output. -/
theorem v28_real : IsReal (val_main_v28 (F := Ideal) x3) fun t => unit (A.lru t) := by
  intro r c
  pointwise [val_main_v28, val_main_v27]
  simp only [v23_real H, H.h3, ← EReal.coe_mul]
  rfl

/-- The two normalised outputs with their gains, side by side. -/
theorem v31_real : IsReal (val_main_v31 (F := Ideal) x2 x3 x6 x7) A.merged := by
  intro r c
  pointwise [val_main_v31, val_main_v30, val_main_v29, val_main_v15, val_main_v14]
  simp only [v13_real H, v28_real H, H.h6, H.h7, ← EReal.coe_mul, Args.merged]
  split <;> rfl

/-- The residual stream before the cross-attention. -/
theorem v33_real : IsReal (val_main_v33 (F := Ideal) x1 x2 x3 x6 x7 x8) A.x1 := by
  intro r c
  pointwise [val_main_v33, val_main_v32]
  simp only [v31_real H, H.h1, H.h8, ← EReal.coe_mul, sum_coe, ← EReal.coe_add]
  rfl

/-- The mean square of the residual stream. -/
theorem v40_real : IsReal (val_main_v40 (F := Ideal) x1 x2 x3 x6 x7 x8) fun t _ => meanSq (A.x1 t) := by
  intro r c
  pointwise [val_main_v40, val_main_v39, val_main_cst_10, val_main_v38, val_main_v37, val_main_cst_9, val_main_v36, val_main_v35, val_main_cst_8, val_main_v34]
  simp only [v33_real H, lit_1024, lit_eps, ← EReal.coe_mul, sum_coe]
  exact meanSq_elem _ (by norm_num)

/-- Its reciprocal root. -/
theorem v41_real : IsReal (val_main_v41 (F := Ideal) x1 x2 x3 x6 x7 x8) fun t _ => rinv (A.x1 t) := by
  intro r c
  pointwise [val_main_v41]
  simp only [v40_real H]
  exact rsqrt_coe_pos (meanSq_pos _)

/-- The normalised entries of the residual stream. -/
theorem v46_real : IsReal (val_main_v46 (F := Ideal) x1 x2 x3 x6 x7 x8) fun t => unit (A.x1 t) := by
  intro r c
  pointwise [val_main_v46, val_main_v45]
  simp only [v41_real H, v33_real H, ← EReal.coe_mul]
  rfl

/-- The normalised stream with its gain. -/
theorem v48_real : IsReal (val_main_v48 (F := Ideal) x1 x2 x3 x6 x7 x8 x9) A.hc := by
  intro r c
  pointwise [val_main_v48, val_main_v47]
  simp only [v46_real H, H.h9, ← EReal.coe_mul]
  rfl

/-- The queries, before the shift of zero. -/
theorem v49_real : IsReal (val_main_v49 (F := Ideal) x1 x2 x3 x6 x7 x8 x9 x10) A.q := by
  intro r c
  pointwise [val_main_v49]
  simp only [v48_real H, H.h10, ← EReal.coe_mul, sum_coe]
  rfl

/-- The queries. -/
theorem v50_real : IsReal (val_main_v50 (F := Ideal) x1 x2 x3 x6 x7 x8 x9 x10) A.q := by
  intro r c
  pointwise [val_main_v50, val_main_v0, val_main_cst]
  simp only [v49_real H, add_zero]

end Cert.Mid

end
-- ==== Proof.Entry.lean ====
/- What the region's thirteen inputs hold when it is entered, in real numbers: arguments, their narrowed copies, and the
   two arrays the forward lines prepare. -/
module

public import proofs.«01_k».proof.Proof.FrameRun
public import proofs.«01_k».proof.Proof.RefForward
public import Idealize.ShloMosaic.Lib.Pipeline.ValueKit

@[expose] public section

set_option maxRecDepth 16384

noncomputable section

namespace Cert.Mid

open Cert.KernelIdeal Cert.KernelIdeal.Gen Idealize.ShloMosaic Idealize.ShloMosaic.TcCoe Idealize.SL.Sem

variable (m : (ℓ : Loc nD τ sig) → Buf (Elt Ideal) ℓ)

/-- The arguments in the machine's memory are the real ones. -/
abbrev MemReal (c : Dev nD) (A : Args) : Prop :=
  ArgsReal (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11)) A

variable {m} {c : Dev nD} {A : Args} (H : MemReal m c A)

include H

/-- The residual stream before the cross-attention. -/
theorem entry_x1 : IsReal (V m c main_v26) A.x1 := by
  intro i j
  entry_read
  exact v33_real H i j

/-- The queries. -/
theorem entry_q : IsReal (V m c main_v40) A.q := by
  intro i j
  entry_read
  exact v49_real H i j

/-- The keys. -/
theorem entry_k : IsReal (V m c main_v41) A.k := by
  intro i j
  entry_read
  exact H.h4 i j

/-- The values. -/
theorem entry_v : IsReal (V m c main_v42) A.v := by
  intro i j
  entry_read
  exact H.h5 i j

/-- The output projection. -/
theorem entry_wo : IsReal (V m c main_v43) A.wo := by
  intro i j
  entry_read
  exact H.h11 i j

/-- The query projection. -/
theorem entry_wq : IsReal (V m c main_v44) A.wq := by
  intro i j
  entry_read
  exact H.h10 i j

/-- The merge projection. -/
theorem entry_wout : IsReal (V m c main_v45) A.wout := by
  intro i j
  entry_read
  exact H.h8 i j

/-- The cotangent. -/
theorem entry_dx2 : IsReal (V m c main_arg0) A.dx2 := by
  intro i j
  entry_read
  exact H.h0 i j

/-- The attention's output. -/
theorem entry_att : IsReal (V m c main_arg2) A.att := by
  intro i j
  entry_read
  exact H.h2 i j

/-- The recurrence's output. -/
theorem entry_lru : IsReal (V m c main_arg3) A.lru := by
  intro i j
  entry_read
  exact H.h3 i j

/-- The cross-attention's gain. -/
theorem entry_gc : IsReal (V m c main_arg9) fun _ => A.gc := by
  intro i j
  entry_read
  exact H.h9 i j

/-- The attention's gain. -/
theorem entry_ga : IsReal (V m c main_arg6) fun _ => A.ga := by
  intro i j
  entry_read
  exact H.h6 i j

/-- The recurrence's gain. -/
theorem entry_gl : IsReal (V m c main_arg7) fun _ => A.gl := by
  intro i j
  entry_read
  exact H.h7 i j

end Cert.Mid

end
-- ==== Proof.Blocks.lean ====
/- The blocks of a grid point, in real numbers: the point's 512 rows of the arrays read by rows, and the whole of the
   others; a head's part of a block. -/
module

public import proofs.«01_k».proof.Proof.Entry
public import Idealize.ShloMosaic.Lib.Pipeline.ReadBack

@[expose] public section

set_option maxRecDepth 16384

noncomputable section

namespace Cert.Mid

open Cert.KernelIdeal Cert.KernelIdeal.Gen Idealize.ShloMosaic Idealize.ShloMosaic.TcCoe Idealize.SL.Sem

/-- Row `r` of block `n`. -/
def row (n : ℕ) (r : Fin 512) : Fin 8192 := ⟨(512 * n + r.val) % 8192, Nat.mod_lt _ (by decide)⟩

/-- What the backward pass is given for the rows of block `n`. -/
def Given.rows (G : Given 8192) (n : ℕ) : Given 512 :=
  ⟨fun r => G.dx2 (row n r), fun r => G.q (row n r), fun r => G.x1 (row n r), fun r => G.att (row n r),
    fun r => G.lru (row n r), G.k, G.v, G.wo, G.wq, G.wout, G.gc, G.ga, G.gl⟩

/-- The index maps of the windows read and written by rows. -/
theorem idx_rows : ∀ t : Fin cfg0.N, (win0_0.index t 0 = t.val ∧ win0_0.index t 1 = 0) ∧
    (win0_1.index t 0 = t.val ∧ win0_1.index t 1 = 0) ∧
    (win0_2.index t 0 = t.val ∧ win0_2.index t 1 = 0) ∧
    (win0_3.index t 0 = t.val ∧ win0_3.index t 1 = 0) ∧
    (win0_4.index t 0 = t.val ∧ win0_4.index t 1 = 0) ∧
    (win0_13.index t 0 = t.val ∧ win0_13.index t 1 = 0) ∧
    (win0_14.index t 0 = t.val ∧ win0_14.index t 1 = 0) ∧
    (win0_15.index t 0 = t.val ∧ win0_15.index t 1 = 0) ∧
    (win0_16.index t 0 = t.val ∧ win0_16.index t 1 = 0) :=
  (by decide +kernel : ∀ t : Fin grid0.N, _)

/-- The index maps of the windows read whole. -/
theorem idx_whole : ∀ t : Fin cfg0.N, (win0_5.index t 0 = 0 ∧ win0_5.index t 1 = 0) ∧
    (win0_6.index t 0 = 0 ∧ win0_6.index t 1 = 0) ∧
    (win0_7.index t 0 = 0 ∧ win0_7.index t 1 = 0) ∧
    (win0_8.index t 0 = 0 ∧ win0_8.index t 1 = 0) ∧
    (win0_9.index t 0 = 0 ∧ win0_9.index t 1 = 0) ∧
    (win0_10.index t 0 = 0 ∧ win0_10.index t 1 = 0) ∧
    (win0_11.index t 0 = 0 ∧ win0_11.index t 1 = 0) ∧
    (win0_12.index t 0 = 0 ∧ win0_12.index t 1 = 0) :=
  (by decide +kernel : ∀ t : Fin grid0.N, _)

variable {m : (ℓ : Loc nD τ sig) → Buf (Elt Ideal) ℓ} {c : Dev nD} {A : Args} (H : MemReal m c A) (t : Fin cfg0.N)

include H

/-! ## The blocks -/

/-- The cotangent. -/
theorem blk_dx2 : IsReal (iblk m c 0 t) (A.given.rows t.val).dx2 := by
  intro r j
  have ht : t.val < 16 := lt_of_lt_of_eq t.isLt N_0
  blk_simp [iblk]
  rw [show (win0_0.blk t).view.emb (ix2 r j) = ix2 (row t.val r) j by blk_ext [row, idx_rows t]]
  exact entry_dx2 H _ _

/-- The queries. -/
theorem blk_q : IsReal (iblk m c 1 t) (A.given.rows t.val).q := by
  intro r j
  have ht : t.val < 16 := lt_of_lt_of_eq t.isLt N_0
  blk_simp [iblk]
  rw [show (win0_1.blk t).view.emb (ix2 r j) = ix2 (row t.val r) j by blk_ext [row, idx_rows t]]
  exact entry_q H _ _

/-- The residual stream. -/
theorem blk_x1 : IsReal (iblk m c 2 t) (A.given.rows t.val).x1 := by
  intro r j
  have ht : t.val < 16 := lt_of_lt_of_eq t.isLt N_0
  blk_simp [iblk]
  rw [show (win0_2.blk t).view.emb (ix2 r j) = ix2 (row t.val r) j by blk_ext [row, idx_rows t]]
  exact entry_x1 H _ _

/-- The attention's output. -/
theorem blk_att : IsReal (iblk m c 3 t) (A.given.rows t.val).att := by
  intro r j
  have ht : t.val < 16 := lt_of_lt_of_eq t.isLt N_0
  blk_simp [iblk]
  rw [show (win0_3.blk t).view.emb (ix2 r j) = ix2 (row t.val r) j by blk_ext [row, idx_rows t]]
  exact entry_att H _ _

/-- The recurrence's output. -/
theorem blk_lru : IsReal (iblk m c 4 t) (A.given.rows t.val).lru := by
  intro r j
  have ht : t.val < 16 := lt_of_lt_of_eq t.isLt N_0
  blk_simp [iblk]
  rw [show (win0_4.blk t).view.emb (ix2 r j) = ix2 (row t.val r) j by blk_ext [row, idx_rows t]]
  exact entry_lru H _ _

/-- The keys. -/
theorem blk_k : IsReal (iblk m c 5 t) (A.given.rows t.val).k := by
  intro r j
  have ht : t.val < 16 := lt_of_lt_of_eq t.isLt N_0
  blk_simp [iblk]
  rw [show (win0_5.blk t).view.emb (ix2 r j) = ix2 r j by blk_ext [idx_whole t]]
  exact entry_k H _ _

/-- The values. -/
theorem blk_v : IsReal (iblk m c 6 t) (A.given.rows t.val).v := by
  intro r j
  have ht : t.val < 16 := lt_of_lt_of_eq t.isLt N_0
  blk_simp [iblk]
  rw [show (win0_6.blk t).view.emb (ix2 r j) = ix2 r j by blk_ext [idx_whole t]]
  exact entry_v H _ _

/-- The output projection. -/
theorem blk_wo : IsReal (iblk m c 7 t) (A.given.rows t.val).wo := by
  intro r j
  have ht : t.val < 16 := lt_of_lt_of_eq t.isLt N_0
  blk_simp [iblk]
  rw [show (win0_7.blk t).view.emb (ix2 r j) = ix2 r j by blk_ext [idx_whole t]]
  exact entry_wo H _ _

/-- The query projection. -/
theorem blk_wq : IsReal (iblk m c 8 t) (A.given.rows t.val).wq := by
  intro r j
  have ht : t.val < 16 := lt_of_lt_of_eq t.isLt N_0
  blk_simp [iblk]
  rw [show (win0_8.blk t).view.emb (ix2 r j) = ix2 r j by blk_ext [idx_whole t]]
  exact entry_wq H _ _

/-- The merge projection. -/
theorem blk_wout : IsReal (iblk m c 9 t) (A.given.rows t.val).wout := by
  intro r j
  have ht : t.val < 16 := lt_of_lt_of_eq t.isLt N_0
  blk_simp [iblk]
  rw [show (win0_9.blk t).view.emb (ix2 r j) = ix2 r j by blk_ext [idx_whole t]]
  exact entry_wout H _ _

/-- The cross-attention's gain. -/
theorem blk_gc : IsReal (iblk m c 10 t) fun _ => (A.given.rows t.val).gc := by
  intro r j
  have ht : t.val < 16 := lt_of_lt_of_eq t.isLt N_0
  blk_simp [iblk]
  rw [show (win0_10.blk t).view.emb (ix2 r j) = ix2 r j by blk_ext [idx_whole t]]
  exact entry_gc H _ _

/-- The attention's gain. -/
theorem blk_ga : IsReal (iblk m c 11 t) fun _ => (A.given.rows t.val).ga := by
  intro r j
  have ht : t.val < 16 := lt_of_lt_of_eq t.isLt N_0
  blk_simp [iblk]
  rw [show (win0_11.blk t).view.emb (ix2 r j) = ix2 r j by blk_ext [idx_whole t]]
  exact entry_ga H _ _

/-- The recurrence's gain. -/
theorem blk_gl : IsReal (iblk m c 12 t) fun _ => (A.given.rows t.val).gl := by
  intro r j
  have ht : t.val < 16 := lt_of_lt_of_eq t.isLt N_0
  blk_simp [iblk]
  rw [show (win0_12.blk t).view.emb (ix2 r j) = ix2 r j by blk_ext [idx_whole t]]
  exact entry_gl H _ _

omit H

/-! ## A head of a block -/

/-- Head 0 of the rows. -/
theorem ld_row_0 {x : Vec Ideal S512x1024 .bf16} {X : Fin 512 → Fin 1024 → ℝ} (hx : IsReal x X) :
    IsReal (View.ld x (Rect.unit ![0, 0] ![512, 256] inb_S512x1024_S512x256_0_0) : Vec Ideal S512x256 .bf16) fun t j => X t (lane 0 j) := by
  intro r j
  rw [← hx]
  exact View.ld_unit_apply_of _ _ _ _ _ _ fun a => by fin_cases a <;> simp [lane]

/-- Head 1 of the rows. -/
theorem ld_row_1 {x : Vec Ideal S512x1024 .bf16} {X : Fin 512 → Fin 1024 → ℝ} (hx : IsReal x X) :
    IsReal (View.ld x (Rect.unit ![0, 256] ![512, 256] inb_S512x1024_S512x256_0_256) : Vec Ideal S512x256 .bf16) fun t j => X t (lane 1 j) := by
  intro r j
  rw [← hx]
  exact View.ld_unit_apply_of _ _ _ _ _ _ fun a => by fin_cases a <;> simp [lane]

/-- Head 2 of the rows. -/
theorem ld_row_2 {x : Vec Ideal S512x1024 .bf16} {X : Fin 512 → Fin 1024 → ℝ} (hx : IsReal x X) :
    IsReal (View.ld x (Rect.unit ![0, 512] ![512, 256] inb_S512x1024_S512x256_0_512) : Vec Ideal S512x256 .bf16) fun t j => X t (lane 2 j) := by
  intro r j
  rw [← hx]
  exact View.ld_unit_apply_of _ _ _ _ _ _ fun a => by fin_cases a <;> simp [lane]

/-- Head 3 of the rows. -/
theorem ld_row_3 {x : Vec Ideal S512x1024 .bf16} {X : Fin 512 → Fin 1024 → ℝ} (hx : IsReal x X) :
    IsReal (View.ld x (Rect.unit ![0, 768] ![512, 256] inb_S512x1024_S512x256_0_768) : Vec Ideal S512x256 .bf16) fun t j => X t (lane 3 j) := by
  intro r j
  rw [← hx]
  exact View.ld_unit_apply_of _ _ _ _ _ _ fun a => by fin_cases a <;> simp [lane]

/-- Head 0 of the keys or values. -/
theorem ld_mem_0 {x : Vec Ideal S256x1024 .bf16} {X : Fin 256 → Fin 1024 → ℝ} (hx : IsReal x X) :
    IsReal (View.ld x (Rect.unit ![0, 0] ![256, 256] inb_S256x1024_S256x256_0_0) : Vec Ideal S256x256 .bf16) fun t j => X t (lane 0 j) := by
  intro r j
  rw [← hx]
  exact View.ld_unit_apply_of _ _ _ _ _ _ fun a => by fin_cases a <;> simp [lane]

/-- Head 1 of the keys or values. -/
theorem ld_mem_1 {x : Vec Ideal S256x1024 .bf16} {X : Fin 256 → Fin 1024 → ℝ} (hx : IsReal x X) :
    IsReal (View.ld x (Rect.unit ![0, 256] ![256, 256] inb_S256x1024_S256x256_0_256) : Vec Ideal S256x256 .bf16) fun t j => X t (lane 1 j) := by
  intro r j
  rw [← hx]
  exact View.ld_unit_apply_of _ _ _ _ _ _ fun a => by fin_cases a <;> simp [lane]

/-- Head 2 of the keys or values. -/
theorem ld_mem_2 {x : Vec Ideal S256x1024 .bf16} {X : Fin 256 → Fin 1024 → ℝ} (hx : IsReal x X) :
    IsReal (View.ld x (Rect.unit ![0, 512] ![256, 256] inb_S256x1024_S256x256_0_512) : Vec Ideal S256x256 .bf16) fun t j => X t (lane 2 j) := by
  intro r j
  rw [← hx]
  exact View.ld_unit_apply_of _ _ _ _ _ _ fun a => by fin_cases a <;> simp [lane]

/-- Head 3 of the keys or values. -/
theorem ld_mem_3 {x : Vec Ideal S256x1024 .bf16} {X : Fin 256 → Fin 1024 → ℝ} (hx : IsReal x X) :
    IsReal (View.ld x (Rect.unit ![0, 768] ![256, 256] inb_S256x1024_S256x256_0_768) : Vec Ideal S256x256 .bf16) fun t j => X t (lane 3 j) := by
  intro r j
  rw [← hx]
  exact View.ld_unit_apply_of _ _ _ _ _ _ fun a => by fin_cases a <;> simp [lane]

/-- Head 0 of the keys' or values' cotangent. -/
theorem ld_acc_0 {x : Vec Ideal S256x1024 .f32} {X : Fin 256 → Fin 1024 → ℝ} (hx : IsReal x X) :
    IsReal (View.ld x (Rect.unit ![0, 0] ![256, 256] inb_S256x1024_S256x256_0_0) : Vec Ideal S256x256 .f32) fun t j => X t (lane 0 j) := by
  intro r j
  rw [← hx]
  exact View.ld_unit_apply_of _ _ _ _ _ _ fun a => by fin_cases a <;> simp [lane]

/-- Head 1 of the keys' or values' cotangent. -/
theorem ld_acc_1 {x : Vec Ideal S256x1024 .f32} {X : Fin 256 → Fin 1024 → ℝ} (hx : IsReal x X) :
    IsReal (View.ld x (Rect.unit ![0, 256] ![256, 256] inb_S256x1024_S256x256_0_256) : Vec Ideal S256x256 .f32) fun t j => X t (lane 1 j) := by
  intro r j
  rw [← hx]
  exact View.ld_unit_apply_of _ _ _ _ _ _ fun a => by fin_cases a <;> simp [lane]

/-- Head 2 of the keys' or values' cotangent. -/
theorem ld_acc_2 {x : Vec Ideal S256x1024 .f32} {X : Fin 256 → Fin 1024 → ℝ} (hx : IsReal x X) :
    IsReal (View.ld x (Rect.unit ![0, 512] ![256, 256] inb_S256x1024_S256x256_0_512) : Vec Ideal S256x256 .f32) fun t j => X t (lane 2 j) := by
  intro r j
  rw [← hx]
  exact View.ld_unit_apply_of _ _ _ _ _ _ fun a => by fin_cases a <;> simp [lane]

/-- Head 3 of the keys' or values' cotangent. -/
theorem ld_acc_3 {x : Vec Ideal S256x1024 .f32} {X : Fin 256 → Fin 1024 → ℝ} (hx : IsReal x X) :
    IsReal (View.ld x (Rect.unit ![0, 768] ![256, 256] inb_S256x1024_S256x256_0_768) : Vec Ideal S256x256 .f32) fun t j => X t (lane 3 j) := by
  intro r j
  rw [← hx]
  exact View.ld_unit_apply_of _ _ _ _ _ _ fun a => by fin_cases a <;> simp [lane]

/-! ## Four heads put together -/

/-- Four heads' rows stored side by side, over whatever was there. -/
theorem canon_rows {p0 p1 p2 p3 : Vec Ideal S512x256 .bf16} {X : Fin 512 → Fin 1024 → ℝ} (L : List (View.Piece (Elt Ideal) S512x1024 .bf16))
    (h0 : IsReal p0 fun t j => X t (lane 0 j)) (h1 : IsReal p1 fun t j => X t (lane 1 j))
    (h2 : IsReal p2 fun t j => X t (lane 2 j)) (h3 : IsReal p3 fun t j => X t (lane 3 j)) :
    IsReal (View.canon (⟨Rect.unit ![0, 768] ![512, 256] inb_S512x1024_S512x256_0_768, p3⟩ ::
      ⟨Rect.unit ![0, 512] ![512, 256] inb_S512x1024_S512x256_0_512, p2⟩ ::
      ⟨Rect.unit ![0, 256] ![512, 256] inb_S512x1024_S512x256_0_256, p1⟩ ::
      ⟨Rect.unit ![0, 0] ![512, 256] inb_S512x1024_S512x256_0_0, p0⟩ :: L) : Vec Ideal S512x1024 .bf16) X := by
  intro r j
  refine View.canon_append_of_piecesOf (fun y : S512x1024.Idx => ((X (y 0) (y 1) : ℝ) : EReal)) L
    [⟨Rect.unit ![0, 768] ![512, 256] inb_S512x1024_S512x256_0_768, p3⟩,
      ⟨Rect.unit ![0, 512] ![512, 256] inb_S512x1024_S512x256_0_512, p2⟩,
      ⟨Rect.unit ![0, 256] ![512, 256] inb_S512x1024_S512x256_0_256, p1⟩,
      ⟨Rect.unit ![0, 0] ![512, 256] inb_S512x1024_S512x256_0_0, p0⟩]
    ⟨fun x => ?_, fun x => ?_, fun x => ?_, fun x => ?_, trivial⟩ (ix2 r j) (View.cover_of_tiledL _ ![512, 256] rfl _)
  · obtain ⟨r, j, rfl⟩ : ∃ r j, x = ix2 r j := ⟨x 0, x 1, by funext a; fin_cases a <;> rfl⟩
    exact (h3 r j).trans (congrArg₂ (fun a b => ((X a b : ℝ) : EReal))
      (Fin.ext (by show r.val = 0 + 1 * r.val; omega)) (Fin.ext (by show 256 * 3 + j.val = 768 + 1 * j.val; omega)))
  · obtain ⟨r, j, rfl⟩ : ∃ r j, x = ix2 r j := ⟨x 0, x 1, by funext a; fin_cases a <;> rfl⟩
    exact (h2 r j).trans (congrArg₂ (fun a b => ((X a b : ℝ) : EReal))
      (Fin.ext (by show r.val = 0 + 1 * r.val; omega)) (Fin.ext (by show 256 * 2 + j.val = 512 + 1 * j.val; omega)))
  · obtain ⟨r, j, rfl⟩ : ∃ r j, x = ix2 r j := ⟨x 0, x 1, by funext a; fin_cases a <;> rfl⟩
    exact (h1 r j).trans (congrArg₂ (fun a b => ((X a b : ℝ) : EReal))
      (Fin.ext (by show r.val = 0 + 1 * r.val; omega)) (Fin.ext (by show 256 * 1 + j.val = 256 + 1 * j.val; omega)))
  · obtain ⟨r, j, rfl⟩ : ∃ r j, x = ix2 r j := ⟨x 0, x 1, by funext a; fin_cases a <;> rfl⟩
    exact (h0 r j).trans (congrArg₂ (fun a b => ((X a b : ℝ) : EReal))
      (Fin.ext (by show r.val = 0 + 1 * r.val; omega)) (Fin.ext (by show 256 * 0 + j.val = 0 + 1 * j.val; omega)))

/-- Four heads' keys or values stored side by side, over whatever was there. -/
theorem canon_mem {p0 p1 p2 p3 : Vec Ideal S256x256 .f32} {X : Fin 256 → Fin 1024 → ℝ} (L : List (View.Piece (Elt Ideal) S256x1024 .f32))
    (h0 : IsReal p0 fun t j => X t (lane 0 j)) (h1 : IsReal p1 fun t j => X t (lane 1 j))
    (h2 : IsReal p2 fun t j => X t (lane 2 j)) (h3 : IsReal p3 fun t j => X t (lane 3 j)) :
    IsReal (View.canon (⟨Rect.unit ![0, 768] ![256, 256] inb_S256x1024_S256x256_0_768, p3⟩ ::
      ⟨Rect.unit ![0, 512] ![256, 256] inb_S256x1024_S256x256_0_512, p2⟩ ::
      ⟨Rect.unit ![0, 256] ![256, 256] inb_S256x1024_S256x256_0_256, p1⟩ ::
      ⟨Rect.unit ![0, 0] ![256, 256] inb_S256x1024_S256x256_0_0, p0⟩ :: L) : Vec Ideal S256x1024 .f32) X := by
  intro r j
  refine View.canon_append_of_piecesOf (fun y : S256x1024.Idx => ((X (y 0) (y 1) : ℝ) : EReal)) L
    [⟨Rect.unit ![0, 768] ![256, 256] inb_S256x1024_S256x256_0_768, p3⟩,
      ⟨Rect.unit ![0, 512] ![256, 256] inb_S256x1024_S256x256_0_512, p2⟩,
      ⟨Rect.unit ![0, 256] ![256, 256] inb_S256x1024_S256x256_0_256, p1⟩,
      ⟨Rect.unit ![0, 0] ![256, 256] inb_S256x1024_S256x256_0_0, p0⟩]
    ⟨fun x => ?_, fun x => ?_, fun x => ?_, fun x => ?_, trivial⟩ (ix2 r j) (View.cover_of_tiledL _ ![256, 256] rfl _)
  · obtain ⟨r, j, rfl⟩ : ∃ r j, x = ix2 r j := ⟨x 0, x 1, by funext a; fin_cases a <;> rfl⟩
    exact (h3 r j).trans (congrArg₂ (fun a b => ((X a b : ℝ) : EReal))
      (Fin.ext (by show r.val = 0 + 1 * r.val; omega)) (Fin.ext (by show 256 * 3 + j.val = 768 + 1 * j.val; omega)))
  · obtain ⟨r, j, rfl⟩ : ∃ r j, x = ix2 r j := ⟨x 0, x 1, by funext a; fin_cases a <;> rfl⟩
    exact (h2 r j).trans (congrArg₂ (fun a b => ((X a b : ℝ) : EReal))
      (Fin.ext (by show r.val = 0 + 1 * r.val; omega)) (Fin.ext (by show 256 * 2 + j.val = 512 + 1 * j.val; omega)))
  · obtain ⟨r, j, rfl⟩ : ∃ r j, x = ix2 r j := ⟨x 0, x 1, by funext a; fin_cases a <;> rfl⟩
    exact (h1 r j).trans (congrArg₂ (fun a b => ((X a b : ℝ) : EReal))
      (Fin.ext (by show r.val = 0 + 1 * r.val; omega)) (Fin.ext (by show 256 * 1 + j.val = 256 + 1 * j.val; omega)))
  · obtain ⟨r, j, rfl⟩ : ∃ r j, x = ix2 r j := ⟨x 0, x 1, by funext a; fin_cases a <;> rfl⟩
    exact (h0 r j).trans (congrArg₂ (fun a b => ((X a b : ℝ) : EReal))
      (Fin.ext (by show r.val = 0 + 1 * r.val; omega)) (Fin.ext (by show 256 * 0 + j.val = 0 + 1 * j.val; omega)))

/-- The rows read back whole. -/
theorem whole_real {κ : Kind} {sp : Space} {v : View sig κ sp S512x1024 .bf16} {L : List (View.Piece (Elt Ideal) S512x1024 .bf16)}
    {X : Fin 512 → Fin 1024 → ℝ} (h : IsReal (View.canon L : Vec Ideal S512x1024 .bf16) X) :
    IsReal (by exact v.readCov L (Rect.unit ![0, 0] ![512, 1024] inb_S512x1024_S512x1024_0_0).toLoadRect : Vec Ideal S512x1024 .bf16) X := by
  intro r j
  rw [View.readCov_eq_canon', ← h]
  exact congrArg _ (funext fun a => Fin.ext (by fin_cases a <;> simp))

/-- The number one. -/
theorem lit_one : (FloatOps.ofBits .f32 1065353216#32 : Ideal .f32) = 1 := by
  show Ideal.ofBits .f32 0x3F800000#32 = 1
  pointwise

/-! ## Sums over the blocks -/

/-- The sums over the blocks' rows make the sum over all rows. -/
theorem sum_rows (f : Fin 8192 → ℝ) : ∑ s ∈ Finset.range 16, ∑ r, f (row s r) = ∑ t, f t := by
  rw [← Fin.sum_univ_eq_sum_range fun s => ∑ r, f (row s r), ← (finProdFinEquiv (m := 16) (n := 512)).sum_comp,
    Fintype.sum_prod_type]
  refine Finset.sum_congr rfl fun s _ => Finset.sum_congr rfl fun r _ => congrArg f (Fin.ext ?_)
  show (512 * s.val + r.val) % 8192 = r.val + 512 * s.val
  omega

end Cert.Mid

end
-- ==== Proof.KernelBlock.lean ====
/- What one block of the kernel computes, in real numbers: each value of the body, given that the values it is computed
   from are real, is the row mathematics of `Given` at the block's 512 rows. -/
module

public import proofs.«01_k».proof.Proof.Gen.KernelIdeal.Skeleton
public import proofs.«01_k».proof.Proof.Elements

@[expose] public section

set_option maxRecDepth 16384

noncomputable section

namespace Cert.Mid

open Cert.KernelIdeal Cert.KernelIdeal.Gen Idealize.ShloMosaic Idealize.SL.Sem

variable (G : Given 512)

section Heads

variable {v3 : Vec Ideal S512x1024 .f32} {v5 : Vec Ideal S1024x1024 .bf16} {v7 : FVec Ideal S512x1024 .f32}
variable {q : Vec Ideal S512x256 .bf16} {k v : Vec Ideal S256x256 .bf16} {acc : Vec Ideal S256x256 .f32}
variable {p dp : FVec Ideal S512x256 .f32} {dsv : FVec Ideal S512x256 .bf16} {A : Fin 256 → Fin 256 → ℝ} {one : Ideal .f32}

/-- The cotangent of the attention's output. -/
theorem dox_real (hd : IsReal v3 G.dx2) (ho : IsReal v5 G.wo) : IsReal (k0_pay8 v3 v5) G.dox := by
  intro r c
  pointwise [k0_pay8]
  simp only [hd, ho, ← EReal.coe_mul, sum_coe]
  rfl

/-! ## Head 0 -/

/-- The probabilities. -/
theorem p_0 (hq : IsReal q fun t j => G.q t (lane 0 j)) (hk : IsReal k fun m j => G.k m (lane 0 j)) :
    IsReal (k0_pay10 q k) fun t => G.p t 0 := by
  intro r c
  pointwise [k0_pay10, k0_pay9]
  simp only [hq, hk, lit_neg_inf, lit_sixteenth, ← EReal.coe_mul, sum_coe]
  exact softmax_elem (fun m => (∑ j, G.q r (lane 0 j) * G.k m (lane 0 j)) * (1 / 16)) c

/-- Their cotangent. -/
theorem dp_0 (hd : IsReal v3 G.dx2) (ho : IsReal v5 G.wo) (hv : IsReal v fun m j => G.v m (lane 0 j)) :
    IsReal (k0_pay12 v3 v5 v) fun t => G.dp t 0 := by
  intro r c
  pointwise [k0_pay12, k0_pay11]
  simp only [slice_0, dox_real G hd ho, hv, ← EReal.coe_mul, sum_coe]
  rfl

/-- The cotangent of the scores. -/
theorem ds_0 (hp : IsReal p fun t => G.p t 0) (hdp : IsReal dp fun t => G.dp t 0) :
    IsReal (k0_pay14 p dp) fun t => G.ds t 0 := by
  intro r c
  pointwise [k0_pay14]
  simp only [hp, hdp]
  exact dscore_elem _ _ c

/-- The cotangent of the queries. -/
theorem dq_0 (hp : IsReal p fun t => G.p t 0) (hdp : IsReal dp fun t => G.dp t 0)
    (hk : IsReal k fun m j => G.k m (lane 0 j)) : IsReal (k0_pay15 p dp k) fun t j => G.dq t (lane 0 j) := by
  intro r c
  pointwise [k0_pay15]
  simp only [ds_0 G hp hdp, hk, ← EReal.coe_mul, sum_coe, Given.dq, headOf_lane]

/-- The values' cotangent grows by the block's. -/
theorem dv_0 (hd : IsReal v3 G.dx2) (ho : IsReal v5 G.wo) (hq : IsReal q fun t j => G.q t (lane 0 j))
    (hk : IsReal k fun m j => G.k m (lane 0 j)) (ha : IsReal acc A) :
    IsReal (k0_pay13 v3 v5 q k acc) fun m j => A m j + G.dv m (lane 0 j) := by
  intro r c
  pointwise [k0_pay13, k0_pay11]
  simp only [slice_0, dox_real G hd ho, p_0 G hq hk, ha, ← EReal.coe_mul, sum_coe, ← EReal.coe_add, Given.dv, headOf_lane]

/-- The keys' cotangent grows by the block's. -/
theorem dk_0 (hp : IsReal p fun t => G.p t 0) (hdp : IsReal dp fun t => G.dp t 0)
    (hq : IsReal q fun t j => G.q t (lane 0 j)) (ha : IsReal acc A) :
    IsReal (k0_pay16 (k0_pay9 q) p dp acc) fun m j => A m j + G.dk m (lane 0 j) := by
  intro r c
  pointwise [k0_pay16, k0_pay9]
  simp only [ds_0 G hp hdp, hq, ha, ← EReal.coe_mul, sum_coe, ← EReal.coe_add, Given.dk, headOf_lane]

/-! ## Head 1 -/

/-- The probabilities. -/
theorem p_1 (h1 : one = 1) (hq : IsReal q fun t j => G.q t (lane 1 j)) (hk : IsReal k fun m j => G.k m (lane 1 j)) :
    IsReal (k0_pay20 (k0_pay18 q k) (k0_pay19 q k) one) fun t => G.p t 1 := by
  subst h1
  intro r c
  pointwise [k0_pay20, k0_pay19, k0_pay18, k0_pay17]
  simp only [hq, hk, lit_neg_inf, lit_sixteenth, ← EReal.coe_mul, sum_coe]
  exact softmax_elem (fun m => (∑ j, G.q r (lane 1 j) * G.k m (lane 1 j)) * (1 / 16)) c

/-- The cotangent of the scores. -/
theorem ds_1 (h1 : one = 1) (ho : IsReal v7 G.dox) (hq : IsReal q fun t j => G.q t (lane 1 j))
    (hk : IsReal k fun m j => G.k m (lane 1 j)) (hv : IsReal v fun m j => G.v m (lane 1 j)) :
    IsReal (k0_pay23 v7 (k0_pay18 q k) (k0_pay19 q k) one v) fun t => G.ds t 1 := by
  intro r c
  pointwise [k0_pay23, k0_pay21]
  simp only [slice_1, ho, hv, p_1 G h1 hq hk]
  exact ds_elem G r 1 c

/-- The cotangent of the queries. -/
theorem dq_1 (h1 : one = 1) (ho : IsReal v7 G.dox) (hq : IsReal q fun t j => G.q t (lane 1 j))
    (hk : IsReal k fun m j => G.k m (lane 1 j)) (hv : IsReal v fun m j => G.v m (lane 1 j)) :
    IsReal (k0_pay24 v7 (k0_pay18 q k) (k0_pay19 q k) one v k) fun t j => G.dq t (lane 1 j) := by
  intro r c
  pointwise [k0_pay24]
  simp only [ds_1 G h1 ho hq hk hv, hk, ← EReal.coe_mul, sum_coe, Given.dq, headOf_lane]

/-- The values' cotangent grows by the block's. -/
theorem dv_1 (h1 : one = 1) (ho : IsReal v7 G.dox) (hq : IsReal q fun t j => G.q t (lane 1 j))
    (hk : IsReal k fun m j => G.k m (lane 1 j)) (ha : IsReal acc A) :
    IsReal (k0_pay22 v7 (k0_pay18 q k) (k0_pay19 q k) one acc) fun m j => A m j + G.dv m (lane 1 j) := by
  intro r c
  pointwise [k0_pay22, k0_pay21]
  simp only [slice_1, ho, p_1 G h1 hq hk, ha, ← EReal.coe_mul, sum_coe, ← EReal.coe_add, Given.dv, headOf_lane]

/-- The keys' cotangent grows by the block's. -/
theorem dk_1 (h1 : one = 1) (ho : IsReal v7 G.dox) (hq : IsReal q fun t j => G.q t (lane 1 j))
    (hk : IsReal k fun m j => G.k m (lane 1 j)) (hv : IsReal v fun m j => G.v m (lane 1 j)) (ha : IsReal acc A) :
    IsReal (k0_pay25 v7 (k0_pay17 q) (k0_pay18 q k) (k0_pay19 q k) one v acc) fun m j => A m j + G.dk m (lane 1 j) := by
  intro r c
  pointwise [k0_pay25, k0_pay17]
  simp only [ds_1 G h1 ho hq hk hv, hq, ha, ← EReal.coe_mul, sum_coe, ← EReal.coe_add, Given.dk, headOf_lane]

/-! ## Head 2 -/

/-- The probabilities. -/
theorem p_2 (hq : IsReal q fun t j => G.q t (lane 2 j)) (hk : IsReal k fun m j => G.k m (lane 2 j)) :
    IsReal (k0_pay27 q k) fun t => G.p t 2 := by
  intro r c
  pointwise [k0_pay27, k0_pay26]
  simp only [hq, hk, lit_neg_inf, lit_sixteenth, ← EReal.coe_mul, sum_coe]
  exact softmax_elem (fun m => (∑ j, G.q r (lane 2 j) * G.k m (lane 2 j)) * (1 / 16)) c

/-- The cotangent of the scores. -/
theorem ds_2 (ho : IsReal v7 G.dox) (hq : IsReal q fun t j => G.q t (lane 2 j))
    (hk : IsReal k fun m j => G.k m (lane 2 j)) (hv : IsReal v fun m j => G.v m (lane 2 j)) :
    IsReal (k0_pay30 v7 q k v) fun t => G.ds t 2 := by
  intro r c
  pointwise [k0_pay30, k0_pay28]
  simp only [slice_2, ho, hv, p_2 G hq hk]
  exact ds_elem G r 2 c

/-- The cotangent of the queries. -/
theorem dq_2 (hs : IsReal dsv fun t => G.ds t 2) (hk : IsReal k fun m j => G.k m (lane 2 j)) :
    IsReal (k0_pay32 dsv (k0_pay31 k) (constant S512x256 .f32 0x00000000#32)) fun t j => G.dq t (lane 2 j) := by
  intro r c
  pointwise [k0_pay32, k0_pay31]
  simp only [hs, hk, ← EReal.coe_mul, sum_coe, Given.dq, headOf_lane]

/-- The values' cotangent grows by the block's. -/
theorem dv_2 (ho : IsReal v7 G.dox) (hq : IsReal q fun t j => G.q t (lane 2 j))
    (hk : IsReal k fun m j => G.k m (lane 2 j)) (ha : IsReal acc A) :
    IsReal (k0_pay29 v7 q k acc) fun m j => A m j + G.dv m (lane 2 j) := by
  intro r c
  pointwise [k0_pay29, k0_pay28]
  simp only [slice_2, ho, p_2 G hq hk, ha, ← EReal.coe_mul, sum_coe, ← EReal.coe_add, Given.dv, headOf_lane]

/-- The keys' cotangent grows by the block's. -/
theorem dk_2 (hs : IsReal dsv fun t => G.ds t 2) (hq : IsReal q fun t j => G.q t (lane 2 j)) (ha : IsReal acc A) :
    IsReal (k0_pay33 (k0_pay26 q) dsv acc) fun m j => A m j + G.dk m (lane 2 j) := by
  intro r c
  pointwise [k0_pay33, k0_pay26]
  simp only [hs, hq, ha, ← EReal.coe_mul, sum_coe, ← EReal.coe_add, Given.dk, headOf_lane]

/-! ## Head 3 -/

/-- The probabilities. -/
theorem p_3 (hq : IsReal q fun t j => G.q t (lane 3 j)) (hk : IsReal k fun m j => G.k m (lane 3 j)) :
    IsReal (k0_pay35 q k) fun t => G.p t 3 := by
  intro r c
  pointwise [k0_pay35, k0_pay34]
  simp only [hq, hk, lit_neg_inf, lit_sixteenth, ← EReal.coe_mul, sum_coe]
  exact softmax_elem (fun m => (∑ j, G.q r (lane 3 j) * G.k m (lane 3 j)) * (1 / 16)) c

/-- Their cotangent. -/
theorem dp_3 (ho : IsReal v7 G.dox) (hv : IsReal v fun m j => G.v m (lane 3 j)) :
    IsReal (k0_pay37 v7 v) fun t => G.dp t 3 := by
  intro r c
  pointwise [k0_pay37, k0_pay36]
  simp only [slice_3, ho, hv, ← EReal.coe_mul, sum_coe]
  rfl

/-- The cotangent of the scores. -/
theorem ds_3 (hp : IsReal p fun t => G.p t 3) (hdp : IsReal dp fun t => G.dp t 3) :
    IsReal (k0_pay39 p dp) fun t => G.ds t 3 := by
  intro r c
  pointwise [k0_pay39]
  simp only [hp, hdp]
  exact dscore_elem _ _ c

/-- The cotangent of the queries. -/
theorem dq_3 (hp : IsReal p fun t => G.p t 3) (hdp : IsReal dp fun t => G.dp t 3)
    (hk : IsReal k fun m j => G.k m (lane 3 j)) : IsReal (k0_pay40 p dp k) fun t j => G.dq t (lane 3 j) := by
  intro r c
  pointwise [k0_pay40]
  simp only [ds_3 G hp hdp, hk, ← EReal.coe_mul, sum_coe, Given.dq, headOf_lane]

/-- The values' cotangent grows by the block's. -/
theorem dv_3 (ho : IsReal v7 G.dox) (hq : IsReal q fun t j => G.q t (lane 3 j))
    (hk : IsReal k fun m j => G.k m (lane 3 j)) (ha : IsReal acc A) :
    IsReal (k0_pay38 v7 q k acc) fun m j => A m j + G.dv m (lane 3 j) := by
  intro r c
  pointwise [k0_pay38, k0_pay36]
  simp only [slice_3, ho, p_3 G hq hk, ha, ← EReal.coe_mul, sum_coe, ← EReal.coe_add, Given.dv, headOf_lane]

/-- The keys' cotangent grows by the block's. -/
theorem dk_3 (hp : IsReal p fun t => G.p t 3) (hdp : IsReal dp fun t => G.dp t 3)
    (hq : IsReal q fun t j => G.q t (lane 3 j)) (ha : IsReal acc A) :
    IsReal (k0_pay41 (k0_pay34 q) p dp acc) fun m j => A m j + G.dk m (lane 3 j) := by
  intro r c
  pointwise [k0_pay41, k0_pay34]
  simp only [ds_3 G hp hdp, hq, ha, ← EReal.coe_mul, sum_coe, ← EReal.coe_add, Given.dk, headOf_lane]

end Heads

section Norms

variable {dq : Vec Ideal S512x1024 .bf16} {wq wout : Vec Ideal S1024x1024 .bf16} {x1 dx2 : Vec Ideal S512x1024 .f32}
variable {gc accc : Vec Ideal S1x1024 .f32} {dhc x1' dm : FVec Ideal S512x1024 .f32} {s n : FVec Ideal S512x1 .f32}
variable {x : Vec Ideal S512x512 .f32} {g acc : Vec Ideal S1x512 .f32} {d : FVec Ideal S512x512 .f32} {A : Fin 512 → ℝ}

/-! ## The norm before the cross-attention -/

/-- The cotangent of the normalised stream. -/
theorem dhc_real (hq : IsReal dq G.dq) (hw : IsReal wq G.wq) : IsReal (k0_pay42 dq wq) G.dhc := by
  intro r c
  pointwise [k0_pay42]
  simp only [hq, hw, ← EReal.coe_mul, sum_coe]
  rfl

/-- The reciprocal root of the rows' mean squares. -/
theorem rinv1_real (hx : IsReal x1 G.x1) : IsReal (k0_pay46 (k0_pay44 x1) k0_pay45) fun t _ => rinv (G.x1 t) := by
  intro r c
  pointwise [k0_pay46, k0_pay45, k0_pay44, k0_pay43]
  simp only [hx, lit_1024, lit_eps]
  exact rinv_elem _ (by norm_num)

/-- The normalised rows. -/
theorem unit1_real (hx : IsReal x1 G.x1) : IsReal (k0_pay47 (k0_pay43 x1) (k0_pay44 x1) k0_pay45) fun t => unit (G.x1 t) := by
  intro r c
  pointwise [k0_pay47, k0_pay43]
  simp only [hx, rinv1_real G hx, ← EReal.coe_mul]
  rfl

/-- The cotangent of the residual stream. -/
theorem dx1_real (hd : IsReal dx2 G.dx2) (hh : IsReal dhc G.dhc) (hx : IsReal x1 G.x1) (hg : IsReal gc fun _ => G.gc) :
    IsReal (k0_pay48 dx2 dhc (k0_pay43 x1) gc (k0_pay44 x1) k0_pay45) G.dx1 := by
  intro r c
  pointwise [k0_pay48]
  simp only [hd, hh, hg, unit1_real G hx, rinv1_real G hx, lit_1024, ← EReal.coe_mul, sum_coe,
    div_coe_coe _ (by norm_num : ((1024 : ℕ) : ℝ) ≠ 0), ← EReal.coe_sub, ← EReal.coe_add]
  rfl

/-- The cross-attention's gain's cotangent grows by the block's. -/
theorem dgc_real {A : Fin 1024 → ℝ} (hh : IsReal dhc G.dhc) (hx : IsReal x1 G.x1) (ha : IsReal accc fun _ => A) :
    IsReal (k0_pay49 dhc (k0_pay43 x1) (k0_pay44 x1) k0_pay45 accc) fun _ c => A c + G.dgc c := by
  intro r c
  pointwise [k0_pay49]
  simp only [hh, ha, unit1_real G hx, ← EReal.coe_mul, sum_coe, ← EReal.coe_add]
  rfl

/-- The cotangent of the merged mixers' outputs. -/
theorem dmerged_real (hd : IsReal dx2 G.dx2) (hh : IsReal dhc G.dhc) (hx : IsReal x1 G.x1) (hg : IsReal gc fun _ => G.gc)
    (hw : IsReal wout G.wout) :
    IsReal (k0_pay50 dx2 dhc (k0_pay43 x1) gc (k0_pay44 x1) k0_pay45 wout) G.dmerged := by
  intro r c
  pointwise [k0_pay50]
  simp only [dx1_real G hd hh hx hg, hw, ← EReal.coe_mul, sum_coe]
  rfl

/-! ## The norm after the attention -/

/-- The first half of the merged cotangent. -/
theorem lo_real (hd : IsReal dx2 G.dx2) (hh : IsReal dhc G.dhc) (hx : IsReal x1 G.x1) (hg : IsReal gc fun _ => G.gc)
    (hw : IsReal wout G.wout) :
    IsReal (k0_pay51 dx2 dhc (k0_pay43 x1) gc (k0_pay44 x1) k0_pay45 wout) fun t c => G.dmerged t (lo c) := by
  intro r c
  pointwise [k0_pay51]
  simp only [slice_lo, dmerged_real G hd hh hx hg hw]

/-- The reciprocal root of the rows' mean squares. -/
theorem rinva_real (hx : IsReal x G.att) : IsReal (k0_pay53 (k0_pay52 x)) fun t _ => rinv (G.att t) := by
  intro r c
  pointwise [k0_pay53, k0_pay52]
  simp only [hx, lit_512, lit_eps]
  exact rinv_elem _ (by norm_num)

/-- The normalised rows. -/
theorem unita_real (hx : IsReal x G.att) : IsReal (k0_pay54 x (k0_pay52 x)) fun t => unit (G.att t) := by
  intro r c
  pointwise [k0_pay54]
  simp only [hx, rinva_real G hx, ← EReal.coe_mul]
  rfl

/-- The attention's cotangent. -/
theorem datt_real (hd : IsReal d fun t c => G.dmerged t (lo c)) (hx : IsReal x G.att) (hg : IsReal g fun _ => G.ga) :
    IsReal (k0_pay55 d x g (k0_pay52 x)) G.datt := by
  intro r c
  pointwise [k0_pay55]
  simp only [hd, hg, unita_real G hx, rinva_real G hx, lit_512, ← EReal.coe_mul, sum_coe,
    div_coe_coe _ (by norm_num : ((512 : ℕ) : ℝ) ≠ 0), ← EReal.coe_sub]
  rfl

/-- The attention's gain's cotangent grows by the block's. -/
theorem dga_real (hd : IsReal d fun t c => G.dmerged t (lo c)) (hx : IsReal x G.att) (ha : IsReal acc fun _ => A) :
    IsReal (k0_pay56 d x (k0_pay52 x) acc) fun _ c => A c + G.dga c := by
  intro r c
  pointwise [k0_pay56]
  simp only [hd, ha, unita_real G hx, ← EReal.coe_mul, sum_coe, ← EReal.coe_add]
  rfl

/-! ## The norm after the recurrence -/

/-- The second half of the merged cotangent. -/
theorem hi_real (hm : IsReal dm G.dmerged) : IsReal (k0_pay57 dm) fun t c => G.dmerged t (hi c) := by
  intro r c
  pointwise [k0_pay57]
  simp only [slice_hi, hm]

/-- The reciprocal root of the rows' mean squares. -/
theorem rinvl_real (hx : IsReal x G.lru) : IsReal (k0_pay58 x) fun t _ => rinv (G.lru t) := by
  intro r c
  pointwise [k0_pay58]
  simp only [hx, lit_512, lit_eps]
  exact rinv_elem _ (by norm_num)

/-- The normalised rows. -/
theorem unitl_real (hx : IsReal x G.lru) : IsReal (k0_pay59 x) fun t => unit (G.lru t) := by
  intro r c
  pointwise [k0_pay59]
  simp only [hx, rinvl_real G hx, ← EReal.coe_mul]
  rfl

/-- The recurrence's cotangent. -/
theorem drec_real (hm : IsReal dm G.dmerged) (hx : IsReal x G.lru) (hg : IsReal g fun _ => G.gl) :
    IsReal (k0_pay1 (k0_pay58 x) (k0_pay59 x) (k0_pay60 dm g) (k0_pay61 dm x g)) G.drec := by
  intro r c
  pointwise [k0_pay1, k0_pay61, k0_pay60]
  simp only [hi_real G hm, hg, unitl_real G hx, rinvl_real G hx, lit_512, ← EReal.coe_mul, sum_coe,
    div_coe_coe _ (by norm_num : ((512 : ℕ) : ℝ) ≠ 0), ← EReal.coe_sub]
  rfl

/-- The recurrence's gain's cotangent grows by the block's. -/
theorem dgl_real (hm : IsReal dm G.dmerged) (hx : IsReal x G.lru) (ha : IsReal acc fun _ => A) :
    IsReal (k0_pay2 (k0_pay57 dm) (k0_pay59 x) acc) fun _ c => A c + G.dgl c := by
  intro r c
  pointwise [k0_pay2]
  simp only [hi_real G hm, ha, unitl_real G hx, ← EReal.coe_mul, sum_coe, ← EReal.coe_add]
  rfl

end Norms

end Cert.Mid

end
-- ==== Proof.RowPoints.lean ====
/- What a grid point writes of the row outputs, in real numbers: the row mathematics at the point's rows. -/
module

public import proofs.«01_k».proof.Proof.Blocks
public import proofs.«01_k».proof.Proof.KernelBlock

@[expose] public section

set_option maxRecDepth 16384

noncomputable section

namespace Cert.Mid

open Cert.KernelIdeal Cert.KernelIdeal.Gen Idealize.ShloMosaic Idealize.ShloMosaic.TcCoe Idealize.SL.Sem

variable {m : (ℓ : Loc nD τ sig) → Buf (Elt Ideal) ℓ} {c : Dev nD} {A : Args} (H : MemReal m c A) (t : Fin cfg0.N)

include H

/-- The cotangent of the queries. -/
theorem out_dq : IsReal ((outsAt0 m c t.val t.isLt).1 : Vec Ideal S512x1024 .bf16) (A.given.rows t.val).dq := by
  have d := blk_dx2 H t
  have o := dox_real (A.given.rows t.val) d (blk_wo H t)
  have q0 := ld_row_0 (blk_q H t)
  have q1 := ld_row_1 (blk_q H t)
  have q2 := ld_row_2 (blk_q H t)
  have q3 := ld_row_3 (blk_q H t)
  have k0 := ld_mem_0 (blk_k H t)
  have k1 := ld_mem_1 (blk_k H t)
  have k2 := ld_mem_2 (blk_k H t)
  have k3 := ld_mem_3 (blk_k H t)
  have v0 := ld_mem_0 (blk_v H t)
  have v1 := ld_mem_1 (blk_v H t)
  have v2 := ld_mem_2 (blk_v H t)
  have v3 := ld_mem_3 (blk_v H t)
  have hq := canon_rows (X := (A.given.rows t.val).dq) [] (dq_0 _ (p_0 _ q0 k0) (dp_0 _ d (blk_wo H t) v0) k0)
    (dq_1 _ lit_one o q1 k1 v1) (dq_2 _ (ds_2 _ o q2 k2 v2) k2) (dq_3 _ (p_3 _ q3 k3) (dp_3 _ o v3) k3)
  intro r j
  by_cases h : t.val % 16 = 0
  · rw [outsAt0_A m c t h]
    frame_open
    simp (disch := decide) only [↓ View.readCov_skip, ↓ View.readCov_cons_toLoadRect, ↓ View.readCov_fill]
    frame_out
    exact hq r j
  · rw [outsAt0_B m c t h]
    frame_open
    simp (disch := decide) only [↓ View.readCov_skip, ↓ View.readCov_cons_toLoadRect, ↓ View.readCov_fill]
    frame_out
    exact hq r j

/-- The cotangent of the residual stream. -/
theorem out_dx1 : IsReal ((outsAt0 m c t.val t.isLt).2.1 : Vec Ideal S512x1024 .f32) (A.given.rows t.val).dx1 := by
  have d := blk_dx2 H t
  have o := dox_real (A.given.rows t.val) d (blk_wo H t)
  have q0 := ld_row_0 (blk_q H t)
  have q1 := ld_row_1 (blk_q H t)
  have q2 := ld_row_2 (blk_q H t)
  have q3 := ld_row_3 (blk_q H t)
  have k0 := ld_mem_0 (blk_k H t)
  have k1 := ld_mem_1 (blk_k H t)
  have k2 := ld_mem_2 (blk_k H t)
  have k3 := ld_mem_3 (blk_k H t)
  have v0 := ld_mem_0 (blk_v H t)
  have v1 := ld_mem_1 (blk_v H t)
  have v2 := ld_mem_2 (blk_v H t)
  have v3 := ld_mem_3 (blk_v H t)
  have hq := canon_rows (X := (A.given.rows t.val).dq) [] (dq_0 _ (p_0 _ q0 k0) (dp_0 _ d (blk_wo H t) v0) k0)
    (dq_1 _ lit_one o q1 k1 v1) (dq_2 _ (ds_2 _ o q2 k2 v2) k2) (dq_3 _ (p_3 _ q3 k3) (dp_3 _ o v3) k3)
  have x := blk_x1 H t
  have g := blk_gc H t
  intro r j
  by_cases h : t.val % 16 = 0
  · rw [outsAt0_A m c t h]
    frame_open
    simp (disch := decide) only [↓ View.readCov_skip, ↓ View.readCov_cons_toLoadRect, ↓ View.readCov_fill]
    frame_out
    exact dx1_real _ d (dhc_real _ (whole_real hq) (blk_wq H t)) x g r j
  · rw [outsAt0_B m c t h]
    frame_open
    simp (disch := decide) only [↓ View.readCov_skip, ↓ View.readCov_cons_toLoadRect, ↓ View.readCov_fill]
    frame_out
    exact dx1_real _ d (dhc_real _ (whole_real hq) (blk_wq H t)) x g r j

/-- The cotangent of the attention's output. -/
theorem out_datt : IsReal ((outsAt0 m c t.val t.isLt).2.2.1 : Vec Ideal S512x512 .f32) (A.given.rows t.val).datt := by
  have d := blk_dx2 H t
  have o := dox_real (A.given.rows t.val) d (blk_wo H t)
  have q0 := ld_row_0 (blk_q H t)
  have q1 := ld_row_1 (blk_q H t)
  have q2 := ld_row_2 (blk_q H t)
  have q3 := ld_row_3 (blk_q H t)
  have k0 := ld_mem_0 (blk_k H t)
  have k1 := ld_mem_1 (blk_k H t)
  have k2 := ld_mem_2 (blk_k H t)
  have k3 := ld_mem_3 (blk_k H t)
  have v0 := ld_mem_0 (blk_v H t)
  have v1 := ld_mem_1 (blk_v H t)
  have v2 := ld_mem_2 (blk_v H t)
  have v3 := ld_mem_3 (blk_v H t)
  have hq := canon_rows (X := (A.given.rows t.val).dq) [] (dq_0 _ (p_0 _ q0 k0) (dp_0 _ d (blk_wo H t) v0) k0)
    (dq_1 _ lit_one o q1 k1 v1) (dq_2 _ (ds_2 _ o q2 k2 v2) k2) (dq_3 _ (p_3 _ q3 k3) (dp_3 _ o v3) k3)
  have x := blk_x1 H t
  have g := blk_gc H t
  intro r j
  by_cases h : t.val % 16 = 0
  · rw [outsAt0_A m c t h]
    frame_open
    simp (disch := decide) only [↓ View.readCov_skip, ↓ View.readCov_cons_toLoadRect, ↓ View.readCov_fill]
    frame_out
    exact datt_real _ (lo_real _ d (dhc_real _ (whole_real hq) (blk_wq H t)) x g (blk_wout H t)) (blk_att H t) (blk_ga H t) r j
  · rw [outsAt0_B m c t h]
    frame_open
    simp (disch := decide) only [↓ View.readCov_skip, ↓ View.readCov_cons_toLoadRect, ↓ View.readCov_fill]
    frame_out
    exact datt_real _ (lo_real _ d (dhc_real _ (whole_real hq) (blk_wq H t)) x g (blk_wout H t)) (blk_att H t) (blk_ga H t) r j

/-- The cotangent of the recurrence's output. -/
theorem out_drec : IsReal ((outsAt0 m c t.val t.isLt).2.2.2.1 : Vec Ideal S512x512 .f32) (A.given.rows t.val).drec := by
  have d := blk_dx2 H t
  have o := dox_real (A.given.rows t.val) d (blk_wo H t)
  have q0 := ld_row_0 (blk_q H t)
  have q1 := ld_row_1 (blk_q H t)
  have q2 := ld_row_2 (blk_q H t)
  have q3 := ld_row_3 (blk_q H t)
  have k0 := ld_mem_0 (blk_k H t)
  have k1 := ld_mem_1 (blk_k H t)
  have k2 := ld_mem_2 (blk_k H t)
  have k3 := ld_mem_3 (blk_k H t)
  have v0 := ld_mem_0 (blk_v H t)
  have v1 := ld_mem_1 (blk_v H t)
  have v2 := ld_mem_2 (blk_v H t)
  have v3 := ld_mem_3 (blk_v H t)
  have hq := canon_rows (X := (A.given.rows t.val).dq) [] (dq_0 _ (p_0 _ q0 k0) (dp_0 _ d (blk_wo H t) v0) k0)
    (dq_1 _ lit_one o q1 k1 v1) (dq_2 _ (ds_2 _ o q2 k2 v2) k2) (dq_3 _ (p_3 _ q3 k3) (dp_3 _ o v3) k3)
  have x := blk_x1 H t
  have g := blk_gc H t
  intro r j
  by_cases h : t.val % 16 = 0
  · rw [outsAt0_A m c t h]
    frame_open
    simp (disch := decide) only [↓ View.readCov_skip, ↓ View.readCov_cons_toLoadRect, ↓ View.readCov_fill]
    frame_out
    exact drec_real _ (dmerged_real _ d (dhc_real _ (whole_real hq) (blk_wq H t)) x g (blk_wout H t)) (blk_lru H t) (blk_gl H t) r j
  · rw [outsAt0_B m c t h]
    frame_open
    simp (disch := decide) only [↓ View.readCov_skip, ↓ View.readCov_cons_toLoadRect, ↓ View.readCov_fill]
    frame_out
    exact drec_real _ (dmerged_real _ d (dhc_real _ (whole_real hq) (blk_wq H t)) x g (blk_wout H t)) (blk_lru H t) (blk_gl H t) r j

end Cert.Mid

end
-- ==== Proof.SumPoints.lean ====
/- What a grid point leaves in the accumulated outputs, in real numbers: its block's share, added to what the point before
   left, or to zero at the first point. -/
module

public import proofs.«01_k».proof.Proof.Blocks
public import proofs.«01_k».proof.Proof.KernelBlock

@[expose] public section

set_option maxRecDepth 16384

noncomputable section

namespace Cert.Mid

open Cert.KernelIdeal Cert.KernelIdeal.Gen Idealize.ShloMosaic Idealize.ShloMosaic.TcCoe Idealize.SL.Sem

variable {m : (ℓ : Loc nD τ sig) → Buf (Elt Ideal) ℓ} {c : Dev nD} {A : Args} (H : MemReal m c A) (t : Fin cfg0.N)

theorem zero_dk : IsReal (k0_pay3 (F := Ideal)) fun _ _ => 0 := by
  intro r j
  pointwise [k0_pay3]
  exact EReal.coe_zero.symm

theorem zero_dv : IsReal (k0_pay4 (F := Ideal)) fun _ _ => 0 := by
  intro r j
  pointwise [k0_pay4]
  exact EReal.coe_zero.symm

theorem zero_dgc : IsReal (k0_pay5 (F := Ideal)) fun _ _ => 0 := by
  intro r j
  pointwise [k0_pay5]
  exact EReal.coe_zero.symm

theorem zero_dga : IsReal (k0_pay6 (F := Ideal)) fun _ _ => 0 := by
  intro r j
  pointwise [k0_pay6]
  exact EReal.coe_zero.symm

theorem zero_dgl : IsReal (k0_pay7 (F := Ideal)) fun _ _ => 0 := by
  intro r j
  pointwise [k0_pay7]
  exact EReal.coe_zero.symm

include H

/-- The cotangent of the keys at the first point. -/
theorem first_dk (h : t.val % 16 = 0) : IsReal ((outsAt0 m c t.val t.isLt).2.2.2.2.1 : Vec Ideal S256x1024 .f32) fun i j => (0 : ℝ) + (A.given.rows t.val).dk i j := by
  have d := blk_dx2 H t
  have o := dox_real (A.given.rows t.val) d (blk_wo H t)
  have q0 := ld_row_0 (blk_q H t)
  have q1 := ld_row_1 (blk_q H t)
  have q2 := ld_row_2 (blk_q H t)
  have q3 := ld_row_3 (blk_q H t)
  have k0 := ld_mem_0 (blk_k H t)
  have k1 := ld_mem_1 (blk_k H t)
  have k2 := ld_mem_2 (blk_k H t)
  have k3 := ld_mem_3 (blk_k H t)
  have v0 := ld_mem_0 (blk_v H t)
  have v1 := ld_mem_1 (blk_v H t)
  have v2 := ld_mem_2 (blk_v H t)
  have v3 := ld_mem_3 (blk_v H t)
  intro r j
  rw [outsAt0_A m c t h]
  frame_open
  simp (disch := decide) only [↓ View.readCov_skip, ↓ View.readCov_cons_toLoadRect, ↓ View.readCov_fill]
  frame_out
  exact canon_mem (X := fun i j => (0 : ℝ) + (A.given.rows t.val).dk i j) _ (dk_0 _ (p_0 _ q0 k0) (dp_0 _ d (blk_wo H t) v0) q0 (ld_acc_0 zero_dk))
      (dk_1 _ lit_one o q1 k1 v1 (ld_acc_1 zero_dk)) (dk_2 _ (ds_2 _ o q2 k2 v2) q2 (ld_acc_2 zero_dk))
      (dk_3 _ (p_3 _ q3 k3) (dp_3 _ o v3) q3 (ld_acc_3 zero_dk)) r j

/-- The cotangent of the keys at a later point. -/
theorem next_dk {X : Fin 256 → Fin 1024 → ℝ} (h : ¬t.val % 16 = 0)
    (hX : IsReal ((outsAt0 m c (t.val - 1) (Nat.lt_of_le_of_lt (Nat.sub_le _ _) t.isLt)).2.2.2.2.1 : Vec Ideal S256x1024 .f32) X) :
    IsReal ((outsAt0 m c t.val t.isLt).2.2.2.2.1 : Vec Ideal S256x1024 .f32) fun i j => X i j + (A.given.rows t.val).dk i j := by
  have d := blk_dx2 H t
  have o := dox_real (A.given.rows t.val) d (blk_wo H t)
  have q0 := ld_row_0 (blk_q H t)
  have q1 := ld_row_1 (blk_q H t)
  have q2 := ld_row_2 (blk_q H t)
  have q3 := ld_row_3 (blk_q H t)
  have k0 := ld_mem_0 (blk_k H t)
  have k1 := ld_mem_1 (blk_k H t)
  have k2 := ld_mem_2 (blk_k H t)
  have k3 := ld_mem_3 (blk_k H t)
  have v0 := ld_mem_0 (blk_v H t)
  have v1 := ld_mem_1 (blk_v H t)
  have v2 := ld_mem_2 (blk_v H t)
  have v3 := ld_mem_3 (blk_v H t)
  intro r j
  rw [outsAt0_B m c t h]
  frame_open
  simp (disch := decide) only [↓ View.readCov_skip, ↓ View.readCov_cons_toLoadRect, ↓ View.readCov_fill]
  frame_out
  exact canon_mem (X := fun i j => X i j + (A.given.rows t.val).dk i j) _ (dk_0 _ (p_0 _ q0 k0) (dp_0 _ d (blk_wo H t) v0) q0 (ld_acc_0 hX))
      (dk_1 _ lit_one o q1 k1 v1 (ld_acc_1 hX)) (dk_2 _ (ds_2 _ o q2 k2 v2) q2 (ld_acc_2 hX))
      (dk_3 _ (p_3 _ q3 k3) (dp_3 _ o v3) q3 (ld_acc_3 hX)) r j

/-- The cotangent of the values at the first point. -/
theorem first_dv (h : t.val % 16 = 0) : IsReal ((outsAt0 m c t.val t.isLt).2.2.2.2.2.1 : Vec Ideal S256x1024 .f32) fun i j => (0 : ℝ) + (A.given.rows t.val).dv i j := by
  have d := blk_dx2 H t
  have o := dox_real (A.given.rows t.val) d (blk_wo H t)
  have q0 := ld_row_0 (blk_q H t)
  have q1 := ld_row_1 (blk_q H t)
  have q2 := ld_row_2 (blk_q H t)
  have q3 := ld_row_3 (blk_q H t)
  have k0 := ld_mem_0 (blk_k H t)
  have k1 := ld_mem_1 (blk_k H t)
  have k2 := ld_mem_2 (blk_k H t)
  have k3 := ld_mem_3 (blk_k H t)
  intro r j
  rw [outsAt0_A m c t h]
  frame_open
  simp (disch := decide) only [↓ View.readCov_skip, ↓ View.readCov_cons_toLoadRect, ↓ View.readCov_fill]
  frame_out
  exact canon_mem (X := fun i j => (0 : ℝ) + (A.given.rows t.val).dv i j) _ (dv_0 _ d (blk_wo H t) q0 k0 (ld_acc_0 zero_dv))
      (dv_1 _ lit_one o q1 k1 (ld_acc_1 zero_dv)) (dv_2 _ o q2 k2 (ld_acc_2 zero_dv))
      (dv_3 _ o q3 k3 (ld_acc_3 zero_dv)) r j

/-- The cotangent of the values at a later point. -/
theorem next_dv {X : Fin 256 → Fin 1024 → ℝ} (h : ¬t.val % 16 = 0)
    (hX : IsReal ((outsAt0 m c (t.val - 1) (Nat.lt_of_le_of_lt (Nat.sub_le _ _) t.isLt)).2.2.2.2.2.1 : Vec Ideal S256x1024 .f32) X) :
    IsReal ((outsAt0 m c t.val t.isLt).2.2.2.2.2.1 : Vec Ideal S256x1024 .f32) fun i j => X i j + (A.given.rows t.val).dv i j := by
  have d := blk_dx2 H t
  have o := dox_real (A.given.rows t.val) d (blk_wo H t)
  have q0 := ld_row_0 (blk_q H t)
  have q1 := ld_row_1 (blk_q H t)
  have q2 := ld_row_2 (blk_q H t)
  have q3 := ld_row_3 (blk_q H t)
  have k0 := ld_mem_0 (blk_k H t)
  have k1 := ld_mem_1 (blk_k H t)
  have k2 := ld_mem_2 (blk_k H t)
  have k3 := ld_mem_3 (blk_k H t)
  intro r j
  rw [outsAt0_B m c t h]
  frame_open
  simp (disch := decide) only [↓ View.readCov_skip, ↓ View.readCov_cons_toLoadRect, ↓ View.readCov_fill]
  frame_out
  exact canon_mem (X := fun i j => X i j + (A.given.rows t.val).dv i j) _ (dv_0 _ d (blk_wo H t) q0 k0 (ld_acc_0 hX))
      (dv_1 _ lit_one o q1 k1 (ld_acc_1 hX)) (dv_2 _ o q2 k2 (ld_acc_2 hX))
      (dv_3 _ o q3 k3 (ld_acc_3 hX)) r j

/-- The cross-attention's gain's cotangent at the first point. -/
theorem first_dgc (h : t.val % 16 = 0) : IsReal ((outsAt0 m c t.val t.isLt).2.2.2.2.2.2.1 : Vec Ideal S1x1024 .f32) fun _ j => (0 : ℝ) + (A.given.rows t.val).dgc j := by
  have d := blk_dx2 H t
  have o := dox_real (A.given.rows t.val) d (blk_wo H t)
  have q0 := ld_row_0 (blk_q H t)
  have q1 := ld_row_1 (blk_q H t)
  have q2 := ld_row_2 (blk_q H t)
  have q3 := ld_row_3 (blk_q H t)
  have k0 := ld_mem_0 (blk_k H t)
  have k1 := ld_mem_1 (blk_k H t)
  have k2 := ld_mem_2 (blk_k H t)
  have k3 := ld_mem_3 (blk_k H t)
  have v0 := ld_mem_0 (blk_v H t)
  have v1 := ld_mem_1 (blk_v H t)
  have v2 := ld_mem_2 (blk_v H t)
  have v3 := ld_mem_3 (blk_v H t)
  have hq := canon_rows (X := (A.given.rows t.val).dq) [] (dq_0 _ (p_0 _ q0 k0) (dp_0 _ d (blk_wo H t) v0) k0)
    (dq_1 _ lit_one o q1 k1 v1) (dq_2 _ (ds_2 _ o q2 k2 v2) k2) (dq_3 _ (p_3 _ q3 k3) (dp_3 _ o v3) k3)
  have x := blk_x1 H t
  have g := blk_gc H t
  intro r j
  rw [outsAt0_A m c t h]
  frame_open
  simp (disch := decide) only [↓ View.readCov_skip, ↓ View.readCov_cons_toLoadRect, ↓ View.readCov_fill]
  frame_out
  exact dgc_real (A := fun _ => 0) _ (dhc_real _ (whole_real hq) (blk_wq H t)) x zero_dgc r j

/-- The cross-attention's gain's cotangent at a later point. -/
theorem next_dgc {X : Fin 1024 → ℝ} (h : ¬t.val % 16 = 0)
    (hX : IsReal ((outsAt0 m c (t.val - 1) (Nat.lt_of_le_of_lt (Nat.sub_le _ _) t.isLt)).2.2.2.2.2.2.1 : Vec Ideal S1x1024 .f32) fun _ => X) :
    IsReal ((outsAt0 m c t.val t.isLt).2.2.2.2.2.2.1 : Vec Ideal S1x1024 .f32) fun _ j => X j + (A.given.rows t.val).dgc j := by
  have d := blk_dx2 H t
  have o := dox_real (A.given.rows t.val) d (blk_wo H t)
  have q0 := ld_row_0 (blk_q H t)
  have q1 := ld_row_1 (blk_q H t)
  have q2 := ld_row_2 (blk_q H t)
  have q3 := ld_row_3 (blk_q H t)
  have k0 := ld_mem_0 (blk_k H t)
  have k1 := ld_mem_1 (blk_k H t)
  have k2 := ld_mem_2 (blk_k H t)
  have k3 := ld_mem_3 (blk_k H t)
  have v0 := ld_mem_0 (blk_v H t)
  have v1 := ld_mem_1 (blk_v H t)
  have v2 := ld_mem_2 (blk_v H t)
  have v3 := ld_mem_3 (blk_v H t)
  have hq := canon_rows (X := (A.given.rows t.val).dq) [] (dq_0 _ (p_0 _ q0 k0) (dp_0 _ d (blk_wo H t) v0) k0)
    (dq_1 _ lit_one o q1 k1 v1) (dq_2 _ (ds_2 _ o q2 k2 v2) k2) (dq_3 _ (p_3 _ q3 k3) (dp_3 _ o v3) k3)
  have x := blk_x1 H t
  have g := blk_gc H t
  intro r j
  rw [outsAt0_B m c t h]
  frame_open
  simp (disch := decide) only [↓ View.readCov_skip, ↓ View.readCov_cons_toLoadRect, ↓ View.readCov_fill]
  frame_out
  exact dgc_real _ (dhc_real _ (whole_real hq) (blk_wq H t)) x hX r j

/-- The attention's gain's cotangent at the first point. -/
theorem first_dga (h : t.val % 16 = 0) : IsReal ((outsAt0 m c t.val t.isLt).2.2.2.2.2.2.2.1 : Vec Ideal S1x512 .f32) fun _ j => (0 : ℝ) + (A.given.rows t.val).dga j := by
  have d := blk_dx2 H t
  have o := dox_real (A.given.rows t.val) d (blk_wo H t)
  have q0 := ld_row_0 (blk_q H t)
  have q1 := ld_row_1 (blk_q H t)
  have q2 := ld_row_2 (blk_q H t)
  have q3 := ld_row_3 (blk_q H t)
  have k0 := ld_mem_0 (blk_k H t)
  have k1 := ld_mem_1 (blk_k H t)
  have k2 := ld_mem_2 (blk_k H t)
  have k3 := ld_mem_3 (blk_k H t)
  have v0 := ld_mem_0 (blk_v H t)
  have v1 := ld_mem_1 (blk_v H t)
  have v2 := ld_mem_2 (blk_v H t)
  have v3 := ld_mem_3 (blk_v H t)
  have hq := canon_rows (X := (A.given.rows t.val).dq) [] (dq_0 _ (p_0 _ q0 k0) (dp_0 _ d (blk_wo H t) v0) k0)
    (dq_1 _ lit_one o q1 k1 v1) (dq_2 _ (ds_2 _ o q2 k2 v2) k2) (dq_3 _ (p_3 _ q3 k3) (dp_3 _ o v3) k3)
  have x := blk_x1 H t
  have g := blk_gc H t
  intro r j
  rw [outsAt0_A m c t h]
  frame_open
  simp (disch := decide) only [↓ View.readCov_skip, ↓ View.readCov_cons_toLoadRect, ↓ View.readCov_fill]
  frame_out
  exact dga_real (A := fun _ => 0) _ (lo_real _ d (dhc_real _ (whole_real hq) (blk_wq H t)) x g (blk_wout H t)) (blk_att H t) zero_dga r j

/-- The attention's gain's cotangent at a later point. -/
theorem next_dga {X : Fin 512 → ℝ} (h : ¬t.val % 16 = 0)
    (hX : IsReal ((outsAt0 m c (t.val - 1) (Nat.lt_of_le_of_lt (Nat.sub_le _ _) t.isLt)).2.2.2.2.2.2.2.1 : Vec Ideal S1x512 .f32) fun _ => X) :
    IsReal ((outsAt0 m c t.val t.isLt).2.2.2.2.2.2.2.1 : Vec Ideal S1x512 .f32) fun _ j => X j + (A.given.rows t.val).dga j := by
  have d := blk_dx2 H t
  have o := dox_real (A.given.rows t.val) d (blk_wo H t)
  have q0 := ld_row_0 (blk_q H t)
  have q1 := ld_row_1 (blk_q H t)
  have q2 := ld_row_2 (blk_q H t)
  have q3 := ld_row_3 (blk_q H t)
  have k0 := ld_mem_0 (blk_k H t)
  have k1 := ld_mem_1 (blk_k H t)
  have k2 := ld_mem_2 (blk_k H t)
  have k3 := ld_mem_3 (blk_k H t)
  have v0 := ld_mem_0 (blk_v H t)
  have v1 := ld_mem_1 (blk_v H t)
  have v2 := ld_mem_2 (blk_v H t)
  have v3 := ld_mem_3 (blk_v H t)
  have hq := canon_rows (X := (A.given.rows t.val).dq) [] (dq_0 _ (p_0 _ q0 k0) (dp_0 _ d (blk_wo H t) v0) k0)
    (dq_1 _ lit_one o q1 k1 v1) (dq_2 _ (ds_2 _ o q2 k2 v2) k2) (dq_3 _ (p_3 _ q3 k3) (dp_3 _ o v3) k3)
  have x := blk_x1 H t
  have g := blk_gc H t
  intro r j
  rw [outsAt0_B m c t h]
  frame_open
  simp (disch := decide) only [↓ View.readCov_skip, ↓ View.readCov_cons_toLoadRect, ↓ View.readCov_fill]
  frame_out
  exact dga_real _ (lo_real _ d (dhc_real _ (whole_real hq) (blk_wq H t)) x g (blk_wout H t)) (blk_att H t) hX r j

/-- The recurrence's gain's cotangent at the first point. -/
theorem first_dgl (h : t.val % 16 = 0) : IsReal ((outsAt0 m c t.val t.isLt).2.2.2.2.2.2.2.2 : Vec Ideal S1x512 .f32) fun _ j => (0 : ℝ) + (A.given.rows t.val).dgl j := by
  have d := blk_dx2 H t
  have o := dox_real (A.given.rows t.val) d (blk_wo H t)
  have q0 := ld_row_0 (blk_q H t)
  have q1 := ld_row_1 (blk_q H t)
  have q2 := ld_row_2 (blk_q H t)
  have q3 := ld_row_3 (blk_q H t)
  have k0 := ld_mem_0 (blk_k H t)
  have k1 := ld_mem_1 (blk_k H t)
  have k2 := ld_mem_2 (blk_k H t)
  have k3 := ld_mem_3 (blk_k H t)
  have v0 := ld_mem_0 (blk_v H t)
  have v1 := ld_mem_1 (blk_v H t)
  have v2 := ld_mem_2 (blk_v H t)
  have v3 := ld_mem_3 (blk_v H t)
  have hq := canon_rows (X := (A.given.rows t.val).dq) [] (dq_0 _ (p_0 _ q0 k0) (dp_0 _ d (blk_wo H t) v0) k0)
    (dq_1 _ lit_one o q1 k1 v1) (dq_2 _ (ds_2 _ o q2 k2 v2) k2) (dq_3 _ (p_3 _ q3 k3) (dp_3 _ o v3) k3)
  have x := blk_x1 H t
  have g := blk_gc H t
  intro r j
  rw [outsAt0_A m c t h]
  frame_open
  simp (disch := decide) only [↓ View.readCov_skip, ↓ View.readCov_cons_toLoadRect, ↓ View.readCov_fill]
  frame_out
  exact dgl_real (A := fun _ => 0) _ (dmerged_real _ d (dhc_real _ (whole_real hq) (blk_wq H t)) x g (blk_wout H t)) (blk_lru H t) zero_dgl r j

/-- The recurrence's gain's cotangent at a later point. -/
theorem next_dgl {X : Fin 512 → ℝ} (h : ¬t.val % 16 = 0)
    (hX : IsReal ((outsAt0 m c (t.val - 1) (Nat.lt_of_le_of_lt (Nat.sub_le _ _) t.isLt)).2.2.2.2.2.2.2.2 : Vec Ideal S1x512 .f32) fun _ => X) :
    IsReal ((outsAt0 m c t.val t.isLt).2.2.2.2.2.2.2.2 : Vec Ideal S1x512 .f32) fun _ j => X j + (A.given.rows t.val).dgl j := by
  have d := blk_dx2 H t
  have o := dox_real (A.given.rows t.val) d (blk_wo H t)
  have q0 := ld_row_0 (blk_q H t)
  have q1 := ld_row_1 (blk_q H t)
  have q2 := ld_row_2 (blk_q H t)
  have q3 := ld_row_3 (blk_q H t)
  have k0 := ld_mem_0 (blk_k H t)
  have k1 := ld_mem_1 (blk_k H t)
  have k2 := ld_mem_2 (blk_k H t)
  have k3 := ld_mem_3 (blk_k H t)
  have v0 := ld_mem_0 (blk_v H t)
  have v1 := ld_mem_1 (blk_v H t)
  have v2 := ld_mem_2 (blk_v H t)
  have v3 := ld_mem_3 (blk_v H t)
  have hq := canon_rows (X := (A.given.rows t.val).dq) [] (dq_0 _ (p_0 _ q0 k0) (dp_0 _ d (blk_wo H t) v0) k0)
    (dq_1 _ lit_one o q1 k1 v1) (dq_2 _ (ds_2 _ o q2 k2 v2) k2) (dq_3 _ (p_3 _ q3 k3) (dp_3 _ o v3) k3)
  have x := blk_x1 H t
  have g := blk_gc H t
  intro r j
  rw [outsAt0_B m c t h]
  frame_open
  simp (disch := decide) only [↓ View.readCov_skip, ↓ View.readCov_cons_toLoadRect, ↓ View.readCov_fill]
  frame_out
  exact dgl_real _ (dmerged_real _ d (dhc_real _ (whole_real hq) (blk_wq H t)) x g (blk_wout H t)) (blk_lru H t) hX r j

end Cert.Mid

end
-- ==== Proof.Arrays.lean ====
/- What the kernel's nine results hold after the run, in real numbers: the row outputs block by block, the accumulated
   ones as sums over the sixteen blocks, which are the sums over all rows. -/
module

public import proofs.«01_k».proof.Proof.RowPoints
public import proofs.«01_k».proof.Proof.SumPoints

@[expose] public section

set_option maxRecDepth 16384

noncomputable section

namespace Cert.Mid

open Cert.KernelIdeal Cert.KernelIdeal.Gen Idealize.ShloMosaic Idealize.ShloMosaic.TcCoe Idealize.SL.Sem

variable {m : (ℓ : Loc nD τ sig) → Buf (Elt Ideal) ℓ} {c : Dev nD} {A : Args} (H : MemReal m c A)

include H

/-! ## The row outputs -/

/-- The cotangent of the queries. -/
theorem arr_dq : IsReal ((dats m 0 c).arrAt 13 cfg0.N : Vec Ideal S8192x1024 .bf16) A.given.dq := by
  have e : (dats m 0 c).arrAt 13 cfg0.N = fun y : S8192x1024.Idx => ((A.given.dq (y 0) (y 1) : ℝ) : EReal) := by
    refine (dats m 0 c).arrAt_eq_of_covers 13 _ (by decide +kernel) fun t hf y => ?_
    have ht : t.val < 16 := lt_of_lt_of_eq t.isLt N_0
    obtain ⟨r, j, rfl⟩ : ∃ (r : Fin 512) (j : Fin 1024), y = ix2 r j := ⟨y 0, y 1, by funext a; fin_cases a <;> rfl⟩
    blk_simp
    rw [after0_13, show (win0_13.blk t).view.emb (ix2 r j) = ix2 (row t.val r) j by blk_ext [row, idx_rows t]]
    exact out_dq H t r j
  intro i j
  exact congrFun e (ix2 i j)

/-- The cotangent of the residual stream. -/
theorem arr_dx1 : IsReal ((dats m 0 c).arrAt 14 cfg0.N : Vec Ideal S8192x1024 .f32) A.given.dx1 := by
  have e : (dats m 0 c).arrAt 14 cfg0.N = fun y : S8192x1024.Idx => ((A.given.dx1 (y 0) (y 1) : ℝ) : EReal) := by
    refine (dats m 0 c).arrAt_eq_of_covers 14 _ (by decide +kernel) fun t hf y => ?_
    have ht : t.val < 16 := lt_of_lt_of_eq t.isLt N_0
    obtain ⟨r, j, rfl⟩ : ∃ (r : Fin 512) (j : Fin 1024), y = ix2 r j := ⟨y 0, y 1, by funext a; fin_cases a <;> rfl⟩
    blk_simp
    rw [after0_14, show (win0_14.blk t).view.emb (ix2 r j) = ix2 (row t.val r) j by blk_ext [row, idx_rows t]]
    exact out_dx1 H t r j
  intro i j
  exact congrFun e (ix2 i j)

/-- The cotangent of the attention's output. -/
theorem arr_datt : IsReal ((dats m 0 c).arrAt 15 cfg0.N : Vec Ideal S8192x512 .f32) A.given.datt := by
  have e : (dats m 0 c).arrAt 15 cfg0.N = fun y : S8192x512.Idx => ((A.given.datt (y 0) (y 1) : ℝ) : EReal) := by
    refine (dats m 0 c).arrAt_eq_of_covers 15 _ (by decide +kernel) fun t hf y => ?_
    have ht : t.val < 16 := lt_of_lt_of_eq t.isLt N_0
    obtain ⟨r, j, rfl⟩ : ∃ (r : Fin 512) (j : Fin 512), y = ix2 r j := ⟨y 0, y 1, by funext a; fin_cases a <;> rfl⟩
    blk_simp
    rw [after0_15, show (win0_15.blk t).view.emb (ix2 r j) = ix2 (row t.val r) j by blk_ext [row, idx_rows t]]
    exact out_datt H t r j
  intro i j
  exact congrFun e (ix2 i j)

/-- The cotangent of the recurrence's output. -/
theorem arr_drec : IsReal ((dats m 0 c).arrAt 16 cfg0.N : Vec Ideal S8192x512 .f32) A.given.drec := by
  have e : (dats m 0 c).arrAt 16 cfg0.N = fun y : S8192x512.Idx => ((A.given.drec (y 0) (y 1) : ℝ) : EReal) := by
    refine (dats m 0 c).arrAt_eq_of_covers 16 _ (by decide +kernel) fun t hf y => ?_
    have ht : t.val < 16 := lt_of_lt_of_eq t.isLt N_0
    obtain ⟨r, j, rfl⟩ : ∃ (r : Fin 512) (j : Fin 512), y = ix2 r j := ⟨y 0, y 1, by funext a; fin_cases a <;> rfl⟩
    blk_simp
    rw [after0_16, show (win0_16.blk t).view.emb (ix2 r j) = ix2 (row t.val r) j by blk_ext [row, idx_rows t]]
    exact out_drec H t r j
  intro i j
  exact congrFun e (ix2 i j)

/-! ## The accumulated outputs -/

/-- The cotangent of the keys after the first points. -/
theorem sum_dk : ∀ (n : ℕ) (h : n < cfg0.N), IsReal ((outsAt0 m c n h).2.2.2.2.1 : Vec Ideal S256x1024 .f32)
    fun i j => ∑ s ∈ Finset.range (n + 1), (A.given.rows s).dk i j
  | 0, h => fun i j => (first_dk H ⟨0, h⟩ rfl i j).trans (congrArg _ (by simp))
  | n + 1, h => fun i j => by
    have hn : n + 1 < 16 := lt_of_lt_of_eq h N_0
    exact (next_dk H ⟨n + 1, h⟩ (by dsimp only; omega) (sum_dk n (Nat.lt_of_succ_lt h)) i j).trans
      (by dsimp only; rw [Finset.sum_range_succ _ (n + 1)])

/-- The cotangent of the keys. -/
theorem arr_dk : IsReal ((dats m 0 c).arrAt 17 cfg0.N : Vec Ideal S256x1024 .f32) A.given.dk := by
  have e : (dats m 0 c).arrAt 17 cfg0.N = ((outsAt0 m c t0_15.val t0_15.isLt).2.2.2.2.1 : Vec Ideal S256x1024 .f32) := by
    refine (dats m 0 c).arrAt_eq_of_after_last 17 t0_15 (by decide +kernel) _ fun j => ?_
    blk_simp
    rw [after0_17]
  intro i j
  refine (congrFun e (ix2 i j)).trans ((sum_dk H _ _ i j).trans (congrArg _ ?_))
  exact sum_rows fun t => A.given.ds t (headOf j) i * A.given.q t j

/-- The cotangent of the values after the first points. -/
theorem sum_dv : ∀ (n : ℕ) (h : n < cfg0.N), IsReal ((outsAt0 m c n h).2.2.2.2.2.1 : Vec Ideal S256x1024 .f32)
    fun i j => ∑ s ∈ Finset.range (n + 1), (A.given.rows s).dv i j
  | 0, h => fun i j => (first_dv H ⟨0, h⟩ rfl i j).trans (congrArg _ (by simp))
  | n + 1, h => fun i j => by
    have hn : n + 1 < 16 := lt_of_lt_of_eq h N_0
    exact (next_dv H ⟨n + 1, h⟩ (by dsimp only; omega) (sum_dv n (Nat.lt_of_succ_lt h)) i j).trans
      (by dsimp only; rw [Finset.sum_range_succ _ (n + 1)])

/-- The cotangent of the values. -/
theorem arr_dv : IsReal ((dats m 0 c).arrAt 18 cfg0.N : Vec Ideal S256x1024 .f32) A.given.dv := by
  have e : (dats m 0 c).arrAt 18 cfg0.N = ((outsAt0 m c t0_15.val t0_15.isLt).2.2.2.2.2.1 : Vec Ideal S256x1024 .f32) := by
    refine (dats m 0 c).arrAt_eq_of_after_last 18 t0_15 (by decide +kernel) _ fun j => ?_
    blk_simp
    rw [after0_18]
  intro i j
  refine (congrFun e (ix2 i j)).trans ((sum_dv H _ _ i j).trans (congrArg _ ?_))
  exact sum_rows fun t => A.given.p t (headOf j) i * A.given.dox t j

/-- The cross-attention's gain's cotangent after the first points. -/
theorem sum_dgc : ∀ (n : ℕ) (h : n < cfg0.N), IsReal ((outsAt0 m c n h).2.2.2.2.2.2.1 : Vec Ideal S1x1024 .f32)
    fun _ j => ∑ s ∈ Finset.range (n + 1), (A.given.rows s).dgc j
  | 0, h => fun i j => (first_dgc H ⟨0, h⟩ rfl i j).trans (congrArg _ (by simp))
  | n + 1, h => fun i j => by
    have hn : n + 1 < 16 := lt_of_lt_of_eq h N_0
    exact (next_dgc H ⟨n + 1, h⟩ (by dsimp only; omega) (sum_dgc n (Nat.lt_of_succ_lt h)) i j).trans
      (by dsimp only; rw [Finset.sum_range_succ _ (n + 1)])

/-- The cross-attention's gain's cotangent. -/
theorem arr_dgc : IsReal ((dats m 0 c).arrAt 19 cfg0.N : Vec Ideal S1x1024 .f32) (fun _ => A.given.dgc) := by
  have e : (dats m 0 c).arrAt 19 cfg0.N = ((outsAt0 m c t0_15.val t0_15.isLt).2.2.2.2.2.2.1 : Vec Ideal S1x1024 .f32) := by
    refine (dats m 0 c).arrAt_eq_of_after_last 19 t0_15 (by decide +kernel) _ fun j => ?_
    blk_simp
    rw [after0_19]
  intro i j
  refine (congrFun e (ix2 i j)).trans ((sum_dgc H _ _ i j).trans (congrArg _ ?_))
  exact sum_rows fun t => A.given.dhc t j * unit (A.given.x1 t) j

/-- The attention's gain's cotangent after the first points. -/
theorem sum_dga : ∀ (n : ℕ) (h : n < cfg0.N), IsReal ((outsAt0 m c n h).2.2.2.2.2.2.2.1 : Vec Ideal S1x512 .f32)
    fun _ j => ∑ s ∈ Finset.range (n + 1), (A.given.rows s).dga j
  | 0, h => fun i j => (first_dga H ⟨0, h⟩ rfl i j).trans (congrArg _ (by simp))
  | n + 1, h => fun i j => by
    have hn : n + 1 < 16 := lt_of_lt_of_eq h N_0
    exact (next_dga H ⟨n + 1, h⟩ (by dsimp only; omega) (sum_dga n (Nat.lt_of_succ_lt h)) i j).trans
      (by dsimp only; rw [Finset.sum_range_succ _ (n + 1)])

/-- The attention's gain's cotangent. -/
theorem arr_dga : IsReal ((dats m 0 c).arrAt 20 cfg0.N : Vec Ideal S1x512 .f32) (fun _ => A.given.dga) := by
  have e : (dats m 0 c).arrAt 20 cfg0.N = ((outsAt0 m c t0_15.val t0_15.isLt).2.2.2.2.2.2.2.1 : Vec Ideal S1x512 .f32) := by
    refine (dats m 0 c).arrAt_eq_of_after_last 20 t0_15 (by decide +kernel) _ fun j => ?_
    blk_simp
    rw [after0_20]
  intro i j
  refine (congrFun e (ix2 i j)).trans ((sum_dga H _ _ i j).trans (congrArg _ ?_))
  exact sum_rows fun t => A.given.dmerged t (lo j) * unit (A.given.att t) j

/-- The recurrence's gain's cotangent after the first points. -/
theorem sum_dgl : ∀ (n : ℕ) (h : n < cfg0.N), IsReal ((outsAt0 m c n h).2.2.2.2.2.2.2.2 : Vec Ideal S1x512 .f32)
    fun _ j => ∑ s ∈ Finset.range (n + 1), (A.given.rows s).dgl j
  | 0, h => fun i j => (first_dgl H ⟨0, h⟩ rfl i j).trans (congrArg _ (by simp))
  | n + 1, h => fun i j => by
    have hn : n + 1 < 16 := lt_of_lt_of_eq h N_0
    exact (next_dgl H ⟨n + 1, h⟩ (by dsimp only; omega) (sum_dgl n (Nat.lt_of_succ_lt h)) i j).trans
      (by dsimp only; rw [Finset.sum_range_succ _ (n + 1)])

/-- The recurrence's gain's cotangent. -/
theorem arr_dgl : IsReal ((dats m 0 c).arrAt 21 cfg0.N : Vec Ideal S1x512 .f32) (fun _ => A.given.dgl) := by
  have e : (dats m 0 c).arrAt 21 cfg0.N = ((outsAt0 m c t0_15.val t0_15.isLt).2.2.2.2.2.2.2.2 : Vec Ideal S1x512 .f32) := by
    refine (dats m 0 c).arrAt_eq_of_after_last 21 t0_15 (by decide +kernel) _ fun j => ?_
    blk_simp
    rw [after0_21]
  intro i j
  refine (congrFun e (ix2 i j)).trans ((sum_dgl H _ _ i j).trans (congrArg _ ?_))
  exact sum_rows fun t => A.given.dmerged t (hi j) * unit (A.given.lru t) j

end Cert.Mid

end
-- ==== Proof.RefAttention.lean ====
/- What the reference computes of the cross-attention and of its gradient, stage by stage. -/
module

public import proofs.«01_k».proof.Proof.Gen.ReferenceIdeal.Read
public import proofs.«01_k».proof.Proof.RefForward

@[expose] public section

set_option maxRecDepth 16384

noncomputable section

namespace Cert.Mid

open Cert.ReferenceIdeal Cert.ReferenceIdeal.Read Idealize.ShloMosaic

variable {x0 x1 : FVec Ideal S8192x1024 .f32} {x2 x3 : FVec Ideal S8192x512 .f32} {x4 x5 : FVec Ideal S256x1024 .f32}
variable {x6 x7 : FVec Ideal S1x512 .f32} {x8 x10 x11 : FVec Ideal S1024x1024 .f32} {x9 : FVec Ideal S1x1024 .f32}
variable {A : Args} (H : ArgsReal x0 x1 x2 x3 x4 x5 x6 x7 x8 x9 x10 x11 A)

include H

/-! ## The cross-attention -/

/-- The scores. -/
theorem v56_real : IsReal3 (val_main_v56 (F := Ideal) x1 x2 x3 x4 x6 x7 x8 x9 x10) A.given.sc := by
  intro h r c
  pointwise [val_main_v56, val_main_v55, val_main_cst_12, val_main_v54, val_main_v52, val_main_v51]
  simp only [v50_real H, H.h4, lit_sixteenth, ← EReal.coe_mul, sum_coe, lane_eq]
  rfl

/-- The greatest score of a row. -/
theorem v57_real : IsReal (val_main_v57 (F := Ideal) x1 x2 x3 x4 x6 x7 x8 x9 x10) fun h t => top (A.given.sc h t) := by
  intro r c
  pointwise [val_main_v57, val_main_cst_13]
  simp only [v56_real H, lit_neg_inf]
  exact top_spec _

/-- The greatest score of a row, or −∞. -/
theorem v64_real : IsReal (val_main_v64 (F := Ideal) x1 x2 x3 x4 x6 x7 x8 x9 x10) fun h t => top (A.given.sc h t) := by
  intro r c
  rw [val_main_v64_apply, v57_real H, val_main_v63_apply, val_main_cst_15_apply]
  exact (congrArg (fun z => max z _) lit_neg_inf).trans (max_eq_right bot_le)

/-- The greatest score of the row, at every key. -/
theorem v75_real : IsReal3 (val_main_v75 (F := Ideal) x1 x2 x3 x4 x6 x7 x8 x9 x10) fun h t _ => top (A.given.sc h t) := by
  intro h r c
  pointwise [val_main_v75, val_main_v74]
  simp only [v64_real H]

/-- The exponentials of the scores, the greatest of the row subtracted. -/
theorem v77_real : IsReal3 (val_main_v77 (F := Ideal) x1 x2 x3 x4 x6 x7 x8 x9 x10) A.given.ex := by
  intro h r c
  pointwise [val_main_v77, val_main_v76]
  simp only [v56_real H, v75_real H, ← EReal.coe_sub, Ideal.exp_coe]
  rfl

/-- Their sums. -/
theorem v79_real : IsReal3 (val_main_v79 (F := Ideal) x1 x2 x3 x4 x6 x7 x8 x9 x10) fun h t _ => ∑ m, A.given.ex h t m := by
  intro h r c
  pointwise [val_main_v79, val_main_v78, val_main_cst_21]
  simp only [v77_real H, sum_coe]

/-- The probabilities. -/
theorem v81_real : IsReal3 (val_main_v81 (F := Ideal) x1 x2 x3 x4 x6 x7 x8 x9 x10) fun h t => A.given.p t h := by
  intro h r c
  pointwise [val_main_v81, val_main_v80]
  simp only [v77_real H, v79_real H]
  exact A.given.p_elem h r c

/-- The cotangent of the attention's output. -/
theorem v92_real : IsReal (val_main_v92 (F := Ideal) x0 x11) A.given.dox := by
  intro r c
  pointwise [val_main_v92, val_main_v91]
  simp only [H.h0, H.h11, ← EReal.coe_mul, sum_coe]
  rfl

/-- The cotangent of the probabilities. -/
theorem v95_real : IsReal3 (val_main_v95 (F := Ideal) x0 x5 x11) fun h t => A.given.dp t h := by
  intro h r c
  pointwise [val_main_v95, val_main_v53, val_main_v94, val_main_v93]
  simp only [v92_real H, H.h5, ← EReal.coe_mul, sum_coe, lane_eq]
  rfl

/-- The cotangent of the scores. -/
theorem v111_real : IsReal3 (val_main_v111 (F := Ideal) x0 x1 x2 x3 x4 x5 x6 x7 x8 x9 x10 x11) fun h t => A.given.ds t h := by
  intro h r c
  pointwise [val_main_v111, val_main_v110, val_main_cst_25, val_main_v109, val_main_v108, val_main_v107, val_main_v106, val_main_cst_24, val_main_v103, val_main_v102, val_main_v101, val_main_cst_23, val_main_v100, val_main_v99, val_main_v98, val_main_v84, val_main_v82, val_main_v83, val_main_cst_22, val_main_v105, val_main_v104]
  simp only [v95_real H, v77_real H, v79_real H, lit_sixteenth]
  exact A.given.ds_elem h r c

/-- The cotangent of the queries. -/
theorem v118_real : IsReal (val_main_v118 (F := Ideal) x0 x1 x2 x3 x4 x5 x6 x7 x8 x9 x10 x11) A.given.dq := by
  intro r c
  pointwise [val_main_v118, val_main_v115, val_main_v114, val_main_v52]
  simp only [v111_real H, H.h4, ← EReal.coe_mul, sum_coe]
  rfl

/-- The cotangent of the keys. -/
theorem v117_real : IsReal (val_main_v117 (F := Ideal) x0 x1 x2 x3 x4 x5 x6 x7 x8 x9 x10 x11) A.given.dk := by
  intro r c
  pointwise [val_main_v117, val_main_v113, val_main_v112, val_main_v51]
  simp only [v111_real H, v50_real H, ← EReal.coe_mul, sum_coe]
  rfl

/-- The cotangent of the values. -/
theorem v116_real : IsReal (val_main_v116 (F := Ideal) x0 x1 x2 x3 x4 x6 x7 x8 x9 x10 x11) A.given.dv := by
  intro r c
  pointwise [val_main_v116, val_main_v97, val_main_v96, val_main_v94, val_main_v93]
  simp only [v92_real H, v81_real H, ← EReal.coe_mul, sum_coe]
  exact congrArg _ (Finset.sum_congr rfl fun t _ => mul_comm _ _)

end Cert.Mid

end
-- ==== Proof.RefBackward.lean ====
/- What the reference computes of the gradient from the queries' cotangent down to the two mixers, stage by stage. -/
module

public import proofs.«01_k».proof.Proof.Gen.ReferenceIdeal.Read
public import proofs.«01_k».proof.Proof.RefAttention

@[expose] public section

set_option maxRecDepth 16384

noncomputable section

namespace Cert.Mid

open Cert.ReferenceIdeal Cert.ReferenceIdeal.Read Idealize.ShloMosaic

variable {x0 x1 : FVec Ideal S8192x1024 .f32} {x2 x3 : FVec Ideal S8192x512 .f32} {x4 x5 : FVec Ideal S256x1024 .f32}
variable {x6 x7 : FVec Ideal S1x512 .f32} {x8 x10 x11 : FVec Ideal S1024x1024 .f32} {x9 : FVec Ideal S1x1024 .f32}
variable {A : Args} (H : ArgsReal x0 x1 x2 x3 x4 x5 x6 x7 x8 x9 x10 x11 A)

include H

/-- The cotangent of the normalised stream with its gain. -/
theorem v119_real : IsReal (val_main_v119 (F := Ideal) x0 x1 x2 x3 x4 x5 x6 x7 x8 x9 x10 x11) A.given.dhc := by
  intro r c
  pointwise [val_main_v119]
  simp only [v118_real H, H.h10, ← EReal.coe_mul, sum_coe]
  rfl

/-- The cotangent of the cross-attention's gain. -/
theorem v122_real : IsReal (val_main_v122 (F := Ideal) x0 x1 x2 x3 x4 x5 x6 x7 x8 x9 x10 x11) fun _ => A.given.dgc := by
  intro r c
  pointwise [val_main_v122, val_main_v121, val_main_cst_26, val_main_v120]
  simp only [v46_real H, v119_real H, ← EReal.coe_mul, sum_coe]
  exact congrArg _ (Finset.sum_congr rfl fun t _ => mul_comm _ _)

/-- The cotangent of the normalised stream. -/
theorem v124_real : IsReal (val_main_v124 (F := Ideal) x0 x1 x2 x3 x4 x5 x6 x7 x8 x9 x10 x11) fun t c => A.given.dhc t c * A.gc c := by
  intro r c
  pointwise [val_main_v124, val_main_v123]
  simp only [v119_real H, H.h9, ← EReal.coe_mul]

/-- The cotangent of the residual stream before the cross-attention. -/
theorem v139_real : IsReal (val_main_v139 (F := Ideal) x0 x1 x2 x3 x4 x5 x6 x7 x8 x9 x10 x11) A.given.dx1 := by
  intro r c
  pointwise [val_main_v139, val_main_v138, val_main_v135, val_main_v134, val_main_cst_29, val_main_v133, val_main_v132, val_main_cst_28, val_main_v131, val_main_v44, val_main_v42, val_main_v43, val_main_cst_11, val_main_v127, val_main_v126, val_main_cst_27, val_main_v125, val_main_v137, val_main_v136, val_main_v130, val_main_v129, val_main_v128, val_main_v90]
  simp only [v124_real H, v33_real H, v40_real H, v41_real H, H.h0, lit_1024, lit_neg_half, Fin.sum_univ_one]
  exact dx1_elem _ _ _ c (by norm_num)

/-- The cotangent of the mixers' outputs, side by side. -/
theorem v140_real : IsReal (val_main_v140 (F := Ideal) x0 x1 x2 x3 x4 x5 x6 x7 x8 x9 x10 x11) A.given.dmerged := by
  intro r c
  pointwise [val_main_v140]
  simp only [v139_real H, H.h8, ← EReal.coe_mul, sum_coe]
  rfl

/-- The cotangent of the attention's normalised output. -/
theorem v166_real : IsReal (val_main_v166 (F := Ideal) x0 x1 x2 x3 x4 x5 x6 x7 x8 x9 x10 x11) fun t c => A.given.dmerged t (lo c) * A.ga c := by
  intro r c
  pointwise [val_main_v166, val_main_v165, val_main_v141]
  simp only [v140_real H, H.h6, ← EReal.coe_mul]
  rfl

/-- The cotangent of the recurrence's normalised output. -/
theorem v147_real : IsReal (val_main_v147 (F := Ideal) x0 x1 x2 x3 x4 x5 x6 x7 x8 x9 x10 x11) fun t c => A.given.dmerged t (hi c) * A.gl c := by
  intro r c
  pointwise [val_main_v147, val_main_v146, val_main_v142]
  simp only [v140_real H, H.h7, ← EReal.coe_mul]
  rfl

/-- The cotangent of the attention's output before its norm. -/
theorem v180_real : IsReal (val_main_v180 (F := Ideal) x0 x1 x2 x3 x4 x5 x6 x7 x8 x9 x10 x11) A.given.datt := by
  intro r c
  pointwise [val_main_v180, val_main_v179, val_main_v176, val_main_v175, val_main_cst_37, val_main_v174, val_main_v173, val_main_cst_36, val_main_v172, val_main_v11, val_main_v9, val_main_v10, val_main_cst_3, val_main_v169, val_main_v168, val_main_cst_35, val_main_v167, val_main_v178, val_main_v177, val_main_v171, val_main_v170]
  simp only [v166_real H, v7_real H, v8_real H, H.h2, lit_512, lit_neg_half, Fin.sum_univ_one]
  exact rms_elem (A.att r) (fun c => A.given.dmerged r (lo c) * A.ga c) c (by norm_num)

/-- The cotangent of the recurrence's output before its norm. -/
theorem v161_real : IsReal (val_main_v161 (F := Ideal) x0 x1 x2 x3 x4 x5 x6 x7 x8 x9 x10 x11) A.given.drec := by
  intro r c
  pointwise [val_main_v161, val_main_v160, val_main_v157, val_main_v156, val_main_cst_33, val_main_v155, val_main_v154, val_main_cst_32, val_main_v153, val_main_v26, val_main_v24, val_main_v25, val_main_cst_7, val_main_v150, val_main_v149, val_main_cst_31, val_main_v148, val_main_v159, val_main_v158, val_main_v152, val_main_v151]
  simp only [v147_real H, v22_real H, v23_real H, H.h3, lit_512, lit_neg_half, Fin.sum_univ_one]
  exact rms_elem (A.lru r) (fun c => A.given.dmerged r (hi c) * A.gl c) c (by norm_num)

/-- The cotangent of the attention's output gain. -/
theorem v164_real : IsReal (val_main_v164 (F := Ideal) x0 x1 x2 x3 x4 x5 x6 x7 x8 x9 x10 x11) fun _ => A.given.dga := by
  intro r c
  pointwise [val_main_v164, val_main_v163, val_main_cst_34, val_main_v162, val_main_v141]
  simp only [v13_real H, v140_real H, ← EReal.coe_mul, sum_coe]
  exact congrArg _ (Finset.sum_congr rfl fun t _ => mul_comm _ _)

/-- The cotangent of the recurrence's output gain. -/
theorem v145_real : IsReal (val_main_v145 (F := Ideal) x0 x1 x2 x3 x4 x5 x6 x7 x8 x9 x10 x11) fun _ => A.given.dgl := by
  intro r c
  pointwise [val_main_v145, val_main_v144, val_main_cst_30, val_main_v143, val_main_v142]
  simp only [v28_real H, v140_real H, ← EReal.coe_mul, sum_coe]
  exact congrArg _ (Finset.sum_congr rfl fun t _ => mul_comm _ _)

/-- The cotangent of the queries, cast. -/
theorem v181_real : IsReal (val_main_v181 (F := Ideal) x0 x1 x2 x3 x4 x5 x6 x7 x8 x9 x10 x11) A.given.dq := by
  intro r c
  pointwise [val_main_v181]
  simp only [v118_real H]

end Cert.Mid

end
-- ==== Proof.Finite.lean ====
/- The precondition as real numbers: arrays whose elements are all finite are arrays of reals. -/
module

public import proofs.«01_k».proof.Defs
public import proofs.«01_k».proof.Proof.Entry
public import proofs.«01_k».proof.Proof.Gen.Pre_finite

@[expose] public section

set_option maxRecDepth 16384

noncomputable section

namespace Cert.Mid

open Idealize.ShloMosaic Idealize.ShloMosaic.TcCoe

attribute [local instance] Cert.Pre_finite.Gen.facts

/-- An element below infinity in absolute value is a real. -/
theorem finite_elem {s : Shape} {x : FVec Ideal s .f32} {hb : Cert.Pre_finite.S_.BroadcastsInDim s (![] : Fin 0 → Fin s.rank)}
    (h : cmpf .olt (Host.absf x) (broadcastInDim s ![] hb (constant (F := Ideal) Cert.Pre_finite.S_ .f32 0x7F800000#32)) = fun _ => 1#1)
    (i : s.Idx) : x i = ((EReal.toReal (x i) : ℝ) : EReal) := by
  have h : Ideal.cmp .olt (max (x i) (-(x i))) (Ideal.ofBits .f32 0x7F800000#32) = 1#1 := congrFun h i
  rw [show Ideal.ofBits .f32 0x7F800000#32 = ⊤ by simp [Ideal.ofBits, Ideal.ieee]] at h
  have h : max (x i) (-(x i)) < ⊤ := by
    by_contra hc
    simp [Ideal.cmp, hc] at h
  refine (EReal.coe_toReal (fun e => ?_) (fun e => ?_)).symm
  · rw [e] at h; simp at h
  · rw [e] at h; simp at h

/-- The arguments read as reals. -/
def argsOf (m : (ℓ : Loc Cert.KernelIdeal.nD Cert.KernelIdeal.τ Cert.KernelIdeal.sig) → Buf (Elt Ideal) ℓ) (c : Dev Cert.KernelIdeal.nD) : Args :=
  let rd {a b : ℕ} (x : FVec Ideal ⟨2, ![a, b]⟩ .f32) (i : Fin a) (j : Fin b) : ℝ := EReal.toReal (x (ix2 i j))
  { dx2 := rd (m ((c : Thread Cert.KernelIdeal.nD Cert.KernelIdeal.τ).loc Cert.KernelIdeal.main_arg0))
    x := rd (m ((c : Thread Cert.KernelIdeal.nD Cert.KernelIdeal.τ).loc Cert.KernelIdeal.main_arg1))
    att := rd (m ((c : Thread Cert.KernelIdeal.nD Cert.KernelIdeal.τ).loc Cert.KernelIdeal.main_arg2))
    lru := rd (m ((c : Thread Cert.KernelIdeal.nD Cert.KernelIdeal.τ).loc Cert.KernelIdeal.main_arg3))
    k := rd (m ((c : Thread Cert.KernelIdeal.nD Cert.KernelIdeal.τ).loc Cert.KernelIdeal.main_arg4))
    v := rd (m ((c : Thread Cert.KernelIdeal.nD Cert.KernelIdeal.τ).loc Cert.KernelIdeal.main_arg5))
    ga := rd (m ((c : Thread Cert.KernelIdeal.nD Cert.KernelIdeal.τ).loc Cert.KernelIdeal.main_arg6)) 0
    gl := rd (m ((c : Thread Cert.KernelIdeal.nD Cert.KernelIdeal.τ).loc Cert.KernelIdeal.main_arg7)) 0
    wout := rd (m ((c : Thread Cert.KernelIdeal.nD Cert.KernelIdeal.τ).loc Cert.KernelIdeal.main_arg8))
    gc := rd (m ((c : Thread Cert.KernelIdeal.nD Cert.KernelIdeal.τ).loc Cert.KernelIdeal.main_arg9)) 0
    wq := rd (m ((c : Thread Cert.KernelIdeal.nD Cert.KernelIdeal.τ).loc Cert.KernelIdeal.main_arg10))
    wo := rd (m ((c : Thread Cert.KernelIdeal.nD Cert.KernelIdeal.τ).loc Cert.KernelIdeal.main_arg11)) }

/-- Under the precondition the arguments in memory are reals. -/
theorem mem_real {m : (ℓ : Loc Cert.KernelIdeal.nD Cert.KernelIdeal.τ Cert.KernelIdeal.sig) → Buf (Elt Ideal) ℓ}
    (h : Cert.Pre_KernelIdeal_finite m) (c : Dev Cert.KernelIdeal.nD) : MemReal m c (argsOf m c) := by
  obtain ⟨e0, e1, e2, e3, e4, e5, e6, e7, e8, e9, e10, e11⟩ := h c
  exact
  { h0 := fun i j => finite_elem e0 (ix2 i j)
    h1 := fun i j => finite_elem e1 (ix2 i j)
    h2 := fun i j => finite_elem e2 (ix2 i j)
    h3 := fun i j => finite_elem e3 (ix2 i j)
    h4 := fun i j => finite_elem e4 (ix2 i j)
    h5 := fun i j => finite_elem e5 (ix2 i j)
    h6 := fun i j => by obtain rfl : i = 0 := Subsingleton.elim _ _; exact finite_elem e6 (ix2 0 j)
    h7 := fun i j => by obtain rfl : i = 0 := Subsingleton.elim _ _; exact finite_elem e7 (ix2 0 j)
    h8 := fun i j => finite_elem e8 (ix2 i j)
    h9 := fun i j => by obtain rfl : i = 0 := Subsingleton.elim _ _; exact finite_elem e9 (ix2 0 j)
    h10 := fun i j => finite_elem e10 (ix2 i j)
    h11 := fun i j => finite_elem e11 (ix2 i j) }

end Cert.Mid

end
-- ==== Proof.SameText.lean ====
/- The frame of the kernel with its bit patterns, from the one run: the kernel and its idealization are the same text in
   two namespaces. -/
module

public import proofs.«01_k».proof.Defs
public import proofs.«01_k».proof.Proof.Gen.Kernel
public import proofs.«01_k».proof.Proof.Gen.KernelIdeal
public import proofs.«01_k».proof.Proof.FrameRun

@[expose] public section

set_option maxRecDepth 65536
set_option maxHeartbeats 4000000

noncomputable section

namespace Cert.Proof

open Idealize.ShloMosaic Idealize.ShloMosaic.TcCoe Idealize.SL.Sem

attribute [local instance] Cert.Kernel.Gen.facts Cert.KernelIdeal.Gen.facts

/-- The two body tables are the same. -/
theorem same_bodies : (@Cert.Kernel.defs₀ Bits _ _ : Defs Cert.KernelIdeal.nD Cert.KernelIdeal.τ Cert.KernelIdeal.sig (Elt Bits)
    Cert.KernelIdeal.Λ₀) = (@Cert.KernelIdeal.defs₀ Bits _ _) := by sl_kernel_rfl

/-- The kernel with its bit patterns runs, keeps its arguments and leaves every counter at zero. -/
theorem frame_kernel : Cert.quiescent_Kernel := by
  intro m ρ _
  unfold Cert.Kernel.defs
  have h := Cert.KernelIdeal.Gen.frame (F := Bits) m ρ
  unfold Cert.KernelIdeal.defs at h
  rw [← same_bodies] at h
  exact h

end Cert.Proof

end
-- ==== Proof.FfnSpec.lean ====
/- The mathematics of the feed-forward layer's backward pass, in real numbers: the gate's derivative, the products with the
   weights, and the derivative of the norm before the layer. Both programs are shown to compute these. -/
module

public import proofs.«01_k».proof.Proof.Args

@[expose] public section

noncomputable section

namespace Cert.Ffn

open Cert.Mid Idealize.ShloMosaic

/-! ## The gate -/

/-- The logistic function. -/
def logi (x : ℝ) : ℝ := 1 / (1 + Real.exp (-x))

theorem logi_den_pos (x : ℝ) : 0 < 1 + Real.exp (-x) := add_pos one_pos (Real.exp_pos _)

/-- The derivative of the gate `x * logi x`. -/
def dsilu (x : ℝ) : ℝ := logi x * (1 + x * (1 - logi x))

/-- The logistic function at a real. -/
theorem logistic_coe (x : ℝ) : Ideal.logistic (x : EReal) = ((logi x : ℝ) : EReal) := by
  unfold Ideal.logistic
  rw [← EReal.coe_neg, Ideal.exp_coe, ← EReal.coe_one, ← EReal.coe_add, div_coe_coe _ (logi_den_pos x).ne']
  rfl

/-! ## The layer's backward pass over all rows -/

/-- What the backward pass is given: the cotangent of the layer's output, the residual stream before the layer, the two
    products of the gate, the norm's gain and the three weights, the first two with their columns as rows. -/
structure Given (n : ℕ) where
  dx3 : Fin n → Fin 1024 → ℝ
  x2 : Fin n → Fin 1024 → ℝ
  g : Fin n → Fin 2816 → ℝ
  u : Fin n → Fin 2816 → ℝ
  gf : Fin 1024 → ℝ
  wg : Fin 2816 → Fin 1024 → ℝ
  wu : Fin 2816 → Fin 1024 → ℝ
  wd : Fin 2816 → Fin 1024 → ℝ

namespace Given

variable {n : ℕ} (G : Given n) (t : Fin n)

/-- The cotangent of the gated product. -/
def da (f : Fin 2816) : ℝ := ∑ j, G.dx3 t j * G.wd f j

/-- The cotangent of the second product. -/
def du (f : Fin 2816) : ℝ := G.da t f * G.g t f * logi (G.g t f)

/-- The cotangent of the first product. -/
def dg (f : Fin 2816) : ℝ := G.da t f * G.u t f * dsilu (G.g t f)

/-- The cotangent of the normalised stream. -/
def dhf (c : Fin 1024) : ℝ := (∑ f, G.dg t f * G.wg f c) + ∑ f, G.du t f * G.wu f c

/-- The cotangent of the residual stream before the layer. -/
def dx2 (c : Fin 1024) : ℝ := G.dx3 t c + rmsBwd (G.x2 t) (fun c => G.dhf t c * G.gf c) c

/-- The cotangent of the norm's gain. -/
def dgf (c : Fin 1024) : ℝ := ∑ t, G.dhf t c * unit (G.x2 t) c

end Given

/-! ## The arguments -/

/-- The programs' arguments: the cotangent of the layer's output, the residual stream, the norm's gain, and the three
    weights. -/
structure Args where
  dx3 : Fin 8192 → Fin 1024 → ℝ
  x2 : Fin 8192 → Fin 1024 → ℝ
  gf : Fin 1024 → ℝ
  wg : Fin 1024 → Fin 2816 → ℝ
  wu : Fin 1024 → Fin 2816 → ℝ
  wd : Fin 2816 → Fin 1024 → ℝ

namespace Args

variable (A : Args) (t : Fin 8192)

/-- The normalised stream with its gain. -/
def hf (c : Fin 1024) : ℝ := unit (A.x2 t) c * A.gf c

/-- The first product of the gate. -/
def g (f : Fin 2816) : ℝ := ∑ j, A.hf t j * A.wg j f

/-- The second product. -/
def u (f : Fin 2816) : ℝ := ∑ j, A.hf t j * A.wu j f

/-- What the backward pass is given. -/
def given : Given 8192 :=
  ⟨A.dx3, A.x2, A.g, A.u, A.gf, fun f c => A.wg c f, fun f c => A.wu c f, A.wd⟩

end Args

/-- The arrays' elements are the real arguments. -/
structure ArgsReal (x0 x1 : Shape.Idx ⟨2, ![8192, 1024]⟩ → EReal) (x2 : Shape.Idx ⟨2, ![1, 1024]⟩ → EReal)
    (x3 x4 : Shape.Idx ⟨2, ![1024, 2816]⟩ → EReal) (x5 : Shape.Idx ⟨2, ![2816, 1024]⟩ → EReal) (A : Args) : Prop where
  h0 : IsReal x0 A.dx3
  h1 : IsReal x1 A.x2
  h2 : IsReal x2 fun _ => A.gf
  h3 : IsReal x3 A.wg
  h4 : IsReal x4 A.wu
  h5 : IsReal x5 A.wd

end Cert.Ffn

end
-- ==== Proof.FfnReference.lean ====
/- What the reference of the feed-forward layer computes, stage by stage: every array is real, and its entries are the row
   mathematics of the layer. -/
module

public import proofs.«01_k».proof.Proof.Gen.Reference2Ideal.Read
public import proofs.«01_k».proof.Proof.FfnSpec

@[expose] public section

set_option maxRecDepth 16384

noncomputable section

namespace Cert.Ffn

open Cert.Mid Cert.Reference2Ideal Cert.Reference2Ideal.Read Idealize.ShloMosaic

variable {x0 x1 : FVec Ideal S8192x1024 .f32} {x2 : FVec Ideal S1x1024 .f32} {x3 x4 : FVec Ideal S1024x2816 .f32}
variable {x5 : FVec Ideal S2816x1024 .f32} {A : Args} (H : ArgsReal x0 x1 x2 x3 x4 x5 A)

include H

/-! ## The forward lines -/

/-- The mean square of the rows. -/
theorem v7_real : IsReal (val_main_v7 (F := Ideal) x1) fun t _ => meanSq (A.x2 t) := by
  intro r c
  pointwise [val_main_v7, val_main_v6, val_main_cst_2, val_main_v5, val_main_v4, val_main_cst_1, val_main_v3, val_main_v2, val_main_cst_0, val_main_v1]
  simp only [H.h1, lit_1024, lit_eps, ← EReal.coe_mul, sum_coe]
  exact meanSq_elem _ (by norm_num)

/-- Its reciprocal root. -/
theorem v8_real : IsReal (val_main_v8 (F := Ideal) x1) fun t _ => rinv (A.x2 t) := by
  intro r c
  pointwise [val_main_v8]
  simp only [v7_real H]
  exact rsqrt_coe_pos (meanSq_pos _)

/-- The normalised rows. -/
theorem v13_real : IsReal (val_main_v13 (F := Ideal) x1) fun t => unit (A.x2 t) := by
  intro r c
  pointwise [val_main_v13, val_main_v12]
  simp only [v8_real H, H.h1, ← EReal.coe_mul]
  rfl

/-- The normalised rows with their gain. -/
theorem v15_real : IsReal (val_main_v15 (F := Ideal) x1 x2) A.hf := by
  intro r c
  pointwise [val_main_v15, val_main_v14]
  simp only [v13_real H, H.h2, ← EReal.coe_mul]
  rfl

/-- The first product. -/
theorem v16_real : IsReal (val_main_v16 (F := Ideal) x1 x2 x3) A.g := by
  intro r c
  pointwise [val_main_v16]
  simp only [v15_real H, H.h3, ← EReal.coe_mul, sum_coe]
  rfl

/-- The first product, its shift zero added. -/
theorem v17_real : IsReal (val_main_v17 (F := Ideal) x1 x2 x3) A.g := by
  intro r c
  pointwise [val_main_v17, val_main_v0, val_main_cst]
  simp only [v16_real H, add_zero]

/-- The second product. -/
theorem v19_real : IsReal (val_main_v19 (F := Ideal) x1 x2 x4) A.u := by
  intro r c
  pointwise [val_main_v19]
  simp only [v15_real H, H.h4, ← EReal.coe_mul, sum_coe]
  rfl

/-- The second product, its shift zero added. -/
theorem v20_real : IsReal (val_main_v20 (F := Ideal) x1 x2 x4) A.u := by
  intro r c
  pointwise [val_main_v20, val_main_v0, val_main_cst]
  simp only [v19_real H, add_zero]

/-- The logistic function of the first product. -/
theorem v18_2_real : IsReal (val_main_v18_2 (F := Ideal) x1 x2 x3) fun t f => logi (A.g t f) := by
  intro r c
  pointwise [val_main_v18_2, val_main_call0_v4, val_main_call0_cst_0, val_main_call0_v3, val_main_call0_v2, val_main_call0_cst, val_main_call0_v1, val_main_call0_v0]
  simp only [v17_real H]
  exact logistic_coe _

/-- Its derivative. -/
theorem v18_1_real : IsReal (val_main_v18_1 (F := Ideal) x1 x2 x3) fun t f => logi (A.g t f) * (1 - logi (A.g t f)) := by
  intro r c
  pointwise [val_main_v18_1, val_main_call0_v7, val_main_call0_v6, val_main_call0_cst_1]
  simp only [v18_2_real H, ← EReal.coe_one, ← EReal.coe_sub, ← EReal.coe_mul]

/-- The gate of the first product. -/
theorem v18_0_real : IsReal (val_main_v18_0 (F := Ideal) x1 x2 x3) fun t f => A.g t f * logi (A.g t f) := by
  intro r c
  pointwise [val_main_v18_0]
  simp only [v18_2_real H, v17_real H, ← EReal.coe_mul]

/-! ## The gradients -/

/-- The cotangent of the gated product. -/
theorem v25_real : IsReal (val_main_v25 (F := Ideal) x0 x5) A.given.da := by
  intro r c
  pointwise [val_main_v25, val_main_v24]
  simp only [H.h0, H.h5, ← EReal.coe_mul, sum_coe]
  rfl

/-- The cotangent of the second product. -/
theorem v26_real : IsReal (val_main_v26 (F := Ideal) x0 x1 x2 x3 x5) A.given.du := by
  intro r c
  pointwise [val_main_v26]
  simp only [v18_0_real H, v25_real H, ← EReal.coe_mul]
  refine congrArg _ ?_
  show A.g r c * logi (A.g r c) * A.given.da r c = A.given.da r c * A.g r c * logi (A.g r c)
  ring

/-- The cotangent of the first product. -/
theorem v29_real : IsReal (val_main_v29 (F := Ideal) x0 x1 x2 x3 x4 x5) A.given.dg := by
  intro r c
  pointwise [val_main_v29, val_main_call1_v2, val_main_call1_v1, val_main_call1_v0, val_main_v27]
  simp only [v18_2_real H, v18_1_real H, v17_real H, v25_real H, v20_real H, ← EReal.coe_mul, ← EReal.coe_add]
  refine congrArg _ ?_
  show _ = A.given.da r c * A.u r c * (logi (A.g r c) * (1 + A.g r c * (1 - logi (A.g r c))))
  ring

/-- The cotangent of the normalised stream. -/
theorem v31_real : IsReal (val_main_v31 (F := Ideal) x0 x1 x2 x3 x4 x5) A.given.dhf := by
  intro r c
  pointwise [val_main_v31, val_main_v30, val_main_v28]
  simp only [v29_real H, v26_real H, H.h3, H.h4, ← EReal.coe_mul, sum_coe, ← EReal.coe_add]
  exact congrArg _ (add_comm _ _)

/-- The same with the gain. -/
theorem v36_real : IsReal (val_main_v36 (F := Ideal) x0 x1 x2 x3 x4 x5) fun t c => A.given.dhf t c * A.gf c := by
  intro r c
  pointwise [val_main_v36, val_main_v35]
  simp only [v31_real H, H.h2, ← EReal.coe_mul]

/-- The cotangent of the residual stream. -/
theorem v51_real : IsReal (val_main_v51 (F := Ideal) x0 x1 x2 x3 x4 x5) A.given.dx2 := by
  intro r c
  pointwise [val_main_v51, val_main_v50, val_main_v49, val_main_v48, val_main_v47, val_main_v46, val_main_cst_7, val_main_v45, val_main_v44, val_main_cst_6, val_main_v43, val_main_v42, val_main_v41, val_main_v40, val_main_v39, val_main_v38, val_main_cst_5, val_main_v37, val_main_v24, val_main_v11, val_main_v10, val_main_cst_3, val_main_v9]
  simp only [v36_real H, v7_real H, v8_real H, H.h0, H.h1, lit_1024, lit_neg_half, Fin.sum_univ_one]
  exact dx1_elem _ _ _ c (by norm_num)

/-- The cotangent of the norm's gain. -/
theorem v34_real : IsReal (val_main_v34 (F := Ideal) x0 x1 x2 x3 x4 x5) fun _ => A.given.dgf := by
  intro r c
  pointwise [val_main_v34, val_main_v33, val_main_cst_4, val_main_v32]
  simp only [v13_real H, v31_real H, ← EReal.coe_mul, sum_coe]
  exact congrArg _ (Finset.sum_congr rfl fun t _ => mul_comm _ _)

/-- The cotangent of the first product, cast. -/
theorem v52_real : IsReal (val_main_v52 (F := Ideal) x0 x1 x2 x3 x4 x5) A.given.dg := by
  intro r c
  pointwise [val_main_v52]
  simp only [v29_real H]

/-- The cotangent of the second product, cast. -/
theorem v53_real : IsReal (val_main_v53 (F := Ideal) x0 x1 x2 x3 x5) A.given.du := by
  intro r c
  pointwise [val_main_v53]
  simp only [v26_real H]

end Cert.Ffn

end
-- ==== Proof.FfnEntry.lean ====
/- What the region of the feed-forward layer's kernel holds when it is entered, in real numbers: arguments, the narrowed and
   transposed weights, and the two products the forward lines prepare. -/
module

public import proofs.«01_k».proof.Proof.Gen.Kernel2Ideal.Frame
public import proofs.«01_k».proof.Proof.FfnReference
public import Idealize.ShloMosaic.Lib.Pipeline.ValueKit

@[expose] public section

set_option maxRecDepth 16384

noncomputable section

namespace Cert.Ffn

open Cert.Mid Cert.Kernel2Ideal Cert.Kernel2Ideal.Gen Idealize.ShloMosaic Idealize.ShloMosaic.TcCoe Idealize.SL.Sem

variable (m : (ℓ : Loc nD τ sig) → Buf (Elt Ideal) ℓ)

/-- The arguments in the machine's memory are the real ones. -/
abbrev MemReal (c : Dev nD) (A : Args) : Prop :=
  ArgsReal (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) A

variable {m} {c : Dev nD} {A : Args} (H : MemReal m c A)

include H

/-- The cotangent. -/
theorem entry_dx3 : IsReal (V m c main_arg0) A.dx3 := by
  intro i j
  entry_read
  exact H.h0 i j

/-- The residual stream. -/
theorem entry_x2 : IsReal (V m c main_arg1) A.x2 := by
  intro i j
  entry_read
  exact H.h1 i j

/-- The norm's gain. -/
theorem entry_gf : IsReal (V m c main_arg2) fun _ => A.gf := by
  intro i j
  entry_read
  exact H.h2 i j

/-- The first product. -/
theorem entry_g : IsReal (V m c main_v13) A.g := by
  intro i j
  entry_read
  exact v16_real H i j

/-- The second product. -/
theorem entry_u : IsReal (V m c main_v15) A.u := by
  intro i j
  entry_read
  exact v19_real H i j

/-- The first weight, its columns as rows. -/
theorem entry_wg : IsReal (V m c main_v17) A.given.wg := by
  intro i j
  entry_read
  pointwise
  exact H.h3 j i

/-- The second weight, its columns as rows. -/
theorem entry_wu : IsReal (V m c main_v19) A.given.wu := by
  intro i j
  entry_read
  pointwise
  exact H.h4 j i

/-- The third weight. -/
theorem entry_wd : IsReal (V m c main_v20) A.given.wd := by
  intro i j
  entry_read
  exact H.h5 i j

end Cert.Ffn

end
-- ==== Proof.FfnParts.lean ====
/- The two parts, of 1280 and of 1536 columns, in which the feed-forward layer's kernels work through its columns. -/
module

public import proofs.«01_k».proof.Proof.FfnSpec

@[expose] public section

set_option maxRecDepth 16384

noncomputable section

namespace Cert.Ffn

/-! ## The two parts of the columns -/

/-- Column `f` of the first part. -/
def lo (f : Fin 1280) : Fin 2816 := ⟨f.val, by omega⟩

/-- Column `f` of the second part. -/
def hi (f : Fin 1536) : Fin 2816 := ⟨1280 + f.val, by omega⟩

/-- A sum over all columns is the sum over the first part and that over the second. -/
theorem sum_parts (F : Fin 2816 → ℝ) : ∑ f, F f = (∑ f, F (lo f)) + ∑ f, F (hi f) :=
  Fin.sum_univ_add (a := 1280) (b := 1536) F

end Cert.Ffn

end
-- ==== Proof.FfnBlock.lean ====
/- What one block of the feed-forward layer's kernel computes, in real numbers: each value of the body, given that the values
   it is computed from are real, is the row mathematics of the layer at the block's 256 rows. The columns of the two products
   are worked through in two parts, of 1280 and of 1536 columns. -/
module

public import proofs.«01_k».proof.Proof.Gen.Kernel2Ideal.Skeleton
public import proofs.«01_k».proof.Proof.FfnSpec
public import proofs.«01_k».proof.Proof.FfnParts

@[expose] public section

set_option maxRecDepth 16384

noncomputable section

namespace Cert.Ffn

open Cert.Mid Cert.Kernel2Ideal Cert.Kernel2Ideal.Gen Idealize.ShloMosaic Idealize.SL.Sem

variable (G : Given 256)

section Parts

variable {d : Vec Ideal S256x1024 .f32} {z : FVec Ideal S256x1024 .f32}
variable {wd0 wg0 wu0 : Vec Ideal S1280x1024 .bf16} {g0 u0 : Vec Ideal S256x1280 .bf16}
variable {wd1 wg1 wu1 : Vec Ideal S1536x1024 .bf16} {g1 u1 : Vec Ideal S256x1536 .bf16}
variable {dg0 du0 : FVec Ideal S256x1280 .bf16}

/-- The running cotangent of the normalised stream after the first part. -/
def half (t : Fin 256) (c : Fin 1024) : ℝ :=
  (∑ f, G.dg t (lo f) * G.wg (lo f) c) + ∑ f, G.du t (lo f) * G.wu (lo f) c

theorem half_add (t : Fin 256) (c : Fin 1024) :
    half G t c + (∑ f, G.dg t (hi f) * G.wg (hi f) c) + (∑ f, G.du t (hi f) * G.wu (hi f) c) = G.dhf t c := by
  unfold half Given.dhf
  rw [sum_parts fun f => G.dg t f * G.wg f c, sum_parts fun f => G.du t f * G.wu f c]
  ring

/-! ## The first grid point's body -/

theorem first_da_0 (hd : IsReal d G.dx3) (hw : IsReal wd0 fun f => G.wd (lo f)) :
    IsReal (k0_pay12 d wd0) fun t f => G.da t (lo f) := by
  intro r c
  pointwise [k0_pay12, k0_pay10]
  simp only [hd, hw, ← EReal.coe_mul, sum_coe]
  rfl

theorem first_du_0 (hd : IsReal d G.dx3) (hw : IsReal wd0 fun f => G.wd (lo f)) (hg : IsReal g0 fun t f => G.g t (lo f)) :
    IsReal (k0_pay15 d wd0 g0) fun t f => G.du t (lo f) := by
  intro r c
  pointwise [k0_pay15, k0_pay14, k0_pay13]
  simp only [first_da_0 G hd hw, hg, logistic_coe, ← EReal.coe_mul]
  rfl

theorem first_dg_0 (hd : IsReal d G.dx3) (hw : IsReal wd0 fun f => G.wd (lo f)) (hg : IsReal g0 fun t f => G.g t (lo f))
    (hu : IsReal u0 fun t f => G.u t (lo f)) :
    IsReal (k0_pay16 d wd0 g0 u0) fun t f => G.dg t (lo f) := by
  intro r c
  pointwise [k0_pay16, k0_pay14, k0_pay13]
  simp only [first_da_0 G hd hw, hg, hu, logistic_coe, ← EReal.coe_one, ← EReal.coe_sub, ← EReal.coe_add, ← EReal.coe_mul]
  rfl

theorem first_half (hdu : IsReal du0 fun t f => G.du t (lo f)) (hdg : IsReal dg0 fun t f => G.dg t (lo f))
    (hwg : IsReal wg0 fun f => G.wg (lo f)) (hwu : IsReal wu0 fun f => G.wu (lo f)) :
    IsReal (k0_pay17 k0_pay11 du0 dg0 wg0 wu0) (half G) := by
  intro r c
  pointwise [k0_pay17, k0_pay11]
  simp only [hdu, hdg, hwg, hwu, ← EReal.coe_mul, sum_coe, ← EReal.coe_add, zero_add]
  rfl

theorem first_da_1 (hd : IsReal d G.dx3) (hw : IsReal wd1 fun f => G.wd (hi f)) :
    IsReal (k0_pay18 (k0_pay10 d) wd1) fun t f => G.da t (hi f) := by
  intro r c
  pointwise [k0_pay18, k0_pay10]
  simp only [hd, hw, ← EReal.coe_mul, sum_coe]
  rfl

theorem first_du_1 (hd : IsReal d G.dx3) (hw : IsReal wd1 fun f => G.wd (hi f)) (hg : IsReal g1 fun t f => G.g t (hi f)) :
    IsReal (k0_pay23 (k0_pay22 (k0_pay10 d) wd1 g1)) fun t f => G.du t (hi f) := by
  intro r c
  pointwise [k0_pay23, k0_pay22, k0_pay21, k0_pay19]
  simp only [first_da_1 G hd hw, hg, logistic_coe, ← EReal.coe_mul]
  rfl

theorem first_dg_1 (hd : IsReal d G.dx3) (hw : IsReal wd1 fun f => G.wd (hi f)) (hg : IsReal g1 fun t f => G.g t (hi f))
    (hu : IsReal u1 fun t f => G.u t (hi f)) :
    IsReal (k0_pay24 (k0_pay18 (k0_pay10 d) wd1) (k0_pay19 g1) (k0_pay20 u1) (k0_pay21 g1)) fun t f => G.dg t (hi f) := by
  intro r c
  pointwise [k0_pay24, k0_pay21, k0_pay20, k0_pay19]
  simp only [first_da_1 G hd hw, hg, hu, logistic_coe, ← EReal.coe_one, ← EReal.coe_sub, ← EReal.coe_add, ← EReal.coe_mul]
  rfl

theorem first_dhf (hz : IsReal z (half G)) (hd : IsReal d G.dx3) (hw : IsReal wd1 fun f => G.wd (hi f))
    (hg : IsReal g1 fun t f => G.g t (hi f)) (hu : IsReal u1 fun t f => G.u t (hi f))
    (hwg : IsReal wg1 fun f => G.wg (hi f)) (hwu : IsReal wu1 fun f => G.wu (hi f)) :
    IsReal (k0_pay25 z (k0_pay18 (k0_pay10 d) wd1) (k0_pay19 g1) (k0_pay20 u1) (k0_pay21 g1)
      (k0_pay22 (k0_pay10 d) wd1 g1) wg1 wu1) G.dhf := by
  intro r c
  pointwise [k0_pay25]
  simp only [hz, first_du_1 G hd hw hg, first_dg_1 G hd hw hg hu, hwg, hwu, ← EReal.coe_mul, sum_coe, ← EReal.coe_add]
  exact congrArg _ (half_add G r c)

/-! ## The other grid points' body -/

theorem next_da_0 (hd : IsReal d G.dx3) (hw : IsReal wd0 fun f => G.wd (lo f)) :
    IsReal (k0_pay28 d wd0) fun t f => G.da t (lo f) := by
  intro r c
  pointwise [k0_pay28, k0_pay27]
  simp only [hd, hw, ← EReal.coe_mul, sum_coe]
  rfl

theorem next_du_0 (hd : IsReal d G.dx3) (hw : IsReal wd0 fun f => G.wd (lo f)) (hg : IsReal g0 fun t f => G.g t (lo f)) :
    IsReal (k0_pay31 d wd0 g0) fun t f => G.du t (lo f) := by
  intro r c
  pointwise [k0_pay31, k0_pay30, k0_pay29]
  simp only [next_da_0 G hd hw, hg, logistic_coe, ← EReal.coe_mul]
  rfl

theorem next_dg_0 (hd : IsReal d G.dx3) (hw : IsReal wd0 fun f => G.wd (lo f)) (hg : IsReal g0 fun t f => G.g t (lo f))
    (hu : IsReal u0 fun t f => G.u t (lo f)) :
    IsReal (k0_pay32 d wd0 g0 u0) fun t f => G.dg t (lo f) := by
  intro r c
  pointwise [k0_pay32, k0_pay30, k0_pay29]
  simp only [next_da_0 G hd hw, hg, hu, logistic_coe, ← EReal.coe_one, ← EReal.coe_sub, ← EReal.coe_add, ← EReal.coe_mul]
  rfl

theorem next_half (hd : IsReal d G.dx3) (hw : IsReal wd0 fun f => G.wd (lo f)) (hg : IsReal g0 fun t f => G.g t (lo f))
    (hu : IsReal u0 fun t f => G.u t (lo f)) (hwg : IsReal wg0 fun f => G.wg (lo f)) (hwu : IsReal wu0 fun f => G.wu (lo f)) :
    IsReal (k0_pay33 d wd0 g0 u0 wg0 wu0) (half G) := by
  intro r c
  pointwise [k0_pay33]
  simp only [next_du_0 G hd hw hg, next_dg_0 G hd hw hg hu, hwg, hwu, ← EReal.coe_mul, sum_coe, ← EReal.coe_add, zero_add]
  rfl

theorem next_da_1 (hd : IsReal d G.dx3) (hw : IsReal wd1 fun f => G.wd (hi f)) :
    IsReal (k0_pay34 (k0_pay27 d) wd1 (constant S256x1536 .f32 0x00000000#32)) fun t f => G.da t (hi f) := by
  intro r c
  pointwise [k0_pay34, k0_pay27]
  simp only [hd, hw, ← EReal.coe_mul, sum_coe]
  rfl

theorem next_du_1 (hd : IsReal d G.dx3) (hw : IsReal wd1 fun f => G.wd (hi f)) (hg : IsReal g1 fun t f => G.g t (hi f)) :
    IsReal (k0_pay37 (k0_pay27 d) wd1 (constant S256x1536 .f32 0x00000000#32) g1) fun t f => G.du t (hi f) := by
  intro r c
  pointwise [k0_pay37, k0_pay36, k0_pay35]
  simp only [next_da_1 G hd hw, hg, logistic_coe, ← EReal.coe_mul]
  rfl

theorem next_dg_1 (hd : IsReal d G.dx3) (hw : IsReal wd1 fun f => G.wd (hi f)) (hg : IsReal g1 fun t f => G.g t (hi f))
    (hu : IsReal u1 fun t f => G.u t (hi f)) :
    IsReal (k0_pay38 (k0_pay27 d) wd1 (constant S256x1536 .f32 0x00000000#32) g1 u1) fun t f => G.dg t (hi f) := by
  intro r c
  pointwise [k0_pay38, k0_pay36, k0_pay35]
  simp only [next_da_1 G hd hw, hg, hu, logistic_coe, ← EReal.coe_one, ← EReal.coe_sub, ← EReal.coe_add, ← EReal.coe_mul]
  rfl

theorem next_dhf (hz : IsReal z (half G)) (hd : IsReal d G.dx3) (hw : IsReal wd1 fun f => G.wd (hi f))
    (hg : IsReal g1 fun t f => G.g t (hi f)) (hu : IsReal u1 fun t f => G.u t (hi f))
    (hwg : IsReal wg1 fun f => G.wg (hi f)) (hwu : IsReal wu1 fun f => G.wu (hi f)) :
    IsReal (k0_pay39 (k0_pay27 d) z wd1 (constant S256x1536 .f32 0x00000000#32) g1 u1 wg1 wu1) G.dhf := by
  intro r c
  pointwise [k0_pay39]
  simp only [hz, next_du_1 G hd hw hg, next_dg_1 G hd hw hg hu, hwg, hwu, ← EReal.coe_mul, sum_coe, ← EReal.coe_add]
  exact congrArg _ (half_add G r c)

end Parts

section Norm

variable {d x : Vec Ideal S256x1024 .f32} {h : FVec Ideal S256x1024 .f32} {g acc : Vec Ideal S1x1024 .f32} {A : Fin 1024 → ℝ}

/-! ## The norm, at the first grid point -/

/-- The reciprocal root of the rows' mean squares. -/
theorem first_rinv (hx : IsReal x G.x2) : IsReal (k0_pay1 (k0_pay26 x)) fun t _ => rinv (G.x2 t) := by
  intro r c
  pointwise [k0_pay1, k0_pay26]
  simp only [hx, lit_1024, lit_eps]
  exact rinv_elem _ (by norm_num)

/-- The normalised rows. -/
theorem first_unit (hx : IsReal x G.x2) : IsReal (k0_pay2 x (k0_pay26 x)) fun t => unit (G.x2 t) := by
  intro r c
  pointwise [k0_pay2]
  simp only [hx, first_rinv G hx, ← EReal.coe_mul]
  rfl

/-- The cotangent of the residual stream. -/
theorem first_dx2 (hd : IsReal d G.dx3) (hh : IsReal h G.dhf) (hx : IsReal x G.x2) (hg : IsReal g fun _ => G.gf) :
    IsReal (k0_pay3 d h x g (k0_pay26 x)) G.dx2 := by
  intro r c
  pointwise [k0_pay3]
  simp only [hd, hh, hg, first_unit G hx, first_rinv G hx, lit_1024, ← EReal.coe_mul, sum_coe,
    div_coe_coe _ (by norm_num : ((1024 : ℕ) : ℝ) ≠ 0), ← EReal.coe_sub, ← EReal.coe_add]
  rfl

/-- The gain's cotangent grows by the block's. -/
theorem first_dgf (hh : IsReal h G.dhf) (hx : IsReal x G.x2) (ha : IsReal acc fun _ => A) :
    IsReal (k0_pay4 h x (k0_pay26 x) acc) fun _ c => A c + G.dgf c := by
  intro r c
  pointwise [k0_pay4]
  simp only [hh, ha, first_unit G hx, ← EReal.coe_mul, sum_coe, ← EReal.coe_add]
  rfl

/-! ## The norm, at the other grid points -/

variable {e : Ideal .f32}

/-- The reciprocal root of the rows' mean squares. -/
theorem next_rinv (he : e = ((eps : ℝ) : EReal)) (hx : IsReal x G.x2) :
    IsReal (k0_pay5 (k0_pay40 x) e) fun t _ => rinv (G.x2 t) := by
  intro r c
  pointwise [k0_pay5, k0_pay40]
  simp only [hx, he, lit_1024]
  exact rinv_elem _ (by norm_num)

/-- The normalised rows. -/
theorem next_unit (he : e = ((eps : ℝ) : EReal)) (hx : IsReal x G.x2) :
    IsReal (k0_pay6 x (k0_pay40 x) e) fun t => unit (G.x2 t) := by
  intro r c
  pointwise [k0_pay6]
  simp only [hx, next_rinv G he hx, ← EReal.coe_mul]
  rfl

/-- The cotangent of the residual stream. -/
theorem next_dx2 (he : e = ((eps : ℝ) : EReal)) (hd : IsReal d G.dx3) (hh : IsReal h G.dhf) (hx : IsReal x G.x2) (hg : IsReal g fun _ => G.gf) :
    IsReal (k0_pay7 d h x g (k0_pay40 x) e) G.dx2 := by
  intro r c
  pointwise [k0_pay7]
  simp only [hd, hh, hg, next_unit G he hx, next_rinv G he hx, lit_1024, ← EReal.coe_mul, sum_coe,
    div_coe_coe _ (by norm_num : ((1024 : ℕ) : ℝ) ≠ 0), ← EReal.coe_sub, ← EReal.coe_add]
  rfl

/-- The gain's cotangent grows by the block's. -/
theorem next_dgf (he : e = ((eps : ℝ) : EReal)) (hh : IsReal h G.dhf) (hx : IsReal x G.x2) (ha : IsReal acc fun _ => A) :
    IsReal (k0_pay8 h x (k0_pay40 x) e acc) fun _ c => A c + G.dgf c := by
  intro r c
  pointwise [k0_pay8]
  simp only [hh, ha, next_unit G he hx, ← EReal.coe_mul, sum_coe, ← EReal.coe_add]
  rfl

/-- The gain's cotangent starts at zero. -/
theorem zero_dgf : IsReal (k0_pay9 (F := Ideal)) fun _ _ => 0 := by
  intro r j
  pointwise [k0_pay9]
  exact EReal.coe_zero.symm

end Norm

end Cert.Ffn

end
-- ==== Proof.FfnBlocks.lean ====
/- The blocks of a grid point of the feed-forward layer's kernel, in real numbers: the point's 256 rows, the whole of the
   gain, the two column parts of a block and the two row parts of a weight, copied in or read back. -/
module

public import proofs.«01_k».proof.Proof.FfnEntry
public import proofs.«01_k».proof.Proof.FfnBlock
public import Idealize.ShloMosaic.Lib.Pipeline.ReadBack

@[expose] public section

set_option maxRecDepth 16384

noncomputable section

namespace Cert.Ffn

open Cert.Mid Cert.Kernel2Ideal Cert.Kernel2Ideal.Gen Idealize.ShloMosaic Idealize.ShloMosaic.TcCoe Idealize.SL.Sem

/-- Row `r` of block `n`. -/
def row (n : ℕ) (r : Fin 256) : Fin 8192 := ⟨(256 * n + r.val) % 8192, Nat.mod_lt _ (by decide)⟩

/-- What the backward pass is given for the rows of block `n`. -/
def Given.rows (G : Given 8192) (n : ℕ) : Given 256 :=
  ⟨fun r => G.dx3 (row n r), fun r => G.x2 (row n r), fun r => G.g (row n r), fun r => G.u (row n r), G.gf, G.wg, G.wu, G.wd⟩

/-- The index maps of the windows read and written by rows. -/
theorem idx_rows : ∀ t : Fin cfg0.N, (win0_0.index t 0 = t.val ∧ win0_0.index t 1 = 0) ∧
    (win0_1.index t 0 = t.val ∧ win0_1.index t 1 = 0) ∧
    (win0_2.index t 0 = t.val ∧ win0_2.index t 1 = 0) ∧
    (win0_3.index t 0 = t.val ∧ win0_3.index t 1 = 0) ∧
    (win0_5.index t 0 = t.val ∧ win0_5.index t 1 = 0) ∧
    (win0_6.index t 0 = t.val ∧ win0_6.index t 1 = 0) ∧
    (win0_7.index t 0 = t.val ∧ win0_7.index t 1 = 0) :=
  (by decide +kernel : ∀ t : Fin grid0.N, _)

/-- The index map of the gain. -/
theorem idx_whole : ∀ t : Fin cfg0.N, win0_4.index t 0 = 0 ∧ win0_4.index t 1 = 0 :=
  (by decide +kernel : ∀ t : Fin grid0.N, _)

variable {m : (ℓ : Loc nD τ sig) → Buf (Elt Ideal) ℓ} {c : Dev nD} {A : Args} (H : MemReal m c A) (t : Fin cfg0.N)

include H

/-! ## The blocks -/

/-- The cotangent. -/
theorem blk_dx3 : IsReal (iblk m c 0 t) (A.given.rows t.val).dx3 := by
  intro r j
  have ht : t.val < 32 := lt_of_lt_of_eq t.isLt N_0
  blk_simp [iblk]
  rw [show (win0_0.blk t).view.emb (ix2 r j) = ix2 (row t.val r) j by blk_ext [row, idx_rows t]]
  exact entry_dx3 H _ _

/-- The residual stream. -/
theorem blk_x2 : IsReal (iblk m c 1 t) (A.given.rows t.val).x2 := by
  intro r j
  have ht : t.val < 32 := lt_of_lt_of_eq t.isLt N_0
  blk_simp [iblk]
  rw [show (win0_1.blk t).view.emb (ix2 r j) = ix2 (row t.val r) j by blk_ext [row, idx_rows t]]
  exact entry_x2 H _ _

/-- The first product. -/
theorem blk_g : IsReal (iblk m c 2 t) (A.given.rows t.val).g := by
  intro r j
  have ht : t.val < 32 := lt_of_lt_of_eq t.isLt N_0
  blk_simp [iblk]
  rw [show (win0_2.blk t).view.emb (ix2 r j) = ix2 (row t.val r) j by blk_ext [row, idx_rows t]]
  exact entry_g H _ _

/-- The second product. -/
theorem blk_u : IsReal (iblk m c 3 t) (A.given.rows t.val).u := by
  intro r j
  have ht : t.val < 32 := lt_of_lt_of_eq t.isLt N_0
  blk_simp [iblk]
  rw [show (win0_3.blk t).view.emb (ix2 r j) = ix2 (row t.val r) j by blk_ext [row, idx_rows t]]
  exact entry_u H _ _

/-- The norm's gain. -/
theorem blk_gf : IsReal (iblk m c 4 t) fun _ => (A.given.rows t.val).gf := by
  intro r j
  have ht : t.val < 32 := lt_of_lt_of_eq t.isLt N_0
  blk_simp [iblk]
  rw [show (win0_4.blk t).view.emb (ix2 r j) = ix2 r j by blk_ext [idx_whole t]]
  exact entry_gf H _ _

/-! ## The weights, copied in -/

/-- The first part of the first weight. -/
theorem copy_wg_lo : IsReal (ReadAs.same.apply (View.read (Elt Ideal) ((View.whole main_v17).slice
    (Rect.unit ![0, 0] ![1280, 1024] inb_S2816x1024_S1280x1024_0_0)) (V m c main_v17)) : Vec Ideal S1280x1024 .bf16)
    fun f => (A.given.rows t.val).wg (lo f) := by
  intro r j
  refine Eq.trans ?_ (entry_wg H (lo r) j)
  exact congrArg (V m c main_v17) (funext fun a => Fin.ext (by
    fin_cases a
    · show 0 + 1 * r.val = r.val; omega
    · show 0 + 1 * j.val = j.val; omega))

/-- The second part of the first weight. -/
theorem copy_wg_hi : IsReal (ReadAs.same.apply (View.read (Elt Ideal) ((View.whole main_v17).slice
    (Rect.unit ![1280, 0] ![1536, 1024] inb_S2816x1024_S1536x1024_1280_0)) (V m c main_v17)) : Vec Ideal S1536x1024 .bf16)
    fun f => (A.given.rows t.val).wg (hi f) := by
  intro r j
  refine Eq.trans ?_ (entry_wg H (hi r) j)
  exact congrArg (V m c main_v17) (funext fun a => Fin.ext (by
    fin_cases a
    · show 1280 + 1 * r.val = 1280 + r.val; omega
    · show 0 + 1 * j.val = j.val; omega))

/-- The first part of the second weight. -/
theorem copy_wu_lo : IsReal (ReadAs.same.apply (View.read (Elt Ideal) ((View.whole main_v19).slice
    (Rect.unit ![0, 0] ![1280, 1024] inb_S2816x1024_S1280x1024_0_0)) (V m c main_v19)) : Vec Ideal S1280x1024 .bf16)
    fun f => (A.given.rows t.val).wu (lo f) := by
  intro r j
  refine Eq.trans ?_ (entry_wu H (lo r) j)
  exact congrArg (V m c main_v19) (funext fun a => Fin.ext (by
    fin_cases a
    · show 0 + 1 * r.val = r.val; omega
    · show 0 + 1 * j.val = j.val; omega))

/-- The second part of the second weight. -/
theorem copy_wu_hi : IsReal (ReadAs.same.apply (View.read (Elt Ideal) ((View.whole main_v19).slice
    (Rect.unit ![1280, 0] ![1536, 1024] inb_S2816x1024_S1536x1024_1280_0)) (V m c main_v19)) : Vec Ideal S1536x1024 .bf16)
    fun f => (A.given.rows t.val).wu (hi f) := by
  intro r j
  refine Eq.trans ?_ (entry_wu H (hi r) j)
  exact congrArg (V m c main_v19) (funext fun a => Fin.ext (by
    fin_cases a
    · show 1280 + 1 * r.val = 1280 + r.val; omega
    · show 0 + 1 * j.val = j.val; omega))

/-- The first part of the third weight. -/
theorem copy_wd_lo : IsReal (ReadAs.same.apply (View.read (Elt Ideal) ((View.whole main_v20).slice
    (Rect.unit ![0, 0] ![1280, 1024] inb_S2816x1024_S1280x1024_0_0)) (V m c main_v20)) : Vec Ideal S1280x1024 .bf16)
    fun f => (A.given.rows t.val).wd (lo f) := by
  intro r j
  refine Eq.trans ?_ (entry_wd H (lo r) j)
  exact congrArg (V m c main_v20) (funext fun a => Fin.ext (by
    fin_cases a
    · show 0 + 1 * r.val = r.val; omega
    · show 0 + 1 * j.val = j.val; omega))

/-- The second part of the third weight. -/
theorem copy_wd_hi : IsReal (ReadAs.same.apply (View.read (Elt Ideal) ((View.whole main_v20).slice
    (Rect.unit ![1280, 0] ![1536, 1024] inb_S2816x1024_S1536x1024_1280_0)) (V m c main_v20)) : Vec Ideal S1536x1024 .bf16)
    fun f => (A.given.rows t.val).wd (hi f) := by
  intro r j
  refine Eq.trans ?_ (entry_wd H (hi r) j)
  exact congrArg (V m c main_v20) (funext fun a => Fin.ext (by
    fin_cases a
    · show 1280 + 1 * r.val = 1280 + r.val; omega
    · show 0 + 1 * j.val = j.val; omega))

omit H

/-! ## Parts read back -/

/-- The first part of a block's columns. -/
theorem ld_cols_lo {x : Vec Ideal S256x2816 .bf16} {X : Fin 256 → Fin 2816 → ℝ} (hx : IsReal x X) :
    IsReal (View.ld x (Rect.unit ![0, 0] ![256, 1280] inb_S256x2816_S256x1280_0_0) : Vec Ideal S256x1280 .bf16)
      fun t f => X t (lo f) := by
  intro r j
  rw [← hx]
  exact View.ld_unit_apply_of _ _ _ _ _ _ fun a => by fin_cases a <;> simp [lo]

/-- The first part of a weight's rows. -/
theorem ld_rows_lo {x : Vec Ideal S2816x1024 .bf16} {X : Fin 2816 → Fin 1024 → ℝ} (hx : IsReal x X) :
    IsReal (View.ld x (Rect.unit ![0, 0] ![1280, 1024] inb_S2816x1024_S1280x1024_0_0) : Vec Ideal S1280x1024 .bf16)
      fun f => X (lo f) := by
  intro r j
  rw [← hx]
  exact View.ld_unit_apply_of _ _ _ _ _ _ fun a => by fin_cases a <;> simp [lo]

/-- The second part of a block's columns. -/
theorem ld_cols_hi {x : Vec Ideal S256x2816 .bf16} {X : Fin 256 → Fin 2816 → ℝ} (hx : IsReal x X) :
    IsReal (View.ld x (Rect.unit ![0, 1280] ![256, 1536] inb_S256x2816_S256x1536_0_1280) : Vec Ideal S256x1536 .bf16)
      fun t f => X t (hi f) := by
  intro r j
  rw [← hx]
  exact View.ld_unit_apply_of _ _ _ _ _ _ fun a => by fin_cases a <;> simp [hi]

/-- The second part of a weight's rows. -/
theorem ld_rows_hi {x : Vec Ideal S2816x1024 .bf16} {X : Fin 2816 → Fin 1024 → ℝ} (hx : IsReal x X) :
    IsReal (View.ld x (Rect.unit ![1280, 0] ![1536, 1024] inb_S2816x1024_S1536x1024_1280_0) : Vec Ideal S1536x1024 .bf16)
      fun f => X (hi f) := by
  intro r j
  rw [← hx]
  exact View.ld_unit_apply_of _ _ _ _ _ _ fun a => by fin_cases a <;> simp [hi]

/-! ## Two parts put together -/

/-- Two column parts stored side by side. -/
theorem canon_cols {p0 : Vec Ideal S256x1280 .bf16} {p1 : Vec Ideal S256x1536 .bf16} {X : Fin 256 → Fin 2816 → ℝ}
    (h0 : IsReal p0 fun t f => X t (lo f)) (h1 : IsReal p1 fun t f => X t (hi f)) :
    IsReal (View.canon [⟨Rect.unit ![0, 1280] ![256, 1536] inb_S256x2816_S256x1536_0_1280, p1⟩,
      ⟨Rect.unit ![0, 0] ![256, 1280] inb_S256x2816_S256x1280_0_0, p0⟩] : Vec Ideal S256x2816 .bf16) X := by
  intro r j
  refine View.canon_append_of_piecesOf (fun y : S256x2816.Idx => ((X (y 0) (y 1) : ℝ) : EReal)) []
    [⟨Rect.unit ![0, 1280] ![256, 1536] inb_S256x2816_S256x1536_0_1280, p1⟩,
      ⟨Rect.unit ![0, 0] ![256, 1280] inb_S256x2816_S256x1280_0_0, p0⟩]
    ⟨fun x => ?_, fun x => ?_, trivial⟩ (ix2 r j) (View.cover_of_tiledBy _ ![256, 256] (by sl_kernel_rfl) _)
  · obtain ⟨r, j, rfl⟩ : ∃ r j, x = ix2 r j := ⟨x 0, x 1, by funext a; fin_cases a <;> rfl⟩
    exact (h1 r j).trans (congrArg₂ (fun a b => ((X a b : ℝ) : EReal))
      (Fin.ext (by show r.val = 0 + 1 * r.val; omega)) (Fin.ext (by show 1280 + j.val = 1280 + 1 * j.val; omega)))
  · obtain ⟨r, j, rfl⟩ : ∃ r j, x = ix2 r j := ⟨x 0, x 1, by funext a; fin_cases a <;> rfl⟩
    exact (h0 r j).trans (congrArg₂ (fun a b => ((X a b : ℝ) : EReal))
      (Fin.ext (by show r.val = 0 + 1 * r.val; omega)) (Fin.ext (by show j.val = 0 + 1 * j.val; omega)))

/-- Two row parts stored one below the other. -/
theorem canon_rows {p0 : Vec Ideal S1280x1024 .bf16} {p1 : Vec Ideal S1536x1024 .bf16} {X : Fin 2816 → Fin 1024 → ℝ}
    (h0 : IsReal p0 fun f => X (lo f)) (h1 : IsReal p1 fun f => X (hi f)) :
    IsReal (View.canon [⟨Rect.unit ![1280, 0] ![1536, 1024] inb_S2816x1024_S1536x1024_1280_0, p1⟩,
      ⟨Rect.unit ![0, 0] ![1280, 1024] inb_S2816x1024_S1280x1024_0_0, p0⟩] : Vec Ideal S2816x1024 .bf16) X := by
  intro r j
  refine View.canon_append_of_piecesOf (fun y : S2816x1024.Idx => ((X (y 0) (y 1) : ℝ) : EReal)) []
    [⟨Rect.unit ![1280, 0] ![1536, 1024] inb_S2816x1024_S1536x1024_1280_0, p1⟩,
      ⟨Rect.unit ![0, 0] ![1280, 1024] inb_S2816x1024_S1280x1024_0_0, p0⟩]
    ⟨fun x => ?_, fun x => ?_, trivial⟩ (ix2 r j) (View.cover_of_tiledBy _ ![256, 1024] (by sl_kernel_rfl) _)
  · obtain ⟨r, j, rfl⟩ : ∃ r j, x = ix2 r j := ⟨x 0, x 1, by funext a; fin_cases a <;> rfl⟩
    exact (h1 r j).trans (congrArg₂ (fun a b => ((X a b : ℝ) : EReal))
      (Fin.ext (by show 1280 + r.val = 1280 + 1 * r.val; omega)) (Fin.ext (by show j.val = 0 + 1 * j.val; omega)))
  · obtain ⟨r, j, rfl⟩ : ∃ r j, x = ix2 r j := ⟨x 0, x 1, by funext a; fin_cases a <;> rfl⟩
    exact (h0 r j).trans (congrArg₂ (fun a b => ((X a b : ℝ) : EReal))
      (Fin.ext (by show r.val = 0 + 1 * r.val; omega)) (Fin.ext (by show j.val = 0 + 1 * j.val; omega)))

/-! ## Sums over the blocks -/

/-- The sums over the blocks' rows make the sum over all rows. -/
theorem sum_rows (f : Fin 8192 → ℝ) : ∑ s ∈ Finset.range 32, ∑ r, f (row s r) = ∑ t, f t := by
  rw [← Fin.sum_univ_eq_sum_range fun s => ∑ r, f (row s r), ← (finProdFinEquiv (m := 32) (n := 256)).sum_comp,
    Fintype.sum_prod_type]
  refine Finset.sum_congr rfl fun s _ => Finset.sum_congr rfl fun r _ => congrArg f (Fin.ext ?_)
  show (256 * s.val + r.val) % 8192 = r.val + 256 * s.val
  omega

end Cert.Ffn

end
-- ==== Proof.FfnPoints.lean ====
/- What a grid point of the feed-forward layer's kernel leaves, in real numbers: the weights it keeps, the row outputs, and
   the gain's cotangent so far. -/
module

public import proofs.«01_k».proof.Proof.FfnBlocks

@[expose] public section

set_option maxRecDepth 16384

noncomputable section

namespace Cert.Ffn

open Cert.Mid Cert.Kernel2Ideal Cert.Kernel2Ideal.Gen Idealize.ShloMosaic Idealize.ShloMosaic.TcCoe Idealize.SL.Sem

variable {m : (ℓ : Loc nD τ sig) → Buf (Elt Ideal) ℓ} {c : Dev nD} {A : Args} (H : MemReal m c A) (t : Fin cfg0.N)

/-- The number added to the mean square. -/
theorem lit_eps' : (FloatOps.ofBits .f32 897988541#32 : Ideal .f32) = ((eps : ℝ) : EReal) := lit_eps

include H

/-! ## The weights kept -/

/-- The first weight, after every point. -/
theorem kept_wg : ∀ (n : ℕ) (h : n < cfg0.N), IsReal ((outsAt0 m c n h).2.2.2.2.1 : Vec Ideal S2816x1024 .bf16) A.given.wg
  | 0, h => fun r j => by
    have e := canon_rows (X := A.given.wg) (copy_wg_lo H ⟨0, h⟩) (copy_wg_hi H ⟨0, h⟩) r j
    rw [outsAt0_A m c ⟨0, h⟩ rfl (Nat.not_succ_le_zero 0)]
    dsimp only
    unfold sout0_A_0
    frame_open
    simp (disch := decide) only [↓ View.readCov_skip, ↓ View.readCov_cons_toLoadRect, ↓ View.readCov_fill]
    frame_out
    exact e
  | n + 1, h => fun r j => by
    have hn : n + 1 < 32 := lt_of_lt_of_eq h N_0
    rw [outsAt0_B m c ⟨n + 1, h⟩ (by dsimp only; omega) (by dsimp only; omega)]
    exact kept_wg n (Nat.lt_of_succ_lt h) r j

/-- The second weight, after every point. -/
theorem kept_wu : ∀ (n : ℕ) (h : n < cfg0.N), IsReal ((outsAt0 m c n h).2.2.2.2.2.1 : Vec Ideal S2816x1024 .bf16) A.given.wu
  | 0, h => fun r j => by
    have e := canon_rows (X := A.given.wu) (copy_wu_lo H ⟨0, h⟩) (copy_wu_hi H ⟨0, h⟩) r j
    rw [outsAt0_A m c ⟨0, h⟩ rfl (Nat.not_succ_le_zero 0)]
    dsimp only
    unfold sout0_A_1
    frame_open
    simp (disch := decide) only [↓ View.readCov_skip, ↓ View.readCov_cons_toLoadRect, ↓ View.readCov_fill]
    frame_out
    exact e
  | n + 1, h => fun r j => by
    have hn : n + 1 < 32 := lt_of_lt_of_eq h N_0
    rw [outsAt0_B m c ⟨n + 1, h⟩ (by dsimp only; omega) (by dsimp only; omega)]
    exact kept_wu n (Nat.lt_of_succ_lt h) r j

/-- The third weight, after every point. -/
theorem kept_wd : ∀ (n : ℕ) (h : n < cfg0.N), IsReal ((outsAt0 m c n h).2.2.2.2.2.2 : Vec Ideal S2816x1024 .bf16) A.given.wd
  | 0, h => fun r j => by
    have e := canon_rows (X := A.given.wd) (copy_wd_lo H ⟨0, h⟩) (copy_wd_hi H ⟨0, h⟩) r j
    rw [outsAt0_A m c ⟨0, h⟩ rfl (Nat.not_succ_le_zero 0)]
    dsimp only
    unfold sout0_A_2
    frame_open
    simp (disch := decide) only [↓ View.readCov_skip, ↓ View.readCov_cons_toLoadRect, ↓ View.readCov_fill]
    frame_out
    exact e
  | n + 1, h => fun r j => by
    have hn : n + 1 < 32 := lt_of_lt_of_eq h N_0
    rw [outsAt0_B m c ⟨n + 1, h⟩ (by dsimp only; omega) (by dsimp only; omega)]
    exact kept_wd n (Nat.lt_of_succ_lt h) r j

/-! ## The first point -/

/-- The cotangent of the first product. -/
theorem first_out_dg (h0 : t.val % 32 = 0) (h1 : ¬1 ≤ t.val) :
    IsReal ((outsAt0 m c t.val t.isLt).1 : Vec Ideal S256x2816 .bf16) (A.given.rows t.val).dg := by
  have d := blk_dx3 H t
  have x := blk_x2 H t
  have g0 := ld_cols_lo (blk_g H t)
  have g1 := ld_cols_hi (blk_g H t)
  have u0 := ld_cols_lo (blk_u H t)
  have u1 := ld_cols_hi (blk_u H t)
  have e := canon_cols (X := (A.given.rows t.val).dg) (first_dg_0 _ d (copy_wd_lo H t) g0 u0) (first_dg_1 _ d (copy_wd_hi H t) g1 u1)
  intro r j
  rw [outsAt0_A m c t h0 h1]
  frame_open
  simp (disch := decide) only [↓ View.readCov_skip, ↓ View.readCov_cons_toLoadRect, ↓ View.readCov_fill]
  frame_out
  exact e r j

/-- The cotangent of the second product. -/
theorem first_out_du (h0 : t.val % 32 = 0) (h1 : ¬1 ≤ t.val) :
    IsReal ((outsAt0 m c t.val t.isLt).2.1 : Vec Ideal S256x2816 .bf16) (A.given.rows t.val).du := by
  have d := blk_dx3 H t
  have x := blk_x2 H t
  have g0 := ld_cols_lo (blk_g H t)
  have g1 := ld_cols_hi (blk_g H t)
  have u0 := ld_cols_lo (blk_u H t)
  have u1 := ld_cols_hi (blk_u H t)
  have e := canon_cols (X := (A.given.rows t.val).du) (first_du_0 _ d (copy_wd_lo H t) g0) (first_du_1 _ d (copy_wd_hi H t) g1)
  intro r j
  rw [outsAt0_A m c t h0 h1]
  frame_open
  simp (disch := decide) only [↓ View.readCov_skip, ↓ View.readCov_cons_toLoadRect, ↓ View.readCov_fill]
  frame_out
  exact e r j

/-- The cotangent of the residual stream. -/
theorem first_out_dx2 (h0 : t.val % 32 = 0) (h1 : ¬1 ≤ t.val) :
    IsReal ((outsAt0 m c t.val t.isLt).2.2.1 : Vec Ideal S256x1024 .f32) (A.given.rows t.val).dx2 := by
  have d := blk_dx3 H t
  have x := blk_x2 H t
  have g0 := ld_cols_lo (blk_g H t)
  have g1 := ld_cols_hi (blk_g H t)
  have u0 := ld_cols_lo (blk_u H t)
  have u1 := ld_cols_hi (blk_u H t)
  have hh := first_dhf (A.given.rows t.val)
    (first_half _ (first_du_0 _ d (copy_wd_lo H t) g0) (first_dg_0 _ d (copy_wd_lo H t) g0 u0) (copy_wg_lo H t) (copy_wu_lo H t))
    d (copy_wd_hi H t) g1 u1 (copy_wg_hi H t) (copy_wu_hi H t)
  have e := first_dx2 _ d hh x (blk_gf H t)
  intro r j
  rw [outsAt0_A m c t h0 h1]
  frame_open
  simp (disch := decide) only [↓ View.readCov_skip, ↓ View.readCov_cons_toLoadRect, ↓ View.readCov_fill]
  frame_out
  exact e r j

/-- The cotangent of the gain. -/
theorem first_out_dgf (h0 : t.val % 32 = 0) (h1 : ¬1 ≤ t.val) :
    IsReal ((outsAt0 m c t.val t.isLt).2.2.2.1 : Vec Ideal S1x1024 .f32) (fun _ c => (0 : ℝ) + (A.given.rows t.val).dgf c) := by
  have d := blk_dx3 H t
  have x := blk_x2 H t
  have g0 := ld_cols_lo (blk_g H t)
  have g1 := ld_cols_hi (blk_g H t)
  have u0 := ld_cols_lo (blk_u H t)
  have u1 := ld_cols_hi (blk_u H t)
  have hh := first_dhf (A.given.rows t.val)
    (first_half _ (first_du_0 _ d (copy_wd_lo H t) g0) (first_dg_0 _ d (copy_wd_lo H t) g0 u0) (copy_wg_lo H t) (copy_wu_lo H t))
    d (copy_wd_hi H t) g1 u1 (copy_wg_hi H t) (copy_wu_hi H t)
  have e := first_dgf _ hh x zero_dgf
  intro r j
  rw [outsAt0_A m c t h0 h1]
  frame_open
  simp (disch := decide) only [↓ View.readCov_skip, ↓ View.readCov_cons_toLoadRect, ↓ View.readCov_fill]
  frame_out
  exact e r j

/-! ## The other points -/

/-- The cotangent of the first product. -/
theorem next_out_dg (h0 : ¬t.val % 32 = 0) (h1 : 1 ≤ t.val) :
    IsReal ((outsAt0 m c t.val t.isLt).1 : Vec Ideal S256x2816 .bf16) (A.given.rows t.val).dg := by
  have d := blk_dx3 H t
  have x := blk_x2 H t
  have g0 := ld_cols_lo (blk_g H t)
  have g1 := ld_cols_hi (blk_g H t)
  have u0 := ld_cols_lo (blk_u H t)
  have u1 := ld_cols_hi (blk_u H t)
  have hp : t.val - 1 < cfg0.N := Nat.lt_of_le_of_lt (Nat.sub_le _ _) t.isLt
  have wd0 := ld_rows_lo (kept_wd H (t.val - 1) hp)
  have wd1 := ld_rows_hi (kept_wd H (t.val - 1) hp)
  have e := canon_cols (X := (A.given.rows t.val).dg) (next_dg_0 _ d wd0 g0 u0) (next_dg_1 _ d wd1 g1 u1)
  intro r j
  rw [outsAt0_B m c t h0 h1]
  frame_open
  simp (disch := decide) only [↓ View.readCov_skip, ↓ View.readCov_cons_toLoadRect, ↓ View.readCov_fill]
  frame_out
  simp only [read_unread_whole]
  exact e r j

/-- The cotangent of the second product. -/
theorem next_out_du (h0 : ¬t.val % 32 = 0) (h1 : 1 ≤ t.val) :
    IsReal ((outsAt0 m c t.val t.isLt).2.1 : Vec Ideal S256x2816 .bf16) (A.given.rows t.val).du := by
  have d := blk_dx3 H t
  have x := blk_x2 H t
  have g0 := ld_cols_lo (blk_g H t)
  have g1 := ld_cols_hi (blk_g H t)
  have u0 := ld_cols_lo (blk_u H t)
  have u1 := ld_cols_hi (blk_u H t)
  have hp : t.val - 1 < cfg0.N := Nat.lt_of_le_of_lt (Nat.sub_le _ _) t.isLt
  have wd0 := ld_rows_lo (kept_wd H (t.val - 1) hp)
  have wd1 := ld_rows_hi (kept_wd H (t.val - 1) hp)
  have e := canon_cols (X := (A.given.rows t.val).du) (next_du_0 _ d wd0 g0) (next_du_1 _ d wd1 g1)
  intro r j
  rw [outsAt0_B m c t h0 h1]
  frame_open
  simp (disch := decide) only [↓ View.readCov_skip, ↓ View.readCov_cons_toLoadRect, ↓ View.readCov_fill]
  frame_out
  simp only [read_unread_whole]
  exact e r j

/-- The cotangent of the residual stream. -/
theorem next_out_dx2 (h0 : ¬t.val % 32 = 0) (h1 : 1 ≤ t.val) :
    IsReal ((outsAt0 m c t.val t.isLt).2.2.1 : Vec Ideal S256x1024 .f32) (A.given.rows t.val).dx2 := by
  have d := blk_dx3 H t
  have x := blk_x2 H t
  have g0 := ld_cols_lo (blk_g H t)
  have g1 := ld_cols_hi (blk_g H t)
  have u0 := ld_cols_lo (blk_u H t)
  have u1 := ld_cols_hi (blk_u H t)
  have hp : t.val - 1 < cfg0.N := Nat.lt_of_le_of_lt (Nat.sub_le _ _) t.isLt
  have wd0 := ld_rows_lo (kept_wd H (t.val - 1) hp)
  have wd1 := ld_rows_hi (kept_wd H (t.val - 1) hp)
  have wg0 := ld_rows_lo (kept_wg H (t.val - 1) hp)
  have wg1 := ld_rows_hi (kept_wg H (t.val - 1) hp)
  have wu0 := ld_rows_lo (kept_wu H (t.val - 1) hp)
  have wu1 := ld_rows_hi (kept_wu H (t.val - 1) hp)
  have hh := next_dhf (A.given.rows t.val) (next_half _ d wd0 g0 u0 wg0 wu0) d wd1 g1 u1 wg1 wu1
  have e := next_dx2 _ lit_eps' d hh x (blk_gf H t)
  intro r j
  rw [outsAt0_B m c t h0 h1]
  frame_open
  simp (disch := decide) only [↓ View.readCov_skip, ↓ View.readCov_cons_toLoadRect, ↓ View.readCov_fill]
  frame_out
  simp only [read_unread_whole]
  exact e r j

/-- The cotangent of the gain. -/
theorem next_out_dgf (h0 : ¬t.val % 32 = 0) (h1 : 1 ≤ t.val) {S : Fin 1024 → ℝ}
    (ha : IsReal ((outsAt0 m c (t.val - 1) (Nat.lt_of_le_of_lt (Nat.sub_le _ _) t.isLt)).2.2.2.1 : Vec Ideal S1x1024 .f32) fun _ => S) :
    IsReal ((outsAt0 m c t.val t.isLt).2.2.2.1 : Vec Ideal S1x1024 .f32) (fun _ c => S c + (A.given.rows t.val).dgf c) := by
  have d := blk_dx3 H t
  have x := blk_x2 H t
  have g0 := ld_cols_lo (blk_g H t)
  have g1 := ld_cols_hi (blk_g H t)
  have u0 := ld_cols_lo (blk_u H t)
  have u1 := ld_cols_hi (blk_u H t)
  have hp : t.val - 1 < cfg0.N := Nat.lt_of_le_of_lt (Nat.sub_le _ _) t.isLt
  have wd0 := ld_rows_lo (kept_wd H (t.val - 1) hp)
  have wd1 := ld_rows_hi (kept_wd H (t.val - 1) hp)
  have wg0 := ld_rows_lo (kept_wg H (t.val - 1) hp)
  have wg1 := ld_rows_hi (kept_wg H (t.val - 1) hp)
  have wu0 := ld_rows_lo (kept_wu H (t.val - 1) hp)
  have wu1 := ld_rows_hi (kept_wu H (t.val - 1) hp)
  have hh := next_dhf (A.given.rows t.val) (next_half _ d wd0 g0 u0 wg0 wu0) d wd1 g1 u1 wg1 wu1
  have e := next_dgf _ lit_eps' hh x ha
  intro r j
  rw [outsAt0_B m c t h0 h1]
  frame_open
  simp (disch := decide) only [↓ View.readCov_skip, ↓ View.readCov_cons_toLoadRect, ↓ View.readCov_fill]
  frame_out
  simp only [read_unread_whole]
  exact e r j

/-! ## Every point -/

/-- The cotangent of the first product. -/
theorem out_dg : IsReal ((outsAt0 m c t.val t.isLt).1 : Vec Ideal S256x2816 .bf16) (A.given.rows t.val).dg := by
  have ht : t.val < 32 := lt_of_lt_of_eq t.isLt N_0
  by_cases h : 1 ≤ t.val
  · exact next_out_dg H t (by omega) h
  · exact first_out_dg H t (by omega) h

/-- The cotangent of the second product. -/
theorem out_du : IsReal ((outsAt0 m c t.val t.isLt).2.1 : Vec Ideal S256x2816 .bf16) (A.given.rows t.val).du := by
  have ht : t.val < 32 := lt_of_lt_of_eq t.isLt N_0
  by_cases h : 1 ≤ t.val
  · exact next_out_du H t (by omega) h
  · exact first_out_du H t (by omega) h

/-- The cotangent of the residual stream. -/
theorem out_dx2 : IsReal ((outsAt0 m c t.val t.isLt).2.2.1 : Vec Ideal S256x1024 .f32) (A.given.rows t.val).dx2 := by
  have ht : t.val < 32 := lt_of_lt_of_eq t.isLt N_0
  by_cases h : 1 ≤ t.val
  · exact next_out_dx2 H t (by omega) h
  · exact first_out_dx2 H t (by omega) h

end Cert.Ffn

end
-- ==== Proof.FfnArrays.lean ====
/- What the four results of the feed-forward layer's kernel hold after the run, in real numbers: the row outputs block by
   block, the gain's cotangent as the sum over the blocks. -/
module

public import proofs.«01_k».proof.Proof.FfnPoints

@[expose] public section

set_option maxRecDepth 16384

noncomputable section

namespace Cert.Ffn

open Cert.Mid Cert.Kernel2Ideal Cert.Kernel2Ideal.Gen Idealize.ShloMosaic Idealize.ShloMosaic.TcCoe Idealize.SL.Sem

variable {m : (ℓ : Loc nD τ sig) → Buf (Elt Ideal) ℓ} {c : Dev nD} {A : Args} (H : MemReal m c A)

include H

/-- The cotangent of the first product. -/
theorem arr_dg : IsReal ((dats m 0 c).arrAt 5 cfg0.N : Vec Ideal S8192x2816 .bf16) A.given.dg := by
  have e : (dats m 0 c).arrAt 5 cfg0.N = fun y : S8192x2816.Idx => ((A.given.dg (y 0) (y 1) : ℝ) : EReal) := by
    refine (dats m 0 c).arrAt_eq_of_covers 5 _ (by decide +kernel) fun t hf y => ?_
    have ht : t.val < 32 := lt_of_lt_of_eq t.isLt N_0
    obtain ⟨r, j, rfl⟩ : ∃ (r : Fin 256) (j : Fin 2816), y = ix2 r j := ⟨y 0, y 1, by funext a; fin_cases a <;> rfl⟩
    blk_simp
    rw [after0_5, show (win0_5.blk t).view.emb (ix2 r j) = ix2 (row t.val r) j by blk_ext [row, idx_rows t]]
    exact out_dg H t r j
  intro i j
  exact congrFun e (ix2 i j)

/-- The cotangent of the second product. -/
theorem arr_du : IsReal ((dats m 0 c).arrAt 6 cfg0.N : Vec Ideal S8192x2816 .bf16) A.given.du := by
  have e : (dats m 0 c).arrAt 6 cfg0.N = fun y : S8192x2816.Idx => ((A.given.du (y 0) (y 1) : ℝ) : EReal) := by
    refine (dats m 0 c).arrAt_eq_of_covers 6 _ (by decide +kernel) fun t hf y => ?_
    have ht : t.val < 32 := lt_of_lt_of_eq t.isLt N_0
    obtain ⟨r, j, rfl⟩ : ∃ (r : Fin 256) (j : Fin 2816), y = ix2 r j := ⟨y 0, y 1, by funext a; fin_cases a <;> rfl⟩
    blk_simp
    rw [after0_6, show (win0_6.blk t).view.emb (ix2 r j) = ix2 (row t.val r) j by blk_ext [row, idx_rows t]]
    exact out_du H t r j
  intro i j
  exact congrFun e (ix2 i j)

/-- The cotangent of the residual stream. -/
theorem arr_dx2 : IsReal ((dats m 0 c).arrAt 7 cfg0.N : Vec Ideal S8192x1024 .f32) A.given.dx2 := by
  have e : (dats m 0 c).arrAt 7 cfg0.N = fun y : S8192x1024.Idx => ((A.given.dx2 (y 0) (y 1) : ℝ) : EReal) := by
    refine (dats m 0 c).arrAt_eq_of_covers 7 _ (by decide +kernel) fun t hf y => ?_
    have ht : t.val < 32 := lt_of_lt_of_eq t.isLt N_0
    obtain ⟨r, j, rfl⟩ : ∃ (r : Fin 256) (j : Fin 1024), y = ix2 r j := ⟨y 0, y 1, by funext a; fin_cases a <;> rfl⟩
    blk_simp
    rw [after0_7, show (win0_7.blk t).view.emb (ix2 r j) = ix2 (row t.val r) j by blk_ext [row, idx_rows t]]
    exact out_dx2 H t r j
  intro i j
  exact congrFun e (ix2 i j)

/-- The cotangent of the gain after the first points. -/
theorem sum_dgf : ∀ (n : ℕ) (h : n < cfg0.N), IsReal ((outsAt0 m c n h).2.2.2.1 : Vec Ideal S1x1024 .f32)
    fun _ j => ∑ s ∈ Finset.range (n + 1), (A.given.rows s).dgf j
  | 0, h => fun i j => (first_out_dgf H ⟨0, h⟩ rfl (Nat.not_succ_le_zero 0) i j).trans (congrArg _ (by simp))
  | n + 1, h => fun i j => by
    have hn : n + 1 < 32 := lt_of_lt_of_eq h N_0
    exact (next_out_dgf H ⟨n + 1, h⟩ (by dsimp only; omega) (by dsimp only; omega)
      (S := fun j => ∑ s ∈ Finset.range (n + 1), (A.given.rows s).dgf j) (sum_dgf n (Nat.lt_of_succ_lt h)) i j).trans
      (by dsimp only; rw [Finset.sum_range_succ _ (n + 1)])

omit H in
/-- There is a last point. -/
theorem last_lt : 31 < cfg0.N := lt_of_lt_of_eq (by decide) N_0.symm

/-- The last point. -/
def lastPoint : Fin cfg0.N := ⟨31, last_lt⟩

/-- The cotangent of the gain. -/
theorem arr_dgf : IsReal ((dats m 0 c).arrAt 8 cfg0.N : Vec Ideal S1x1024 .f32) fun _ => A.given.dgf := by
  have e : (dats m 0 c).arrAt 8 cfg0.N = ((outsAt0 m c 31 last_lt).2.2.2.1 : Vec Ideal S1x1024 .f32) := by
    refine (dats m 0 c).arrAt_eq_of_after_last 8 lastPoint (by decide +kernel) _ fun j => ?_
    blk_simp
    rw [after0_8]
    rfl
  intro i j
  rw [e]
  exact (sum_dgf H 31 last_lt i j).trans (congrArg _ (sum_rows fun t => A.given.dhf t j * unit (A.given.x2 t) j))

end Cert.Ffn

end
-- ==== Proof.FfnFinite.lean ====
/- The precondition of the feed-forward layer as real numbers: arrays whose elements are all finite are arrays of reals. -/
module

public import proofs.«01_k».proof.Defs
public import proofs.«01_k».proof.Proof.FfnEntry
public import proofs.«01_k».proof.Proof.Gen.Pre_finite2

@[expose] public section

set_option maxRecDepth 16384

noncomputable section

namespace Cert.Ffn

open Cert.Mid Idealize.ShloMosaic Idealize.ShloMosaic.TcCoe

attribute [local instance] Cert.Pre_finite2.Gen.facts

/-- An element below infinity in absolute value is a real. -/
theorem finite_elem {s : Shape} {x : FVec Ideal s .f32} {hb : Cert.Pre_finite2.S_.BroadcastsInDim s (![] : Fin 0 → Fin s.rank)}
    (h : cmpf .olt (Host.absf x) (broadcastInDim s ![] hb (constant (F := Ideal) Cert.Pre_finite2.S_ .f32 0x7F800000#32)) = fun _ => 1#1)
    (i : s.Idx) : x i = ((EReal.toReal (x i) : ℝ) : EReal) := by
  have h : Ideal.cmp .olt (max (x i) (-(x i))) (Ideal.ofBits .f32 0x7F800000#32) = 1#1 := congrFun h i
  rw [show Ideal.ofBits .f32 0x7F800000#32 = ⊤ by simp [Ideal.ofBits, Ideal.ieee]] at h
  have h : max (x i) (-(x i)) < ⊤ := by
    by_contra hc
    simp [Ideal.cmp, hc] at h
  refine (EReal.coe_toReal (fun e => ?_) (fun e => ?_)).symm
  · rw [e] at h; simp at h
  · rw [e] at h; simp at h

/-- The arguments read as reals. -/
def argsOf (m : (ℓ : Loc Cert.Kernel2Ideal.nD Cert.Kernel2Ideal.τ Cert.Kernel2Ideal.sig) → Buf (Elt Ideal) ℓ) (c : Dev Cert.Kernel2Ideal.nD) : Args :=
  let rd {a b : ℕ} (x : FVec Ideal ⟨2, ![a, b]⟩ .f32) (i : Fin a) (j : Fin b) : ℝ := EReal.toReal (x (ix2 i j))
  { dx3 := rd (m ((c : Thread Cert.Kernel2Ideal.nD Cert.Kernel2Ideal.τ).loc Cert.Kernel2Ideal.main_arg0))
    x2 := rd (m ((c : Thread Cert.Kernel2Ideal.nD Cert.Kernel2Ideal.τ).loc Cert.Kernel2Ideal.main_arg1))
    gf := rd (m ((c : Thread Cert.Kernel2Ideal.nD Cert.Kernel2Ideal.τ).loc Cert.Kernel2Ideal.main_arg2)) 0
    wg := rd (m ((c : Thread Cert.Kernel2Ideal.nD Cert.Kernel2Ideal.τ).loc Cert.Kernel2Ideal.main_arg3))
    wu := rd (m ((c : Thread Cert.Kernel2Ideal.nD Cert.Kernel2Ideal.τ).loc Cert.Kernel2Ideal.main_arg4))
    wd := rd (m ((c : Thread Cert.Kernel2Ideal.nD Cert.Kernel2Ideal.τ).loc Cert.Kernel2Ideal.main_arg5)) }

/-- Under the precondition the arguments in memory are reals. -/
theorem mem_real {m : (ℓ : Loc Cert.Kernel2Ideal.nD Cert.Kernel2Ideal.τ Cert.Kernel2Ideal.sig) → Buf (Elt Ideal) ℓ}
    (h : Cert.Pre_Kernel2Ideal_finite2 m) (c : Dev Cert.Kernel2Ideal.nD) : MemReal m c (argsOf m c) := by
  obtain ⟨e0, e1, e2, e3, e4, e5⟩ := h c
  exact
  { h0 := fun i j => finite_elem e0 (ix2 i j)
    h1 := fun i j => finite_elem e1 (ix2 i j)
    h2 := fun i j => by obtain rfl : i = 0 := Subsingleton.elim _ _; exact finite_elem e2 (ix2 0 j)
    h3 := fun i j => finite_elem e3 (ix2 i j)
    h4 := fun i j => finite_elem e4 (ix2 i j)
    h5 := fun i j => finite_elem e5 (ix2 i j) }

end Cert.Ffn

end
-- ==== Proof.FfnValue.lean ====
/- The claims about the feed-forward layer's backward pass: the frames, and the equality of the four results over the
   extended reals. -/
module

public import proofs.«01_k».proof.Defs
public import proofs.«01_k».proof.Proof.Gen.Kernel2Ideal
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_finite2
public import proofs.«01_k».proof.Proof.Gen.Kernel2Ideal.Value
public import proofs.«01_k».proof.Proof.FfnArrays
public import proofs.«01_k».proof.Proof.FfnReference
public import proofs.«01_k».proof.Proof.FfnFinite

@[expose] public section

set_option maxRecDepth 16384

noncomputable section

namespace Cert.Ffn

open Idealize.ShloMosaic Idealize.ShloMosaic.TcCoe Idealize.SL.Sem

attribute [local instance] Cert.Kernel2Ideal.Gen.facts Cert.Reference2Ideal.Gen.facts Cert.Pre_finite2.Gen.facts

/-! ## The frames -/

/-- The kernel over the extended reals runs, keeps its arguments and leaves every counter at zero. -/
theorem frame_ideal : Cert.quiescent_Kernel2Ideal := fun m ρ _ => Cert.Kernel2Ideal.Gen.frame m ρ

/-- The reference runs, keeps its arguments and leaves every counter at zero. -/
theorem frame_reference : Cert.quiescent_Reference2Ideal := fun m ρ _ =>
  (θ_run Cert.Reference2Ideal.defs _ _).mono
    (fun r h => ⟨fun c => (h c).2.2.2.2, sem_eq_zero_of_no_sems (by decide) r.2⟩)
    (Cert.Reference2Ideal.Value.run (F := Ideal) m ρ)

/-- The first under the precondition. -/
theorem frame_ideal_finite : Cert.quiescent_Kernel2Ideal_pre_finite2 := fun m ρ _ => Cert.Kernel2Ideal.Gen.frame m ρ

/-- The second under the precondition. -/
theorem frame_reference_finite : Cert.quiescent_Reference2Ideal_pre_finite2 := fun m ρ _ => frame_reference m ρ trivial

/-! ## The results -/

/-- Two arrays that are the same reals are equal. -/
theorem eq_of_real {a b : ℕ} {u v : Shape.Idx ⟨2, ![a, b]⟩ → EReal} {U : Fin a → Fin b → ℝ}
    (hu : Cert.Mid.IsReal u U) (hv : Cert.Mid.IsReal v U) : u = v := by
  funext i
  rw [eq_ix2 i]
  exact (hu (i 0) (i 1)).trans (hv (i 0) (i 1)).symm

set_option maxHeartbeats 4000000 in
/-- From finite arguments that agree, kernel and reference end with equal results. -/
theorem value : Cert.algebraic_Kernel2Ideal_Reference2Ideal_pre_finite2 := by
  intro m ρ m' ρ' hpre hagree
  have H := fun c => mem_real hpre c
  have H' : ∀ c : Dev Cert.Kernel2Ideal.nD, ArgsReal (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5)) (argsOf m c) := by
    intro c
    obtain ⟨e0, e1, e2, e3, e4, e5⟩ := hagree c
    rw [e0, e1, e2, e3, e4, e5]
    exact H c
  refine ⟨fun c => (Cert.Kernel2Ideal.Gen.dats m 0 c).arrAt 5 Cert.Kernel2Ideal.cfg0.N, fun c => (Cert.Kernel2Ideal.Gen.dats m 0 c).arrAt 6 Cert.Kernel2Ideal.cfg0.N, fun c => (Cert.Kernel2Ideal.Gen.dats m 0 c).arrAt 7 Cert.Kernel2Ideal.cfg0.N, fun c => (Cert.Kernel2Ideal.Gen.dats m 0 c).arrAt 8 Cert.Kernel2Ideal.cfg0.N, ?_, ?_⟩
  · refine (θ_run Cert.Kernel2Ideal.defs _ _).mono (fun r h c => ?_) (Cert.Kernel2Ideal.Value.run_blocks (F := Ideal) m ρ)
    exact h c
  · refine (θ_run Cert.Reference2Ideal.defs _ _).mono (fun r h c => ?_) (Cert.Reference2Ideal.Value.run (F := Ideal) m' ρ')
    obtain ⟨r0, r1, r2, r3, kept⟩ := h c
    exact ⟨(r0.trans (Cert.Reference2Ideal.Read.val_main_v52_eq _ _)).trans (eq_of_real (v52_real (H' c)) (arr_dg (H c))),
      (r1.trans (Cert.Reference2Ideal.Read.val_main_v53_eq _ _ _ _ _)).trans (eq_of_real (v53_real (H' c)) (arr_du (H c))),
      (r2.trans (Cert.Reference2Ideal.Read.val_main_v51_eq _ _)).trans (eq_of_real (v51_real (H' c)) (arr_dx2 (H c))),
      (r3.trans (Cert.Reference2Ideal.Read.val_main_v34_eq _ _)).trans (eq_of_real (v34_real (H' c)) (arr_dgf (H c))), kept⟩

end Cert.Ffn

end
-- ==== Proof.SameText2.lean ====
/- The frame of the kernel with its bit patterns, from the one run: the kernel and its idealization are the same text in
   two namespaces. -/
module

public import proofs.«01_k».proof.Defs
public import proofs.«01_k».proof.Proof.Gen.Kernel2
public import proofs.«01_k».proof.Proof.Gen.Kernel2Ideal
public import proofs.«01_k».proof.Proof.Gen.Kernel2Ideal.Frame

@[expose] public section

set_option maxRecDepth 65536
set_option maxHeartbeats 4000000

noncomputable section

namespace Cert.Proof

open Idealize.ShloMosaic Idealize.ShloMosaic.TcCoe Idealize.SL.Sem

attribute [local instance] Cert.Kernel2.Gen.facts Cert.Kernel2Ideal.Gen.facts

/-- The two body tables are the same. -/
theorem same_bodies2 : (@Cert.Kernel2.defs₀ Bits _ _ : Defs Cert.Kernel2Ideal.nD Cert.Kernel2Ideal.τ Cert.Kernel2Ideal.sig (Elt Bits)
    Cert.Kernel2Ideal.Λ₀) = (@Cert.Kernel2Ideal.defs₀ Bits _ _) := by sl_kernel_rfl

/-- The kernel with its bit patterns runs, keeps its arguments and leaves every counter at zero. -/
theorem frame_kernel2 : Cert.quiescent_Kernel2 := by
  intro m ρ _
  unfold Cert.Kernel2.defs
  have h := Cert.Kernel2Ideal.Gen.frame (F := Bits) m ρ
  unfold Cert.Kernel2Ideal.defs at h
  rw [← same_bodies2] at h
  exact h

end Cert.Proof

end
-- ==== Proof.MemArrays.lean ====
/- What the memory's kernel leaves in its five results, and that the reference's values are the same ones: the products are
   the reference's with their factors exchanged, at every element and for all arguments. -/
module

public import proofs.«01_k».proof.Proof.Gen.Kernel3Ideal.Value
public import proofs.«01_k».proof.Proof.Gen.Reference3Ideal.Read
public import Idealize.ShloMosaic.Lib.Pipeline.ReadBack
public import Idealize.ShloMosaic.Lib.Pipeline.ValueKit

@[expose] public section

set_option maxRecDepth 16384

noncomputable section

namespace Cert.Mem

open Cert.Kernel3Ideal Cert.Kernel3Ideal.Gen Idealize.ShloMosaic Idealize.ShloMosaic.TcCoe Idealize.SL.Sem
open Cert.Reference3Ideal.Read

/-- The index maps: every window is read and written whole. -/
theorem idx_whole : ∀ t : Fin cfg0.N, (win0_0.index t 0 = 0 ∧ win0_0.index t 1 = 0) ∧
    (win0_1.index t 0 = 0 ∧ win0_1.index t 1 = 0) ∧
    (win0_2.index t 0 = 0 ∧ win0_2.index t 1 = 0) ∧
    (win0_3.index t 0 = 0 ∧ win0_3.index t 1 = 0) ∧
    (win0_5.index t 0 = 0 ∧ win0_5.index t 1 = 0) ∧
    (win0_6.index t 0 = 0 ∧ win0_6.index t 1 = 0) ∧
    (win0_7.index t 0 = 0 ∧ win0_7.index t 1 = 0) ∧
    (win0_8.index t 0 = 0 ∧ win0_8.index t 1 = 0) ∧
    (win0_9.index t 0 = 0 ∧ win0_9.index t 1 = 0) ∧
    (win0_10.index t 0 = 0 ∧ win0_10.index t 1 = 0) ∧
    (win0_11.index t 0 = 0 ∧ win0_11.index t 1 = 0) :=
  (by decide +kernel : ∀ t : Fin grid0.N, _)

variable (m : (ℓ : Loc nD τ sig) → Buf (Elt Ideal) ℓ) (c : Dev nD) (t : Fin cfg0.N)

/-! ## The blocks -/

/-- The keys' cotangent. -/
theorem blk_dk (r : Fin 256) (j : Fin 1024) : iblk m c 0 t (ix2 r j) = m ((c : Thread nD τ).loc main_arg0) (ix2 r j) := by
  blk_simp [iblk]
  rw [show (win0_0.blk t).view.emb (ix2 r j) = ix2 r j by blk_ext [idx_whole t]]
  entry_read
  rfl

/-- The values' cotangent. -/
theorem blk_dv (r : Fin 256) (j : Fin 1024) : iblk m c 1 t (ix2 r j) = m ((c : Thread nD τ).loc main_arg1) (ix2 r j) := by
  blk_simp [iblk]
  rw [show (win0_1.blk t).view.emb (ix2 r j) = ix2 r j by blk_ext [idx_whole t]]
  entry_read
  rfl

/-- The memory. -/
theorem blk_mem (r : Fin 256) (j : Fin 1024) : iblk m c 2 t (ix2 r j) = m ((c : Thread nD τ).loc main_arg2) (ix2 r j) := by
  blk_simp [iblk]
  rw [show (win0_2.blk t).view.emb (ix2 r j) = ix2 r j by blk_ext [idx_whole t]]
  entry_read
  rfl

/-- The normalised memory. -/
theorem blk_mn (r : Fin 256) (j : Fin 1024) : iblk m c 3 t (ix2 r j) =
    val_main_v11 (m ((c : Thread nD τ).loc main_arg2)) (m ((c : Thread nD τ).loc main_arg3)) (ix2 r j) := by
  blk_simp [iblk]
  rw [show (win0_3.blk t).view.emb (ix2 r j) = ix2 r j by blk_ext [idx_whole t]]
  entry_read
  rfl

/-- The key projection. -/
theorem blk_wk (r j : Fin 1024) : iblk m c 5 t (ix2 r j) = m ((c : Thread nD τ).loc main_arg4) (ix2 r j) := by
  blk_simp [iblk]
  rw [show (win0_5.blk t).view.emb (ix2 r j) = ix2 r j by blk_ext [idx_whole t]]
  entry_read
  rfl

/-- The value projection. -/
theorem blk_wv (r j : Fin 1024) : iblk m c 6 t (ix2 r j) = m ((c : Thread nD τ).loc main_arg5) (ix2 r j) := by
  blk_simp [iblk]
  rw [show (win0_6.blk t).view.emb (ix2 r j) = ix2 r j by blk_ext [idx_whole t]]
  entry_read
  rfl

/-! ## The results -/

/-- The gradient of the key projection. -/
theorem arr_dwk : (dats m 0 c).arrAt 7 cfg0.N = val_main_v18 (F := Ideal) (m ((c : Thread nD τ).loc main_arg0))
    (m ((c : Thread nD τ).loc main_arg2)) (m ((c : Thread nD τ).loc main_arg3)) := by
  refine (dats m 0 c).arrAt_eq_of_covers 7 _ (by decide +kernel) fun t hf y => ?_
  obtain ⟨r, j, rfl⟩ : ∃ (r j : Fin 1024), y = ix2 r j := ⟨y 0, y 1, by funext a; fin_cases a <;> rfl⟩
  blk_simp
  rw [after0_7, show (win0_7.blk t).view.emb (ix2 r j) = ix2 r j by blk_ext [idx_whole t]]
  unfold out0_7
  frame_out
  pointwise [k0_pay4, k0_pay2, val_main_v18, val_main_v17]
  simp only [blk_dk, blk_mn]
  exact @Finset.sum_congr _ EReal _ _ _ _ _ rfl fun _ _ => @mul_comm EReal _ _ _

/-- The gradient of the value projection. -/
theorem arr_dwv : (dats m 0 c).arrAt 8 cfg0.N = val_main_v15 (F := Ideal) (m ((c : Thread nD τ).loc main_arg1))
    (m ((c : Thread nD τ).loc main_arg2)) (m ((c : Thread nD τ).loc main_arg3)) := by
  refine (dats m 0 c).arrAt_eq_of_covers 8 _ (by decide +kernel) fun t hf y => ?_
  obtain ⟨r, j, rfl⟩ : ∃ (r j : Fin 1024), y = ix2 r j := ⟨y 0, y 1, by funext a; fin_cases a <;> rfl⟩
  blk_simp
  rw [after0_8, show (win0_8.blk t).view.emb (ix2 r j) = ix2 r j by blk_ext [idx_whole t]]
  unfold out0_8
  frame_out
  pointwise [k0_pay5, k0_pay3, val_main_v15, val_main_v14]
  simp only [blk_dv, blk_mn]
  exact @Finset.sum_congr _ EReal _ _ _ _ _ rfl fun _ _ => @mul_comm EReal _ _ _

/-- The gradient of the norm's gain. -/
theorem arr_dgm : (dats m 0 c).arrAt 9 cfg0.N = val_main_v23 (F := Ideal) (m ((c : Thread nD τ).loc main_arg0))
    (m ((c : Thread nD τ).loc main_arg1)) (m ((c : Thread nD τ).loc main_arg2)) (m ((c : Thread nD τ).loc main_arg4))
    (m ((c : Thread nD τ).loc main_arg5)) := by
  refine (dats m 0 c).arrAt_eq_of_covers 9 _ (by decide +kernel) fun t hf y => ?_
  obtain ⟨r, j, rfl⟩ : ∃ (r : Fin 1) (j : Fin 1024), y = ix2 r j := ⟨y 0, y 1, by funext a; fin_cases a <;> rfl⟩
  blk_simp
  rw [after0_9, show (win0_9.blk t).view.emb (ix2 r j) = ix2 r j by blk_ext [idx_whole t]]
  unfold out0_9
  frame_out
  pointwise [k0_pay1, k0_pay8, k0_pay9, k0_pay10, k0_pay2, k0_pay3, val_main_v23, val_main_v22, val_main_cst_2, val_main_v21, val_main_v20, val_main_v19, val_main_v16, val_main_v9, val_main_v8, val_main_v7, val_main_v6, val_main_v5, val_main_cst_1, val_main_v4, val_main_v3, val_main_cst_0, val_main_v2, val_main_v1, val_main_cst, val_main_v0]
  simp only [blk_dk, blk_dv, blk_mem, blk_wk, blk_wv]
  exact @Finset.sum_congr _ EReal _ _ _ _ _ rfl fun _ _ => (@mul_comm EReal _ _ _).trans (congrArg _ (@add_comm EReal _ _ _))

/-- The gradient of the key projection, narrowed. -/
theorem arr_dwkb : (dats m 0 c).arrAt 10 cfg0.N = val_main_v24 (F := Ideal) (m ((c : Thread nD τ).loc main_arg0))
    (m ((c : Thread nD τ).loc main_arg2)) (m ((c : Thread nD τ).loc main_arg3)) := by
  refine (dats m 0 c).arrAt_eq_of_covers 10 _ (by decide +kernel) fun t hf y => ?_
  obtain ⟨r, j, rfl⟩ : ∃ (r j : Fin 1024), y = ix2 r j := ⟨y 0, y 1, by funext a; fin_cases a <;> rfl⟩
  blk_simp
  rw [after0_10, show (win0_10.blk t).view.emb (ix2 r j) = ix2 r j by blk_ext [idx_whole t]]
  unfold out0_10
  frame_out
  pointwise [k0_pay6, k0_pay4, k0_pay2, val_main_v24, val_main_v18, val_main_v17]
  simp only [blk_dk, blk_mn]
  exact @Finset.sum_congr _ EReal _ _ _ _ _ rfl fun _ _ => @mul_comm EReal _ _ _

/-- The gradient of the value projection, narrowed. -/
theorem arr_dwvb : (dats m 0 c).arrAt 11 cfg0.N = val_main_v25 (F := Ideal) (m ((c : Thread nD τ).loc main_arg1))
    (m ((c : Thread nD τ).loc main_arg2)) (m ((c : Thread nD τ).loc main_arg3)) := by
  refine (dats m 0 c).arrAt_eq_of_covers 11 _ (by decide +kernel) fun t hf y => ?_
  obtain ⟨r, j, rfl⟩ : ∃ (r j : Fin 1024), y = ix2 r j := ⟨y 0, y 1, by funext a; fin_cases a <;> rfl⟩
  blk_simp
  rw [after0_11, show (win0_11.blk t).view.emb (ix2 r j) = ix2 r j by blk_ext [idx_whole t]]
  unfold out0_11
  frame_out
  pointwise [k0_pay7, k0_pay5, k0_pay3, val_main_v25, val_main_v15, val_main_v14]
  simp only [blk_dv, blk_mn]
  exact @Finset.sum_congr _ EReal _ _ _ _ _ rfl fun _ _ => @mul_comm EReal _ _ _

end Cert.Mem

end
-- ==== Proof.MemValue.lean ====
/- The claims about the memory's backward pass: the frames, and the equality of the five results over the extended reals,
   whatever the arguments. -/
module

public import proofs.«01_k».proof.Defs
public import proofs.«01_k».proof.Proof.Gen.Kernel3Ideal
public import proofs.«01_k».proof.Proof.Gen.Reference3Ideal
public import proofs.«01_k».proof.Proof.Gen.Reference3Ideal.Run
public import proofs.«01_k».proof.Proof.Gen.Reference3Ideal.Read
public import proofs.«01_k».proof.Proof.MemArrays

@[expose] public section

set_option maxRecDepth 16384

noncomputable section

namespace Cert.Mem

open Idealize.ShloMosaic Idealize.ShloMosaic.TcCoe Idealize.SL.Sem

attribute [local instance] Cert.Kernel3Ideal.Gen.facts Cert.Reference3Ideal.Gen.facts

/-! ## The frames -/

/-- The kernel over the extended reals runs, keeps its arguments and leaves every counter at zero. -/
theorem frame_ideal : Cert.quiescent_Kernel3Ideal := fun m ρ _ => Cert.Kernel3Ideal.Gen.frame m ρ

/-- The reference runs, keeps its arguments and leaves every counter at zero. -/
theorem frame_reference : Cert.quiescent_Reference3Ideal := fun m ρ _ =>
  (θ_run Cert.Reference3Ideal.defs _ _).mono
    (fun r h => ⟨fun c => (h c).2.2.2.2.2, sem_eq_zero_of_no_sems (by decide) r.2⟩)
    (Cert.Reference3Ideal.Value.run (F := Ideal) m ρ)

/-! ## The results -/

set_option maxHeartbeats 4000000 in
/-- From arguments that agree, kernel and reference end with equal results. -/
theorem value : Cert.algebraic_Kernel3Ideal_Reference3Ideal := by
  intro m ρ m' ρ' _ hagree
  refine ⟨fun c => (Cert.Kernel3Ideal.Gen.dats m 0 c).arrAt 7 Cert.Kernel3Ideal.cfg0.N, fun c => (Cert.Kernel3Ideal.Gen.dats m 0 c).arrAt 8 Cert.Kernel3Ideal.cfg0.N, fun c => (Cert.Kernel3Ideal.Gen.dats m 0 c).arrAt 9 Cert.Kernel3Ideal.cfg0.N, fun c => (Cert.Kernel3Ideal.Gen.dats m 0 c).arrAt 10 Cert.Kernel3Ideal.cfg0.N, fun c => (Cert.Kernel3Ideal.Gen.dats m 0 c).arrAt 11 Cert.Kernel3Ideal.cfg0.N, ?_, ?_⟩
  · refine (θ_run Cert.Kernel3Ideal.defs _ _).mono (fun r h c => ?_) (Cert.Kernel3Ideal.Value.run_blocks (F := Ideal) m ρ)
    exact h c
  · refine (θ_run Cert.Reference3Ideal.defs _ _).mono (fun r h c => ?_) (Cert.Reference3Ideal.Value.run (F := Ideal) m' ρ')
    obtain ⟨r0, r1, r2, r3, r4, kept⟩ := h c
    obtain ⟨e0, e1, e2, e3, e4, e5⟩ := hagree c
    refine ⟨(r0.trans (Cert.Reference3Ideal.Read.val_main_v18_eq _ _ _)).trans ?_, (r1.trans (Cert.Reference3Ideal.Read.val_main_v15_eq _ _ _)).trans ?_,
      (r2.trans (Cert.Reference3Ideal.Read.val_main_v23_eq _ _ _ _ _)).trans ?_, (r3.trans (Cert.Reference3Ideal.Read.val_main_v24_eq _ _ _)).trans ?_,
      (r4.trans (Cert.Reference3Ideal.Read.val_main_v25_eq _ _ _)).trans ?_, kept⟩
    · rw [e0, e2, e3]; exact (arr_dwk m c).symm
    · rw [e1, e2, e3]; exact (arr_dwv m c).symm
    · rw [e0, e1, e2, e4, e5]; exact (arr_dgm m c).symm
    · rw [e0, e2, e3]; exact (arr_dwkb m c).symm
    · rw [e1, e2, e3]; exact (arr_dwvb m c).symm

end Cert.Mem

end
-- ==== Proof.SameText3.lean ====
/- The frame of the kernel with its bit patterns, from the one run: the kernel and its idealization are the same text in
   two namespaces. -/
module

public import proofs.«01_k».proof.Defs
public import proofs.«01_k».proof.Proof.Gen.Kernel3
public import proofs.«01_k».proof.Proof.Gen.Kernel3Ideal
public import proofs.«01_k».proof.Proof.Gen.Kernel3Ideal.Frame

@[expose] public section

set_option maxRecDepth 65536
set_option maxHeartbeats 4000000

noncomputable section

namespace Cert.Proof

open Idealize.ShloMosaic Idealize.ShloMosaic.TcCoe Idealize.SL.Sem

attribute [local instance] Cert.Kernel3.Gen.facts Cert.Kernel3Ideal.Gen.facts

/-- The two body tables are the same. -/
theorem same_bodies3 : (@Cert.Kernel3.defs₀ Bits _ _ : Defs Cert.Kernel3Ideal.nD Cert.Kernel3Ideal.τ Cert.Kernel3Ideal.sig (Elt Bits)
    Cert.Kernel3Ideal.Λ₀) = (@Cert.Kernel3Ideal.defs₀ Bits _ _) := by sl_kernel_rfl

/-- The kernel with its bit patterns runs, keeps its arguments and leaves every counter at zero. -/
theorem frame_kernel3 : Cert.quiescent_Kernel3 := by
  intro m ρ _
  unfold Cert.Kernel3.defs
  have h := Cert.Kernel3Ideal.Gen.frame (F := Bits) m ρ
  unfold Cert.Kernel3Ideal.defs at h
  rw [← same_bodies3] at h
  exact h

end Cert.Proof

end
-- ==== Proof.HeadSpec.lean ====
/- The mathematics of the feed-forward layer's forward pass and of the loss after it, over the extended reals: the gated product,
   the layer's output, the error of its norm against the target, the loss, and the loss's two gradients. Infinite entries are
   allowed: a reciprocal root is a positive real or zero, so that multiplying by it distributes over sums. -/
module

public import proofs.«01_k».proof.Proof.FfnSpec

@[expose] public section

set_option maxRecDepth 16384

noncomputable section

namespace Cert.Head

open Cert.Mid Cert.Ffn Idealize.ShloMosaic

/-! ## Arrays and sums of extended reals -/

/-- The vector `v` is the matrix `V`. -/
abbrev Is {a b : ℕ} (v : (⟨2, ![a, b]⟩ : Shape).Idx → EReal) (V : Fin a → Fin b → EReal) : Prop :=
  ∀ i j, v (ix2 i j) = V i j

/-- A nonnegative real factor goes into a sum. -/
theorem coe_mul_sum {ι : Type*} (s : Finset ι) (f : ι → EReal) {r : ℝ} (h : 0 ≤ r) :
    (r : EReal) * ∑ i ∈ s, f i = ∑ i ∈ s, (r : EReal) * f i := by
  classical
  induction s using Finset.induction_on with
  | empty => simp
  | insert a s ha ih =>
    rw [Finset.sum_insert ha, Finset.sum_insert ha,
      EReal.left_distrib_of_nonneg_of_ne_top (EReal.coe_nonneg.mpr h) (EReal.coe_ne_top r), ih]

/-- Twice the same. -/
theorem add_self (z : EReal) : z + z = z * ((2 : ℝ) : EReal) := by
  induction z using EReal.rec with
  | bot => rw [EReal.bot_mul_coe_of_pos (by norm_num)]; rfl
  | top => rw [EReal.top_mul_coe_of_pos (by norm_num)]; rfl
  | coe z => rw [← EReal.coe_add, ← EReal.coe_mul, mul_two]

/-- A square is not negative. -/
theorem sq_nonneg' (z : EReal) : 0 ≤ z * z := by
  induction z using EReal.rec with
  | bot => simp
  | top => simp
  | coe z => rw [← EReal.coe_mul]; exact EReal.coe_nonneg.mpr (mul_self_nonneg z)

/-! ## The root-mean-square norm of one row -/

/-- The mean of the squares of a row, plus a small number. -/
def meanSq (x : Fin 1024 → EReal) : EReal := Ideal.div (∑ k, x k * x k) (((1024 : ℕ) : ℝ) : EReal) + (eps : EReal)

/-- Its reciprocal root. -/
def rinv (x : Fin 1024 → EReal) : EReal := Ideal.rsqrt (meanSq x)

/-- The row's normalised entries. -/
def unit (x : Fin 1024 → EReal) (c : Fin 1024) : EReal := x c * rinv x

/-- The derivative of the norm: `d` is the cotangent of the normalised row. -/
def rmsBwd (x d : Fin 1024 → EReal) (c : Fin 1024) : EReal :=
  rinv x * (d c - unit x c * Ideal.div (∑ k, d k * unit x k) (((1024 : ℕ) : ℝ) : EReal))

/-- The mean square is infinite or a positive real. -/
theorem meanSq_cases (x : Fin 1024 → EReal) : meanSq x = ⊤ ∨ ∃ m : ℝ, 0 < m ∧ meanSq x = (m : EReal) := by
  have h0 : 0 ≤ ∑ k, x k * x k := Finset.sum_nonneg fun k _ => sq_nonneg' (x k)
  unfold meanSq
  rw [Ideal.div_coe (by norm_num)]
  generalize ∑ k, x k * x k = s at h0
  induction s using EReal.rec with
  | bot => simp at h0
  | top =>
    left
    rw [EReal.top_mul_coe_of_pos (by norm_num)]
    rfl
  | coe s =>
    right
    refine ⟨s * (1 / ((1024 : ℕ) : ℝ)) + eps, ?_, by rw [EReal.coe_add, EReal.coe_mul]⟩
    exact add_pos_of_nonneg_of_pos (mul_nonneg (EReal.coe_nonneg.mp h0) (by norm_num)) eps_pos

/-- The derivative as the reference computes it. -/
theorem rms_row (x d : Fin 1024 → EReal) (c : Fin 1024) :
    d c * rinv x +
        x c * Ideal.div ((∑ k, x k * d k) * (((-1 / 2 : ℝ) : EReal) * Ideal.div (rinv x) (meanSq x))) (((1024 : ℕ) : ℝ) : EReal) +
        Ideal.div ((∑ k, x k * d k) * (((-1 / 2 : ℝ) : EReal) * Ideal.div (rinv x) (meanSq x))) (((1024 : ℕ) : ℝ) : EReal) * x c =
      rmsBwd x d c := by
  unfold rmsBwd unit
  rcases meanSq_cases x with h | ⟨m, hm, h⟩
  · have hr : rinv x = 0 := by rw [rinv, h]; rfl
    simp [hr, h, Ideal.div]
  · obtain ⟨r, hr0, hrr, hr⟩ : ∃ r : ℝ, 0 < r ∧ r * r = 1 / m ∧ rinv x = (r : EReal) :=
      ⟨(√m)⁻¹, inv_pos.mpr (Real.sqrt_pos.mpr hm), by rw [← mul_inv, Real.mul_self_sqrt hm.le, one_div],
        by rw [rinv, h, rsqrt_coe_pos hm]⟩
    have e : ∑ k, d k * (x k * (r : EReal)) = (r : EReal) * ∑ k, x k * d k := by
      rw [coe_mul_sum _ _ hr0.le]
      exact Finset.sum_congr rfl fun k _ => by rw [mul_comm (x k) (r : EReal), mul_left_comm, mul_comm (d k)]
    rw [hr, h, e, div_coe_coe _ hm.ne', Ideal.div_coe (by norm_num), Ideal.div_coe (by norm_num), ← EReal.coe_mul,
      sub_eq_add_neg, EReal.left_distrib_of_nonneg_of_ne_top (EReal.coe_nonneg.mpr hr0.le) (EReal.coe_ne_top r)]
    generalize ∑ k, x k * d k = S
    generalize d c = D
    generalize x c = X
    have e1 : X * (S * ((-1 / 2 * (r / m) : ℝ) : EReal) * ((1 / ((1024 : ℕ) : ℝ) : ℝ) : EReal)) =
        X * S * ((-1 / 2 * (r / m) * (1 / ((1024 : ℕ) : ℝ)) : ℝ) : EReal) := by
      rw [EReal.coe_mul _ (1 / ((1024 : ℕ) : ℝ)), mul_assoc S, mul_assoc X]
    have e2 : (r : EReal) * -(X * (r : EReal) * ((r : EReal) * S * ((1 / ((1024 : ℕ) : ℝ) : ℝ) : EReal))) =
        X * S * ((-(r * r * r * (1 / ((1024 : ℕ) : ℝ))) : ℝ) : EReal) := by
      rw [EReal.coe_neg, mul_neg, mul_neg, EReal.coe_mul, EReal.coe_mul, EReal.coe_mul]
      congr 1
      ac_rfl
    rw [mul_comm _ X, e1, e2, add_assoc, add_self, mul_assoc, ← EReal.coe_mul, mul_comm D]
    refine congrArg (fun k : ℝ => (r : EReal) * D + X * S * (k : EReal)) ?_
    rw [hrr]
    ring

/-! ## The pass -/

/-- What the pass is given: the residual stream before the layer, the target, the gains of the layer's norm and of the last
    norm, and the three weights, the first two with their columns as rows. -/
structure Given (n : ℕ) where
  x2 : Fin n → Fin 1024 → EReal
  tgt : Fin n → Fin 1024 → EReal
  gf : Fin 1024 → EReal
  gl : Fin 1024 → EReal
  wg : Fin 2816 → Fin 1024 → EReal
  wu : Fin 2816 → Fin 1024 → EReal
  wd : Fin 2816 → Fin 1024 → EReal

namespace Given

variable {n : ℕ} (G : Given n) (t : Fin n)

/-- The normalised stream with its gain. -/
def hf (c : Fin 1024) : EReal := unit (G.x2 t) c * G.gf c

/-- The first product of the gate. -/
def g (f : Fin 2816) : EReal := ∑ j, G.hf t j * G.wg f j

/-- The second product. -/
def u (f : Fin 2816) : EReal := ∑ j, G.hf t j * G.wu f j

/-- The gated product. -/
def a (f : Fin 2816) : EReal := G.g t f * Ideal.logistic (G.g t f) * G.u t f

/-- The layer's output. -/
def x3 (c : Fin 1024) : EReal := G.x2 t c + ∑ f, G.a t f * G.wd f c

/-- The error of the output's norm. -/
def err (c : Fin 1024) : EReal := unit (G.x3 t) c * G.gl c - G.tgt t c

/-- The squared error of a row. -/
def sq : EReal := ∑ c, G.err t c * G.err t c

/-- The cotangent of the norm. -/
def dy (c : Fin 1024) : EReal := G.err t c * ((1 / 1024 : ℝ) : EReal)

/-- The cotangent of the layer's output. -/
def dx3 (c : Fin 1024) : EReal := rmsBwd (G.x3 t) (fun c => G.dy t c * G.gl c) c

/-- The loss. -/
def loss : EReal := ((1 / 2048 : ℝ) : EReal) * ∑ t, G.sq t

/-- The cotangent of the last norm's gain. -/
def dgl (c : Fin 1024) : EReal := ∑ t, G.dy t c * unit (G.x3 t) c

end Given

/-- The arrays' elements are the arguments. -/
structure ArgsAre (x0 x1 : Shape.Idx ⟨2, ![8192, 1024]⟩ → EReal) (x2 x3 : Shape.Idx ⟨2, ![1, 1024]⟩ → EReal)
    (x4 x5 : Shape.Idx ⟨2, ![1024, 2816]⟩ → EReal) (x6 : Shape.Idx ⟨2, ![2816, 1024]⟩ → EReal) (A : Given 8192) : Prop where
  h0 : Is x0 A.x2
  h1 : Is x1 A.tgt
  h2 : Is x2 fun _ => A.gf
  h3 : Is x3 fun _ => A.gl
  h4 : Is x4 fun c f => A.wg f c
  h5 : Is x5 fun c f => A.wu f c
  h6 : Is x6 A.wd

/-! ## Literals -/

theorem lit_half : Ideal.ofBits .f32 0x3F000000#32 = ((1 / 2 : ℝ) : EReal) := by
  simp [Ideal.ofBits, Ideal.ieee, -EReal.coe_mul]; norm_num

theorem lit_mean : Ideal.ofBits .f32 0x3A800000#32 = ((1 / 1024 : ℝ) : EReal) := by
  simp [Ideal.ofBits, Ideal.ieee, -EReal.coe_mul]; norm_num

theorem lit_half_mean : Ideal.ofBits .f32 0x3A000000#32 = ((1 / 2048 : ℝ) : EReal) := by
  simp [Ideal.ofBits, Ideal.ieee, -EReal.coe_mul]; norm_num

end Cert.Head

end
-- ==== Proof.HeadEntry.lean ====
/- What the region of the forward kernel holds when it is entered: the arguments and the narrowed weights,
   the first two transposed. -/
module

public import proofs.«01_k».proof.Proof.Gen.Kernel4Ideal.Frame
public import proofs.«01_k».proof.Proof.HeadSpec
public import Idealize.ShloMosaic.Lib.Pipeline.ValueKit

@[expose] public section

set_option maxRecDepth 16384

noncomputable section

namespace Cert.Head

open Cert.Mid Cert.Ffn Cert.Kernel4Ideal Cert.Kernel4Ideal.Gen Idealize.ShloMosaic Idealize.ShloMosaic.TcCoe Idealize.SL.Sem

variable (m : (ℓ : Loc nD τ sig) → Buf (Elt Ideal) ℓ)

/-- The arguments in the machine's memory. -/
def argsOf (c : Dev nD) : Given 8192 :=
  let rd {a b : ℕ} (x : FVec Ideal ⟨2, ![a, b]⟩ .f32) (i : Fin a) (j : Fin b) : EReal := x (ix2 i j)
  { x2 := rd (m ((c : Thread nD τ).loc main_arg0))
    tgt := rd (m ((c : Thread nD τ).loc main_arg1))
    gf := rd (m ((c : Thread nD τ).loc main_arg2)) 0
    gl := rd (m ((c : Thread nD τ).loc main_arg3)) 0
    wg := fun f j => rd (m ((c : Thread nD τ).loc main_arg4)) j f
    wu := fun f j => rd (m ((c : Thread nD τ).loc main_arg5)) j f
    wd := rd (m ((c : Thread nD τ).loc main_arg6)) }

/-- The arguments in the machine's memory are the given ones. -/
abbrev MemIs (c : Dev nD) (A : Given 8192) : Prop :=
  ArgsAre (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) A

/-- They are what `argsOf` reads. -/
theorem mem_is (c : Dev nD) : MemIs m c (argsOf m c) where
  h0 _ _ := rfl
  h1 _ _ := rfl
  h2 i j := by obtain rfl : i = 0 := Subsingleton.elim _ _; rfl
  h3 i j := by obtain rfl : i = 0 := Subsingleton.elim _ _; rfl
  h4 _ _ := rfl
  h5 _ _ := rfl
  h6 _ _ := rfl

variable {m} {c : Dev nD} {A : Given 8192} (H : MemIs m c A)

include H

/-- The residual stream. -/
theorem entry_x2 : Is (V m c main_arg0) A.x2 := by
  intro i j
  entry_read
  exact H.h0 i j

/-- The target. -/
theorem entry_tgt : Is (V m c main_arg1) A.tgt := by
  intro i j
  entry_read
  exact H.h1 i j

/-- The gain of the layer's norm. -/
theorem entry_gf : Is (V m c main_arg2) fun _ => A.gf := by
  intro i j
  entry_read
  exact H.h2 i j

/-- The gain of the last norm. -/
theorem entry_gl : Is (V m c main_arg3) fun _ => A.gl := by
  intro i j
  entry_read
  exact H.h3 i j

/-- The first weight, its columns as rows. -/
theorem entry_wg : Is (V m c main_v1) A.wg := by
  intro i j
  entry_read
  pointwise
  exact H.h4 j i

/-- The second weight, its columns as rows. -/
theorem entry_wu : Is (V m c main_v3) A.wu := by
  intro i j
  entry_read
  pointwise
  exact H.h5 j i

/-- The third weight. -/
theorem entry_wd : Is (V m c main_v4) A.wd := by
  intro i j
  entry_read
  exact H.h6 i j

end Cert.Head

end
-- ==== Proof.HeadBlock.lean ====
/- What one block of the forward kernel computes: each value of the body, given what the values are that it is
   computed from, is the row mathematics of the pass at the block's 512 rows. The columns of the two products are worked
   through in two parts, of 1280 and of 1536 columns. -/
module

public import proofs.«01_k».proof.Proof.Gen.Kernel4Ideal.Skeleton
public import proofs.«01_k».proof.Proof.HeadSpec
public import proofs.«01_k».proof.Proof.FfnParts

@[expose] public section

set_option maxRecDepth 16384

noncomputable section

namespace Cert.Head

open Cert.Mid Cert.Ffn Cert.Kernel4Ideal Cert.Kernel4Ideal.Gen Idealize.ShloMosaic Idealize.SL.Sem

variable (G : Given 512)

section Layer

variable {x : Vec Ideal S512x1024 .f32} {gf : Vec Ideal S1x1024 .f32} {h : FVec Ideal S512x1024 .bf16}
variable {wg0 wu0 wd0 : Vec Ideal S1280x1024 .bf16} {wg1 wu1 wd1 : Vec Ideal S1536x1024 .bf16}
variable {a0 : FVec Ideal S512x1280 .bf16}

/-! ## The layer -/

/-- The normalised rows with their gain. -/
theorem hf_is (hx : Is x G.x2) (hg : Is gf fun _ => G.gf) : Is (k0_pay8 x gf) G.hf := by
  intro r c
  pointwise [k0_pay8]
  simp only [hx, hg, lit_1024, lit_eps]
  rfl

/-- The first product, first part. -/
theorem g0_is (hx : Is x G.x2) (hg : Is gf fun _ => G.gf) (hw : Is wg0 fun f => G.wg (lo f)) :
    Is (k0_pay9 x gf wg0) fun t f => G.g t (lo f) := by
  intro r c
  pointwise [k0_pay9]
  simp only [hf_is G hx hg, hw]
  rfl

/-- The second product, first part. -/
theorem u0_is (hx : Is x G.x2) (hg : Is gf fun _ => G.gf) (hw : Is wu0 fun f => G.wu (lo f)) :
    Is (k0_pay10 x gf wu0) fun t f => G.u t (lo f) := by
  intro r c
  pointwise [k0_pay10]
  simp only [hf_is G hx hg, hw]
  rfl

/-- The gated product, first part. -/
theorem a0_is (hx : Is x G.x2) (hg : Is gf fun _ => G.gf) (hw : Is wg0 fun f => G.wg (lo f))
    (hu : Is wu0 fun f => G.wu (lo f)) : Is (k0_pay11 x gf wg0 wu0) fun t f => G.a t (lo f) := by
  intro r c
  pointwise [k0_pay11]
  simp only [g0_is G hx hg hw, u0_is G hx hg hu]
  rfl

/-- The first product, first part, cast. -/
theorem g0_cast (hx : Is x G.x2) (hg : Is gf fun _ => G.gf) (hw : Is wg0 fun f => G.wg (lo f)) :
    Is (k0_pay12 x gf wg0) fun t f => G.g t (lo f) := by
  intro r c
  pointwise [k0_pay12]
  exact g0_is G hx hg hw r c

/-- The second product, first part, cast. -/
theorem u0_cast (hx : Is x G.x2) (hg : Is gf fun _ => G.gf) (hw : Is wu0 fun f => G.wu (lo f)) :
    Is (k0_pay13 x gf wu0) fun t f => G.u t (lo f) := by
  intro r c
  pointwise [k0_pay13]
  exact u0_is G hx hg hw r c

/-- The first product, second part. -/
theorem g1_is (hh : Is h G.hf) (hw : Is wg1 fun f => G.wg (hi f)) :
    Is (k0_pay14 h wg1) fun t f => G.g t (hi f) := by
  intro r c
  pointwise [k0_pay14]
  simp only [hh, hw]
  rfl

/-- The second product, second part. -/
theorem u1_is (hh : Is h G.hf) (hw : Is wu1 fun f => G.wu (hi f)) :
    Is (k0_pay15 h wu1) fun t f => G.u t (hi f) := by
  intro r c
  pointwise [k0_pay15]
  simp only [hh, hw]
  rfl

/-- The gated product, second part. -/
theorem a1_is (hh : Is h G.hf) (hw : Is wg1 fun f => G.wg (hi f)) (hu : Is wu1 fun f => G.wu (hi f)) :
    Is (k0_pay16 h wg1 wu1) fun t f => G.a t (hi f) := by
  intro r c
  pointwise [k0_pay16]
  simp only [g1_is G hh hw, u1_is G hh hu]
  rfl

/-- The first product, second part, cast. -/
theorem g1_cast (hh : Is h G.hf) (hw : Is wg1 fun f => G.wg (hi f)) :
    Is (k0_pay17 h wg1) fun t f => G.g t (hi f) := by
  intro r c
  pointwise [k0_pay17]
  exact g1_is G hh hw r c

/-- The second product, second part, cast. -/
theorem u1_cast (hh : Is h G.hf) (hw : Is wu1 fun f => G.wu (hi f)) :
    Is (k0_pay18 h wu1) fun t f => G.u t (hi f) := by
  intro r c
  pointwise [k0_pay18]
  exact u1_is G hh hw r c

/-- A sum over all columns is the sum over the first part and that over the second. -/
theorem sum_parts (F : Fin 2816 → EReal) : ∑ f, F f = (∑ f, F (lo f)) + ∑ f, F (hi f) :=
  Fin.sum_univ_add (a := 1280) (b := 1536) F

/-- The two parts of a row's product with the last weight. -/
theorem x3_parts (t : Fin 512) (c : Fin 1024) :
    G.x2 t c + (∑ f, G.a t (lo f) * G.wd (lo f) c) + (∑ f, G.a t (hi f) * G.wd (hi f) c) = G.x3 t c := by
  unfold Given.x3
  rw [sum_parts fun f => G.a t f * G.wd f c, add_assoc]

/-- The layer's output. -/
theorem x3_is (hx : Is x G.x2) (hh : Is h G.hf) (ha : Is a0 fun t f => G.a t (lo f))
    (hd : Is wd0 fun f => G.wd (lo f)) (hw : Is wg1 fun f => G.wg (hi f)) (hu : Is wu1 fun f => G.wu (hi f))
    (he : Is wd1 fun f => G.wd (hi f)) : Is (k0_pay19 x h a0 wd0 wg1 wu1 wd1) G.x3 := by
  intro r c
  pointwise [k0_pay19]
  simp only [hx, ha, hd, a1_is G hh hw hu, he]
  exact x3_parts G r c

/-- The reciprocal root of its mean squares. -/
theorem rinv3_is (H : Is (k0_pay19 x h a0 wd0 wg1 wu1 wd1) G.x3) :
    Is (k0_pay20 x h a0 wd0 wg1 wu1 wd1) fun t _ => rinv (G.x3 t) := by
  intro r c
  pointwise [k0_pay20]
  simp only [H, lit_1024, lit_eps]
  rfl

/-- Its normalised rows. -/
theorem unit3_is (H : Is (k0_pay19 x h a0 wd0 wg1 wu1 wd1) G.x3) :
    Is (k0_pay21 x h a0 wd0 wg1 wu1 wd1) fun t => unit (G.x3 t) := by
  intro r c
  pointwise [k0_pay21]
  simp only [H, rinv3_is G H]
  rfl

/-- The same with the gain. -/
theorem y_is {gl : Vec Ideal S1x1024 .f32} (H : Is (k0_pay19 x h a0 wd0 wg1 wu1 wd1) G.x3) (hg : Is gl fun _ => G.gl) :
    Is (k0_pay22 x h a0 wd0 wg1 wu1 wd1 gl) fun t c => unit (G.x3 t) c * G.gl c := by
  intro r c
  pointwise [k0_pay22]
  simp only [unit3_is G H, hg]

end Layer

section Loss

variable {y yh : FVec Ideal S512x1024 .f32} {tg : Vec Ideal S512x1024 .f32} {gl acc : Vec Ideal S1x1024 .f32}
variable {ri : FVec Ideal S512x1 .f32} {l : Vec Ideal S1x128 .f32} {L : EReal} {A : Fin 1024 → EReal}

/-! ## The loss and its gradients -/

/-- The error. -/
theorem err_is (hy : Is y fun t c => unit (G.x3 t) c * G.gl c) (ht : Is tg G.tgt) : Is (k0_pay1 y tg) G.err := by
  intro r c
  pointwise [k0_pay1]
  simp only [hy, ht]
  rfl

/-- The loss grows by the block's. -/
theorem loss_is (hy : Is y fun t c => unit (G.x3 t) c * G.gl c) (ht : Is tg G.tgt) (hl : Is l fun _ _ => L) :
    Is (k0_pay2 y tg l) fun _ _ => L + G.loss := by
  intro r c
  pointwise [k0_pay2]
  simp only [hl, err_is G hy ht, lit_half_mean]
  rfl

/-- The cotangent of the norm. -/
theorem dy_is (hy : Is y fun t c => unit (G.x3 t) c * G.gl c) (ht : Is tg G.tgt) : Is (k0_pay3 y tg) G.dy := by
  intro r c
  pointwise [k0_pay3]
  simp only [err_is G hy ht, lit_mean]
  rfl

/-- The gain's cotangent grows by the block's. -/
theorem dgl_is (hy : Is y fun t c => unit (G.x3 t) c * G.gl c) (ht : Is tg G.tgt) (hu : Is yh fun t => unit (G.x3 t))
    (ha : Is acc fun _ => A) : Is (k0_pay4 yh y tg acc) fun _ c => A c + G.dgl c := by
  intro r c
  pointwise [k0_pay4]
  simp only [ha, dy_is G hy ht, hu]
  rfl

/-- The cotangent of the layer's output. -/
theorem dx3_is (hy : Is y fun t c => unit (G.x3 t) c * G.gl c) (ht : Is tg G.tgt) (hu : Is yh fun t => unit (G.x3 t))
    (hr : Is ri fun t _ => rinv (G.x3 t)) (hg : Is gl fun _ => G.gl) : Is (k0_pay5 ri yh gl y tg) G.dx3 := by
  intro r c
  pointwise [k0_pay5]
  simp only [dy_is G hy ht, hu, hr, hg, lit_1024]
  rfl

/-- The loss starts at zero. -/
theorem zero_loss : Is (k0_pay6 (F := Ideal)) fun _ _ => 0 := by
  intro r j
  pointwise [k0_pay6]

/-- The gain's cotangent starts at zero. -/
theorem zero_dgl : Is (k0_pay7 (F := Ideal)) fun _ _ => 0 := by
  intro r j
  pointwise [k0_pay7]

end Loss

end Cert.Head

end
-- ==== Proof.HeadBlocks.lean ====
/- The blocks of a grid point of the forward kernel: the point's 512 rows, the whole of the gains, the
   weights copied in, and the two row parts of a weight and the two column parts of a block. -/
module

public import proofs.«01_k».proof.Proof.HeadEntry
public import proofs.«01_k».proof.Proof.HeadBlock
public import Idealize.ShloMosaic.Lib.Pipeline.ReadBack

@[expose] public section

set_option maxRecDepth 16384

noncomputable section

namespace Cert.Head

open Cert.Mid Cert.Ffn Cert.Kernel4Ideal Cert.Kernel4Ideal.Gen Idealize.ShloMosaic Idealize.ShloMosaic.TcCoe Idealize.SL.Sem

/-- Row `r` of block `n`. -/
def row (n : ℕ) (r : Fin 512) : Fin 8192 := ⟨(512 * n + r.val) % 8192, Nat.mod_lt _ (by decide)⟩

/-- What the pass is given for the rows of block `n`. -/
def Given.rows (G : Given 8192) (n : ℕ) : Given 512 :=
  ⟨fun r => G.x2 (row n r), fun r => G.tgt (row n r), G.gf, G.gl, G.wg, G.wu, G.wd⟩

/-- The index maps of the windows read and written by rows. -/
theorem idx_rows : ∀ t : Fin cfg0.N, (win0_0.index t 0 = t.val ∧ win0_0.index t 1 = 0) ∧
    (win0_1.index t 0 = t.val ∧ win0_1.index t 1 = 0) ∧
    (win0_4.index t 0 = t.val ∧ win0_4.index t 1 = 0) ∧
    (win0_5.index t 0 = t.val ∧ win0_5.index t 1 = 0) ∧
    (win0_6.index t 0 = t.val ∧ win0_6.index t 1 = 0) ∧
    (win0_7.index t 0 = t.val ∧ win0_7.index t 1 = 0) ∧
    (win0_8.index t 0 = t.val ∧ win0_8.index t 1 = 0) :=
  (by decide +kernel : ∀ t : Fin grid0.N, _)

/-- The index maps of the gains. -/
theorem idx_whole : ∀ t : Fin cfg0.N, (win0_2.index t 0 = 0 ∧ win0_2.index t 1 = 0) ∧
    (win0_3.index t 0 = 0 ∧ win0_3.index t 1 = 0) :=
  (by decide +kernel : ∀ t : Fin grid0.N, _)

variable {m : (ℓ : Loc nD τ sig) → Buf (Elt Ideal) ℓ} {c : Dev nD} {A : Given 8192} (H : MemIs m c A)

section Blocks

variable (t : Fin cfg0.N)

include H

/-! ## The blocks -/

/-- The residual stream. -/
theorem blk_x2 : Is (iblk m c 0 t) (A.rows t.val).x2 := by
  intro r j
  have ht : t.val < 16 := lt_of_lt_of_eq t.isLt N_0
  blk_simp [iblk]
  rw [show (win0_0.blk t).view.emb (ix2 r j) = ix2 (row t.val r) j by blk_ext [row, idx_rows t]]
  exact entry_x2 H _ _

/-- The target. -/
theorem blk_tgt : Is (iblk m c 1 t) (A.rows t.val).tgt := by
  intro r j
  have ht : t.val < 16 := lt_of_lt_of_eq t.isLt N_0
  blk_simp [iblk]
  rw [show (win0_1.blk t).view.emb (ix2 r j) = ix2 (row t.val r) j by blk_ext [row, idx_rows t]]
  exact entry_tgt H _ _

/-- The gain of the layer's norm. -/
theorem blk_gf : Is (iblk m c 2 t) fun _ => (A.rows t.val).gf := by
  intro r j
  have ht : t.val < 16 := lt_of_lt_of_eq t.isLt N_0
  blk_simp [iblk]
  rw [show (win0_2.blk t).view.emb (ix2 r j) = ix2 r j by blk_ext [idx_whole t]]
  exact entry_gf H _ _

/-- The gain of the last norm. -/
theorem blk_gl : Is (iblk m c 3 t) fun _ => (A.rows t.val).gl := by
  intro r j
  have ht : t.val < 16 := lt_of_lt_of_eq t.isLt N_0
  blk_simp [iblk]
  rw [show (win0_3.blk t).view.emb (ix2 r j) = ix2 r j by blk_ext [idx_whole t]]
  exact entry_gl H _ _

end Blocks

section Copies

include H

/-! ## The weights, copied in -/

/-- The first weight. -/
theorem copy_wg : Is (ReadAs.same.apply (View.read (Elt Ideal) (View.whole main_v1) (V m c main_v1)) : Vec Ideal S2816x1024 .bf16)
    A.wg := by
  intro r j
  exact entry_wg H r j

/-- The second weight. -/
theorem copy_wu : Is (ReadAs.same.apply (View.read (Elt Ideal) (View.whole main_v3) (V m c main_v3)) : Vec Ideal S2816x1024 .bf16)
    A.wu := by
  intro r j
  exact entry_wu H r j

/-- The third weight. -/
theorem copy_wd : Is (ReadAs.same.apply (View.read (Elt Ideal) (View.whole main_v4) (V m c main_v4)) : Vec Ideal S2816x1024 .bf16)
    A.wd := by
  intro r j
  exact entry_wd H r j

end Copies

/-! ## Parts read back -/

/-- The first part of a weight's rows. -/
theorem ld_rows_lo {x : Vec Ideal S2816x1024 .bf16} {X : Fin 2816 → Fin 1024 → EReal} (hx : Is x X) :
    Is (View.ld x (Rect.unit ![0, 0] ![1280, 1024] inb_S2816x1024_S1280x1024_0_0) : Vec Ideal S1280x1024 .bf16)
      fun f => X (lo f) := by
  intro r j
  refine Eq.trans ?_ (hx _ _)
  exact View.ld_unit_apply_of _ _ _ _ _ _ fun a => by fin_cases a <;> simp [Ffn.lo]

/-- The second part of a weight's rows. -/
theorem ld_rows_hi {x : Vec Ideal S2816x1024 .bf16} {X : Fin 2816 → Fin 1024 → EReal} (hx : Is x X) :
    Is (View.ld x (Rect.unit ![1280, 0] ![1536, 1024] inb_S2816x1024_S1536x1024_1280_0) : Vec Ideal S1536x1024 .bf16)
      fun f => X (hi f) := by
  intro r j
  refine Eq.trans ?_ (hx _ _)
  exact View.ld_unit_apply_of _ _ _ _ _ _ fun a => by fin_cases a <;> simp [Ffn.hi]

/-! ## Two parts put together -/

/-- Two column parts stored side by side. -/
theorem canon_cols {p0 : Vec Ideal S512x1280 .bf16} {p1 : Vec Ideal S512x1536 .bf16} {X : Fin 512 → Fin 2816 → EReal}
    (h0 : Is p0 fun t f => X t (lo f)) (h1 : Is p1 fun t f => X t (hi f)) :
    Is (View.canon [⟨Rect.unit ![0, 1280] ![512, 1536] inb_S512x2816_S512x1536_0_1280, p1⟩,
      ⟨Rect.unit ![0, 0] ![512, 1280] inb_S512x2816_S512x1280_0_0, p0⟩] : Vec Ideal S512x2816 .bf16) X := by
  intro r j
  refine View.canon_append_of_piecesOf (fun y : S512x2816.Idx => X (y 0) (y 1)) []
    [⟨Rect.unit ![0, 1280] ![512, 1536] inb_S512x2816_S512x1536_0_1280, p1⟩,
      ⟨Rect.unit ![0, 0] ![512, 1280] inb_S512x2816_S512x1280_0_0, p0⟩]
    ⟨fun x => ?_, fun x => ?_, trivial⟩ (ix2 r j) (View.cover_of_tiledBy _ ![512, 256] (by sl_kernel_rfl) _)
  · obtain ⟨r, j, rfl⟩ : ∃ r j, x = ix2 r j := ⟨x 0, x 1, by funext a; fin_cases a <;> rfl⟩
    exact (h1 r j).trans (congrArg₂ (fun a b => X a b)
      (Fin.ext (by show r.val = 0 + 1 * r.val; omega)) (Fin.ext (by show 1280 + j.val = 1280 + 1 * j.val; omega)))
  · obtain ⟨r, j, rfl⟩ : ∃ r j, x = ix2 r j := ⟨x 0, x 1, by funext a; fin_cases a <;> rfl⟩
    exact (h0 r j).trans (congrArg₂ (fun a b => X a b)
      (Fin.ext (by show r.val = 0 + 1 * r.val; omega)) (Fin.ext (by show j.val = 0 + 1 * j.val; omega)))

/-! ## Sums over the blocks -/

/-- The sums over the blocks' rows make the sum over all rows. -/
theorem sum_rows (f : Fin 8192 → EReal) : ∑ s ∈ Finset.range 16, ∑ r, f (row s r) = ∑ t, f t := by
  rw [← Fin.sum_univ_eq_sum_range fun s => ∑ r, f (row s r), ← (finProdFinEquiv (m := 16) (n := 512)).sum_comp,
    Fintype.sum_prod_type]
  refine Finset.sum_congr rfl fun s _ => Finset.sum_congr rfl fun r _ => congrArg f (Fin.ext ?_)
  show (512 * s.val + r.val) % 8192 = r.val + 512 * s.val
  omega

end Cert.Head

end
-- ==== Proof.HeadKept.lean ====
/- The weights that the forward kernel copies in at its first point and keeps. -/
module

public import proofs.«01_k».proof.Proof.HeadBlocks

@[expose] public section

set_option maxRecDepth 16384

noncomputable section

namespace Cert.Head

open Cert.Mid Cert.Ffn Cert.Kernel4Ideal Cert.Kernel4Ideal.Gen Idealize.ShloMosaic Idealize.ShloMosaic.TcCoe Idealize.SL.Sem

/-- A buffer filled whole holds what it was filled with. -/
theorem canon_filled {s : Shape} {e : EltTy} (Z : s.Idx → Elt Ideal e) :
    View.canon [(⟨Rect.whole s, Z⟩ : View.Piece (Elt Ideal) s e)] = Z :=
  View.canon_cons_unit_zero rfl _ Z []

/-- Read back in part, it gives that part. -/
theorem readCov_filled {κ : Kind} {sp : Space} {s : Shape} {e : EltTy} (v : View sig κ sp s e) (Z : s.Idx → Elt Ideal e)
    (r : Rect s) : v.readCov [(⟨Rect.whole s, Z⟩ : View.Piece (Elt Ideal) s e)] r.toLoadRect = View.ld Z r := by
  rw [View.readCov_eq_canon', canon_filled]

variable {m : (ℓ : Loc nD τ sig) → Buf (Elt Ideal) ℓ} {c : Dev nD} {A : Given 8192} (H : MemIs m c A)

include H

/-- The first weight, after every point. -/
theorem kept_wg : ∀ (n : ℕ) (h : n < cfg0.N), Is ((outsAt0 m c n h).2.2.2.2.2.2.2.1 : Vec Ideal S2816x1024 .bf16) A.wg
  | 0, h => fun r j => by
    rw [outsAt0_A m c ⟨0, h⟩ rfl]
    dsimp only
    unfold sout0_A_0
    frame_open
    simp (disch := decide) only [↓ View.readCov_skip, ↓ View.readCov_cons_toLoadRect, ↓ View.readCov_fill]
    frame_out
    simp only [canon_filled]
    exact copy_wg H r j
  | n + 1, h => fun r j => by
    have hn : n + 1 < 16 := lt_of_lt_of_eq h N_0
    rw [outsAt0_B m c ⟨n + 1, h⟩ (by dsimp only; omega)]
    exact kept_wg n (Nat.lt_of_succ_lt h) r j

/-- The second weight, after every point. -/
theorem kept_wu : ∀ (n : ℕ) (h : n < cfg0.N), Is ((outsAt0 m c n h).2.2.2.2.2.2.2.2.1 : Vec Ideal S2816x1024 .bf16) A.wu
  | 0, h => fun r j => by
    rw [outsAt0_A m c ⟨0, h⟩ rfl]
    dsimp only
    unfold sout0_A_1
    frame_open
    simp (disch := decide) only [↓ View.readCov_skip, ↓ View.readCov_cons_toLoadRect, ↓ View.readCov_fill]
    frame_out
    simp only [canon_filled]
    exact copy_wu H r j
  | n + 1, h => fun r j => by
    have hn : n + 1 < 16 := lt_of_lt_of_eq h N_0
    rw [outsAt0_B m c ⟨n + 1, h⟩ (by dsimp only; omega)]
    exact kept_wu n (Nat.lt_of_succ_lt h) r j

/-- The third weight, after every point. -/
theorem kept_wd : ∀ (n : ℕ) (h : n < cfg0.N), Is ((outsAt0 m c n h).2.2.2.2.2.2.2.2.2 : Vec Ideal S2816x1024 .bf16) A.wd
  | 0, h => fun r j => by
    rw [outsAt0_A m c ⟨0, h⟩ rfl]
    dsimp only
    unfold sout0_A_2
    frame_open
    simp (disch := decide) only [↓ View.readCov_skip, ↓ View.readCov_cons_toLoadRect, ↓ View.readCov_fill]
    frame_out
    simp only [canon_filled]
    exact copy_wd H r j
  | n + 1, h => fun r j => by
    have hn : n + 1 < 16 := lt_of_lt_of_eq h N_0
    rw [outsAt0_B m c ⟨n + 1, h⟩ (by dsimp only; omega)]
    exact kept_wd n (Nat.lt_of_succ_lt h) r j

end Cert.Head

end
-- ==== Proof.HeadFirst.lean ====
/- What the first grid point of the forward kernel leaves. -/
module

public import proofs.«01_k».proof.Proof.HeadKept

@[expose] public section

set_option maxRecDepth 16384

noncomputable section

namespace Cert.Head

open Cert.Mid Cert.Ffn Cert.Kernel4Ideal Cert.Kernel4Ideal.Gen Idealize.ShloMosaic Idealize.ShloMosaic.TcCoe Idealize.SL.Sem

variable {m : (ℓ : Loc nD τ sig) → Buf (Elt Ideal) ℓ} {c : Dev nD} {A : Given 8192} (H : MemIs m c A) (t : Fin cfg0.N)

include H

/-- The normalised stream. -/
theorem first_hf (h0 : t.val % 16 = 0) :
    Is ((outsAt0 m c t.val t.isLt).1 : Vec Ideal S512x1024 .bf16) (A.rows t.val).hf := by
  have e := hf_is (A.rows t.val) (blk_x2 H t) (blk_gf H t)
  intro r j
  rw [outsAt0_A m c t h0]
  frame_open
  simp (disch := decide) only [↓ View.readCov_skip, ↓ View.readCov_cons_toLoadRect, ↓ View.readCov_fill]
  frame_out
  exact e r j

/-- The first product. -/
theorem first_g (h0 : t.val % 16 = 0) :
    Is ((outsAt0 m c t.val t.isLt).2.1 : Vec Ideal S512x2816 .bf16) ((A.rows t.val).g) := by
  have hx := blk_x2 H t
  have ht := blk_tgt H t
  have hg := blk_gf H t
  have hl := blk_gl H t
  have wg0 := ld_rows_lo (copy_wg H)
  have wg1 := ld_rows_hi (copy_wg H)
  have wu0 := ld_rows_lo (copy_wu H)
  have wu1 := ld_rows_hi (copy_wu H)
  have wd0 := ld_rows_lo (copy_wd H)
  have wd1 := ld_rows_hi (copy_wd H)
  have hh := hf_is (A.rows t.val) hx hg
  have ha := a0_is (A.rows t.val) hx hg wg0 wu0
  have h3 := x3_is (A.rows t.val) hx hh ha wd0 wg1 wu1 wd1
  have hy := y_is (A.rows t.val) h3 hl
  have hu := unit3_is (A.rows t.val) h3
  have hr := rinv3_is (A.rows t.val) h3
  have e := canon_cols (X := (A.rows t.val).g) (g0_cast (A.rows t.val) hx hg wg0) (g1_cast (A.rows t.val) hh wg1)
  intro r j
  rw [outsAt0_A m c t h0]
  frame_open
  simp (disch := decide) only [↓ View.readCov_skip, ↓ View.readCov_cons_toLoadRect, ↓ View.readCov_fill]
  frame_out
  simp only [readCov_filled]
  exact e r j

/-- The second product. -/
theorem first_u (h0 : t.val % 16 = 0) :
    Is ((outsAt0 m c t.val t.isLt).2.2.1 : Vec Ideal S512x2816 .bf16) ((A.rows t.val).u) := by
  have hx := blk_x2 H t
  have ht := blk_tgt H t
  have hg := blk_gf H t
  have hl := blk_gl H t
  have wg0 := ld_rows_lo (copy_wg H)
  have wg1 := ld_rows_hi (copy_wg H)
  have wu0 := ld_rows_lo (copy_wu H)
  have wu1 := ld_rows_hi (copy_wu H)
  have wd0 := ld_rows_lo (copy_wd H)
  have wd1 := ld_rows_hi (copy_wd H)
  have hh := hf_is (A.rows t.val) hx hg
  have ha := a0_is (A.rows t.val) hx hg wg0 wu0
  have h3 := x3_is (A.rows t.val) hx hh ha wd0 wg1 wu1 wd1
  have hy := y_is (A.rows t.val) h3 hl
  have hu := unit3_is (A.rows t.val) h3
  have hr := rinv3_is (A.rows t.val) h3
  have e := canon_cols (X := (A.rows t.val).u) (u0_cast (A.rows t.val) hx hg wu0) (u1_cast (A.rows t.val) hh wu1)
  intro r j
  rw [outsAt0_A m c t h0]
  frame_open
  simp (disch := decide) only [↓ View.readCov_skip, ↓ View.readCov_cons_toLoadRect, ↓ View.readCov_fill]
  frame_out
  simp only [readCov_filled]
  exact e r j

/-- The gated product. -/
theorem first_a (h0 : t.val % 16 = 0) :
    Is ((outsAt0 m c t.val t.isLt).2.2.2.1 : Vec Ideal S512x2816 .bf16) ((A.rows t.val).a) := by
  have hx := blk_x2 H t
  have ht := blk_tgt H t
  have hg := blk_gf H t
  have hl := blk_gl H t
  have wg0 := ld_rows_lo (copy_wg H)
  have wg1 := ld_rows_hi (copy_wg H)
  have wu0 := ld_rows_lo (copy_wu H)
  have wu1 := ld_rows_hi (copy_wu H)
  have wd0 := ld_rows_lo (copy_wd H)
  have wd1 := ld_rows_hi (copy_wd H)
  have hh := hf_is (A.rows t.val) hx hg
  have ha := a0_is (A.rows t.val) hx hg wg0 wu0
  have h3 := x3_is (A.rows t.val) hx hh ha wd0 wg1 wu1 wd1
  have hy := y_is (A.rows t.val) h3 hl
  have hu := unit3_is (A.rows t.val) h3
  have hr := rinv3_is (A.rows t.val) h3
  have e := canon_cols (X := (A.rows t.val).a) ha (a1_is (A.rows t.val) hh wg1 wu1)
  intro r j
  rw [outsAt0_A m c t h0]
  frame_open
  simp (disch := decide) only [↓ View.readCov_skip, ↓ View.readCov_cons_toLoadRect, ↓ View.readCov_fill]
  frame_out
  simp only [readCov_filled]
  exact e r j

/-- The cotangent of the layer's output. -/
theorem first_dx3 (h0 : t.val % 16 = 0) :
    Is ((outsAt0 m c t.val t.isLt).2.2.2.2.1 : Vec Ideal S512x1024 .f32) ((A.rows t.val).dx3) := by
  have hx := blk_x2 H t
  have ht := blk_tgt H t
  have hg := blk_gf H t
  have hl := blk_gl H t
  have wg0 := ld_rows_lo (copy_wg H)
  have wg1 := ld_rows_hi (copy_wg H)
  have wu0 := ld_rows_lo (copy_wu H)
  have wu1 := ld_rows_hi (copy_wu H)
  have wd0 := ld_rows_lo (copy_wd H)
  have wd1 := ld_rows_hi (copy_wd H)
  have hh := hf_is (A.rows t.val) hx hg
  have ha := a0_is (A.rows t.val) hx hg wg0 wu0
  have h3 := x3_is (A.rows t.val) hx hh ha wd0 wg1 wu1 wd1
  have hy := y_is (A.rows t.val) h3 hl
  have hu := unit3_is (A.rows t.val) h3
  have hr := rinv3_is (A.rows t.val) h3
  have e := dx3_is (A.rows t.val) hy ht hu hr hl
  intro r j
  rw [outsAt0_A m c t h0]
  frame_open
  simp (disch := decide) only [↓ View.readCov_skip, ↓ View.readCov_cons_toLoadRect, ↓ View.readCov_fill]
  frame_out
  simp only [readCov_filled]
  exact e r j

/-- The loss. -/
theorem first_loss (h0 : t.val % 16 = 0) :
    Is ((outsAt0 m c t.val t.isLt).2.2.2.2.2.1 : Vec Ideal S1x128 .f32) (fun _ _ => (0 : ℝ) + (A.rows t.val).loss) := by
  have hx := blk_x2 H t
  have ht := blk_tgt H t
  have hg := blk_gf H t
  have hl := blk_gl H t
  have wg0 := ld_rows_lo (copy_wg H)
  have wg1 := ld_rows_hi (copy_wg H)
  have wu0 := ld_rows_lo (copy_wu H)
  have wu1 := ld_rows_hi (copy_wu H)
  have wd0 := ld_rows_lo (copy_wd H)
  have wd1 := ld_rows_hi (copy_wd H)
  have hh := hf_is (A.rows t.val) hx hg
  have ha := a0_is (A.rows t.val) hx hg wg0 wu0
  have h3 := x3_is (A.rows t.val) hx hh ha wd0 wg1 wu1 wd1
  have hy := y_is (A.rows t.val) h3 hl
  have hu := unit3_is (A.rows t.val) h3
  have hr := rinv3_is (A.rows t.val) h3
  have e := loss_is (A.rows t.val) hy ht zero_loss
  intro r j
  rw [outsAt0_A m c t h0]
  frame_open
  simp (disch := decide) only [↓ View.readCov_skip, ↓ View.readCov_cons_toLoadRect, ↓ View.readCov_fill]
  frame_out
  simp only [readCov_filled]
  exact e r j

/-- The cotangent of the last norm's gain. -/
theorem first_dgl (h0 : t.val % 16 = 0) :
    Is ((outsAt0 m c t.val t.isLt).2.2.2.2.2.2.1 : Vec Ideal S1x1024 .f32) (fun _ j => (0 : ℝ) + (A.rows t.val).dgl j) := by
  have hx := blk_x2 H t
  have ht := blk_tgt H t
  have hg := blk_gf H t
  have hl := blk_gl H t
  have wg0 := ld_rows_lo (copy_wg H)
  have wg1 := ld_rows_hi (copy_wg H)
  have wu0 := ld_rows_lo (copy_wu H)
  have wu1 := ld_rows_hi (copy_wu H)
  have wd0 := ld_rows_lo (copy_wd H)
  have wd1 := ld_rows_hi (copy_wd H)
  have hh := hf_is (A.rows t.val) hx hg
  have ha := a0_is (A.rows t.val) hx hg wg0 wu0
  have h3 := x3_is (A.rows t.val) hx hh ha wd0 wg1 wu1 wd1
  have hy := y_is (A.rows t.val) h3 hl
  have hu := unit3_is (A.rows t.val) h3
  have hr := rinv3_is (A.rows t.val) h3
  have e := dgl_is (A.rows t.val) hy ht hu zero_dgl
  intro r j
  rw [outsAt0_A m c t h0]
  frame_open
  simp (disch := decide) only [↓ View.readCov_skip, ↓ View.readCov_cons_toLoadRect, ↓ View.readCov_fill]
  frame_out
  simp only [readCov_filled]
  exact e r j

end Cert.Head

end
-- ==== Proof.HeadNext.lean ====
/- What a later grid point of the forward kernel leaves, over what the point before left. -/
module

public import proofs.«01_k».proof.Proof.HeadKept

@[expose] public section

set_option maxRecDepth 16384

noncomputable section

namespace Cert.Head

open Cert.Mid Cert.Ffn Cert.Kernel4Ideal Cert.Kernel4Ideal.Gen Idealize.ShloMosaic Idealize.ShloMosaic.TcCoe Idealize.SL.Sem

variable {m : (ℓ : Loc nD τ sig) → Buf (Elt Ideal) ℓ} {c : Dev nD} {A : Given 8192} (H : MemIs m c A) (t : Fin cfg0.N)

include H

/-- The normalised stream. -/
theorem next_hf (h0 : ¬t.val % 16 = 0) :
    Is ((outsAt0 m c t.val t.isLt).1 : Vec Ideal S512x1024 .bf16) (A.rows t.val).hf := by
  have e := hf_is (A.rows t.val) (blk_x2 H t) (blk_gf H t)
  intro r j
  rw [outsAt0_B m c t h0]
  frame_open
  simp (disch := decide) only [↓ View.readCov_skip, ↓ View.readCov_cons_toLoadRect, ↓ View.readCov_fill]
  frame_out
  exact e r j

/-- The first product. -/
theorem next_g (h0 : ¬t.val % 16 = 0) :
    Is ((outsAt0 m c t.val t.isLt).2.1 : Vec Ideal S512x2816 .bf16) ((A.rows t.val).g) := by
  have hx := blk_x2 H t
  have ht := blk_tgt H t
  have hg := blk_gf H t
  have hl := blk_gl H t
  have hp : t.val - 1 < cfg0.N := Nat.lt_of_le_of_lt (Nat.sub_le _ _) t.isLt
  have wg0 := ld_rows_lo (kept_wg H (t.val - 1) hp)
  have wg1 := ld_rows_hi (kept_wg H (t.val - 1) hp)
  have wu0 := ld_rows_lo (kept_wu H (t.val - 1) hp)
  have wu1 := ld_rows_hi (kept_wu H (t.val - 1) hp)
  have wd0 := ld_rows_lo (kept_wd H (t.val - 1) hp)
  have wd1 := ld_rows_hi (kept_wd H (t.val - 1) hp)
  have hh := hf_is (A.rows t.val) hx hg
  have ha := a0_is (A.rows t.val) hx hg wg0 wu0
  have h3 := x3_is (A.rows t.val) hx hh ha wd0 wg1 wu1 wd1
  have hy := y_is (A.rows t.val) h3 hl
  have hu := unit3_is (A.rows t.val) h3
  have hr := rinv3_is (A.rows t.val) h3
  have e := canon_cols (X := (A.rows t.val).g) (g0_cast (A.rows t.val) hx hg wg0) (g1_cast (A.rows t.val) hh wg1)
  intro r j
  rw [outsAt0_B m c t h0]
  frame_open
  simp (disch := decide) only [↓ View.readCov_skip, ↓ View.readCov_cons_toLoadRect, ↓ View.readCov_fill]
  frame_out
  simp only [read_unread_whole]
  exact e r j

/-- The second product. -/
theorem next_u (h0 : ¬t.val % 16 = 0) :
    Is ((outsAt0 m c t.val t.isLt).2.2.1 : Vec Ideal S512x2816 .bf16) ((A.rows t.val).u) := by
  have hx := blk_x2 H t
  have ht := blk_tgt H t
  have hg := blk_gf H t
  have hl := blk_gl H t
  have hp : t.val - 1 < cfg0.N := Nat.lt_of_le_of_lt (Nat.sub_le _ _) t.isLt
  have wg0 := ld_rows_lo (kept_wg H (t.val - 1) hp)
  have wg1 := ld_rows_hi (kept_wg H (t.val - 1) hp)
  have wu0 := ld_rows_lo (kept_wu H (t.val - 1) hp)
  have wu1 := ld_rows_hi (kept_wu H (t.val - 1) hp)
  have wd0 := ld_rows_lo (kept_wd H (t.val - 1) hp)
  have wd1 := ld_rows_hi (kept_wd H (t.val - 1) hp)
  have hh := hf_is (A.rows t.val) hx hg
  have ha := a0_is (A.rows t.val) hx hg wg0 wu0
  have h3 := x3_is (A.rows t.val) hx hh ha wd0 wg1 wu1 wd1
  have hy := y_is (A.rows t.val) h3 hl
  have hu := unit3_is (A.rows t.val) h3
  have hr := rinv3_is (A.rows t.val) h3
  have e := canon_cols (X := (A.rows t.val).u) (u0_cast (A.rows t.val) hx hg wu0) (u1_cast (A.rows t.val) hh wu1)
  intro r j
  rw [outsAt0_B m c t h0]
  frame_open
  simp (disch := decide) only [↓ View.readCov_skip, ↓ View.readCov_cons_toLoadRect, ↓ View.readCov_fill]
  frame_out
  simp only [read_unread_whole]
  exact e r j

/-- The gated product. -/
theorem next_a (h0 : ¬t.val % 16 = 0) :
    Is ((outsAt0 m c t.val t.isLt).2.2.2.1 : Vec Ideal S512x2816 .bf16) ((A.rows t.val).a) := by
  have hx := blk_x2 H t
  have ht := blk_tgt H t
  have hg := blk_gf H t
  have hl := blk_gl H t
  have hp : t.val - 1 < cfg0.N := Nat.lt_of_le_of_lt (Nat.sub_le _ _) t.isLt
  have wg0 := ld_rows_lo (kept_wg H (t.val - 1) hp)
  have wg1 := ld_rows_hi (kept_wg H (t.val - 1) hp)
  have wu0 := ld_rows_lo (kept_wu H (t.val - 1) hp)
  have wu1 := ld_rows_hi (kept_wu H (t.val - 1) hp)
  have wd0 := ld_rows_lo (kept_wd H (t.val - 1) hp)
  have wd1 := ld_rows_hi (kept_wd H (t.val - 1) hp)
  have hh := hf_is (A.rows t.val) hx hg
  have ha := a0_is (A.rows t.val) hx hg wg0 wu0
  have h3 := x3_is (A.rows t.val) hx hh ha wd0 wg1 wu1 wd1
  have hy := y_is (A.rows t.val) h3 hl
  have hu := unit3_is (A.rows t.val) h3
  have hr := rinv3_is (A.rows t.val) h3
  have e := canon_cols (X := (A.rows t.val).a) ha (a1_is (A.rows t.val) hh wg1 wu1)
  intro r j
  rw [outsAt0_B m c t h0]
  frame_open
  simp (disch := decide) only [↓ View.readCov_skip, ↓ View.readCov_cons_toLoadRect, ↓ View.readCov_fill]
  frame_out
  simp only [read_unread_whole]
  exact e r j

/-- The cotangent of the layer's output. -/
theorem next_dx3 (h0 : ¬t.val % 16 = 0) :
    Is ((outsAt0 m c t.val t.isLt).2.2.2.2.1 : Vec Ideal S512x1024 .f32) ((A.rows t.val).dx3) := by
  have hx := blk_x2 H t
  have ht := blk_tgt H t
  have hg := blk_gf H t
  have hl := blk_gl H t
  have hp : t.val - 1 < cfg0.N := Nat.lt_of_le_of_lt (Nat.sub_le _ _) t.isLt
  have wg0 := ld_rows_lo (kept_wg H (t.val - 1) hp)
  have wg1 := ld_rows_hi (kept_wg H (t.val - 1) hp)
  have wu0 := ld_rows_lo (kept_wu H (t.val - 1) hp)
  have wu1 := ld_rows_hi (kept_wu H (t.val - 1) hp)
  have wd0 := ld_rows_lo (kept_wd H (t.val - 1) hp)
  have wd1 := ld_rows_hi (kept_wd H (t.val - 1) hp)
  have hh := hf_is (A.rows t.val) hx hg
  have ha := a0_is (A.rows t.val) hx hg wg0 wu0
  have h3 := x3_is (A.rows t.val) hx hh ha wd0 wg1 wu1 wd1
  have hy := y_is (A.rows t.val) h3 hl
  have hu := unit3_is (A.rows t.val) h3
  have hr := rinv3_is (A.rows t.val) h3
  have e := dx3_is (A.rows t.val) hy ht hu hr hl
  intro r j
  rw [outsAt0_B m c t h0]
  frame_open
  simp (disch := decide) only [↓ View.readCov_skip, ↓ View.readCov_cons_toLoadRect, ↓ View.readCov_fill]
  frame_out
  simp only [read_unread_whole]
  exact e r j

/-- The loss. -/
theorem next_loss (h0 : ¬t.val % 16 = 0) {L : EReal}
    (hacc : Is ((outsAt0 m c (t.val - 1) (Nat.lt_of_le_of_lt (Nat.sub_le _ _) t.isLt)).2.2.2.2.2.1 : Vec Ideal S1x128 .f32) (fun _ _ => L)) :
    Is ((outsAt0 m c t.val t.isLt).2.2.2.2.2.1 : Vec Ideal S1x128 .f32) (fun _ _ => L + (A.rows t.val).loss) := by
  have hx := blk_x2 H t
  have ht := blk_tgt H t
  have hg := blk_gf H t
  have hl := blk_gl H t
  have hp : t.val - 1 < cfg0.N := Nat.lt_of_le_of_lt (Nat.sub_le _ _) t.isLt
  have wg0 := ld_rows_lo (kept_wg H (t.val - 1) hp)
  have wg1 := ld_rows_hi (kept_wg H (t.val - 1) hp)
  have wu0 := ld_rows_lo (kept_wu H (t.val - 1) hp)
  have wu1 := ld_rows_hi (kept_wu H (t.val - 1) hp)
  have wd0 := ld_rows_lo (kept_wd H (t.val - 1) hp)
  have wd1 := ld_rows_hi (kept_wd H (t.val - 1) hp)
  have hh := hf_is (A.rows t.val) hx hg
  have ha := a0_is (A.rows t.val) hx hg wg0 wu0
  have h3 := x3_is (A.rows t.val) hx hh ha wd0 wg1 wu1 wd1
  have hy := y_is (A.rows t.val) h3 hl
  have hu := unit3_is (A.rows t.val) h3
  have hr := rinv3_is (A.rows t.val) h3
  have e := loss_is (A.rows t.val) hy ht hacc
  intro r j
  rw [outsAt0_B m c t h0]
  frame_open
  simp (disch := decide) only [↓ View.readCov_skip, ↓ View.readCov_cons_toLoadRect, ↓ View.readCov_fill]
  frame_out
  simp only [read_unread_whole]
  exact e r j

/-- The cotangent of the last norm's gain. -/
theorem next_dgl (h0 : ¬t.val % 16 = 0) {S : Fin 1024 → EReal}
    (hacc : Is ((outsAt0 m c (t.val - 1) (Nat.lt_of_le_of_lt (Nat.sub_le _ _) t.isLt)).2.2.2.2.2.2.1 : Vec Ideal S1x1024 .f32) (fun _ => S)) :
    Is ((outsAt0 m c t.val t.isLt).2.2.2.2.2.2.1 : Vec Ideal S1x1024 .f32) (fun _ j => S j + (A.rows t.val).dgl j) := by
  have hx := blk_x2 H t
  have ht := blk_tgt H t
  have hg := blk_gf H t
  have hl := blk_gl H t
  have hp : t.val - 1 < cfg0.N := Nat.lt_of_le_of_lt (Nat.sub_le _ _) t.isLt
  have wg0 := ld_rows_lo (kept_wg H (t.val - 1) hp)
  have wg1 := ld_rows_hi (kept_wg H (t.val - 1) hp)
  have wu0 := ld_rows_lo (kept_wu H (t.val - 1) hp)
  have wu1 := ld_rows_hi (kept_wu H (t.val - 1) hp)
  have wd0 := ld_rows_lo (kept_wd H (t.val - 1) hp)
  have wd1 := ld_rows_hi (kept_wd H (t.val - 1) hp)
  have hh := hf_is (A.rows t.val) hx hg
  have ha := a0_is (A.rows t.val) hx hg wg0 wu0
  have h3 := x3_is (A.rows t.val) hx hh ha wd0 wg1 wu1 wd1
  have hy := y_is (A.rows t.val) h3 hl
  have hu := unit3_is (A.rows t.val) h3
  have hr := rinv3_is (A.rows t.val) h3
  have e := dgl_is (A.rows t.val) hy ht hu hacc
  intro r j
  rw [outsAt0_B m c t h0]
  frame_open
  simp (disch := decide) only [↓ View.readCov_skip, ↓ View.readCov_cons_toLoadRect, ↓ View.readCov_fill]
  frame_out
  simp only [read_unread_whole]
  exact e r j

end Cert.Head

end
-- ==== Proof.HeadArrays.lean ====
/- What the seven results of the forward kernel hold after the run: the row outputs block by block, the
   loss and the gain's cotangent as sums over the blocks. -/
module

public import proofs.«01_k».proof.Proof.HeadFirst
public import proofs.«01_k».proof.Proof.HeadNext

@[expose] public section

set_option maxRecDepth 16384

noncomputable section

namespace Cert.Head

open Cert.Mid Cert.Ffn Cert.Kernel4Ideal Cert.Kernel4Ideal.Gen Idealize.ShloMosaic Idealize.ShloMosaic.TcCoe Idealize.SL.Sem

variable {m : (ℓ : Loc nD τ sig) → Buf (Elt Ideal) ℓ} {c : Dev nD} {A : Given 8192} (H : MemIs m c A)

section Points

variable (t : Fin cfg0.N)

include H

/-! ## Every point -/

/-- The normalised stream. -/
theorem out_hf : Is ((outsAt0 m c t.val t.isLt).1 : Vec Ideal S512x1024 .bf16) (A.rows t.val).hf := by
  by_cases h : t.val % 16 = 0
  · exact first_hf H t h
  · exact next_hf H t h

/-- The first product. -/
theorem out_g : Is ((outsAt0 m c t.val t.isLt).2.1 : Vec Ideal S512x2816 .bf16) (A.rows t.val).g := by
  by_cases h : t.val % 16 = 0
  · exact first_g H t h
  · exact next_g H t h

/-- The second product. -/
theorem out_u : Is ((outsAt0 m c t.val t.isLt).2.2.1 : Vec Ideal S512x2816 .bf16) (A.rows t.val).u := by
  by_cases h : t.val % 16 = 0
  · exact first_u H t h
  · exact next_u H t h

/-- The gated product. -/
theorem out_a : Is ((outsAt0 m c t.val t.isLt).2.2.2.1 : Vec Ideal S512x2816 .bf16) (A.rows t.val).a := by
  by_cases h : t.val % 16 = 0
  · exact first_a H t h
  · exact next_a H t h

/-- The cotangent of the layer's output. -/
theorem out_dx3 : Is ((outsAt0 m c t.val t.isLt).2.2.2.2.1 : Vec Ideal S512x1024 .f32) (A.rows t.val).dx3 := by
  by_cases h : t.val % 16 = 0
  · exact first_dx3 H t h
  · exact next_dx3 H t h

end Points

include H

/-! ## The arrays -/

/-- The normalised stream. -/
theorem arr_hf : Is ((dats m 0 c).arrAt 4 cfg0.N : Vec Ideal S8192x1024 .bf16) A.hf := by
  have e : (dats m 0 c).arrAt 4 cfg0.N = fun y : S8192x1024.Idx => A.hf (y 0) (y 1) := by
    refine (dats m 0 c).arrAt_eq_of_covers 4 _ (by decide +kernel) fun t hf y => ?_
    have ht : t.val < 16 := lt_of_lt_of_eq t.isLt N_0
    obtain ⟨r, j, rfl⟩ : ∃ (r : Fin 512) (j : Fin 1024), y = ix2 r j := ⟨y 0, y 1, by funext a; fin_cases a <;> rfl⟩
    blk_simp
    rw [after0_4, show (win0_4.blk t).view.emb (ix2 r j) = ix2 (row t.val r) j by blk_ext [row, idx_rows t]]
    exact out_hf H t r j
  intro i j
  exact congrFun e (ix2 i j)

/-- The first product. -/
theorem arr_g : Is ((dats m 0 c).arrAt 5 cfg0.N : Vec Ideal S8192x2816 .bf16) A.g := by
  have e : (dats m 0 c).arrAt 5 cfg0.N = fun y : S8192x2816.Idx => A.g (y 0) (y 1) := by
    refine (dats m 0 c).arrAt_eq_of_covers 5 _ (by decide +kernel) fun t hf y => ?_
    have ht : t.val < 16 := lt_of_lt_of_eq t.isLt N_0
    obtain ⟨r, j, rfl⟩ : ∃ (r : Fin 512) (j : Fin 2816), y = ix2 r j := ⟨y 0, y 1, by funext a; fin_cases a <;> rfl⟩
    blk_simp
    rw [after0_5, show (win0_5.blk t).view.emb (ix2 r j) = ix2 (row t.val r) j by blk_ext [row, idx_rows t]]
    exact out_g H t r j
  intro i j
  exact congrFun e (ix2 i j)

/-- The second product. -/
theorem arr_u : Is ((dats m 0 c).arrAt 6 cfg0.N : Vec Ideal S8192x2816 .bf16) A.u := by
  have e : (dats m 0 c).arrAt 6 cfg0.N = fun y : S8192x2816.Idx => A.u (y 0) (y 1) := by
    refine (dats m 0 c).arrAt_eq_of_covers 6 _ (by decide +kernel) fun t hf y => ?_
    have ht : t.val < 16 := lt_of_lt_of_eq t.isLt N_0
    obtain ⟨r, j, rfl⟩ : ∃ (r : Fin 512) (j : Fin 2816), y = ix2 r j := ⟨y 0, y 1, by funext a; fin_cases a <;> rfl⟩
    blk_simp
    rw [after0_6, show (win0_6.blk t).view.emb (ix2 r j) = ix2 (row t.val r) j by blk_ext [row, idx_rows t]]
    exact out_u H t r j
  intro i j
  exact congrFun e (ix2 i j)

/-- The gated product. -/
theorem arr_a : Is ((dats m 0 c).arrAt 7 cfg0.N : Vec Ideal S8192x2816 .bf16) A.a := by
  have e : (dats m 0 c).arrAt 7 cfg0.N = fun y : S8192x2816.Idx => A.a (y 0) (y 1) := by
    refine (dats m 0 c).arrAt_eq_of_covers 7 _ (by decide +kernel) fun t hf y => ?_
    have ht : t.val < 16 := lt_of_lt_of_eq t.isLt N_0
    obtain ⟨r, j, rfl⟩ : ∃ (r : Fin 512) (j : Fin 2816), y = ix2 r j := ⟨y 0, y 1, by funext a; fin_cases a <;> rfl⟩
    blk_simp
    rw [after0_7, show (win0_7.blk t).view.emb (ix2 r j) = ix2 (row t.val r) j by blk_ext [row, idx_rows t]]
    exact out_a H t r j
  intro i j
  exact congrFun e (ix2 i j)

/-- The cotangent of the layer's output. -/
theorem arr_dx3 : Is ((dats m 0 c).arrAt 8 cfg0.N : Vec Ideal S8192x1024 .f32) A.dx3 := by
  have e : (dats m 0 c).arrAt 8 cfg0.N = fun y : S8192x1024.Idx => A.dx3 (y 0) (y 1) := by
    refine (dats m 0 c).arrAt_eq_of_covers 8 _ (by decide +kernel) fun t hf y => ?_
    have ht : t.val < 16 := lt_of_lt_of_eq t.isLt N_0
    obtain ⟨r, j, rfl⟩ : ∃ (r : Fin 512) (j : Fin 1024), y = ix2 r j := ⟨y 0, y 1, by funext a; fin_cases a <;> rfl⟩
    blk_simp
    rw [after0_8, show (win0_8.blk t).view.emb (ix2 r j) = ix2 (row t.val r) j by blk_ext [row, idx_rows t]]
    exact out_dx3 H t r j
  intro i j
  exact congrFun e (ix2 i j)

/-- The loss after the first points. -/
theorem sum_loss : ∀ (n : ℕ) (h : n < cfg0.N), Is ((outsAt0 m c n h).2.2.2.2.2.1 : Vec Ideal S1x128 .f32)
    fun _ _ => ∑ s ∈ Finset.range (n + 1), (A.rows s).loss
  | 0, h => fun i j => (first_loss H ⟨0, h⟩ rfl i j).trans (by simp)
  | n + 1, h => fun i j => by
    have hn : n + 1 < 16 := lt_of_lt_of_eq h N_0
    exact (next_loss H ⟨n + 1, h⟩ (by dsimp only; omega)
      (L := ∑ s ∈ Finset.range (n + 1), (A.rows s).loss) (sum_loss n (Nat.lt_of_succ_lt h)) i j).trans
      (by dsimp only; rw [Finset.sum_range_succ _ (n + 1)])

/-- The gain's cotangent after the first points. -/
theorem sum_dgl : ∀ (n : ℕ) (h : n < cfg0.N), Is ((outsAt0 m c n h).2.2.2.2.2.2.1 : Vec Ideal S1x1024 .f32)
    fun _ j => ∑ s ∈ Finset.range (n + 1), (A.rows s).dgl j
  | 0, h => fun i j => (first_dgl H ⟨0, h⟩ rfl i j).trans (by simp)
  | n + 1, h => fun i j => by
    have hn : n + 1 < 16 := lt_of_lt_of_eq h N_0
    exact (next_dgl H ⟨n + 1, h⟩ (by dsimp only; omega)
      (S := fun j => ∑ s ∈ Finset.range (n + 1), (A.rows s).dgl j) (sum_dgl n (Nat.lt_of_succ_lt h)) i j).trans
      (by dsimp only; rw [Finset.sum_range_succ _ (n + 1)])

omit H in
/-- There is a last point. -/
theorem last_lt : 15 < cfg0.N := lt_of_lt_of_eq (by decide) N_0.symm

/-- The last point. -/
def lastPoint : Fin cfg0.N := ⟨15, last_lt⟩

omit H in
/-- The blocks' losses make the loss. -/
theorem sum_losses : ∑ s ∈ Finset.range 16, (A.rows s).loss = A.loss := by
  show ∑ s ∈ Finset.range 16, ((1 / 2048 : ℝ) : EReal) * ∑ r, A.sq (row s r) = ((1 / 2048 : ℝ) : EReal) * ∑ t, A.sq t
  rw [← coe_mul_sum _ _ (by norm_num), sum_rows fun t => A.sq t]

/-- The loss. -/
theorem arr_loss : Is ((dats m 0 c).arrAt 9 cfg0.N : Vec Ideal S1x128 .f32) fun _ _ => A.loss := by
  have e : (dats m 0 c).arrAt 9 cfg0.N = ((outsAt0 m c 15 last_lt).2.2.2.2.2.1 : Vec Ideal S1x128 .f32) := by
    refine (dats m 0 c).arrAt_eq_of_after_last 9 lastPoint (by decide +kernel) _ fun j => ?_
    blk_simp
    rw [after0_9]
    rfl
  intro i j
  rw [e]
  exact (sum_loss H 15 last_lt i j).trans sum_losses

/-- The gain's cotangent. -/
theorem arr_dgl : Is ((dats m 0 c).arrAt 10 cfg0.N : Vec Ideal S1x1024 .f32) fun _ => A.dgl := by
  have e : (dats m 0 c).arrAt 10 cfg0.N = ((outsAt0 m c 15 last_lt).2.2.2.2.2.2.1 : Vec Ideal S1x1024 .f32) := by
    refine (dats m 0 c).arrAt_eq_of_after_last 10 lastPoint (by decide +kernel) _ fun j => ?_
    blk_simp
    rw [after0_10]
    rfl
  intro i j
  rw [e]
  exact (sum_dgl H 15 last_lt i j).trans (sum_rows fun t => A.dy t j * unit (A.x3 t) j)

end Cert.Head

end
-- ==== Proof.HeadReference.lean ====
/- What the reference of the feed-forward layer's forward pass and of the loss computes, stage by stage: the
   entries of every array are the row mathematics of the pass. -/
module

public import proofs.«01_k».proof.Proof.Gen.Reference4Ideal.Read
public import proofs.«01_k».proof.Proof.HeadSpec

@[expose] public section

set_option maxRecDepth 16384

noncomputable section

namespace Cert.Head

open Cert.Mid Cert.Ffn Cert.Reference4Ideal Cert.Reference4Ideal.Read Idealize.ShloMosaic

variable {x0 x1 : FVec Ideal S8192x1024 .f32} {x2 x3 : FVec Ideal S1x1024 .f32} {x4 x5 : FVec Ideal S1024x2816 .f32}
variable {x6 : FVec Ideal S2816x1024 .f32} {A : Given 8192} (H : ArgsAre x0 x1 x2 x3 x4 x5 x6 A)

include H

/-- The mean square of the rows. -/
theorem v6_is : Is (val_main_v6 (F := Ideal) x0) fun t _ => meanSq (A.x2 t) := by
  intro r c
  pointwise [val_main_v6, val_main_v5, val_main_cst_1, val_main_v4, val_main_v3, val_main_cst_0, val_main_v2, val_main_v1, val_main_cst, val_main_v0]
  simp only [H.h0, lit_1024, lit_eps]
  rfl

/-- Its reciprocal root. -/
theorem v7_is : Is (val_main_v7 (F := Ideal) x0) fun t _ => rinv (A.x2 t) := by
  intro r c
  pointwise [val_main_v7]
  simp only [v6_is H]
  rfl

/-- The normalised rows with their gain. -/
theorem v11_is : Is (val_main_v11 (F := Ideal) x0 x2) A.hf := by
  intro r c
  pointwise [val_main_v11, val_main_v10, val_main_v9, val_main_v8]
  simp only [v7_is H, H.h0, H.h2]
  rfl

/-- The first product. -/
theorem v12_is : Is (val_main_v12 (F := Ideal) x0 x2 x4) A.g := by
  intro r c
  pointwise [val_main_v12]
  simp only [v11_is H, H.h4]
  rfl

/-- The second product. -/
theorem v13_is : Is (val_main_v13 (F := Ideal) x0 x2 x5) A.u := by
  intro r c
  pointwise [val_main_v13]
  simp only [v11_is H, H.h5]
  rfl

/-- The logistic function of the first product. -/
theorem logi_is : Is (val_main_call0_v5 (F := Ideal) x0 x2 x4) fun t f => Ideal.logistic (A.g t f) := by
  intro r c
  pointwise [val_main_call0_v5, val_main_call0_v4, val_main_call0_cst_0, val_main_call0_v3, val_main_call0_v2, val_main_call0_cst, val_main_call0_v1, val_main_call0_v0]
  simp only [v12_is H]
  rfl

/-- The gated product. -/
theorem v15_is : Is (val_main_v15 (F := Ideal) x0 x2 x4 x5) A.a := by
  intro r c
  pointwise [val_main_v15, val_main_v14]
  simp only [v12_is H, logi_is H, v13_is H]
  rfl

/-- The layer's output. -/
theorem v17_is : Is (val_main_v17 (F := Ideal) x0 x2 x4 x5 x6) A.x3 := by
  intro r c
  pointwise [val_main_v17, val_main_v16]
  simp only [v15_is H, H.h0, H.h6]
  rfl

/-- The mean square of its rows. -/
theorem v24_is : Is (val_main_v24 (F := Ideal) x0 x2 x4 x5 x6) fun t _ => meanSq (A.x3 t) := by
  intro r c
  pointwise [val_main_v24, val_main_v23, val_main_cst_4, val_main_v22, val_main_v21, val_main_cst_3, val_main_v20, val_main_v19, val_main_cst_2, val_main_v18]
  simp only [v17_is H, lit_1024, lit_eps]
  rfl

/-- Its reciprocal root. -/
theorem v25_is : Is (val_main_v25 (F := Ideal) x0 x2 x4 x5 x6) fun t _ => rinv (A.x3 t) := by
  intro r c
  pointwise [val_main_v25]
  simp only [v24_is H]
  rfl

/-- The output's normalised rows. -/
theorem v30_is : Is (val_main_v30 (F := Ideal) x0 x2 x4 x5 x6) fun t => unit (A.x3 t) := by
  intro r c
  pointwise [val_main_v30, val_main_v29]
  simp only [v25_is H, v17_is H]
  rfl

/-- The error. -/
theorem v33_is : Is (val_main_v33 (F := Ideal) x0 x1 x2 x3 x4 x5 x6) A.err := by
  intro r c
  pointwise [val_main_v33, val_main_v32, val_main_v31]
  simp only [v30_is H, H.h1, H.h3]
  rfl

/-- The cotangent of the norm. -/
theorem v47_is : Is (val_main_v47 (F := Ideal) x0 x1 x2 x3 x4 x5 x6) A.dy := by
  intro r c
  pointwise [val_main_v47, val_main_v46, val_main_v45, val_main_v44, val_main_cst_13, val_main_v43, val_main_v42, val_main_cst_12, val_main_cst_11, val_main_v36, val_main_v35, val_main_cst_6]
  simp only [v33_is H, lit_half, lit_two, lit_1024, mul_one, div_coe_coe _ (by norm_num : ((1024 : ℕ) : ℝ) ≠ 0)]
  show (((1 / 2 : ℝ) / ((1024 : ℕ) : ℝ) : ℝ) : EReal) * (((2 : ℝ) : EReal) * A.err r c) = A.err r c * ((1 / 1024 : ℝ) : EReal)
  rw [← mul_assoc, ← EReal.coe_mul, mul_comm]
  norm_num

/-- The same with the gain. -/
theorem v52_is : Is (val_main_v52 (F := Ideal) x0 x1 x2 x3 x4 x5 x6) fun t c => A.dy t c * A.gl c := by
  intro r c
  pointwise [val_main_v52, val_main_v51]
  simp only [v47_is H, H.h3]

/-- The cotangent of the layer's output. -/
theorem v66_is : Is (val_main_v66 (F := Ideal) x0 x1 x2 x3 x4 x5 x6) A.dx3 := by
  intro r c
  pointwise [val_main_v66, val_main_v65, val_main_v64, val_main_v63, val_main_v62, val_main_v61, val_main_cst_17, val_main_v60, val_main_v59, val_main_cst_16, val_main_v58, val_main_v57, val_main_v56, val_main_v55, val_main_v54, val_main_cst_15, val_main_v53, val_main_v28, val_main_v27, val_main_cst_5, val_main_v26]
  simp only [v52_is H, v24_is H, v25_is H, v17_is H, lit_1024, lit_neg_half, Fin.sum_univ_one]
  exact rms_row (A.x3 r) (fun c => A.dy r c * A.gl c) c

/-- The cotangent of the last norm's gain. -/
theorem v50_is : Is (val_main_v50 (F := Ideal) x0 x1 x2 x3 x4 x5 x6) fun _ => A.dgl := by
  intro r c
  pointwise [val_main_v50, val_main_v49, val_main_cst_14, val_main_v48]
  simp only [v30_is H, v47_is H]
  exact Finset.sum_congr rfl fun t _ => mul_comm _ _

/-- The loss. -/
theorem v71_is : Is (val_main_v71 (F := Ideal) x0 x1 x2 x3 x4 x5 x6) fun _ _ => A.loss := by
  intro r c
  pointwise [val_main_v71, val_main_v41, val_main_cst_10, val_main_v40, val_main_cst_9, val_main_v39, val_main_v38, val_main_cst_8, val_main_v37, val_main_cst_7, val_main_v34]
  simp only [v33_is H, lit_half, lit_1024, Ideal.div_coe (by norm_num : ((1024 : ℕ) : ℝ) ≠ 0)]
  show ((1 / 2 : ℝ) : EReal) * ∑ t, A.sq t * ((1 / ((1024 : ℕ) : ℝ) : ℝ) : EReal) = ((1 / 2048 : ℝ) : EReal) * ∑ t, A.sq t
  rw [coe_mul_sum _ _ (by norm_num), coe_mul_sum _ _ (by norm_num)]
  refine Finset.sum_congr rfl fun t _ => ?_
  rw [mul_comm (A.sq t), ← mul_assoc, ← EReal.coe_mul]
  norm_num

/-- The normalised rows, cast. -/
theorem v67_is : Is (val_main_v67 (F := Ideal) x0 x2) A.hf := by
  intro r c
  pointwise [val_main_v67]
  simp only [v11_is H]

/-- The first product, cast. -/
theorem v68_is : Is (val_main_v68 (F := Ideal) x0 x2 x4) A.g := by
  intro r c
  pointwise [val_main_v68]
  simp only [v12_is H]

/-- The second product, cast. -/
theorem v69_is : Is (val_main_v69 (F := Ideal) x0 x2 x5) A.u := by
  intro r c
  pointwise [val_main_v69]
  simp only [v13_is H]

/-- The gated product, cast. -/
theorem v70_is : Is (val_main_v70 (F := Ideal) x0 x2 x4 x5) A.a := by
  intro r c
  pointwise [val_main_v70]
  simp only [v15_is H]

end Cert.Head

end
-- ==== Proof.HeadValue.lean ====
/- The claims about the feed-forward layer's forward pass and the loss: the frames, and the equality of the seven results over the
   extended reals. -/
module

public import proofs.«01_k».proof.Defs
public import proofs.«01_k».proof.Proof.Gen.Kernel4Ideal
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel4Ideal.Value
public import proofs.«01_k».proof.Proof.HeadArrays
public import proofs.«01_k».proof.Proof.HeadReference

@[expose] public section

set_option maxRecDepth 16384

noncomputable section

namespace Cert.Head

open Idealize.ShloMosaic Idealize.ShloMosaic.TcCoe Idealize.SL.Sem

attribute [local instance] Cert.Kernel4Ideal.Gen.facts Cert.Reference4Ideal.Gen.facts

/-! ## The frames -/

/-- The kernel over the extended reals runs, keeps its arguments and leaves every counter at zero. -/
theorem frame_ideal : Cert.quiescent_Kernel4Ideal := fun m ρ _ => Cert.Kernel4Ideal.Gen.frame m ρ

/-- The reference runs, keeps its arguments and leaves every counter at zero. -/
theorem frame_reference : Cert.quiescent_Reference4Ideal := fun m ρ _ =>
  (θ_run Cert.Reference4Ideal.defs _ _).mono
    (fun r h => ⟨fun c => (h c).2.2.2.2.2.2.2, sem_eq_zero_of_no_sems (by decide) r.2⟩)
    (Cert.Reference4Ideal.Value.run (F := Ideal) m ρ)

/-! ## The results -/

/-- Two arrays that are the same matrix are equal. -/
theorem eq_of_is {a b : ℕ} {u v : Shape.Idx ⟨2, ![a, b]⟩ → EReal} {U : Fin a → Fin b → EReal}
    (hu : Is u U) (hv : Is v U) : u = v := by
  funext i
  rw [eq_ix2 i]
  exact (hu (i 0) (i 1)).trans (hv (i 0) (i 1)).symm

set_option maxHeartbeats 4000000 in
/-- From arguments that agree, finite or not, kernel and reference end with equal results. -/
theorem value : Cert.algebraic_Kernel4Ideal_Reference4Ideal := by
  intro m ρ m' ρ' _ hagree
  have H := fun c => mem_is m c
  have H' : ∀ c : Dev Cert.Kernel4Ideal.nD, ArgsAre (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg5)) (m' ((c.tc : Thread Cert.Reference4Ideal.nD Cert.Reference4Ideal.τ).loc Cert.Reference4Ideal.main_arg6)) (argsOf m c) := by
    intro c
    obtain ⟨e0, e1, e2, e3, e4, e5, e6⟩ := hagree c
    rw [e0, e1, e2, e3, e4, e5, e6]
    exact H c
  refine ⟨fun c => (Cert.Kernel4Ideal.Gen.dats m 0 c).arrAt 4 Cert.Kernel4Ideal.cfg0.N, fun c => (Cert.Kernel4Ideal.Gen.dats m 0 c).arrAt 5 Cert.Kernel4Ideal.cfg0.N, fun c => (Cert.Kernel4Ideal.Gen.dats m 0 c).arrAt 6 Cert.Kernel4Ideal.cfg0.N, fun c => (Cert.Kernel4Ideal.Gen.dats m 0 c).arrAt 7 Cert.Kernel4Ideal.cfg0.N, fun c => (Cert.Kernel4Ideal.Gen.dats m 0 c).arrAt 8 Cert.Kernel4Ideal.cfg0.N, fun c => (Cert.Kernel4Ideal.Gen.dats m 0 c).arrAt 9 Cert.Kernel4Ideal.cfg0.N, fun c => (Cert.Kernel4Ideal.Gen.dats m 0 c).arrAt 10 Cert.Kernel4Ideal.cfg0.N, ?_, ?_⟩
  · refine (θ_run Cert.Kernel4Ideal.defs _ _).mono (fun r h c => ?_) (Cert.Kernel4Ideal.Value.run_blocks (F := Ideal) m ρ)
    exact h c
  · refine (θ_run Cert.Reference4Ideal.defs _ _).mono (fun r h c => ?_) (Cert.Reference4Ideal.Value.run (F := Ideal) m' ρ')
    obtain ⟨r0, r1, r2, r3, r4, r5, r6, kept⟩ := h c
    exact ⟨(r0.trans (Cert.Reference4Ideal.Read.val_main_v67_eq _ _)).trans (eq_of_is (v67_is (H' c)) (arr_hf (H c))),
      (r1.trans (Cert.Reference4Ideal.Read.val_main_v68_eq _ _ _)).trans (eq_of_is (v68_is (H' c)) (arr_g (H c))),
      (r2.trans (Cert.Reference4Ideal.Read.val_main_v69_eq _ _ _)).trans (eq_of_is (v69_is (H' c)) (arr_u (H c))),
      (r3.trans (Cert.Reference4Ideal.Read.val_main_v70_eq _ _ _ _)).trans (eq_of_is (v70_is (H' c)) (arr_a (H c))),
      (r4.trans (Cert.Reference4Ideal.Read.val_main_v66_eq _ _)).trans (eq_of_is (v66_is (H' c)) (arr_dx3 (H c))),
      (r5.trans (Cert.Reference4Ideal.Read.val_main_v71_eq _ _)).trans (eq_of_is (v71_is (H' c)) (arr_loss (H c))),
      (r6.trans (Cert.Reference4Ideal.Read.val_main_v50_eq _ _)).trans (eq_of_is (v50_is (H' c)) (arr_dgl (H c))), kept⟩

end Cert.Head

end
-- ==== Proof.SameText4.lean ====
/- The frame of the kernel with its bit patterns, from the one run: the kernel and its idealization are the same text in
   two namespaces. -/
module

public import proofs.«01_k».proof.Defs
public import proofs.«01_k».proof.Proof.Gen.Kernel4
public import proofs.«01_k».proof.Proof.Gen.Kernel4Ideal
public import proofs.«01_k».proof.Proof.Gen.Kernel4Ideal.Frame

@[expose] public section

set_option maxRecDepth 65536
set_option maxHeartbeats 4000000

noncomputable section

namespace Cert.Proof

open Idealize.ShloMosaic Idealize.ShloMosaic.TcCoe Idealize.SL.Sem

attribute [local instance] Cert.Kernel4.Gen.facts Cert.Kernel4Ideal.Gen.facts

/-- The two body tables are the same. -/
theorem same_bodies4 : (@Cert.Kernel4.defs₀ Bits _ _ : Defs Cert.Kernel4Ideal.nD Cert.Kernel4Ideal.τ Cert.Kernel4Ideal.sig (Elt Bits)
    Cert.Kernel4Ideal.Λ₀) = (@Cert.Kernel4Ideal.defs₀ Bits _ _) := by sl_kernel_rfl

/-- The kernel with its bit patterns runs, keeps its arguments and leaves every counter at zero. -/
theorem frame_kernel4 : Cert.quiescent_Kernel4 := by
  intro m ρ _
  unfold Cert.Kernel4.defs
  have h := Cert.Kernel4Ideal.Gen.frame (F := Bits) m ρ
  unfold Cert.Kernel4Ideal.defs at h
  rw [← same_bodies4] at h
  exact h

end Cert.Proof

end
-- ==== Proof.CrossSpec.lean ====
/- The mathematics of the forward pass of the cross-attention, in real numbers: row by row the merge of the two mixers'
   outputs, the residual stream, its norm, the queries, the attention's output and the next residual stream. -/
module

public import proofs.«01_k».proof.Proof.Args

@[expose] public section

set_option maxRecDepth 16384

noncomputable section

namespace Cert.Cross

open Cert.Mid Idealize.ShloMosaic

/-- What the forward pass is given: the residual stream, the two mixers' outputs, the keys and values, the three gains
    and the three weights. -/
structure Given (n : ℕ) where
  x : Fin n → Fin 1024 → ℝ
  att : Fin n → Fin 512 → ℝ
  lru : Fin n → Fin 512 → ℝ
  k : Fin 256 → Fin 1024 → ℝ
  v : Fin 256 → Fin 1024 → ℝ
  ga : Fin 512 → ℝ
  gl : Fin 512 → ℝ
  wout : Fin 1024 → Fin 1024 → ℝ
  gc : Fin 1024 → ℝ
  wq : Fin 1024 → Fin 1024 → ℝ
  wo : Fin 1024 → Fin 1024 → ℝ

namespace Given

variable {n : ℕ} (G : Given n) (t : Fin n)

/-- The mixers' normalised outputs with their gains, side by side. -/
def merged (c : Fin 1024) : ℝ :=
  if h : c.val < 512 then unit (G.att t) ⟨c.val, h⟩ * G.ga ⟨c.val, h⟩
  else unit (G.lru t) ⟨c.val - 512, by omega⟩ * G.gl ⟨c.val - 512, by omega⟩

/-- The residual stream before the cross-attention. -/
def x1 (c : Fin 1024) : ℝ := G.x t c + ∑ j, G.merged t j * G.wout j c

/-- Its norm with the gain. -/
def hc (c : Fin 1024) : ℝ := unit (G.x1 t) c * G.gc c

/-- The queries. -/
def q (c : Fin 1024) : ℝ := ∑ j, G.hc t j * G.wq j c

/-- The scores of a row, one head. -/
def sc (h : Fin 4) : Fin 256 → ℝ := score (fun k => G.q t (lane h k)) fun m k => G.k m (lane h k)

/-- The attention's output. -/
def ox (c : Fin 1024) : ℝ := ∑ m, softmax (G.sc t (headOf c)) m * G.v m c

/-- The residual stream after the cross-attention. -/
def x2 (c : Fin 1024) : ℝ := G.x1 t c + ∑ j, G.ox t j * G.wo j c

/-- The first half of the merged lanes. -/
theorem merged_lo (c : Fin 512) : unit (G.att t) c * G.ga c = G.merged t (lo c) := by
  unfold merged
  rw [dif_pos (show (lo c).val < 512 from c.isLt)]
  rfl

/-- The second half of the merged lanes. -/
theorem merged_hi (c : Fin 512) : unit (G.lru t) c * G.gl c = G.merged t (hi c) := by
  unfold merged
  rw [dif_neg (show ¬ (hi c).val < 512 from Nat.not_lt.mpr (Nat.le_add_right 512 c.val))]
  rw [show (⟨(hi c).val - 512, by omega⟩ : Fin 512) = c from Fin.ext (Nat.add_sub_cancel_left 512 c.val)]

end Given

/-- The attention's output as the kernel computes it: the exponentials times the values, over the exponentials' sum. -/
theorem ox_elem {n : ℕ} [NeZero n] (s v : Fin n → ℝ) :
    Ideal.div (∑ m, Ideal.exp (((s m : ℝ) : EReal) - Finset.univ.fold max ⊥ fun x => ((s x : ℝ) : EReal)) * ((v m : ℝ) : EReal))
      (∑ x, Ideal.exp (((s x : ℝ) : EReal) - Finset.univ.fold max ⊥ fun x => ((s x : ℝ) : EReal))) =
    ((∑ m, softmax s m * v m : ℝ) : EReal) := by
  obtain ⟨M, hM⟩ := fold_max_coe s
  simp only [hM, ← EReal.coe_sub, Ideal.exp_coe, ← EReal.coe_mul, sum_coe]
  rw [div_coe_coe _ (sum_exp_pos _).ne', Finset.sum_div]
  refine congrArg _ (Finset.sum_congr rfl fun m _ => ?_)
  rw [← softmax_shift s M m]
  unfold softmax
  ring

/-- A probability as the reference computes it. -/
theorem p_elem {n : ℕ} [NeZero n] (s : Fin n → ℝ) (m : Fin n) :
    Ideal.div ((Real.exp (s m - top s) : ℝ) : EReal) ((∑ k, Real.exp (s k - top s) : ℝ) : EReal) = ((softmax s m : ℝ) : EReal) := by
  rw [div_coe_coe _ (sum_exp_pos fun k => s k - top s).ne', ← softmax_shift s (top s) m]
  rfl

/-- The arrays' elements are the real arguments. -/
structure ArgsReal (x0 : Shape.Idx ⟨2, ![8192, 1024]⟩ → EReal) (x1 x2 : Shape.Idx ⟨2, ![8192, 512]⟩ → EReal)
    (x3 x4 : Shape.Idx ⟨2, ![256, 1024]⟩ → EReal) (x5 x6 : Shape.Idx ⟨2, ![1, 512]⟩ → EReal)
    (x7 : Shape.Idx ⟨2, ![1024, 1024]⟩ → EReal) (x8 : Shape.Idx ⟨2, ![1, 1024]⟩ → EReal)
    (x9 x10 : Shape.Idx ⟨2, ![1024, 1024]⟩ → EReal) (A : Given 8192) : Prop where
  h0 : IsReal x0 A.x
  h1 : IsReal x1 A.att
  h2 : IsReal x2 A.lru
  h3 : IsReal x3 A.k
  h4 : IsReal x4 A.v
  h5 : IsReal x5 fun _ => A.ga
  h6 : IsReal x6 fun _ => A.gl
  h7 : IsReal x7 A.wout
  h8 : IsReal x8 fun _ => A.gc
  h9 : IsReal x9 A.wq
  h10 : IsReal x10 A.wo

end Cert.Cross

end
-- ==== Proof.CrossEntry.lean ====
/- What the region of the forward kernel of the cross-attention holds when it is entered, in real numbers: arguments and
   their narrowed copies. -/
module

public import proofs.«01_k».proof.Proof.Gen.Kernel5Ideal.Frame
public import proofs.«01_k».proof.Proof.CrossSpec
public import Idealize.ShloMosaic.Lib.Pipeline.ValueKit

@[expose] public section

set_option maxRecDepth 16384

noncomputable section

namespace Cert.Cross

open Cert.Mid Cert.Kernel5Ideal Cert.Kernel5Ideal.Gen Idealize.ShloMosaic Idealize.ShloMosaic.TcCoe Idealize.SL.Sem

variable (m : (ℓ : Loc nD τ sig) → Buf (Elt Ideal) ℓ)

/-- The arguments in the machine's memory are the real ones. -/
abbrev MemReal (c : Dev nD) (A : Given 8192) : Prop :=
  ArgsReal (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) A

variable {m} {c : Dev nD} {A : Given 8192} (H : MemReal m c A)

include H

/-- The residual stream. -/
theorem entry_x : IsReal (V m c main_arg0) A.x := by
  intro i j
  entry_read
  exact H.h0 i j

/-- The attention's output. -/
theorem entry_att : IsReal (V m c main_arg1) A.att := by
  intro i j
  entry_read
  exact H.h1 i j

/-- The recurrence's output. -/
theorem entry_lru : IsReal (V m c main_arg2) A.lru := by
  intro i j
  entry_read
  exact H.h2 i j

/-- The attention's gain. -/
theorem entry_ga : IsReal (V m c main_arg5) (fun _ => A.ga) := by
  intro i j
  entry_read
  exact H.h5 i j

/-- The recurrence's gain. -/
theorem entry_gl : IsReal (V m c main_arg6) (fun _ => A.gl) := by
  intro i j
  entry_read
  exact H.h6 i j

/-- The merge projection. -/
theorem entry_wout : IsReal (V m c main_v0) A.wout := by
  intro i j
  entry_read
  exact H.h7 i j

/-- The cross-attention's gain. -/
theorem entry_gc : IsReal (V m c main_arg8) (fun _ => A.gc) := by
  intro i j
  entry_read
  exact H.h8 i j

/-- The query projection. -/
theorem entry_wq : IsReal (V m c main_v1) A.wq := by
  intro i j
  entry_read
  exact H.h9 i j

/-- The keys. -/
theorem entry_k : IsReal (V m c main_v2) A.k := by
  intro i j
  entry_read
  exact H.h3 i j

/-- The values. -/
theorem entry_v : IsReal (V m c main_v3) A.v := by
  intro i j
  entry_read
  exact H.h4 i j

/-- The output projection. -/
theorem entry_wo : IsReal (V m c main_v4) A.wo := by
  intro i j
  entry_read
  exact H.h10 i j

end Cert.Cross

end
-- ==== Proof.CrossBlocks.lean ====
/- The blocks of a grid point of the forward kernel of the cross-attention, in real numbers: the point's 512 rows, the
   whole of the other arrays, a head's part of a block, and what the body's stores leave. -/
module

public import proofs.«01_k».proof.Proof.CrossEntry
public import Idealize.ShloMosaic.Lib.Pipeline.ReadBack

@[expose] public section

set_option maxRecDepth 16384

noncomputable section

namespace Cert.Cross

open Cert.Mid Cert.Kernel5Ideal Cert.Kernel5Ideal.Gen Idealize.ShloMosaic Idealize.ShloMosaic.TcCoe Idealize.SL.Sem

/-- Row `r` of block `n`. -/
def row (n : ℕ) (r : Fin 512) : Fin 8192 := ⟨(512 * n + r.val) % 8192, Nat.mod_lt _ (by decide)⟩

/-- What the forward pass is given for the rows of block `n`. -/
def Given.rows (G : Given 8192) (n : ℕ) : Given 512 :=
  ⟨fun r => G.x (row n r), fun r => G.att (row n r), fun r => G.lru (row n r), G.k, G.v, G.ga, G.gl, G.wout, G.gc, G.wq, G.wo⟩

/-- The index maps of the windows read and written by rows. -/
theorem idx_rows : ∀ t : Fin cfg0.N, (win0_0.index t 0 = t.val ∧ win0_0.index t 1 = 0) ∧
    (win0_1.index t 0 = t.val ∧ win0_1.index t 1 = 0) ∧
    (win0_2.index t 0 = t.val ∧ win0_2.index t 1 = 0) ∧
    (win0_11.index t 0 = t.val ∧ win0_11.index t 1 = 0) ∧
    (win0_12.index t 0 = t.val ∧ win0_12.index t 1 = 0) ∧
    (win0_13.index t 0 = t.val ∧ win0_13.index t 1 = 0) ∧
    (win0_14.index t 0 = t.val ∧ win0_14.index t 1 = 0) ∧
    (win0_15.index t 0 = t.val ∧ win0_15.index t 1 = 0) ∧
    (win0_16.index t 0 = t.val ∧ win0_16.index t 1 = 0) :=
  (by decide +kernel : ∀ t : Fin grid0.N, _)

/-- The index maps of the windows read whole. -/
theorem idx_whole : ∀ t : Fin cfg0.N, (win0_3.index t 0 = 0 ∧ win0_3.index t 1 = 0) ∧
    (win0_4.index t 0 = 0 ∧ win0_4.index t 1 = 0) ∧
    (win0_5.index t 0 = 0 ∧ win0_5.index t 1 = 0) ∧
    (win0_6.index t 0 = 0 ∧ win0_6.index t 1 = 0) ∧
    (win0_7.index t 0 = 0 ∧ win0_7.index t 1 = 0) ∧
    (win0_8.index t 0 = 0 ∧ win0_8.index t 1 = 0) ∧
    (win0_9.index t 0 = 0 ∧ win0_9.index t 1 = 0) ∧
    (win0_10.index t 0 = 0 ∧ win0_10.index t 1 = 0) :=
  (by decide +kernel : ∀ t : Fin grid0.N, _)

section Blocks

variable {m : (ℓ : Loc nD τ sig) → Buf (Elt Ideal) ℓ} {c : Dev nD} {A : Given 8192} (H : MemReal m c A) (t : Fin cfg0.N)

include H

/-! ## The blocks -/

/-- The residual stream. -/
theorem blk_x : IsReal (iblk m c 0 t) (A.rows t.val).x := by
  intro r j
  have ht : t.val < 16 := lt_of_lt_of_eq t.isLt N_0
  blk_simp [iblk]
  rw [show (win0_0.blk t).view.emb (ix2 r j) = ix2 (row t.val r) j by blk_ext [row, idx_rows t]]
  exact entry_x H _ _

/-- The attention's output. -/
theorem blk_att : IsReal (iblk m c 1 t) (A.rows t.val).att := by
  intro r j
  have ht : t.val < 16 := lt_of_lt_of_eq t.isLt N_0
  blk_simp [iblk]
  rw [show (win0_1.blk t).view.emb (ix2 r j) = ix2 (row t.val r) j by blk_ext [row, idx_rows t]]
  exact entry_att H _ _

/-- The recurrence's output. -/
theorem blk_lru : IsReal (iblk m c 2 t) (A.rows t.val).lru := by
  intro r j
  have ht : t.val < 16 := lt_of_lt_of_eq t.isLt N_0
  blk_simp [iblk]
  rw [show (win0_2.blk t).view.emb (ix2 r j) = ix2 (row t.val r) j by blk_ext [row, idx_rows t]]
  exact entry_lru H _ _

/-- The attention's gain. -/
theorem blk_ga : IsReal (iblk m c 3 t) (fun _ => (A.rows t.val).ga) := by
  intro r j
  have ht : t.val < 16 := lt_of_lt_of_eq t.isLt N_0
  blk_simp [iblk]
  rw [show (win0_3.blk t).view.emb (ix2 r j) = ix2 r j by blk_ext [idx_whole t]]
  exact entry_ga H _ _

/-- The recurrence's gain. -/
theorem blk_gl : IsReal (iblk m c 4 t) (fun _ => (A.rows t.val).gl) := by
  intro r j
  have ht : t.val < 16 := lt_of_lt_of_eq t.isLt N_0
  blk_simp [iblk]
  rw [show (win0_4.blk t).view.emb (ix2 r j) = ix2 r j by blk_ext [idx_whole t]]
  exact entry_gl H _ _

/-- The merge projection. -/
theorem blk_wout : IsReal (iblk m c 5 t) (A.rows t.val).wout := by
  intro r j
  have ht : t.val < 16 := lt_of_lt_of_eq t.isLt N_0
  blk_simp [iblk]
  rw [show (win0_5.blk t).view.emb (ix2 r j) = ix2 r j by blk_ext [idx_whole t]]
  exact entry_wout H _ _

/-- The cross-attention's gain. -/
theorem blk_gc : IsReal (iblk m c 6 t) (fun _ => (A.rows t.val).gc) := by
  intro r j
  have ht : t.val < 16 := lt_of_lt_of_eq t.isLt N_0
  blk_simp [iblk]
  rw [show (win0_6.blk t).view.emb (ix2 r j) = ix2 r j by blk_ext [idx_whole t]]
  exact entry_gc H _ _

/-- The query projection. -/
theorem blk_wq : IsReal (iblk m c 7 t) (A.rows t.val).wq := by
  intro r j
  have ht : t.val < 16 := lt_of_lt_of_eq t.isLt N_0
  blk_simp [iblk]
  rw [show (win0_7.blk t).view.emb (ix2 r j) = ix2 r j by blk_ext [idx_whole t]]
  exact entry_wq H _ _

/-- The keys. -/
theorem blk_k : IsReal (iblk m c 8 t) (A.rows t.val).k := by
  intro r j
  have ht : t.val < 16 := lt_of_lt_of_eq t.isLt N_0
  blk_simp [iblk]
  rw [show (win0_8.blk t).view.emb (ix2 r j) = ix2 r j by blk_ext [idx_whole t]]
  exact entry_k H _ _

/-- The values. -/
theorem blk_v : IsReal (iblk m c 9 t) (A.rows t.val).v := by
  intro r j
  have ht : t.val < 16 := lt_of_lt_of_eq t.isLt N_0
  blk_simp [iblk]
  rw [show (win0_9.blk t).view.emb (ix2 r j) = ix2 r j by blk_ext [idx_whole t]]
  exact entry_v H _ _

/-- The output projection. -/
theorem blk_wo : IsReal (iblk m c 10 t) (A.rows t.val).wo := by
  intro r j
  have ht : t.val < 16 := lt_of_lt_of_eq t.isLt N_0
  blk_simp [iblk]
  rw [show (win0_10.blk t).view.emb (ix2 r j) = ix2 r j by blk_ext [idx_whole t]]
  exact entry_wo H _ _

end Blocks

/-! ## A head's part of a block -/

/-- Head 0 of the keys or values. -/
theorem ld_mem_0 {x : Vec Ideal S256x1024 .bf16} {X : Fin 256 → Fin 1024 → ℝ} (hx : IsReal x X) :
    IsReal (View.ld x (Rect.unit ![0, 0] ![256, 256] inb_S256x1024_S256x256_0_0) : Vec Ideal S256x256 .bf16) fun t j => X t (lane 0 j) := by
  intro r j
  rw [← hx]
  exact View.ld_unit_apply_of _ _ _ _ _ _ fun a => by fin_cases a <;> simp [lane]

/-- Head 1 of the keys or values. -/
theorem ld_mem_1 {x : Vec Ideal S256x1024 .bf16} {X : Fin 256 → Fin 1024 → ℝ} (hx : IsReal x X) :
    IsReal (View.ld x (Rect.unit ![0, 256] ![256, 256] inb_S256x1024_S256x256_0_256) : Vec Ideal S256x256 .bf16) fun t j => X t (lane 1 j) := by
  intro r j
  rw [← hx]
  exact View.ld_unit_apply_of _ _ _ _ _ _ fun a => by fin_cases a <;> simp [lane]

/-- Head 2 of the keys or values. -/
theorem ld_mem_2 {x : Vec Ideal S256x1024 .bf16} {X : Fin 256 → Fin 1024 → ℝ} (hx : IsReal x X) :
    IsReal (View.ld x (Rect.unit ![0, 512] ![256, 256] inb_S256x1024_S256x256_0_512) : Vec Ideal S256x256 .bf16) fun t j => X t (lane 2 j) := by
  intro r j
  rw [← hx]
  exact View.ld_unit_apply_of _ _ _ _ _ _ fun a => by fin_cases a <;> simp [lane]

/-- Head 3 of the keys or values. -/
theorem ld_mem_3 {x : Vec Ideal S256x1024 .bf16} {X : Fin 256 → Fin 1024 → ℝ} (hx : IsReal x X) :
    IsReal (View.ld x (Rect.unit ![0, 768] ![256, 256] inb_S256x1024_S256x256_0_768) : Vec Ideal S256x256 .bf16) fun t j => X t (lane 3 j) := by
  intro r j
  rw [← hx]
  exact View.ld_unit_apply_of _ _ _ _ _ _ fun a => by fin_cases a <;> simp [lane]

/-- Head 0 of the rows. -/
theorem ld_row_0 {x : Vec Ideal S512x1024 .bf16} {X : Fin 512 → Fin 1024 → ℝ} (hx : IsReal x X) :
    IsReal (View.ld x (Rect.unit ![0, 0] ![512, 256] inb_S512x1024_S512x256_0_0) : Vec Ideal S512x256 .bf16) fun t j => X t (lane 0 j) := by
  intro r j
  rw [← hx]
  exact View.ld_unit_apply_of _ _ _ _ _ _ fun a => by fin_cases a <;> simp [lane]

/-- Head 1 of the rows. -/
theorem ld_row_1 {x : Vec Ideal S512x1024 .bf16} {X : Fin 512 → Fin 1024 → ℝ} (hx : IsReal x X) :
    IsReal (View.ld x (Rect.unit ![0, 256] ![512, 256] inb_S512x1024_S512x256_0_256) : Vec Ideal S512x256 .bf16) fun t j => X t (lane 1 j) := by
  intro r j
  rw [← hx]
  exact View.ld_unit_apply_of _ _ _ _ _ _ fun a => by fin_cases a <;> simp [lane]

/-- Head 2 of the rows. -/
theorem ld_row_2 {x : Vec Ideal S512x1024 .bf16} {X : Fin 512 → Fin 1024 → ℝ} (hx : IsReal x X) :
    IsReal (View.ld x (Rect.unit ![0, 512] ![512, 256] inb_S512x1024_S512x256_0_512) : Vec Ideal S512x256 .bf16) fun t j => X t (lane 2 j) := by
  intro r j
  rw [← hx]
  exact View.ld_unit_apply_of _ _ _ _ _ _ fun a => by fin_cases a <;> simp [lane]

/-- Head 3 of the rows. -/
theorem ld_row_3 {x : Vec Ideal S512x1024 .bf16} {X : Fin 512 → Fin 1024 → ℝ} (hx : IsReal x X) :
    IsReal (View.ld x (Rect.unit ![0, 768] ![512, 256] inb_S512x1024_S512x256_0_768) : Vec Ideal S512x256 .bf16) fun t j => X t (lane 3 j) := by
  intro r j
  rw [← hx]
  exact View.ld_unit_apply_of _ _ _ _ _ _ fun a => by fin_cases a <;> simp [lane]

/-! ## What was stored, read back -/

section Back

variable {κ : Kind} {sp : Space} {v : View sig κ sp S512x1024 .bf16} {L : List (View.Piece (Elt Ideal) S512x1024 .bf16)}
variable {X : Fin 512 → Fin 1024 → ℝ} (h : IsReal (View.canon L : Vec Ideal S512x1024 .bf16) X)

include h

/-- The rows read back whole. -/
theorem whole_real :
    IsReal (by exact v.readCov L (Rect.unit ![0, 0] ![512, 1024] inb_S512x1024_S512x1024_0_0).toLoadRect : Vec Ideal S512x1024 .bf16) X := by
  intro r j
  rw [View.readCov_eq_canon', ← h]
  exact congrArg _ (funext fun a => Fin.ext (by fin_cases a <;> simp))

end Back

/-! ## What the stores leave -/

/-- Two halves stored side by side. -/
theorem canon_halves {p0 p1 : Vec Ideal S512x512 .bf16} {X : Fin 512 → Fin 1024 → ℝ}
    (h0 : IsReal p0 fun t j => X t (lo j)) (h1 : IsReal p1 fun t j => X t (hi j)) :
    IsReal (View.canon [⟨Rect.unit ![0, 512] ![512, 512] inb_S512x1024_S512x512_0_512, p1⟩,
      ⟨Rect.unit ![0, 0] ![512, 512] inb_S512x1024_S512x512_0_0, p0⟩] : Vec Ideal S512x1024 .bf16) X := by
  intro r j
  refine View.canon_append_of_piecesOf (fun y : S512x1024.Idx => ((X (y 0) (y 1) : ℝ) : EReal)) []
    [⟨Rect.unit ![0, 512] ![512, 512] inb_S512x1024_S512x512_0_512, p1⟩,
      ⟨Rect.unit ![0, 0] ![512, 512] inb_S512x1024_S512x512_0_0, p0⟩]
    ⟨fun x => ?_, fun x => ?_, trivial⟩ (ix2 r j) (View.cover_of_tiledL _ ![512, 512] rfl _)
  · obtain ⟨r, j, rfl⟩ : ∃ r j, x = ix2 r j := ⟨x 0, x 1, by funext a; fin_cases a <;> rfl⟩
    exact (h1 r j).trans (congrArg₂ (fun a b => ((X a b : ℝ) : EReal))
      (Fin.ext (by show r.val = 0 + 1 * r.val; omega)) (Fin.ext (by show 512 + j.val = 512 + 1 * j.val; omega)))
  · obtain ⟨r, j, rfl⟩ : ∃ r j, x = ix2 r j := ⟨x 0, x 1, by funext a; fin_cases a <;> rfl⟩
    exact (h0 r j).trans (congrArg₂ (fun a b => ((X a b : ℝ) : EReal))
      (Fin.ext (by show r.val = 0 + 1 * r.val; omega)) (Fin.ext (by show j.val = 0 + 1 * j.val; omega)))

/-- Four heads' rows stored side by side. -/
theorem canon_heads {p0 p1 p2 p3 : Vec Ideal S512x256 .bf16} {X : Fin 512 → Fin 1024 → ℝ}
    (h0 : IsReal p0 fun t j => X t (lane 0 j)) (h1 : IsReal p1 fun t j => X t (lane 1 j))
    (h2 : IsReal p2 fun t j => X t (lane 2 j)) (h3 : IsReal p3 fun t j => X t (lane 3 j)) :
    IsReal (View.canon [⟨Rect.unit ![0, 768] ![512, 256] inb_S512x1024_S512x256_0_768, p3⟩,
      ⟨Rect.unit ![0, 512] ![512, 256] inb_S512x1024_S512x256_0_512, p2⟩,
      ⟨Rect.unit ![0, 256] ![512, 256] inb_S512x1024_S512x256_0_256, p1⟩,
      ⟨Rect.unit ![0, 0] ![512, 256] inb_S512x1024_S512x256_0_0, p0⟩] : Vec Ideal S512x1024 .bf16) X := by
  intro r j
  refine View.canon_append_of_piecesOf (fun y : S512x1024.Idx => ((X (y 0) (y 1) : ℝ) : EReal)) []
    [⟨Rect.unit ![0, 768] ![512, 256] inb_S512x1024_S512x256_0_768, p3⟩,
      ⟨Rect.unit ![0, 512] ![512, 256] inb_S512x1024_S512x256_0_512, p2⟩,
      ⟨Rect.unit ![0, 256] ![512, 256] inb_S512x1024_S512x256_0_256, p1⟩,
      ⟨Rect.unit ![0, 0] ![512, 256] inb_S512x1024_S512x256_0_0, p0⟩]
    ⟨fun x => ?_, fun x => ?_, fun x => ?_, fun x => ?_, trivial⟩ (ix2 r j) (View.cover_of_tiledL _ ![512, 256] rfl _)
  · obtain ⟨r, j, rfl⟩ : ∃ r j, x = ix2 r j := ⟨x 0, x 1, by funext a; fin_cases a <;> rfl⟩
    exact (h3 r j).trans (congrArg₂ (fun a b => ((X a b : ℝ) : EReal))
      (Fin.ext (by show r.val = 0 + 1 * r.val; omega)) (Fin.ext (by show 256 * 3 + j.val = 768 + 1 * j.val; omega)))
  · obtain ⟨r, j, rfl⟩ : ∃ r j, x = ix2 r j := ⟨x 0, x 1, by funext a; fin_cases a <;> rfl⟩
    exact (h2 r j).trans (congrArg₂ (fun a b => ((X a b : ℝ) : EReal))
      (Fin.ext (by show r.val = 0 + 1 * r.val; omega)) (Fin.ext (by show 256 * 2 + j.val = 512 + 1 * j.val; omega)))
  · obtain ⟨r, j, rfl⟩ : ∃ r j, x = ix2 r j := ⟨x 0, x 1, by funext a; fin_cases a <;> rfl⟩
    exact (h1 r j).trans (congrArg₂ (fun a b => ((X a b : ℝ) : EReal))
      (Fin.ext (by show r.val = 0 + 1 * r.val; omega)) (Fin.ext (by show 256 * 1 + j.val = 256 + 1 * j.val; omega)))
  · obtain ⟨r, j, rfl⟩ : ∃ r j, x = ix2 r j := ⟨x 0, x 1, by funext a; fin_cases a <;> rfl⟩
    exact (h0 r j).trans (congrArg₂ (fun a b => ((X a b : ℝ) : EReal))
      (Fin.ext (by show r.val = 0 + 1 * r.val; omega)) (Fin.ext (by show 256 * 0 + j.val = 0 + 1 * j.val; omega)))

end Cert.Cross

end
-- ==== Proof.CrossBlock.lean ====
/- What one block of the forward kernel of the cross-attention computes, in real numbers: each value of the body, given
   that the values it is computed from are real, is the row mathematics of `Given` at the block's 512 rows. -/
module

public import proofs.«01_k».proof.Proof.Gen.Kernel5Ideal.Skeleton
public import proofs.«01_k».proof.Proof.CrossSpec

@[expose] public section

set_option maxRecDepth 16384

noncomputable section

namespace Cert.Cross

open Cert.Mid Cert.Kernel5Ideal Cert.Kernel5Ideal.Gen Idealize.ShloMosaic Idealize.SL.Sem

variable (G : Given 512)
variable {x : Vec Ideal S512x1024 .f32} {a : Vec Ideal S512x512 .f32} {g : Vec Ideal S1x512 .f32} {gc : Vec Ideal S1x1024 .f32}
variable {mg o : Vec Ideal S512x1024 .bf16} {wout wq wo : Vec Ideal S1024x1024 .bf16} {y : FVec Ideal S512x1024 .f32}
variable {q : Vec Ideal S512x256 .bf16} {k v : Vec Ideal S256x256 .bf16}

/-! ## Up to the queries -/

/-- The first half of the merged lanes. -/
theorem mg_lo (ha : IsReal a G.att) (hg : IsReal g fun _ => G.ga) : IsReal (k0_pay3 a g) fun t c => G.merged t (lo c) := by
  intro r c
  pointwise [k0_pay3]
  simp only [ha, hg, lit_512, lit_eps]
  rw [rinv_elem (G.att r) (by norm_num), ← EReal.coe_mul, ← EReal.coe_mul]
  exact congrArg _ (G.merged_lo r c)

/-- The second half of the merged lanes. -/
theorem mg_hi (ha : IsReal a G.lru) (hg : IsReal g fun _ => G.gl) : IsReal (k0_pay4 a g) fun t c => G.merged t (hi c) := by
  intro r c
  pointwise [k0_pay4]
  simp only [ha, hg, lit_512, lit_eps]
  rw [rinv_elem (G.lru r) (by norm_num), ← EReal.coe_mul, ← EReal.coe_mul]
  exact congrArg _ (G.merged_hi r c)

/-- The residual stream before the cross-attention. -/
theorem x1_real (hx : IsReal x G.x) (hm : IsReal mg G.merged) (hw : IsReal wout G.wout) :
    IsReal (k0_pay6 x (k0_pay5 mg) wout) G.x1 := by
  intro r c
  pointwise [k0_pay6, k0_pay5]
  simp only [hx, hm, hw, ← EReal.coe_mul, sum_coe, ← EReal.coe_add]
  rfl

/-- Its norm with the gain. -/
theorem hc_real (hx : IsReal x G.x) (hm : IsReal mg G.merged) (hw : IsReal wout G.wout) (hg : IsReal gc fun _ => G.gc) :
    IsReal (k0_pay7 x (k0_pay5 mg) wout gc) G.hc := by
  intro r c
  pointwise [k0_pay7]
  simp only [x1_real G hx hm hw, hg, lit_1024, lit_eps]
  rw [rinv_elem (G.x1 r) (by norm_num), ← EReal.coe_mul, ← EReal.coe_mul]
  rfl

/-- The queries. -/
theorem q_real (hx : IsReal x G.x) (hm : IsReal mg G.merged) (hw : IsReal wout G.wout) (hg : IsReal gc fun _ => G.gc)
    (hq : IsReal wq G.wq) : IsReal (k0_pay8 x (k0_pay5 mg) wout gc wq) G.q := by
  intro r c
  pointwise [k0_pay8]
  simp only [hc_real G hx hm hw hg, hq, ← EReal.coe_mul, sum_coe]
  rfl

/-! ## The heads -/

/-- Head 0's output. -/
theorem ox_0 (hq : IsReal q fun t j => G.q t (lane 0 j)) (hk : IsReal k fun m j => G.k m (lane 0 j))
    (hv : IsReal v fun m j => G.v m (lane 0 j)) : IsReal (k0_pay11 (k0_pay9 q k) (k0_pay10 q k) v) fun t j => G.ox t (lane 0 j) := by
  intro r c
  pointwise [k0_pay10, k0_pay11, k0_pay9]
  simp only [hq, hk, hv, lit_neg_inf, lit_sixteenth, ← EReal.coe_mul, sum_coe]
  refine (ox_elem (fun m => (∑ j, G.q r (lane 0 j) * G.k m (lane 0 j)) * (1 / 16)) fun m => G.v m (lane 0 c)).trans (congrArg _ ?_)
  rw [Given.ox, headOf_lane]
  rfl

/-- Head 1's output. -/
theorem ox_1 (hq : IsReal q fun t j => G.q t (lane 1 j)) (hk : IsReal k fun m j => G.k m (lane 1 j))
    (hv : IsReal v fun m j => G.v m (lane 1 j)) : IsReal (k0_pay12 q k v) fun t j => G.ox t (lane 1 j) := by
  intro r c
  pointwise [k0_pay12]
  simp only [hq, hk, hv, lit_neg_inf, lit_sixteenth, ← EReal.coe_mul, sum_coe]
  refine (ox_elem (fun m => (∑ j, G.q r (lane 1 j) * G.k m (lane 1 j)) * (1 / 16)) fun m => G.v m (lane 1 c)).trans (congrArg _ ?_)
  rw [Given.ox, headOf_lane]
  rfl

/-- Head 2's output. -/
theorem ox_2 (hq : IsReal q fun t j => G.q t (lane 2 j)) (hk : IsReal k fun m j => G.k m (lane 2 j))
    (hv : IsReal v fun m j => G.v m (lane 2 j)) : IsReal (k0_pay13 q k v) fun t j => G.ox t (lane 2 j) := by
  intro r c
  pointwise [k0_pay13]
  simp only [hq, hk, hv, lit_neg_inf, lit_sixteenth, ← EReal.coe_mul, sum_coe]
  refine (ox_elem (fun m => (∑ j, G.q r (lane 2 j) * G.k m (lane 2 j)) * (1 / 16)) fun m => G.v m (lane 2 c)).trans (congrArg _ ?_)
  rw [Given.ox, headOf_lane]
  rfl

/-- Head 3's output. -/
theorem ox_3 (hq : IsReal q fun t j => G.q t (lane 3 j)) (hk : IsReal k fun m j => G.k m (lane 3 j))
    (hv : IsReal v fun m j => G.v m (lane 3 j)) : IsReal (k0_pay1 (k0_pay15 q k) (k0_pay16 q k) (k0_pay17 v)) fun t j => G.ox t (lane 3 j) := by
  intro r c
  pointwise [k0_pay1, k0_pay15, k0_pay16, k0_pay17, k0_pay14]
  simp only [hq, hk, hv, lit_neg_inf, lit_sixteenth, ← EReal.coe_mul, sum_coe]
  refine (ox_elem (fun m => (∑ j, G.q r (lane 3 j) * G.k m (lane 3 j)) * (1 / 16)) fun m => G.v m (lane 3 c)).trans (congrArg _ ?_)
  rw [Given.ox, headOf_lane]
  rfl

/-- The residual stream after the cross-attention. -/
theorem x2_real (hy : IsReal y G.x1) (ho : IsReal o G.ox) (hw : IsReal wo G.wo) : IsReal (k0_pay2 y o wo) G.x2 := by
  intro r c
  pointwise [k0_pay2]
  simp only [hy, ho, hw, ← EReal.coe_mul, sum_coe, ← EReal.coe_add]
  rfl

end Cert.Cross

end
-- ==== Proof.CrossPoints.lean ====
/- What a grid point of the forward kernel of the cross-attention writes, in real numbers: the row mathematics at the
   point's rows. -/
module

public import proofs.«01_k».proof.Proof.CrossBlocks
public import proofs.«01_k».proof.Proof.CrossBlock

@[expose] public section

set_option maxRecDepth 16384

noncomputable section

namespace Cert.Cross

open Cert.Mid Cert.Kernel5Ideal Cert.Kernel5Ideal.Gen Idealize.ShloMosaic Idealize.ShloMosaic.TcCoe Idealize.SL.Sem

variable {m : (ℓ : Loc nD τ sig) → Buf (Elt Ideal) ℓ} {c : Dev nD} {A : Given 8192} (H : MemReal m c A) (t : Fin cfg0.N)

include H

/-- The merged lanes. -/
theorem out_merged : IsReal ((outsAt0 m c t).1 : Vec Ideal S512x1024 .bf16) (A.rows t.val).merged := by
  have e1 := canon_halves (X := (A.rows t.val).merged) (mg_lo (A.rows t.val) (blk_att H t) (blk_ga H t))
    (mg_hi (A.rows t.val) (blk_lru H t) (blk_gl H t))
  intro r j
  unfold outsAt0
  frame_open
  simp (disch := decide) only [↓ View.readCov_skip, ↓ View.readCov_cons_toLoadRect, ↓ View.readCov_fill]
  frame_out
  exact e1 r j

/-- The residual stream before the cross-attention. -/
theorem out_x1 : IsReal ((outsAt0 m c t).2.1 : Vec Ideal S512x1024 .f32) (A.rows t.val).x1 := by
  have e1 := canon_halves (X := (A.rows t.val).merged) (mg_lo (A.rows t.val) (blk_att H t) (blk_ga H t))
    (mg_hi (A.rows t.val) (blk_lru H t) (blk_gl H t))
  intro r j
  unfold outsAt0
  frame_open
  simp (disch := decide) only [↓ View.readCov_skip, ↓ View.readCov_cons_toLoadRect, ↓ View.readCov_fill]
  frame_out
  exact x1_real (A.rows t.val) (blk_x H t) (whole_real (v := (ms0_11 t).view) e1) (blk_wout H t) r j

/-- Its norm with the gain. -/
theorem out_hc : IsReal ((outsAt0 m c t).2.2.1 : Vec Ideal S512x1024 .bf16) (A.rows t.val).hc := by
  have e1 := canon_halves (X := (A.rows t.val).merged) (mg_lo (A.rows t.val) (blk_att H t) (blk_ga H t))
    (mg_hi (A.rows t.val) (blk_lru H t) (blk_gl H t))
  intro r j
  unfold outsAt0
  frame_open
  simp (disch := decide) only [↓ View.readCov_skip, ↓ View.readCov_cons_toLoadRect, ↓ View.readCov_fill]
  frame_out
  exact hc_real (A.rows t.val) (blk_x H t) (whole_real (v := (ms0_11 t).view) e1) (blk_wout H t) (blk_gc H t) r j

/-- The queries. -/
theorem out_q : IsReal ((outsAt0 m c t).2.2.2.1 : Vec Ideal S512x1024 .bf16) (A.rows t.val).q := by
  have e1 := canon_halves (X := (A.rows t.val).merged) (mg_lo (A.rows t.val) (blk_att H t) (blk_ga H t))
    (mg_hi (A.rows t.val) (blk_lru H t) (blk_gl H t))
  intro r j
  unfold outsAt0
  frame_open
  simp (disch := decide) only [↓ View.readCov_skip, ↓ View.readCov_cons_toLoadRect, ↓ View.readCov_fill]
  frame_out
  exact q_real (A.rows t.val) (blk_x H t) (whole_real (v := (ms0_11 t).view) e1) (blk_wout H t) (blk_gc H t) (blk_wq H t) r j

/-- The attention's output. -/
theorem out_ox : IsReal ((outsAt0 m c t).2.2.2.2.1 : Vec Ideal S512x1024 .bf16) (A.rows t.val).ox := by
  have e1 := canon_halves (X := (A.rows t.val).merged) (mg_lo (A.rows t.val) (blk_att H t) (blk_ga H t))
    (mg_hi (A.rows t.val) (blk_lru H t) (blk_gl H t))
  have e2 := (q_real (A.rows t.val) (blk_x H t) (whole_real (v := (ms0_11 t).view) e1) (blk_wout H t) (blk_gc H t) (blk_wq H t))
  have e3 := canon_heads (X := (A.rows t.val).ox)
    (ox_0 (A.rows t.val) (ld_row_0 e2) (ld_mem_0 (blk_k H t)) (ld_mem_0 (blk_v H t)))
    (ox_1 (A.rows t.val) (ld_row_1 e2) (ld_mem_1 (blk_k H t)) (ld_mem_1 (blk_v H t)))
    (ox_2 (A.rows t.val) (ld_row_2 e2) (ld_mem_2 (blk_k H t)) (ld_mem_2 (blk_v H t)))
    (ox_3 (A.rows t.val) (ld_row_3 e2) (ld_mem_3 (blk_k H t)) (ld_mem_3 (blk_v H t)))
  intro r j
  unfold outsAt0
  frame_open
  simp (disch := decide) only [↓ View.readCov_skip, ↓ View.readCov_cons_toLoadRect, ↓ View.readCov_fill]
  frame_out
  exact e3 r j

/-- The residual stream after the cross-attention. -/
theorem out_x2 : IsReal ((outsAt0 m c t).2.2.2.2.2 : Vec Ideal S512x1024 .f32) (A.rows t.val).x2 := by
  have e1 := canon_halves (X := (A.rows t.val).merged) (mg_lo (A.rows t.val) (blk_att H t) (blk_ga H t))
    (mg_hi (A.rows t.val) (blk_lru H t) (blk_gl H t))
  have e2 := (q_real (A.rows t.val) (blk_x H t) (whole_real (v := (ms0_11 t).view) e1) (blk_wout H t) (blk_gc H t) (blk_wq H t))
  have e3 := canon_heads (X := (A.rows t.val).ox)
    (ox_0 (A.rows t.val) (ld_row_0 e2) (ld_mem_0 (blk_k H t)) (ld_mem_0 (blk_v H t)))
    (ox_1 (A.rows t.val) (ld_row_1 e2) (ld_mem_1 (blk_k H t)) (ld_mem_1 (blk_v H t)))
    (ox_2 (A.rows t.val) (ld_row_2 e2) (ld_mem_2 (blk_k H t)) (ld_mem_2 (blk_v H t)))
    (ox_3 (A.rows t.val) (ld_row_3 e2) (ld_mem_3 (blk_k H t)) (ld_mem_3 (blk_v H t)))
  intro r j
  unfold outsAt0
  frame_open
  simp (disch := decide) only [↓ View.readCov_skip, ↓ View.readCov_cons_toLoadRect, ↓ View.readCov_fill]
  frame_out
  exact x2_real (A.rows t.val) (x1_real (A.rows t.val) (blk_x H t) (whole_real (v := (ms0_11 t).view) e1) (blk_wout H t)) (whole_real e3) (blk_wo H t) r j

end Cert.Cross

end
-- ==== Proof.CrossArrays.lean ====
/- What the six results of the forward kernel of the cross-attention hold after the run, in real numbers. -/
module

public import proofs.«01_k».proof.Proof.CrossPoints

@[expose] public section

set_option maxRecDepth 16384

noncomputable section

namespace Cert.Cross

open Cert.Mid Cert.Kernel5Ideal Cert.Kernel5Ideal.Gen Idealize.ShloMosaic Idealize.ShloMosaic.TcCoe Idealize.SL.Sem

variable {m : (ℓ : Loc nD τ sig) → Buf (Elt Ideal) ℓ} {c : Dev nD} {A : Given 8192} (H : MemReal m c A)

include H

/-- The merged lanes. -/
theorem arr_merged : IsReal ((dats m 0 c).arrAt 11 cfg0.N : Vec Ideal S8192x1024 .bf16) A.merged := by
  have e : (dats m 0 c).arrAt 11 cfg0.N = fun y : S8192x1024.Idx => ((A.merged (y 0) (y 1) : ℝ) : EReal) := by
    refine (dats m 0 c).arrAt_eq_of_covers 11 _ (by decide +kernel) fun t hf y => ?_
    have ht : t.val < 16 := lt_of_lt_of_eq t.isLt N_0
    obtain ⟨r, j, rfl⟩ : ∃ (r : Fin 512) (j : Fin 1024), y = ix2 r j := ⟨y 0, y 1, by funext a; fin_cases a <;> rfl⟩
    blk_simp
    rw [after0_11, show (win0_11.blk t).view.emb (ix2 r j) = ix2 (row t.val r) j by blk_ext [row, idx_rows t]]
    exact out_merged H t r j
  intro i j
  exact congrFun e (ix2 i j)

/-- The residual stream before the cross-attention. -/
theorem arr_x1 : IsReal ((dats m 0 c).arrAt 12 cfg0.N : Vec Ideal S8192x1024 .f32) A.x1 := by
  have e : (dats m 0 c).arrAt 12 cfg0.N = fun y : S8192x1024.Idx => ((A.x1 (y 0) (y 1) : ℝ) : EReal) := by
    refine (dats m 0 c).arrAt_eq_of_covers 12 _ (by decide +kernel) fun t hf y => ?_
    have ht : t.val < 16 := lt_of_lt_of_eq t.isLt N_0
    obtain ⟨r, j, rfl⟩ : ∃ (r : Fin 512) (j : Fin 1024), y = ix2 r j := ⟨y 0, y 1, by funext a; fin_cases a <;> rfl⟩
    blk_simp
    rw [after0_12, show (win0_12.blk t).view.emb (ix2 r j) = ix2 (row t.val r) j by blk_ext [row, idx_rows t]]
    exact out_x1 H t r j
  intro i j
  exact congrFun e (ix2 i j)

/-- Its norm with the gain. -/
theorem arr_hc : IsReal ((dats m 0 c).arrAt 13 cfg0.N : Vec Ideal S8192x1024 .bf16) A.hc := by
  have e : (dats m 0 c).arrAt 13 cfg0.N = fun y : S8192x1024.Idx => ((A.hc (y 0) (y 1) : ℝ) : EReal) := by
    refine (dats m 0 c).arrAt_eq_of_covers 13 _ (by decide +kernel) fun t hf y => ?_
    have ht : t.val < 16 := lt_of_lt_of_eq t.isLt N_0
    obtain ⟨r, j, rfl⟩ : ∃ (r : Fin 512) (j : Fin 1024), y = ix2 r j := ⟨y 0, y 1, by funext a; fin_cases a <;> rfl⟩
    blk_simp
    rw [after0_13, show (win0_13.blk t).view.emb (ix2 r j) = ix2 (row t.val r) j by blk_ext [row, idx_rows t]]
    exact out_hc H t r j
  intro i j
  exact congrFun e (ix2 i j)

/-- The queries. -/
theorem arr_q : IsReal ((dats m 0 c).arrAt 14 cfg0.N : Vec Ideal S8192x1024 .bf16) A.q := by
  have e : (dats m 0 c).arrAt 14 cfg0.N = fun y : S8192x1024.Idx => ((A.q (y 0) (y 1) : ℝ) : EReal) := by
    refine (dats m 0 c).arrAt_eq_of_covers 14 _ (by decide +kernel) fun t hf y => ?_
    have ht : t.val < 16 := lt_of_lt_of_eq t.isLt N_0
    obtain ⟨r, j, rfl⟩ : ∃ (r : Fin 512) (j : Fin 1024), y = ix2 r j := ⟨y 0, y 1, by funext a; fin_cases a <;> rfl⟩
    blk_simp
    rw [after0_14, show (win0_14.blk t).view.emb (ix2 r j) = ix2 (row t.val r) j by blk_ext [row, idx_rows t]]
    exact out_q H t r j
  intro i j
  exact congrFun e (ix2 i j)

/-- The attention's output. -/
theorem arr_ox : IsReal ((dats m 0 c).arrAt 15 cfg0.N : Vec Ideal S8192x1024 .bf16) A.ox := by
  have e : (dats m 0 c).arrAt 15 cfg0.N = fun y : S8192x1024.Idx => ((A.ox (y 0) (y 1) : ℝ) : EReal) := by
    refine (dats m 0 c).arrAt_eq_of_covers 15 _ (by decide +kernel) fun t hf y => ?_
    have ht : t.val < 16 := lt_of_lt_of_eq t.isLt N_0
    obtain ⟨r, j, rfl⟩ : ∃ (r : Fin 512) (j : Fin 1024), y = ix2 r j := ⟨y 0, y 1, by funext a; fin_cases a <;> rfl⟩
    blk_simp
    rw [after0_15, show (win0_15.blk t).view.emb (ix2 r j) = ix2 (row t.val r) j by blk_ext [row, idx_rows t]]
    exact out_ox H t r j
  intro i j
  exact congrFun e (ix2 i j)

/-- The residual stream after the cross-attention. -/
theorem arr_x2 : IsReal ((dats m 0 c).arrAt 16 cfg0.N : Vec Ideal S8192x1024 .f32) A.x2 := by
  have e : (dats m 0 c).arrAt 16 cfg0.N = fun y : S8192x1024.Idx => ((A.x2 (y 0) (y 1) : ℝ) : EReal) := by
    refine (dats m 0 c).arrAt_eq_of_covers 16 _ (by decide +kernel) fun t hf y => ?_
    have ht : t.val < 16 := lt_of_lt_of_eq t.isLt N_0
    obtain ⟨r, j, rfl⟩ : ∃ (r : Fin 512) (j : Fin 1024), y = ix2 r j := ⟨y 0, y 1, by funext a; fin_cases a <;> rfl⟩
    blk_simp
    rw [after0_16, show (win0_16.blk t).view.emb (ix2 r j) = ix2 (row t.val r) j by blk_ext [row, idx_rows t]]
    exact out_x2 H t r j
  intro i j
  exact congrFun e (ix2 i j)

end Cert.Cross

end
-- ==== Proof.CrossReference.lean ====
/- What the reference computes of the forward pass of the cross-attention, stage by stage: every array is real, and its
   entries are the row mathematics of `Given`. -/
module

public import proofs.«01_k».proof.Proof.Gen.Reference5Ideal.Read
public import proofs.«01_k».proof.Proof.CrossSpec

@[expose] public section

set_option maxRecDepth 16384

noncomputable section

namespace Cert.Cross

open Cert.Mid Cert.Reference5Ideal Cert.Reference5Ideal.Read Idealize.ShloMosaic

variable {x0 : FVec Ideal S8192x1024 .f32} {x1 x2 : FVec Ideal S8192x512 .f32} {x3 x4 : FVec Ideal S256x1024 .f32}
variable {x5 x6 : FVec Ideal S1x512 .f32} {x7 x9 x10 : FVec Ideal S1024x1024 .f32} {x8 : FVec Ideal S1x1024 .f32}
variable {A : Given 8192} (H : ArgsReal x0 x1 x2 x3 x4 x5 x6 x7 x8 x9 x10 A)

include H

/-! ## Up to the queries -/

/-- The mean square of the attention's output. -/
theorem v6_real : IsReal (val_main_v6 (F := Ideal) x1) fun t _ => meanSq (A.att t) := by
  intro r c
  pointwise [val_main_v6, val_main_v5, val_main_cst_1, val_main_v4, val_main_v3, val_main_cst_0, val_main_v2, val_main_v1, val_main_cst, val_main_v0]
  simp only [H.h1, lit_512, lit_eps, ← EReal.coe_mul, sum_coe]
  exact meanSq_elem _ (by norm_num)

/-- Its reciprocal root. -/
theorem v7_real : IsReal (val_main_v7 (F := Ideal) x1) fun t _ => rinv (A.att t) := by
  intro r c
  pointwise [val_main_v7]
  simp only [v6_real H]
  exact rsqrt_coe_pos (meanSq_pos _)

/-- The normalised entries of the attention's output. -/
theorem v9_real : IsReal (val_main_v9 (F := Ideal) x1) fun t => unit (A.att t) := by
  intro r c
  pointwise [val_main_v9, val_main_v8]
  simp only [v7_real H, H.h1, ← EReal.coe_mul]
  rfl

/-- The mean square of the recurrence's output. -/
theorem v18_real : IsReal (val_main_v18 (F := Ideal) x2) fun t _ => meanSq (A.lru t) := by
  intro r c
  pointwise [val_main_v18, val_main_v17, val_main_cst_4, val_main_v16, val_main_v15, val_main_cst_3, val_main_v14, val_main_v13, val_main_cst_2, val_main_v12]
  simp only [H.h2, lit_512, lit_eps, ← EReal.coe_mul, sum_coe]
  exact meanSq_elem _ (by norm_num)

/-- Its reciprocal root. -/
theorem v19_real : IsReal (val_main_v19 (F := Ideal) x2) fun t _ => rinv (A.lru t) := by
  intro r c
  pointwise [val_main_v19]
  simp only [v18_real H]
  exact rsqrt_coe_pos (meanSq_pos _)

/-- The normalised entries of the recurrence's output. -/
theorem v21_real : IsReal (val_main_v21 (F := Ideal) x2) fun t => unit (A.lru t) := by
  intro r c
  pointwise [val_main_v21, val_main_v20]
  simp only [v19_real H, H.h2, ← EReal.coe_mul]
  rfl

/-- The two normalised outputs with their gains, side by side. -/
theorem v24_real : IsReal (val_main_v24 (F := Ideal) x1 x2 x5 x6) A.merged := by
  intro r c
  pointwise [val_main_v24, val_main_v23, val_main_v22, val_main_v11, val_main_v10]
  simp only [v9_real H, v21_real H, H.h5, H.h6, ← EReal.coe_mul, Given.merged]
  split <;> rfl

/-- The residual stream before the cross-attention. -/
theorem v26_real : IsReal (val_main_v26 (F := Ideal) x0 x1 x2 x5 x6 x7) A.x1 := by
  intro r c
  pointwise [val_main_v26, val_main_v25]
  simp only [v24_real H, H.h0, H.h7, ← EReal.coe_mul, sum_coe, ← EReal.coe_add]
  rfl

/-- The mean square of the residual stream. -/
theorem v33_real : IsReal (val_main_v33 (F := Ideal) x0 x1 x2 x5 x6 x7) fun t _ => meanSq (A.x1 t) := by
  intro r c
  pointwise [val_main_v33, val_main_v32, val_main_cst_7, val_main_v31, val_main_v30, val_main_cst_6, val_main_v29, val_main_v28, val_main_cst_5, val_main_v27]
  simp only [v26_real H, lit_1024, lit_eps, ← EReal.coe_mul, sum_coe]
  exact meanSq_elem _ (by norm_num)

/-- Its reciprocal root. -/
theorem v34_real : IsReal (val_main_v34 (F := Ideal) x0 x1 x2 x5 x6 x7) fun t _ => rinv (A.x1 t) := by
  intro r c
  pointwise [val_main_v34]
  simp only [v33_real H]
  exact rsqrt_coe_pos (meanSq_pos _)

/-- The normalised entries of the residual stream. -/
theorem v36_real : IsReal (val_main_v36 (F := Ideal) x0 x1 x2 x5 x6 x7) fun t => unit (A.x1 t) := by
  intro r c
  pointwise [val_main_v36, val_main_v35]
  simp only [v34_real H, v26_real H, ← EReal.coe_mul]
  rfl

/-- The normalised stream with its gain. -/
theorem v38_real : IsReal (val_main_v38 (F := Ideal) x0 x1 x2 x5 x6 x7 x8) A.hc := by
  intro r c
  pointwise [val_main_v38, val_main_v37]
  simp only [v36_real H, H.h8, ← EReal.coe_mul]
  rfl

/-- The queries. -/
theorem v39_real : IsReal (val_main_v39 (F := Ideal) x0 x1 x2 x5 x6 x7 x8 x9) A.q := by
  intro r c
  pointwise [val_main_v39]
  simp only [v38_real H, H.h9, ← EReal.coe_mul, sum_coe]
  rfl

/-! ## The cross-attention -/

/-- The scores. -/
theorem v44_real : IsReal3 (val_main_v44 (F := Ideal) x0 x1 x2 x3 x5 x6 x7 x8 x9) fun h t => A.sc t h := by
  intro h r c
  pointwise [val_main_v44, val_main_v43, val_main_cst_8, val_main_v42, val_main_v41, val_main_v40]
  simp only [v39_real H, H.h3, lit_sixteenth, ← EReal.coe_mul, sum_coe, lane_eq]
  rfl

/-- The greatest score of a row. -/
theorem v45_real : IsReal (val_main_v45 (F := Ideal) x0 x1 x2 x3 x5 x6 x7 x8 x9) fun h t => top (A.sc t h) := by
  intro r c
  pointwise [val_main_v45, val_main_cst_9]
  simp only [v44_real H, lit_neg_inf]
  exact top_spec _

/-- The greatest score of a row, or −∞. -/
theorem v47_real : IsReal (val_main_v47 (F := Ideal) x0 x1 x2 x3 x5 x6 x7 x8 x9) fun h t => top (A.sc t h) := by
  intro r c
  rw [val_main_v47_apply, v45_real H, val_main_v46_apply, val_main_cst_10_apply]
  exact (congrArg (fun z => max z _) lit_neg_inf).trans (max_eq_right bot_le)

/-- The greatest score of the row, at every key. -/
theorem v49_real : IsReal3 (val_main_v49 (F := Ideal) x0 x1 x2 x3 x5 x6 x7 x8 x9) fun h t _ => top (A.sc t h) := by
  intro h r c
  pointwise [val_main_v49, val_main_v48]
  simp only [v47_real H]

/-- The exponentials of the scores, the greatest of the row subtracted. -/
theorem v51_real : IsReal3 (val_main_v51 (F := Ideal) x0 x1 x2 x3 x5 x6 x7 x8 x9) fun h t m => Real.exp (A.sc t h m - top (A.sc t h)) := by
  intro h r c
  pointwise [val_main_v51, val_main_v50]
  simp only [v44_real H, v49_real H, ← EReal.coe_sub, Ideal.exp_coe]

/-- Their sums. -/
theorem v53_real : IsReal3 (val_main_v53 (F := Ideal) x0 x1 x2 x3 x5 x6 x7 x8 x9) fun h t _ => ∑ m, Real.exp (A.sc t h m - top (A.sc t h)) := by
  intro h r c
  pointwise [val_main_v53, val_main_v52, val_main_cst_11]
  simp only [v51_real H, sum_coe]

/-- The probabilities. -/
theorem v55_real : IsReal3 (val_main_v55 (F := Ideal) x0 x1 x2 x3 x5 x6 x7 x8 x9) fun h t => softmax (A.sc t h) := by
  intro h r c
  pointwise [val_main_v55, val_main_v54]
  simp only [v51_real H, v53_real H]
  exact p_elem _ c

/-- The attention's output. -/
theorem v59_real : IsReal (val_main_v59 (F := Ideal) x0 x1 x2 x3 x4 x5 x6 x7 x8 x9) A.ox := by
  intro r c
  pointwise [val_main_v59, val_main_v58, val_main_v57, val_main_v56]
  simp only [v55_real H, H.h4, ← EReal.coe_mul, sum_coe]
  exact congrArg _ (Finset.sum_congr rfl fun t _ => mul_comm _ _)

/-- The residual stream after the cross-attention. -/
theorem v65_real : IsReal (val_main_v65 (F := Ideal) x0 x1 x2 x3 x4 x5 x6 x7 x8 x9 x10) A.x2 := by
  intro r c
  pointwise [val_main_v65, val_main_v64]
  simp only [v26_real H, v59_real H, H.h10, ← EReal.coe_mul, sum_coe, ← EReal.coe_add]
  rfl

/-! ## The narrowed results -/

/-- The merged lanes. -/
theorem v60_real : IsReal (val_main_v60 (F := Ideal) x1 x2 x5 x6) A.merged := by
  intro r c
  pointwise [val_main_v60]
  exact v24_real H r c

/-- The normalised stream with its gain. -/
theorem v61_real : IsReal (val_main_v61 (F := Ideal) x0 x1 x2 x5 x6 x7 x8) A.hc := by
  intro r c
  pointwise [val_main_v61]
  exact v38_real H r c

/-- The queries. -/
theorem v62_real : IsReal (val_main_v62 (F := Ideal) x0 x1 x2 x5 x6 x7 x8 x9) A.q := by
  intro r c
  pointwise [val_main_v62]
  exact v39_real H r c

/-- The attention's output. -/
theorem v63_real : IsReal (val_main_v63 (F := Ideal) x0 x1 x2 x3 x4 x5 x6 x7 x8 x9) A.ox := by
  intro r c
  pointwise [val_main_v63]
  exact v59_real H r c

end Cert.Cross

end
-- ==== Proof.CrossFinite.lean ====
/- The precondition of the forward pass of the cross-attention as real numbers: arrays whose elements are all finite are arrays of reals. -/
module

public import proofs.«01_k».proof.Defs
public import proofs.«01_k».proof.Proof.CrossEntry
public import proofs.«01_k».proof.Proof.Gen.Pre_finite5

@[expose] public section

set_option maxRecDepth 16384

noncomputable section

namespace Cert.Cross

open Cert.Mid Idealize.ShloMosaic Idealize.ShloMosaic.TcCoe

attribute [local instance] Cert.Pre_finite5.Gen.facts

/-- An element below infinity in absolute value is a real. -/
theorem finite_elem {s : Shape} {x : FVec Ideal s .f32} {hb : Cert.Pre_finite5.S_.BroadcastsInDim s (![] : Fin 0 → Fin s.rank)}
    (h : cmpf .olt (Host.absf x) (broadcastInDim s ![] hb (constant (F := Ideal) Cert.Pre_finite5.S_ .f32 0x7F800000#32)) = fun _ => 1#1)
    (i : s.Idx) : x i = ((EReal.toReal (x i) : ℝ) : EReal) := by
  have h : Ideal.cmp .olt (max (x i) (-(x i))) (Ideal.ofBits .f32 0x7F800000#32) = 1#1 := congrFun h i
  rw [show Ideal.ofBits .f32 0x7F800000#32 = ⊤ by simp [Ideal.ofBits, Ideal.ieee]] at h
  have h : max (x i) (-(x i)) < ⊤ := by
    by_contra hc
    simp [Ideal.cmp, hc] at h
  refine (EReal.coe_toReal (fun e => ?_) (fun e => ?_)).symm
  · rw [e] at h; simp at h
  · rw [e] at h; simp at h

/-- The arguments read as reals. -/
def argsOf (m : (ℓ : Loc Cert.Kernel5Ideal.nD Cert.Kernel5Ideal.τ Cert.Kernel5Ideal.sig) → Buf (Elt Ideal) ℓ) (c : Dev Cert.Kernel5Ideal.nD) : Given 8192 :=
  let rd {a b : ℕ} (x : FVec Ideal ⟨2, ![a, b]⟩ .f32) (i : Fin a) (j : Fin b) : ℝ := EReal.toReal (x (ix2 i j))
  { x := rd (m ((c : Thread Cert.Kernel5Ideal.nD Cert.Kernel5Ideal.τ).loc Cert.Kernel5Ideal.main_arg0))
    att := rd (m ((c : Thread Cert.Kernel5Ideal.nD Cert.Kernel5Ideal.τ).loc Cert.Kernel5Ideal.main_arg1))
    lru := rd (m ((c : Thread Cert.Kernel5Ideal.nD Cert.Kernel5Ideal.τ).loc Cert.Kernel5Ideal.main_arg2))
    k := rd (m ((c : Thread Cert.Kernel5Ideal.nD Cert.Kernel5Ideal.τ).loc Cert.Kernel5Ideal.main_arg3))
    v := rd (m ((c : Thread Cert.Kernel5Ideal.nD Cert.Kernel5Ideal.τ).loc Cert.Kernel5Ideal.main_arg4))
    ga := rd (m ((c : Thread Cert.Kernel5Ideal.nD Cert.Kernel5Ideal.τ).loc Cert.Kernel5Ideal.main_arg5)) 0
    gl := rd (m ((c : Thread Cert.Kernel5Ideal.nD Cert.Kernel5Ideal.τ).loc Cert.Kernel5Ideal.main_arg6)) 0
    wout := rd (m ((c : Thread Cert.Kernel5Ideal.nD Cert.Kernel5Ideal.τ).loc Cert.Kernel5Ideal.main_arg7))
    gc := rd (m ((c : Thread Cert.Kernel5Ideal.nD Cert.Kernel5Ideal.τ).loc Cert.Kernel5Ideal.main_arg8)) 0
    wq := rd (m ((c : Thread Cert.Kernel5Ideal.nD Cert.Kernel5Ideal.τ).loc Cert.Kernel5Ideal.main_arg9))
    wo := rd (m ((c : Thread Cert.Kernel5Ideal.nD Cert.Kernel5Ideal.τ).loc Cert.Kernel5Ideal.main_arg10)) }

/-- Under the precondition the arguments in memory are reals. -/
theorem mem_real {m : (ℓ : Loc Cert.Kernel5Ideal.nD Cert.Kernel5Ideal.τ Cert.Kernel5Ideal.sig) → Buf (Elt Ideal) ℓ}
    (h : Cert.Pre_Kernel5Ideal_finite5 m) (c : Dev Cert.Kernel5Ideal.nD) : MemReal m c (argsOf m c) := by
  obtain ⟨e0, e1, e2, e3, e4, e5, e6, e7, e8, e9, e10⟩ := h c
  exact
  { h0 := fun i j => finite_elem e0 (ix2 i j)
    h1 := fun i j => finite_elem e1 (ix2 i j)
    h2 := fun i j => finite_elem e2 (ix2 i j)
    h3 := fun i j => finite_elem e3 (ix2 i j)
    h4 := fun i j => finite_elem e4 (ix2 i j)
    h5 := fun i j => by obtain rfl : i = 0 := Subsingleton.elim _ _; exact finite_elem e5 (ix2 0 j)
    h6 := fun i j => by obtain rfl : i = 0 := Subsingleton.elim _ _; exact finite_elem e6 (ix2 0 j)
    h7 := fun i j => finite_elem e7 (ix2 i j)
    h8 := fun i j => by obtain rfl : i = 0 := Subsingleton.elim _ _; exact finite_elem e8 (ix2 0 j)
    h9 := fun i j => finite_elem e9 (ix2 i j)
    h10 := fun i j => finite_elem e10 (ix2 i j) }

end Cert.Cross

end
-- ==== Proof.CrossValue.lean ====
/- The claims about the forward pass of the cross-attention: the frames, and the equality of the six results over the
   extended reals. -/
module

public import proofs.«01_k».proof.Defs
public import proofs.«01_k».proof.Proof.Gen.Kernel5Ideal
public import proofs.«01_k».proof.Proof.Gen.Reference5Ideal
public import proofs.«01_k».proof.Proof.Gen.Reference5Ideal.Run
public import proofs.«01_k».proof.Proof.Gen.Reference5Ideal.Read
public import proofs.«01_k».proof.Proof.Gen.Pre_finite5
public import proofs.«01_k».proof.Proof.Gen.Kernel5Ideal.Value
public import proofs.«01_k».proof.Proof.CrossArrays
public import proofs.«01_k».proof.Proof.CrossReference
public import proofs.«01_k».proof.Proof.CrossFinite

@[expose] public section

set_option maxRecDepth 16384

noncomputable section

namespace Cert.Cross

open Idealize.ShloMosaic Idealize.ShloMosaic.TcCoe Idealize.SL.Sem

attribute [local instance] Cert.Kernel5Ideal.Gen.facts Cert.Reference5Ideal.Gen.facts Cert.Pre_finite5.Gen.facts

/-! ## The frames -/

/-- The kernel over the extended reals runs, keeps its arguments and leaves every counter at zero. -/
theorem frame_ideal : Cert.quiescent_Kernel5Ideal := fun m ρ _ => Cert.Kernel5Ideal.Gen.frame m ρ

/-- The reference runs, keeps its arguments and leaves every counter at zero. -/
theorem frame_reference : Cert.quiescent_Reference5Ideal := fun m ρ _ =>
  (θ_run Cert.Reference5Ideal.defs _ _).mono
    (fun r h => ⟨fun c => (h c).2.2.2.2.2.2, sem_eq_zero_of_no_sems (by decide) r.2⟩)
    (Cert.Reference5Ideal.Value.run (F := Ideal) m ρ)

/-- The first under the precondition. -/
theorem frame_ideal_finite : Cert.quiescent_Kernel5Ideal_pre_finite5 := fun m ρ _ => Cert.Kernel5Ideal.Gen.frame m ρ

/-- The second under the precondition. -/
theorem frame_reference_finite : Cert.quiescent_Reference5Ideal_pre_finite5 := fun m ρ _ => frame_reference m ρ trivial

/-! ## The results -/

/-- Two arrays that are the same reals are equal. -/
theorem eq_of_real {a b : ℕ} {u v : Shape.Idx ⟨2, ![a, b]⟩ → EReal} {U : Fin a → Fin b → ℝ}
    (hu : Cert.Mid.IsReal u U) (hv : Cert.Mid.IsReal v U) : u = v := by
  funext i
  rw [eq_ix2 i]
  exact (hu (i 0) (i 1)).trans (hv (i 0) (i 1)).symm

set_option maxHeartbeats 4000000 in
/-- From finite arguments that agree, kernel and reference end with equal results. -/
theorem value : Cert.algebraic_Kernel5Ideal_Reference5Ideal_pre_finite5 := by
  intro m ρ m' ρ' hpre hagree
  have H := fun c => mem_real hpre c
  have H' : ∀ c : Dev Cert.Kernel5Ideal.nD, ArgsReal (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg5)) (m' ((c.tc : Thread Cert.Reference5Ideal.nD Cert.Reference5Ideal.τ).loc Cert.Reference5Ideal.main_arg6)) (m' ((c.tc : Thread Cert.Reference5Ideal.nD Cert.Reference5Ideal.τ).loc Cert.Reference5Ideal.main_arg7)) (m' ((c.tc : Thread Cert.Reference5Ideal.nD Cert.Reference5Ideal.τ).loc Cert.Reference5Ideal.main_arg8)) (m' ((c.tc : Thread Cert.Reference5Ideal.nD Cert.Reference5Ideal.τ).loc Cert.Reference5Ideal.main_arg9)) (m' ((c.tc : Thread Cert.Reference5Ideal.nD Cert.Reference5Ideal.τ).loc Cert.Reference5Ideal.main_arg10)) (argsOf m c) := by
    intro c
    obtain ⟨e0, e1, e2, e3, e4, e5, e6, e7, e8, e9, e10⟩ := hagree c
    rw [e0, e1, e2, e3, e4, e5, e6, e7, e8, e9, e10]
    exact H c
  refine ⟨fun c => (Cert.Kernel5Ideal.Gen.dats m 0 c).arrAt 11 Cert.Kernel5Ideal.cfg0.N, fun c => (Cert.Kernel5Ideal.Gen.dats m 0 c).arrAt 12 Cert.Kernel5Ideal.cfg0.N, fun c => (Cert.Kernel5Ideal.Gen.dats m 0 c).arrAt 13 Cert.Kernel5Ideal.cfg0.N, fun c => (Cert.Kernel5Ideal.Gen.dats m 0 c).arrAt 14 Cert.Kernel5Ideal.cfg0.N, fun c => (Cert.Kernel5Ideal.Gen.dats m 0 c).arrAt 15 Cert.Kernel5Ideal.cfg0.N, fun c => (Cert.Kernel5Ideal.Gen.dats m 0 c).arrAt 16 Cert.Kernel5Ideal.cfg0.N, ?_, ?_⟩
  · refine (θ_run Cert.Kernel5Ideal.defs _ _).mono (fun r h c => ?_) (Cert.Kernel5Ideal.Value.run_blocks (F := Ideal) m ρ)
    exact h c
  · refine (θ_run Cert.Reference5Ideal.defs _ _).mono (fun r h c => ?_) (Cert.Reference5Ideal.Value.run (F := Ideal) m' ρ')
    obtain ⟨r0, r1, r2, r3, r4, r5, kept⟩ := h c
    exact ⟨(r0.trans (Cert.Reference5Ideal.Read.val_main_v60_eq _ _ _ _)).trans (eq_of_real (v60_real (H' c)) (arr_merged (H c))),
      (r1.trans (Cert.Reference5Ideal.Read.val_main_v26_eq _ _ _ _ _ _)).trans (eq_of_real (v26_real (H' c)) (arr_x1 (H c))),
      (r2.trans (Cert.Reference5Ideal.Read.val_main_v61_eq _ _)).trans (eq_of_real (v61_real (H' c)) (arr_hc (H c))),
      (r3.trans (Cert.Reference5Ideal.Read.val_main_v62_eq _ _)).trans (eq_of_real (v62_real (H' c)) (arr_q (H c))),
      (r4.trans (Cert.Reference5Ideal.Read.val_main_v63_eq _ _)).trans (eq_of_real (v63_real (H' c)) (arr_ox (H c))),
      (r5.trans (Cert.Reference5Ideal.Read.val_main_v65_eq _ _)).trans (eq_of_real (v65_real (H' c)) (arr_x2 (H c))), kept⟩

end Cert.Cross

end
-- ==== Proof.SameText5.lean ====
/- The frame of the kernel with its bit patterns, from the one run: the kernel and its idealization are the same text in
   two namespaces. -/
module

public import proofs.«01_k».proof.Defs
public import proofs.«01_k».proof.Proof.Gen.Kernel5
public import proofs.«01_k».proof.Proof.Gen.Kernel5Ideal
public import proofs.«01_k».proof.Proof.Gen.Kernel5Ideal.Frame

@[expose] public section

set_option maxRecDepth 65536
set_option maxHeartbeats 4000000

noncomputable section

namespace Cert.Proof

open Idealize.ShloMosaic Idealize.ShloMosaic.TcCoe Idealize.SL.Sem

attribute [local instance] Cert.Kernel5.Gen.facts Cert.Kernel5Ideal.Gen.facts

/-- The two body tables are the same. -/
theorem same_bodies5 : (@Cert.Kernel5.defs₀ Bits _ _ : Defs Cert.Kernel5Ideal.nD Cert.Kernel5Ideal.τ Cert.Kernel5Ideal.sig (Elt Bits)
    Cert.Kernel5Ideal.Λ₀) = (@Cert.Kernel5Ideal.defs₀ Bits _ _) := by sl_kernel_rfl

/-- The kernel with its bit patterns runs, keeps its arguments and leaves every counter at zero. -/
theorem frame_kernel5 : Cert.quiescent_Kernel5 := by
  intro m ρ _
  unfold Cert.Kernel5.defs
  have h := Cert.Kernel5Ideal.Gen.frame (F := Bits) m ρ
  unfold Cert.Kernel5Ideal.defs at h
  rw [← same_bodies5] at h
  exact h

end Cert.Proof

end
-- ==== Proof.KeysArrays.lean ====
/- What the memory's forward kernel leaves in its three results, and that the reference's values are the same ones, at every
   element and for all arguments. -/
module

public import proofs.«01_k».proof.Proof.Gen.Kernel6Ideal.Value
public import proofs.«01_k».proof.Proof.Gen.Reference6Ideal.Read
public import Idealize.ShloMosaic.Lib.Pipeline.ReadBack
public import Idealize.ShloMosaic.Lib.Pipeline.ValueKit

@[expose] public section

set_option maxRecDepth 16384

noncomputable section

namespace Cert.Keys

open Cert.Kernel6Ideal Cert.Kernel6Ideal.Gen Idealize.ShloMosaic Idealize.ShloMosaic.TcCoe Idealize.SL.Sem
open Cert.Reference6Ideal.Read

/-- The index maps: every window is read and written whole. -/
theorem idx_whole : ∀ t : Fin cfg0.N, (win0_0.index t 0 = 0 ∧ win0_0.index t 1 = 0) ∧
    (win0_1.index t 0 = 0 ∧ win0_1.index t 1 = 0) ∧
    (win0_2.index t 0 = 0 ∧ win0_2.index t 1 = 0) ∧
    (win0_3.index t 0 = 0 ∧ win0_3.index t 1 = 0) ∧
    (win0_4.index t 0 = 0 ∧ win0_4.index t 1 = 0) ∧
    (win0_5.index t 0 = 0 ∧ win0_5.index t 1 = 0) ∧
    (win0_6.index t 0 = 0 ∧ win0_6.index t 1 = 0) :=
  (by decide +kernel : ∀ t : Fin grid0.N, _)

variable (m : (ℓ : Loc nD τ sig) → Buf (Elt Ideal) ℓ) (c : Dev nD) (t : Fin cfg0.N)

/-! ## The blocks -/

/-- The memory. -/
theorem blk_mem (r : Fin 256) (j : Fin 1024) : iblk m c 0 t (ix2 r j) = m ((c : Thread nD τ).loc main_arg0) (ix2 r j) := by
  blk_simp [iblk]
  rw [show (win0_0.blk t).view.emb (ix2 r j) = ix2 r j by blk_ext [idx_whole t]]
  entry_read
  rfl

/-- The norm's gain. -/
theorem blk_gm (r : Fin 1) (j : Fin 1024) : iblk m c 1 t (ix2 r j) = m ((c : Thread nD τ).loc main_arg1) (ix2 r j) := by
  blk_simp [iblk]
  rw [show (win0_1.blk t).view.emb (ix2 r j) = ix2 r j by blk_ext [idx_whole t]]
  entry_read
  rfl

/-- The key projection. -/
theorem blk_wk (r j : Fin 1024) : iblk m c 2 t (ix2 r j) = m ((c : Thread nD τ).loc main_arg2) (ix2 r j) := by
  blk_simp [iblk]
  rw [show (win0_2.blk t).view.emb (ix2 r j) = ix2 r j by blk_ext [idx_whole t]]
  entry_read
  rfl

/-- The value projection. -/
theorem blk_wv (r j : Fin 1024) : iblk m c 3 t (ix2 r j) = m ((c : Thread nD τ).loc main_arg3) (ix2 r j) := by
  blk_simp [iblk]
  rw [show (win0_3.blk t).view.emb (ix2 r j) = ix2 r j by blk_ext [idx_whole t]]
  entry_read
  rfl

/-- The normed memory, as the kernel computes it, is the reference's. -/
theorem pay_mn (r : Fin 256) (j : Fin 1024) : k0_pay1 (iblk m c 0 t) (iblk m c 1 t) (ix2 r j) =
    val_main_v11 (F := Ideal) (m ((c : Thread nD τ).loc main_arg0)) (m ((c : Thread nD τ).loc main_arg1)) (ix2 r j) := by
  pointwise [k0_pay1, val_main_v11, val_main_v10, val_main_v9, val_main_v8, val_main_v7, val_main_v6, val_main_v5, val_main_cst_1, val_main_v4, val_main_v3, val_main_cst_0, val_main_v2, val_main_v1, val_main_cst, val_main_v0]
  simp only [blk_mem, blk_gm]

/-! ## The results -/

/-- The normed memory. -/
theorem arr_mn : (dats m 0 c).arrAt 4 cfg0.N = val_main_v12 (F := Ideal) (m ((c : Thread nD τ).loc main_arg0))
    (m ((c : Thread nD τ).loc main_arg1)) := by
  refine (dats m 0 c).arrAt_eq_of_covers 4 _ (by decide +kernel) fun t hf y => ?_
  obtain ⟨r, j, rfl⟩ : ∃ (r : Fin 256) (j : Fin 1024), y = ix2 r j := ⟨y 0, y 1, by funext a; fin_cases a <;> rfl⟩
  blk_simp
  rw [after0_4, show (win0_4.blk t).view.emb (ix2 r j) = ix2 r j by blk_ext [idx_whole t]]
  unfold out0_4
  frame_out
  exact (pay_mn m c t r j).trans (by pointwise [val_main_v12])

/-- The keys. -/
theorem arr_kx : (dats m 0 c).arrAt 5 cfg0.N = val_main_v14 (F := Ideal) (m ((c : Thread nD τ).loc main_arg0))
    (m ((c : Thread nD τ).loc main_arg1)) (m ((c : Thread nD τ).loc main_arg2)) := by
  refine (dats m 0 c).arrAt_eq_of_covers 5 _ (by decide +kernel) fun t hf y => ?_
  obtain ⟨r, j, rfl⟩ : ∃ (r : Fin 256) (j : Fin 1024), y = ix2 r j := ⟨y 0, y 1, by funext a; fin_cases a <;> rfl⟩
  blk_simp
  rw [after0_5, show (win0_5.blk t).view.emb (ix2 r j) = ix2 r j by blk_ext [idx_whole t]]
  unfold out0_5
  frame_out
  pointwise [k0_pay2, val_main_v14, val_main_v13]
  simp only [pay_mn, blk_wk]

/-- The values. -/
theorem arr_vx : (dats m 0 c).arrAt 6 cfg0.N = val_main_v16 (F := Ideal) (m ((c : Thread nD τ).loc main_arg0))
    (m ((c : Thread nD τ).loc main_arg1)) (m ((c : Thread nD τ).loc main_arg3)) := by
  refine (dats m 0 c).arrAt_eq_of_covers 6 _ (by decide +kernel) fun t hf y => ?_
  obtain ⟨r, j, rfl⟩ : ∃ (r : Fin 256) (j : Fin 1024), y = ix2 r j := ⟨y 0, y 1, by funext a; fin_cases a <;> rfl⟩
  blk_simp
  rw [after0_6, show (win0_6.blk t).view.emb (ix2 r j) = ix2 r j by blk_ext [idx_whole t]]
  unfold out0_6
  frame_out
  pointwise [k0_pay3, val_main_v16, val_main_v15]
  simp only [pay_mn, blk_wv]

end Cert.Keys

end
-- ==== Proof.KeysValue.lean ====
/- The claims about the memory's forward pass: the frames, and the equality of the three results over the extended reals,
   whatever the arguments. -/
module

public import proofs.«01_k».proof.Defs
public import proofs.«01_k».proof.Proof.Gen.Kernel6Ideal
public import proofs.«01_k».proof.Proof.Gen.Reference6Ideal
public import proofs.«01_k».proof.Proof.Gen.Reference6Ideal.Run
public import proofs.«01_k».proof.Proof.Gen.Reference6Ideal.Read
public import proofs.«01_k».proof.Proof.KeysArrays

@[expose] public section

set_option maxRecDepth 16384

noncomputable section

namespace Cert.Keys

open Idealize.ShloMosaic Idealize.ShloMosaic.TcCoe Idealize.SL.Sem

attribute [local instance] Cert.Kernel6Ideal.Gen.facts Cert.Reference6Ideal.Gen.facts

/-! ## The frames -/

/-- The kernel over the extended reals runs, keeps its arguments and leaves every counter at zero. -/
theorem frame_ideal : Cert.quiescent_Kernel6Ideal := fun m ρ _ => Cert.Kernel6Ideal.Gen.frame m ρ

/-- The reference runs, keeps its arguments and leaves every counter at zero. -/
theorem frame_reference : Cert.quiescent_Reference6Ideal := fun m ρ _ =>
  (θ_run Cert.Reference6Ideal.defs _ _).mono
    (fun r h => ⟨fun c => (h c).2.2.2, sem_eq_zero_of_no_sems (by decide) r.2⟩)
    (Cert.Reference6Ideal.Value.run (F := Ideal) m ρ)

/-! ## The results -/

set_option maxHeartbeats 4000000 in
/-- From arguments that agree, kernel and reference end with equal results. -/
theorem value : Cert.algebraic_Kernel6Ideal_Reference6Ideal := by
  intro m ρ m' ρ' _ hagree
  refine ⟨fun c => (Cert.Kernel6Ideal.Gen.dats m 0 c).arrAt 4 Cert.Kernel6Ideal.cfg0.N, fun c => (Cert.Kernel6Ideal.Gen.dats m 0 c).arrAt 5 Cert.Kernel6Ideal.cfg0.N, fun c => (Cert.Kernel6Ideal.Gen.dats m 0 c).arrAt 6 Cert.Kernel6Ideal.cfg0.N, ?_, ?_⟩
  · refine (θ_run Cert.Kernel6Ideal.defs _ _).mono (fun r h c => ?_) (Cert.Kernel6Ideal.Value.run_blocks (F := Ideal) m ρ)
    exact h c
  · refine (θ_run Cert.Reference6Ideal.defs _ _).mono (fun r h c => ?_) (Cert.Reference6Ideal.Value.run (F := Ideal) m' ρ')
    obtain ⟨r0, r1, r2, kept⟩ := h c
    obtain ⟨e0, e1, e2, e3⟩ := hagree c
    refine ⟨(r0.trans (Cert.Reference6Ideal.Read.val_main_v12_eq _ _)).trans ?_, (r1.trans (Cert.Reference6Ideal.Read.val_main_v14_eq _ _ _)).trans ?_,
      (r2.trans (Cert.Reference6Ideal.Read.val_main_v16_eq _ _ _)).trans ?_, kept⟩
    · rw [e0, e1]; exact (arr_mn m c).symm
    · rw [e0, e1, e2]; exact (arr_kx m c).symm
    · rw [e0, e1, e3]; exact (arr_vx m c).symm

end Cert.Keys

end
-- ==== Proof.SameText6.lean ====
/- The frame of the kernel with its bit patterns, from the one run: the kernel and its idealization are the same text in
   two namespaces. -/
module

public import proofs.«01_k».proof.Defs
public import proofs.«01_k».proof.Proof.Gen.Kernel6
public import proofs.«01_k».proof.Proof.Gen.Kernel6Ideal
public import proofs.«01_k».proof.Proof.Gen.Kernel6Ideal.Frame

@[expose] public section

set_option maxRecDepth 65536
set_option maxHeartbeats 4000000

noncomputable section

namespace Cert.Proof

open Idealize.ShloMosaic Idealize.ShloMosaic.TcCoe Idealize.SL.Sem

attribute [local instance] Cert.Kernel6.Gen.facts Cert.Kernel6Ideal.Gen.facts

/-- The two body tables are the same. -/
theorem same_bodies6 : (@Cert.Kernel6.defs₀ Bits _ _ : Defs Cert.Kernel6Ideal.nD Cert.Kernel6Ideal.τ Cert.Kernel6Ideal.sig (Elt Bits)
    Cert.Kernel6Ideal.Λ₀) = (@Cert.Kernel6Ideal.defs₀ Bits _ _) := by sl_kernel_rfl

/-- The kernel with its bit patterns runs, keeps its arguments and leaves every counter at zero. -/
theorem frame_kernel6 : Cert.quiescent_Kernel6 := by
  intro m ρ _
  unfold Cert.Kernel6.defs
  have h := Cert.Kernel6Ideal.Gen.frame (F := Bits) m ρ
  unfold Cert.Kernel6Ideal.defs at h
  rw [← same_bodies6] at h
  exact h

end Cert.Proof

end
-- ==== Proof.lean ====
/- The certificate of six calls: backward through the output projection of the two mixers and the cross-attention (here: the
   frames of the kernel and of the reference, and the equality of the nine results over the extended reals), backward through
   the feed-forward layer (`FfnValue`) and through the memory (`MemValue`), and forward through the feed-forward layer and the
   loss (`HeadValue`), through the output projection of the two mixers and the cross-attention (`CrossValue`) and through the
   memory (`KeysValue`). -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2Ideal
public import proofs.«01_k».proof.Proof.Gen.Kernel3
public import proofs.«01_k».proof.Proof.Gen.Kernel3Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_finite2
public import proofs.«01_k».proof.Proof.Gen.Kernel4
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Pre_finite5
public import proofs.«01_k».proof.Proof.Gen.Kernel6
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.FrameRun
public import proofs.«01_k».proof.Proof.Arrays
public import proofs.«01_k».proof.Proof.RefBackward
public import proofs.«01_k».proof.Proof.Finite
public import proofs.«01_k».proof.Proof.SameText
public import proofs.«01_k».proof.Proof.FfnValue
public import proofs.«01_k».proof.Proof.SameText2
public import proofs.«01_k».proof.Proof.MemValue
public import proofs.«01_k».proof.Proof.SameText3
public import proofs.«01_k».proof.Proof.HeadValue
public import proofs.«01_k».proof.Proof.SameText4
public import proofs.«01_k».proof.Proof.CrossValue
public import proofs.«01_k».proof.Proof.SameText5
public import proofs.«01_k».proof.Proof.KeysValue
public import proofs.«01_k».proof.Proof.SameText6

@[expose] public section

set_option maxRecDepth 16384

noncomputable section

namespace Cert.Proof

open Idealize.ShloMosaic Idealize.ShloMosaic.TcCoe Idealize.SL.Sem

attribute [local instance] Cert.Kernel.Gen.facts Cert.KernelIdeal.Gen.facts Cert.ReferenceIdeal.Gen.facts Cert.Pre_finite.Gen.facts

/-! ## The frames -/

/-- The kernel over the extended reals runs, keeps its arguments and leaves every counter at zero. -/
theorem frame_ideal : Cert.quiescent_KernelIdeal := fun m ρ _ => Cert.KernelIdeal.Gen.frame m ρ

/-- The same under the precondition. -/
theorem frame_ideal_finite : Cert.quiescent_KernelIdeal_pre_finite := fun m ρ _ => Cert.KernelIdeal.Gen.frame m ρ

/-- The reference runs, keeps its arguments and leaves every counter at zero. -/
theorem frame_reference : Cert.quiescent_ReferenceIdeal := fun m ρ _ =>
  (θ_run Cert.ReferenceIdeal.defs _ _).mono
    (fun r h => ⟨fun c => (h c).2.2.2.2.2.2.2.2.2, sem_eq_zero_of_no_sems (by decide) r.2⟩)
    (Cert.ReferenceIdeal.Value.run (F := Ideal) m ρ)

/-- The same under the precondition. -/
theorem frame_reference_finite : Cert.quiescent_ReferenceIdeal_pre_finite := fun m ρ _ => frame_reference m ρ trivial

/-! ## The results -/

/-- Two arrays that are the same reals are equal. -/
theorem eq_of_real {a b : ℕ} {u v : Shape.Idx ⟨2, ![a, b]⟩ → EReal} {U : Fin a → Fin b → ℝ}
    (hu : Cert.Mid.IsReal u U) (hv : Cert.Mid.IsReal v U) : u = v := by
  funext i
  rw [eq_ix2 i]
  exact (hu (i 0) (i 1)).trans (hv (i 0) (i 1)).symm

open Cert.Mid

set_option maxHeartbeats 4000000 in
/-- From finite arguments that agree, kernel and reference end with equal results. -/
theorem value : Cert.algebraic_KernelIdeal_ReferenceIdeal_pre_finite := by
  intro m ρ m' ρ' hpre hagree
  have H := fun c => mem_real hpre c
  have H' : ∀ c : Dev Cert.KernelIdeal.nD, ArgsReal (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (argsOf m c) := by
    intro c
    obtain ⟨e0, e1, e2, e3, e4, e5, e6, e7, e8, e9, e10, e11⟩ := hagree c
    rw [e0, e1, e2, e3, e4, e5, e6, e7, e8, e9, e10, e11]
    exact H c
  refine ⟨fun c => (Cert.KernelIdeal.Gen.dats m 0 c).arrAt 13 Cert.KernelIdeal.cfg0.N, fun c => (Cert.KernelIdeal.Gen.dats m 0 c).arrAt 14 Cert.KernelIdeal.cfg0.N, fun c => (Cert.KernelIdeal.Gen.dats m 0 c).arrAt 15 Cert.KernelIdeal.cfg0.N, fun c => (Cert.KernelIdeal.Gen.dats m 0 c).arrAt 16 Cert.KernelIdeal.cfg0.N, fun c => (Cert.KernelIdeal.Gen.dats m 0 c).arrAt 17 Cert.KernelIdeal.cfg0.N, fun c => (Cert.KernelIdeal.Gen.dats m 0 c).arrAt 18 Cert.KernelIdeal.cfg0.N, fun c => (Cert.KernelIdeal.Gen.dats m 0 c).arrAt 19 Cert.KernelIdeal.cfg0.N, fun c => (Cert.KernelIdeal.Gen.dats m 0 c).arrAt 20 Cert.KernelIdeal.cfg0.N, fun c => (Cert.KernelIdeal.Gen.dats m 0 c).arrAt 21 Cert.KernelIdeal.cfg0.N, ?_, ?_⟩
  · refine (θ_run Cert.KernelIdeal.defs _ _).mono (fun r h c => ?_)
      (θ_run_and (Cert.KernelIdeal.Gen.run_main (F := Ideal) m ρ) (Cert.KernelIdeal.Gen.unchanged (F := Ideal) m ρ))
    exact ⟨(h.1 c).1 13, (h.1 c).1 14, (h.1 c).1 15, (h.1 c).1 16, (h.1 c).1 17, (h.1 c).1 18, (h.1 c).1 19, (h.1 c).1 20, (h.1 c).1 21, h.2 c⟩
  · refine (θ_run Cert.ReferenceIdeal.defs _ _).mono (fun r h c => ?_) (Cert.ReferenceIdeal.Value.run (F := Ideal) m' ρ')
    obtain ⟨r0, r1, r2, r3, r4, r5, r6, r7, r8, kept⟩ := h c
    exact ⟨(r0.trans (Cert.ReferenceIdeal.Read.val_main_v181_eq _)).trans (eq_of_real (v181_real (H' c)) (arr_dq (H c))),
      (r1.trans (Cert.ReferenceIdeal.Read.val_main_v139_eq _)).trans (eq_of_real (v139_real (H' c)) (arr_dx1 (H c))),
      (r2.trans (Cert.ReferenceIdeal.Read.val_main_v180_eq _)).trans (eq_of_real (v180_real (H' c)) (arr_datt (H c))),
      (r3.trans (Cert.ReferenceIdeal.Read.val_main_v161_eq _)).trans (eq_of_real (v161_real (H' c)) (arr_drec (H c))),
      (r4.trans (Cert.ReferenceIdeal.Read.val_main_v117_eq _)).trans (eq_of_real (v117_real (H' c)) (arr_dk (H c))),
      (r5.trans (Cert.ReferenceIdeal.Read.val_main_v116_eq _)).trans (eq_of_real (v116_real (H' c)) (arr_dv (H c))),
      (r6.trans (Cert.ReferenceIdeal.Read.val_main_v122_eq _)).trans (eq_of_real (v122_real (H' c)) (arr_dgc (H c))),
      (r7.trans (Cert.ReferenceIdeal.Read.val_main_v164_eq _)).trans (eq_of_real (v164_real (H' c)) (arr_dga (H c))),
      (r8.trans (Cert.ReferenceIdeal.Read.val_main_v145_eq _)).trans (eq_of_real (v145_real (H' c)) (arr_dgl (H c))), kept⟩

/-- The claims together. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Pre_finite.Gen.facts, Cert.Pre_finite2.Gen.facts, Cert.Pre_finite5.Gen.facts,
    frame_kernel, frame_ideal, frame_ideal_finite, frame_reference, frame_reference_finite,
    frame_kernel2, Cert.Ffn.frame_ideal, Cert.Ffn.frame_ideal_finite, Cert.Ffn.frame_reference, Cert.Ffn.frame_reference_finite,
    frame_kernel3, Cert.Mem.frame_ideal, Cert.Mem.frame_reference,
    frame_kernel4, Cert.Head.frame_ideal, Cert.Head.frame_reference,
    frame_kernel5, Cert.Cross.frame_ideal, Cert.Cross.frame_ideal_finite, Cert.Cross.frame_reference, Cert.Cross.frame_reference_finite,
    frame_kernel6, Cert.Keys.frame_ideal, Cert.Keys.frame_reference,
    trivial, value, trivial, Cert.Ffn.value, trivial, Cert.Mem.value, trivial, Cert.Head.value, trivial, Cert.Cross.value,
    trivial, Cert.Keys.value⟩

end Cert.Proof

end
